-- ==== Defs.lean ====
def Pre_Side (m : (ℓ : Loc Cert.Side.nD Cert.Side.τ Cert.Side.sig) → Buf (Elt Bits) ℓ) : Prop :=
  True

def Pre_SideIdeal (m : (ℓ : Loc Cert.SideIdeal.nD Cert.SideIdeal.τ Cert.SideIdeal.sig) → Buf (Elt Ideal) ℓ) : Prop :=
  True

def Pre_SideIdeal_finite [hPre_finite : Cert.Pre_finite.Facts] (m : (ℓ : Loc Cert.SideIdeal.nD Cert.SideIdeal.τ Cert.SideIdeal.sig) → Buf (Elt Ideal) ℓ) : Prop :=
  ∀ c : Dev Cert.SideIdeal.nD,
    (Cert.Pre_finite.fn (F := Ideal) (m ((c.tc : Thread Cert.SideIdeal.nD Cert.SideIdeal.τ).loc Cert.SideIdeal.main_arg0)) (m ((c.tc : Thread Cert.SideIdeal.nD Cert.SideIdeal.τ).loc Cert.SideIdeal.main_arg1)) (m ((c.tc : Thread Cert.SideIdeal.nD Cert.SideIdeal.τ).loc Cert.SideIdeal.main_arg2)) (m ((c.tc : Thread Cert.SideIdeal.nD Cert.SideIdeal.τ).loc Cert.SideIdeal.main_arg3)) (m ((c.tc : Thread Cert.SideIdeal.nD Cert.SideIdeal.τ).loc Cert.SideIdeal.main_arg4)) (m ((c.tc : Thread Cert.SideIdeal.nD Cert.SideIdeal.τ).loc Cert.SideIdeal.main_arg5)) (m ((c.tc : Thread Cert.SideIdeal.nD Cert.SideIdeal.τ).loc Cert.SideIdeal.main_arg6)) (m ((c.tc : Thread Cert.SideIdeal.nD Cert.SideIdeal.τ).loc Cert.SideIdeal.main_arg7)) (m ((c.tc : Thread Cert.SideIdeal.nD Cert.SideIdeal.τ).loc Cert.SideIdeal.main_arg8)) (m ((c.tc : Thread Cert.SideIdeal.nD Cert.SideIdeal.τ).loc Cert.SideIdeal.main_arg9)) (m ((c.tc : Thread Cert.SideIdeal.nD Cert.SideIdeal.τ).loc Cert.SideIdeal.main_arg10))).1 = (fun _ => 1#1)
    ∧ (Cert.Pre_finite.fn (F := Ideal) (m ((c.tc : Thread Cert.SideIdeal.nD Cert.SideIdeal.τ).loc Cert.SideIdeal.main_arg0)) (m ((c.tc : Thread Cert.SideIdeal.nD Cert.SideIdeal.τ).loc Cert.SideIdeal.main_arg1)) (m ((c.tc : Thread Cert.SideIdeal.nD Cert.SideIdeal.τ).loc Cert.SideIdeal.main_arg2)) (m ((c.tc : Thread Cert.SideIdeal.nD Cert.SideIdeal.τ).loc Cert.SideIdeal.main_arg3)) (m ((c.tc : Thread Cert.SideIdeal.nD Cert.SideIdeal.τ).loc Cert.SideIdeal.main_arg4)) (m ((c.tc : Thread Cert.SideIdeal.nD Cert.SideIdeal.τ).loc Cert.SideIdeal.main_arg5)) (m ((c.tc : Thread Cert.SideIdeal.nD Cert.SideIdeal.τ).loc Cert.SideIdeal.main_arg6)) (m ((c.tc : Thread Cert.SideIdeal.nD Cert.SideIdeal.τ).loc Cert.SideIdeal.main_arg7)) (m ((c.tc : Thread Cert.SideIdeal.nD Cert.SideIdeal.τ).loc Cert.SideIdeal.main_arg8)) (m ((c.tc : Thread Cert.SideIdeal.nD Cert.SideIdeal.τ).loc Cert.SideIdeal.main_arg9)) (m ((c.tc : Thread Cert.SideIdeal.nD Cert.SideIdeal.τ).loc Cert.SideIdeal.main_arg10))).2.1 = (fun _ => 1#1)
    ∧ (Cert.Pre_finite.fn (F := Ideal) (m ((c.tc : Thread Cert.SideIdeal.nD Cert.SideIdeal.τ).loc Cert.SideIdeal.main_arg0)) (m ((c.tc : Thread Cert.SideIdeal.nD Cert.SideIdeal.τ).loc Cert.SideIdeal.main_arg1)) (m ((c.tc : Thread Cert.SideIdeal.nD Cert.SideIdeal.τ).loc Cert.SideIdeal.main_arg2)) (m ((c.tc : Thread Cert.SideIdeal.nD Cert.SideIdeal.τ).loc Cert.SideIdeal.main_arg3)) (m ((c.tc : Thread Cert.SideIdeal.nD Cert.SideIdeal.τ).loc Cert.SideIdeal.main_arg4)) (m ((c.tc : Thread Cert.SideIdeal.nD Cert.SideIdeal.τ).loc Cert.SideIdeal.main_arg5)) (m ((c.tc : Thread Cert.SideIdeal.nD Cert.SideIdeal.τ).loc Cert.SideIdeal.main_arg6)) (m ((c.tc : Thread Cert.SideIdeal.nD Cert.SideIdeal.τ).loc Cert.SideIdeal.main_arg7)) (m ((c.tc : Thread Cert.SideIdeal.nD Cert.SideIdeal.τ).loc Cert.SideIdeal.main_arg8)) (m ((c.tc : Thread Cert.SideIdeal.nD Cert.SideIdeal.τ).loc Cert.SideIdeal.main_arg9)) (m ((c.tc : Thread Cert.SideIdeal.nD Cert.SideIdeal.τ).loc Cert.SideIdeal.main_arg10))).2.2.1 = (fun _ => 1#1)
    ∧ (Cert.Pre_finite.fn (F := Ideal) (m ((c.tc : Thread Cert.SideIdeal.nD Cert.SideIdeal.τ).loc Cert.SideIdeal.main_arg0)) (m ((c.tc : Thread Cert.SideIdeal.nD Cert.SideIdeal.τ).loc Cert.SideIdeal.main_arg1)) (m ((c.tc : Thread Cert.SideIdeal.nD Cert.SideIdeal.τ).loc Cert.SideIdeal.main_arg2)) (m ((c.tc : Thread Cert.SideIdeal.nD Cert.SideIdeal.τ).loc Cert.SideIdeal.main_arg3)) (m ((c.tc : Thread Cert.SideIdeal.nD Cert.SideIdeal.τ).loc Cert.SideIdeal.main_arg4)) (m ((c.tc : Thread Cert.SideIdeal.nD Cert.SideIdeal.τ).loc Cert.SideIdeal.main_arg5)) (m ((c.tc : Thread Cert.SideIdeal.nD Cert.SideIdeal.τ).loc Cert.SideIdeal.main_arg6)) (m ((c.tc : Thread Cert.SideIdeal.nD Cert.SideIdeal.τ).loc Cert.SideIdeal.main_arg7)) (m ((c.tc : Thread Cert.SideIdeal.nD Cert.SideIdeal.τ).loc Cert.SideIdeal.main_arg8)) (m ((c.tc : Thread Cert.SideIdeal.nD Cert.SideIdeal.τ).loc Cert.SideIdeal.main_arg9)) (m ((c.tc : Thread Cert.SideIdeal.nD Cert.SideIdeal.τ).loc Cert.SideIdeal.main_arg10))).2.2.2 = (fun _ => 1#1)

def Pre_SideRefIdeal (m : (ℓ : Loc Cert.SideRefIdeal.nD Cert.SideRefIdeal.τ Cert.SideRefIdeal.sig) → Buf (Elt Ideal) ℓ) : Prop :=
  True

def Pre_SideRefIdeal_finite [hPre_finite : Cert.Pre_finite.Facts] (m : (ℓ : Loc Cert.SideRefIdeal.nD Cert.SideRefIdeal.τ Cert.SideRefIdeal.sig) → Buf (Elt Ideal) ℓ) : Prop :=
  ∀ c : Dev Cert.SideRefIdeal.nD,
    (Cert.Pre_finite.fn (F := Ideal) (m ((c.tc : Thread Cert.SideRefIdeal.nD Cert.SideRefIdeal.τ).loc Cert.SideRefIdeal.main_arg0)) (m ((c.tc : Thread Cert.SideRefIdeal.nD Cert.SideRefIdeal.τ).loc Cert.SideRefIdeal.main_arg1)) (m ((c.tc : Thread Cert.SideRefIdeal.nD Cert.SideRefIdeal.τ).loc Cert.SideRefIdeal.main_arg2)) (m ((c.tc : Thread Cert.SideRefIdeal.nD Cert.SideRefIdeal.τ).loc Cert.SideRefIdeal.main_arg3)) (m ((c.tc : Thread Cert.SideRefIdeal.nD Cert.SideRefIdeal.τ).loc Cert.SideRefIdeal.main_arg4)) (m ((c.tc : Thread Cert.SideRefIdeal.nD Cert.SideRefIdeal.τ).loc Cert.SideRefIdeal.main_arg5)) (m ((c.tc : Thread Cert.SideRefIdeal.nD Cert.SideRefIdeal.τ).loc Cert.SideRefIdeal.main_arg6)) (m ((c.tc : Thread Cert.SideRefIdeal.nD Cert.SideRefIdeal.τ).loc Cert.SideRefIdeal.main_arg7)) (m ((c.tc : Thread Cert.SideRefIdeal.nD Cert.SideRefIdeal.τ).loc Cert.SideRefIdeal.main_arg8)) (m ((c.tc : Thread Cert.SideRefIdeal.nD Cert.SideRefIdeal.τ).loc Cert.SideRefIdeal.main_arg9)) (m ((c.tc : Thread Cert.SideRefIdeal.nD Cert.SideRefIdeal.τ).loc Cert.SideRefIdeal.main_arg10))).1 = (fun _ => 1#1)
    ∧ (Cert.Pre_finite.fn (F := Ideal) (m ((c.tc : Thread Cert.SideRefIdeal.nD Cert.SideRefIdeal.τ).loc Cert.SideRefIdeal.main_arg0)) (m ((c.tc : Thread Cert.SideRefIdeal.nD Cert.SideRefIdeal.τ).loc Cert.SideRefIdeal.main_arg1)) (m ((c.tc : Thread Cert.SideRefIdeal.nD Cert.SideRefIdeal.τ).loc Cert.SideRefIdeal.main_arg2)) (m ((c.tc : Thread Cert.SideRefIdeal.nD Cert.SideRefIdeal.τ).loc Cert.SideRefIdeal.main_arg3)) (m ((c.tc : Thread Cert.SideRefIdeal.nD Cert.SideRefIdeal.τ).loc Cert.SideRefIdeal.main_arg4)) (m ((c.tc : Thread Cert.SideRefIdeal.nD Cert.SideRefIdeal.τ).loc Cert.SideRefIdeal.main_arg5)) (m ((c.tc : Thread Cert.SideRefIdeal.nD Cert.SideRefIdeal.τ).loc Cert.SideRefIdeal.main_arg6)) (m ((c.tc : Thread Cert.SideRefIdeal.nD Cert.SideRefIdeal.τ).loc Cert.SideRefIdeal.main_arg7)) (m ((c.tc : Thread Cert.SideRefIdeal.nD Cert.SideRefIdeal.τ).loc Cert.SideRefIdeal.main_arg8)) (m ((c.tc : Thread Cert.SideRefIdeal.nD Cert.SideRefIdeal.τ).loc Cert.SideRefIdeal.main_arg9)) (m ((c.tc : Thread Cert.SideRefIdeal.nD Cert.SideRefIdeal.τ).loc Cert.SideRefIdeal.main_arg10))).2.1 = (fun _ => 1#1)
    ∧ (Cert.Pre_finite.fn (F := Ideal) (m ((c.tc : Thread Cert.SideRefIdeal.nD Cert.SideRefIdeal.τ).loc Cert.SideRefIdeal.main_arg0)) (m ((c.tc : Thread Cert.SideRefIdeal.nD Cert.SideRefIdeal.τ).loc Cert.SideRefIdeal.main_arg1)) (m ((c.tc : Thread Cert.SideRefIdeal.nD Cert.SideRefIdeal.τ).loc Cert.SideRefIdeal.main_arg2)) (m ((c.tc : Thread Cert.SideRefIdeal.nD Cert.SideRefIdeal.τ).loc Cert.SideRefIdeal.main_arg3)) (m ((c.tc : Thread Cert.SideRefIdeal.nD Cert.SideRefIdeal.τ).loc Cert.SideRefIdeal.main_arg4)) (m ((c.tc : Thread Cert.SideRefIdeal.nD Cert.SideRefIdeal.τ).loc Cert.SideRefIdeal.main_arg5)) (m ((c.tc : Thread Cert.SideRefIdeal.nD Cert.SideRefIdeal.τ).loc Cert.SideRefIdeal.main_arg6)) (m ((c.tc : Thread Cert.SideRefIdeal.nD Cert.SideRefIdeal.τ).loc Cert.SideRefIdeal.main_arg7)) (m ((c.tc : Thread Cert.SideRefIdeal.nD Cert.SideRefIdeal.τ).loc Cert.SideRefIdeal.main_arg8)) (m ((c.tc : Thread Cert.SideRefIdeal.nD Cert.SideRefIdeal.τ).loc Cert.SideRefIdeal.main_arg9)) (m ((c.tc : Thread Cert.SideRefIdeal.nD Cert.SideRefIdeal.τ).loc Cert.SideRefIdeal.main_arg10))).2.2.1 = (fun _ => 1#1)
    ∧ (Cert.Pre_finite.fn (F := Ideal) (m ((c.tc : Thread Cert.SideRefIdeal.nD Cert.SideRefIdeal.τ).loc Cert.SideRefIdeal.main_arg0)) (m ((c.tc : Thread Cert.SideRefIdeal.nD Cert.SideRefIdeal.τ).loc Cert.SideRefIdeal.main_arg1)) (m ((c.tc : Thread Cert.SideRefIdeal.nD Cert.SideRefIdeal.τ).loc Cert.SideRefIdeal.main_arg2)) (m ((c.tc : Thread Cert.SideRefIdeal.nD Cert.SideRefIdeal.τ).loc Cert.SideRefIdeal.main_arg3)) (m ((c.tc : Thread Cert.SideRefIdeal.nD Cert.SideRefIdeal.τ).loc Cert.SideRefIdeal.main_arg4)) (m ((c.tc : Thread Cert.SideRefIdeal.nD Cert.SideRefIdeal.τ).loc Cert.SideRefIdeal.main_arg5)) (m ((c.tc : Thread Cert.SideRefIdeal.nD Cert.SideRefIdeal.τ).loc Cert.SideRefIdeal.main_arg6)) (m ((c.tc : Thread Cert.SideRefIdeal.nD Cert.SideRefIdeal.τ).loc Cert.SideRefIdeal.main_arg7)) (m ((c.tc : Thread Cert.SideRefIdeal.nD Cert.SideRefIdeal.τ).loc Cert.SideRefIdeal.main_arg8)) (m ((c.tc : Thread Cert.SideRefIdeal.nD Cert.SideRefIdeal.τ).loc Cert.SideRefIdeal.main_arg9)) (m ((c.tc : Thread Cert.SideRefIdeal.nD Cert.SideRefIdeal.τ).loc Cert.SideRefIdeal.main_arg10))).2.2.2 = (fun _ => 1#1)

def Pre_FfnNext (m : (ℓ : Loc Cert.FfnNext.nD Cert.FfnNext.τ Cert.FfnNext.sig) → Buf (Elt Bits) ℓ) : Prop :=
  True

def Pre_FfnNextIdeal (m : (ℓ : Loc Cert.FfnNextIdeal.nD Cert.FfnNextIdeal.τ Cert.FfnNextIdeal.sig) → Buf (Elt Ideal) ℓ) : Prop :=
  True

def Pre_FfnNextRefIdeal (m : (ℓ : Loc Cert.FfnNextRefIdeal.nD Cert.FfnNextRefIdeal.τ Cert.FfnNextRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Side [hSide : Cert.Side.Facts] : Prop :=
  ∀ (m : (ℓ : Loc Cert.Side.nD Cert.Side.τ Cert.Side.sig) → Buf (Elt Bits) ℓ) (g : Dev Cert.Side.nD → PrngReg), Pre_Side m →
    θ_run (Cert.Side.defs (F := Bits)) (onTc (τ := Cert.Side.τ) (Cert.Side.main (F := Bits))) ⟨m, fun _ => 0, g⟩ (fun r => (∀ c : Dev Cert.Side.nD,
      r.2.mem ((c.tc : Thread Cert.Side.nD Cert.Side.τ).loc Cert.Side.main_arg0) = m ((c.tc : Thread Cert.Side.nD Cert.Side.τ).loc Cert.Side.main_arg0)
      ∧ r.2.mem ((c.tc : Thread Cert.Side.nD Cert.Side.τ).loc Cert.Side.main_arg1) = m ((c.tc : Thread Cert.Side.nD Cert.Side.τ).loc Cert.Side.main_arg1)
      ∧ r.2.mem ((c.tc : Thread Cert.Side.nD Cert.Side.τ).loc Cert.Side.main_arg2) = m ((c.tc : Thread Cert.Side.nD Cert.Side.τ).loc Cert.Side.main_arg2)
      ∧ r.2.mem ((c.tc : Thread Cert.Side.nD Cert.Side.τ).loc Cert.Side.main_arg3) = m ((c.tc : Thread Cert.Side.nD Cert.Side.τ).loc Cert.Side.main_arg3)
      ∧ r.2.mem ((c.tc : Thread Cert.Side.nD Cert.Side.τ).loc Cert.Side.main_arg4) = m ((c.tc : Thread Cert.Side.nD Cert.Side.τ).loc Cert.Side.main_arg4)
      ∧ r.2.mem ((c.tc : Thread Cert.Side.nD Cert.Side.τ).loc Cert.Side.main_arg5) = m ((c.tc : Thread Cert.Side.nD Cert.Side.τ).loc Cert.Side.main_arg5)
      ∧ r.2.mem ((c.tc : Thread Cert.Side.nD Cert.Side.τ).loc Cert.Side.main_arg6) = m ((c.tc : Thread Cert.Side.nD Cert.Side.τ).loc Cert.Side.main_arg6)
      ∧ r.2.mem ((c.tc : Thread Cert.Side.nD Cert.Side.τ).loc Cert.Side.main_arg7) = m ((c.tc : Thread Cert.Side.nD Cert.Side.τ).loc Cert.Side.main_arg7)
      ∧ r.2.mem ((c.tc : Thread Cert.Side.nD Cert.Side.τ).loc Cert.Side.main_arg8) = m ((c.tc : Thread Cert.Side.nD Cert.Side.τ).loc Cert.Side.main_arg8)
      ∧ r.2.mem ((c.tc : Thread Cert.Side.nD Cert.Side.τ).loc Cert.Side.main_arg9) = m ((c.tc : Thread Cert.Side.nD Cert.Side.τ).loc Cert.Side.main_arg9)
      ∧ r.2.mem ((c.tc : Thread Cert.Side.nD Cert.Side.τ).loc Cert.Side.main_arg10) = m ((c.tc : Thread Cert.Side.nD Cert.Side.τ).loc Cert.Side.main_arg10))
      ∧ r.2.sem = fun _ => 0)

def quiescent_SideIdeal [hSideIdeal : Cert.SideIdeal.Facts] : Prop :=
  ∀ (m : (ℓ : Loc Cert.SideIdeal.nD Cert.SideIdeal.τ Cert.SideIdeal.sig) → Buf (Elt Ideal) ℓ) (g : Dev Cert.SideIdeal.nD → PrngReg), Pre_SideIdeal m →
    θ_run (Cert.SideIdeal.defs (F := Ideal)) (onTc (τ := Cert.SideIdeal.τ) (Cert.SideIdeal.main (F := Ideal))) ⟨m, fun _ => 0, g⟩ (fun r => (∀ c : Dev Cert.SideIdeal.nD,
      r.2.mem ((c.tc : Thread Cert.SideIdeal.nD Cert.SideIdeal.τ).loc Cert.SideIdeal.main_arg0) = m ((c.tc : Thread Cert.SideIdeal.nD Cert.SideIdeal.τ).loc Cert.SideIdeal.main_arg0)
      ∧ r.2.mem ((c.tc : Thread Cert.SideIdeal.nD Cert.SideIdeal.τ).loc Cert.SideIdeal.main_arg1) = m ((c.tc : Thread Cert.SideIdeal.nD Cert.SideIdeal.τ).loc Cert.SideIdeal.main_arg1)
      ∧ r.2.mem ((c.tc : Thread Cert.SideIdeal.nD Cert.SideIdeal.τ).loc Cert.SideIdeal.main_arg2) = m ((c.tc : Thread Cert.SideIdeal.nD Cert.SideIdeal.τ).loc Cert.SideIdeal.main_arg2)
      ∧ r.2.mem ((c.tc : Thread Cert.SideIdeal.nD Cert.SideIdeal.τ).loc Cert.SideIdeal.main_arg3) = m ((c.tc : Thread Cert.SideIdeal.nD Cert.SideIdeal.τ).loc Cert.SideIdeal.main_arg3)
      ∧ r.2.mem ((c.tc : Thread Cert.SideIdeal.nD Cert.SideIdeal.τ).loc Cert.SideIdeal.main_arg4) = m ((c.tc : Thread Cert.SideIdeal.nD Cert.SideIdeal.τ).loc Cert.SideIdeal.main_arg4)
      ∧ r.2.mem ((c.tc : Thread Cert.SideIdeal.nD Cert.SideIdeal.τ).loc Cert.SideIdeal.main_arg5) = m ((c.tc : Thread Cert.SideIdeal.nD Cert.SideIdeal.τ).loc Cert.SideIdeal.main_arg5)
      ∧ r.2.mem ((c.tc : Thread Cert.SideIdeal.nD Cert.SideIdeal.τ).loc Cert.SideIdeal.main_arg6) = m ((c.tc : Thread Cert.SideIdeal.nD Cert.SideIdeal.τ).loc Cert.SideIdeal.main_arg6)
      ∧ r.2.mem ((c.tc : Thread Cert.SideIdeal.nD Cert.SideIdeal.τ).loc Cert.SideIdeal.main_arg7) = m ((c.tc : Thread Cert.SideIdeal.nD Cert.SideIdeal.τ).loc Cert.SideIdeal.main_arg7)
      ∧ r.2.mem ((c.tc : Thread Cert.SideIdeal.nD Cert.SideIdeal.τ).loc Cert.SideIdeal.main_arg8) = m ((c.tc : Thread Cert.SideIdeal.nD Cert.SideIdeal.τ).loc Cert.SideIdeal.main_arg8)
      ∧ r.2.mem ((c.tc : Thread Cert.SideIdeal.nD Cert.SideIdeal.τ).loc Cert.SideIdeal.main_arg9) = m ((c.tc : Thread Cert.SideIdeal.nD Cert.SideIdeal.τ).loc Cert.SideIdeal.main_arg9)
      ∧ r.2.mem ((c.tc : Thread Cert.SideIdeal.nD Cert.SideIdeal.τ).loc Cert.SideIdeal.main_arg10) = m ((c.tc : Thread Cert.SideIdeal.nD Cert.SideIdeal.τ).loc Cert.SideIdeal.main_arg10))
      ∧ r.2.sem = fun _ => 0)

def quiescent_SideIdeal_pre_finite [hSideIdeal : Cert.SideIdeal.Facts] [hPre_finite : Cert.Pre_finite.Facts] : Prop :=
  ∀ (m : (ℓ : Loc Cert.SideIdeal.nD Cert.SideIdeal.τ Cert.SideIdeal.sig) → Buf (Elt Ideal) ℓ) (g : Dev Cert.SideIdeal.nD → PrngReg), Pre_SideIdeal_finite m →
    θ_run (Cert.SideIdeal.defs (F := Ideal)) (onTc (τ := Cert.SideIdeal.τ) (Cert.SideIdeal.main (F := Ideal))) ⟨m, fun _ => 0, g⟩ (fun r => (∀ c : Dev Cert.SideIdeal.nD,
      r.2.mem ((c.tc : Thread Cert.SideIdeal.nD Cert.SideIdeal.τ).loc Cert.SideIdeal.main_arg0) = m ((c.tc : Thread Cert.SideIdeal.nD Cert.SideIdeal.τ).loc Cert.SideIdeal.main_arg0)
      ∧ r.2.mem ((c.tc : Thread Cert.SideIdeal.nD Cert.SideIdeal.τ).loc Cert.SideIdeal.main_arg1) = m ((c.tc : Thread Cert.SideIdeal.nD Cert.SideIdeal.τ).loc Cert.SideIdeal.main_arg1)
      ∧ r.2.mem ((c.tc : Thread Cert.SideIdeal.nD Cert.SideIdeal.τ).loc Cert.SideIdeal.main_arg2) = m ((c.tc : Thread Cert.SideIdeal.nD Cert.SideIdeal.τ).loc Cert.SideIdeal.main_arg2)
      ∧ r.2.mem ((c.tc : Thread Cert.SideIdeal.nD Cert.SideIdeal.τ).loc Cert.SideIdeal.main_arg3) = m ((c.tc : Thread Cert.SideIdeal.nD Cert.SideIdeal.τ).loc Cert.SideIdeal.main_arg3)
      ∧ r.2.mem ((c.tc : Thread Cert.SideIdeal.nD Cert.SideIdeal.τ).loc Cert.SideIdeal.main_arg4) = m ((c.tc : Thread Cert.SideIdeal.nD Cert.SideIdeal.τ).loc Cert.SideIdeal.main_arg4)
      ∧ r.2.mem ((c.tc : Thread Cert.SideIdeal.nD Cert.SideIdeal.τ).loc Cert.SideIdeal.main_arg5) = m ((c.tc : Thread Cert.SideIdeal.nD Cert.SideIdeal.τ).loc Cert.SideIdeal.main_arg5)
      ∧ r.2.mem ((c.tc : Thread Cert.SideIdeal.nD Cert.SideIdeal.τ).loc Cert.SideIdeal.main_arg6) = m ((c.tc : Thread Cert.SideIdeal.nD Cert.SideIdeal.τ).loc Cert.SideIdeal.main_arg6)
      ∧ r.2.mem ((c.tc : Thread Cert.SideIdeal.nD Cert.SideIdeal.τ).loc Cert.SideIdeal.main_arg7) = m ((c.tc : Thread Cert.SideIdeal.nD Cert.SideIdeal.τ).loc Cert.SideIdeal.main_arg7)
      ∧ r.2.mem ((c.tc : Thread Cert.SideIdeal.nD Cert.SideIdeal.τ).loc Cert.SideIdeal.main_arg8) = m ((c.tc : Thread Cert.SideIdeal.nD Cert.SideIdeal.τ).loc Cert.SideIdeal.main_arg8)
      ∧ r.2.mem ((c.tc : Thread Cert.SideIdeal.nD Cert.SideIdeal.τ).loc Cert.SideIdeal.main_arg9) = m ((c.tc : Thread Cert.SideIdeal.nD Cert.SideIdeal.τ).loc Cert.SideIdeal.main_arg9)
      ∧ r.2.mem ((c.tc : Thread Cert.SideIdeal.nD Cert.SideIdeal.τ).loc Cert.SideIdeal.main_arg10) = m ((c.tc : Thread Cert.SideIdeal.nD Cert.SideIdeal.τ).loc Cert.SideIdeal.main_arg10))
      ∧ r.2.sem = fun _ => 0)

def quiescent_SideRefIdeal [hSideRefIdeal : Cert.SideRefIdeal.Facts] : Prop :=
  ∀ (m : (ℓ : Loc Cert.SideRefIdeal.nD Cert.SideRefIdeal.τ Cert.SideRefIdeal.sig) → Buf (Elt Ideal) ℓ) (g : Dev Cert.SideRefIdeal.nD → PrngReg), Pre_SideRefIdeal m →
    θ_run (Cert.SideRefIdeal.defs (F := Ideal)) (onTc (τ := Cert.SideRefIdeal.τ) (Cert.SideRefIdeal.main (F := Ideal))) ⟨m, fun _ => 0, g⟩ (fun r => (∀ c : Dev Cert.SideRefIdeal.nD,
      r.2.mem ((c.tc : Thread Cert.SideRefIdeal.nD Cert.SideRefIdeal.τ).loc Cert.SideRefIdeal.main_arg0) = m ((c.tc : Thread Cert.SideRefIdeal.nD Cert.SideRefIdeal.τ).loc Cert.SideRefIdeal.main_arg0)
      ∧ r.2.mem ((c.tc : Thread Cert.SideRefIdeal.nD Cert.SideRefIdeal.τ).loc Cert.SideRefIdeal.main_arg1) = m ((c.tc : Thread Cert.SideRefIdeal.nD Cert.SideRefIdeal.τ).loc Cert.SideRefIdeal.main_arg1)
      ∧ r.2.mem ((c.tc : Thread Cert.SideRefIdeal.nD Cert.SideRefIdeal.τ).loc Cert.SideRefIdeal.main_arg2) = m ((c.tc : Thread Cert.SideRefIdeal.nD Cert.SideRefIdeal.τ).loc Cert.SideRefIdeal.main_arg2)
      ∧ r.2.mem ((c.tc : Thread Cert.SideRefIdeal.nD Cert.SideRefIdeal.τ).loc Cert.SideRefIdeal.main_arg3) = m ((c.tc : Thread Cert.SideRefIdeal.nD Cert.SideRefIdeal.τ).loc Cert.SideRefIdeal.main_arg3)
      ∧ r.2.mem ((c.tc : Thread Cert.SideRefIdeal.nD Cert.SideRefIdeal.τ).loc Cert.SideRefIdeal.main_arg4) = m ((c.tc : Thread Cert.SideRefIdeal.nD Cert.SideRefIdeal.τ).loc Cert.SideRefIdeal.main_arg4)
      ∧ r.2.mem ((c.tc : Thread Cert.SideRefIdeal.nD Cert.SideRefIdeal.τ).loc Cert.SideRefIdeal.main_arg5) = m ((c.tc : Thread Cert.SideRefIdeal.nD Cert.SideRefIdeal.τ).loc Cert.SideRefIdeal.main_arg5)
      ∧ r.2.mem ((c.tc : Thread Cert.SideRefIdeal.nD Cert.SideRefIdeal.τ).loc Cert.SideRefIdeal.main_arg6) = m ((c.tc : Thread Cert.SideRefIdeal.nD Cert.SideRefIdeal.τ).loc Cert.SideRefIdeal.main_arg6)
      ∧ r.2.mem ((c.tc : Thread Cert.SideRefIdeal.nD Cert.SideRefIdeal.τ).loc Cert.SideRefIdeal.main_arg7) = m ((c.tc : Thread Cert.SideRefIdeal.nD Cert.SideRefIdeal.τ).loc Cert.SideRefIdeal.main_arg7)
      ∧ r.2.mem ((c.tc : Thread Cert.SideRefIdeal.nD Cert.SideRefIdeal.τ).loc Cert.SideRefIdeal.main_arg8) = m ((c.tc : Thread Cert.SideRefIdeal.nD Cert.SideRefIdeal.τ).loc Cert.SideRefIdeal.main_arg8)
      ∧ r.2.mem ((c.tc : Thread Cert.SideRefIdeal.nD Cert.SideRefIdeal.τ).loc Cert.SideRefIdeal.main_arg9) = m ((c.tc : Thread Cert.SideRefIdeal.nD Cert.SideRefIdeal.τ).loc Cert.SideRefIdeal.main_arg9)
      ∧ r.2.mem ((c.tc : Thread Cert.SideRefIdeal.nD Cert.SideRefIdeal.τ).loc Cert.SideRefIdeal.main_arg10) = m ((c.tc : Thread Cert.SideRefIdeal.nD Cert.SideRefIdeal.τ).loc Cert.SideRefIdeal.main_arg10))
      ∧ r.2.sem = fun _ => 0)

def quiescent_SideRefIdeal_pre_finite [hSideRefIdeal : Cert.SideRefIdeal.Facts] [hPre_finite : Cert.Pre_finite.Facts] : Prop :=
  ∀ (m : (ℓ : Loc Cert.SideRefIdeal.nD Cert.SideRefIdeal.τ Cert.SideRefIdeal.sig) → Buf (Elt Ideal) ℓ) (g : Dev Cert.SideRefIdeal.nD → PrngReg), Pre_SideRefIdeal_finite m →
    θ_run (Cert.SideRefIdeal.defs (F := Ideal)) (onTc (τ := Cert.SideRefIdeal.τ) (Cert.SideRefIdeal.main (F := Ideal))) ⟨m, fun _ => 0, g⟩ (fun r => (∀ c : Dev Cert.SideRefIdeal.nD,
      r.2.mem ((c.tc : Thread Cert.SideRefIdeal.nD Cert.SideRefIdeal.τ).loc Cert.SideRefIdeal.main_arg0) = m ((c.tc : Thread Cert.SideRefIdeal.nD Cert.SideRefIdeal.τ).loc Cert.SideRefIdeal.main_arg0)
      ∧ r.2.mem ((c.tc : Thread Cert.SideRefIdeal.nD Cert.SideRefIdeal.τ).loc Cert.SideRefIdeal.main_arg1) = m ((c.tc : Thread Cert.SideRefIdeal.nD Cert.SideRefIdeal.τ).loc Cert.SideRefIdeal.main_arg1)
      ∧ r.2.mem ((c.tc : Thread Cert.SideRefIdeal.nD Cert.SideRefIdeal.τ).loc Cert.SideRefIdeal.main_arg2) = m ((c.tc : Thread Cert.SideRefIdeal.nD Cert.SideRefIdeal.τ).loc Cert.SideRefIdeal.main_arg2)
      ∧ r.2.mem ((c.tc : Thread Cert.SideRefIdeal.nD Cert.SideRefIdeal.τ).loc Cert.SideRefIdeal.main_arg3) = m ((c.tc : Thread Cert.SideRefIdeal.nD Cert.SideRefIdeal.τ).loc Cert.SideRefIdeal.main_arg3)
      ∧ r.2.mem ((c.tc : Thread Cert.SideRefIdeal.nD Cert.SideRefIdeal.τ).loc Cert.SideRefIdeal.main_arg4) = m ((c.tc : Thread Cert.SideRefIdeal.nD Cert.SideRefIdeal.τ).loc Cert.SideRefIdeal.main_arg4)
      ∧ r.2.mem ((c.tc : Thread Cert.SideRefIdeal.nD Cert.SideRefIdeal.τ).loc Cert.SideRefIdeal.main_arg5) = m ((c.tc : Thread Cert.SideRefIdeal.nD Cert.SideRefIdeal.τ).loc Cert.SideRefIdeal.main_arg5)
      ∧ r.2.mem ((c.tc : Thread Cert.SideRefIdeal.nD Cert.SideRefIdeal.τ).loc Cert.SideRefIdeal.main_arg6) = m ((c.tc : Thread Cert.SideRefIdeal.nD Cert.SideRefIdeal.τ).loc Cert.SideRefIdeal.main_arg6)
      ∧ r.2.mem ((c.tc : Thread Cert.SideRefIdeal.nD Cert.SideRefIdeal.τ).loc Cert.SideRefIdeal.main_arg7) = m ((c.tc : Thread Cert.SideRefIdeal.nD Cert.SideRefIdeal.τ).loc Cert.SideRefIdeal.main_arg7)
      ∧ r.2.mem ((c.tc : Thread Cert.SideRefIdeal.nD Cert.SideRefIdeal.τ).loc Cert.SideRefIdeal.main_arg8) = m ((c.tc : Thread Cert.SideRefIdeal.nD Cert.SideRefIdeal.τ).loc Cert.SideRefIdeal.main_arg8)
      ∧ r.2.mem ((c.tc : Thread Cert.SideRefIdeal.nD Cert.SideRefIdeal.τ).loc Cert.SideRefIdeal.main_arg9) = m ((c.tc : Thread Cert.SideRefIdeal.nD Cert.SideRefIdeal.τ).loc Cert.SideRefIdeal.main_arg9)
      ∧ r.2.mem ((c.tc : Thread Cert.SideRefIdeal.nD Cert.SideRefIdeal.τ).loc Cert.SideRefIdeal.main_arg10) = m ((c.tc : Thread Cert.SideRefIdeal.nD Cert.SideRefIdeal.τ).loc Cert.SideRefIdeal.main_arg10))
      ∧ r.2.sem = fun _ => 0)

def quiescent_FfnNext [hFfnNext : Cert.FfnNext.Facts] : Prop :=
  ∀ (m : (ℓ : Loc Cert.FfnNext.nD Cert.FfnNext.τ Cert.FfnNext.sig) → Buf (Elt Bits) ℓ) (g : Dev Cert.FfnNext.nD → PrngReg), Pre_FfnNext m →
    θ_run (Cert.FfnNext.defs (F := Bits)) (onTc (τ := Cert.FfnNext.τ) (Cert.FfnNext.main (F := Bits))) ⟨m, fun _ => 0, g⟩ (fun r => (∀ c : Dev Cert.FfnNext.nD,
      r.2.mem ((c.tc : Thread Cert.FfnNext.nD Cert.FfnNext.τ).loc Cert.FfnNext.main_arg0) = m ((c.tc : Thread Cert.FfnNext.nD Cert.FfnNext.τ).loc Cert.FfnNext.main_arg0)
      ∧ r.2.mem ((c.tc : Thread Cert.FfnNext.nD Cert.FfnNext.τ).loc Cert.FfnNext.main_arg1) = m ((c.tc : Thread Cert.FfnNext.nD Cert.FfnNext.τ).loc Cert.FfnNext.main_arg1)
      ∧ r.2.mem ((c.tc : Thread Cert.FfnNext.nD Cert.FfnNext.τ).loc Cert.FfnNext.main_arg2) = m ((c.tc : Thread Cert.FfnNext.nD Cert.FfnNext.τ).loc Cert.FfnNext.main_arg2)
      ∧ r.2.mem ((c.tc : Thread Cert.FfnNext.nD Cert.FfnNext.τ).loc Cert.FfnNext.main_arg3) = m ((c.tc : Thread Cert.FfnNext.nD Cert.FfnNext.τ).loc Cert.FfnNext.main_arg3)
      ∧ r.2.mem ((c.tc : Thread Cert.FfnNext.nD Cert.FfnNext.τ).loc Cert.FfnNext.main_arg4) = m ((c.tc : Thread Cert.FfnNext.nD Cert.FfnNext.τ).loc Cert.FfnNext.main_arg4)
      ∧ r.2.mem ((c.tc : Thread Cert.FfnNext.nD Cert.FfnNext.τ).loc Cert.FfnNext.main_arg5) = m ((c.tc : Thread Cert.FfnNext.nD Cert.FfnNext.τ).loc Cert.FfnNext.main_arg5)
      ∧ r.2.mem ((c.tc : Thread Cert.FfnNext.nD Cert.FfnNext.τ).loc Cert.FfnNext.main_arg6) = m ((c.tc : Thread Cert.FfnNext.nD Cert.FfnNext.τ).loc Cert.FfnNext.main_arg6))
      ∧ r.2.sem = fun _ => 0)

def quiescent_FfnNextIdeal [hFfnNextIdeal : Cert.FfnNextIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg), Pre_FfnNextIdeal m →
    θ_run (Cert.FfnNextIdeal.defs (F := Ideal)) (onTc (τ := Cert.FfnNextIdeal.τ) (Cert.FfnNextIdeal.main (F := Ideal))) ⟨m, fun _ => 0, g⟩ (fun r => (∀ c : Dev Cert.FfnNextIdeal.nD,
      r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
      ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
      ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
      ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
      ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
      ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5)
      ∧ r.2.mem ((c.tc : Thread Cert.FfnNextIdeal.nD Cert.FfnNextIdeal.τ).loc Cert.FfnNextIdeal.main_arg6) = m ((c.tc : Thread Cert.FfnNextIdeal.nD Cert.FfnNextIdeal.τ).loc Cert.FfnNextIdeal.main_arg6))
      ∧ r.2.sem = fun _ => 0)

def quiescent_FfnNextRefIdeal [hFfnNextRefIdeal : Cert.FfnNextRefIdeal.Facts] : Prop :=
  ∀ (m : (ℓ : Loc Cert.FfnNextRefIdeal.nD Cert.FfnNextRefIdeal.τ Cert.FfnNextRefIdeal.sig) → Buf (Elt Ideal) ℓ) (g : Dev Cert.FfnNextRefIdeal.nD → PrngReg), Pre_FfnNextRefIdeal m →
    θ_run (Cert.FfnNextRefIdeal.defs (F := Ideal)) (onTc (τ := Cert.FfnNextRefIdeal.τ) (Cert.FfnNextRefIdeal.main (F := Ideal))) ⟨m, fun _ => 0, g⟩ (fun r => (∀ c : Dev Cert.FfnNextRefIdeal.nD,
      r.2.mem ((c.tc : Thread Cert.FfnNextRefIdeal.nD Cert.FfnNextRefIdeal.τ).loc Cert.FfnNextRefIdeal.main_arg0) = m ((c.tc : Thread Cert.FfnNextRefIdeal.nD Cert.FfnNextRefIdeal.τ).loc Cert.FfnNextRefIdeal.main_arg0)
      ∧ r.2.mem ((c.tc : Thread Cert.FfnNextRefIdeal.nD Cert.FfnNextRefIdeal.τ).loc Cert.FfnNextRefIdeal.main_arg1) = m ((c.tc : Thread Cert.FfnNextRefIdeal.nD Cert.FfnNextRefIdeal.τ).loc Cert.FfnNextRefIdeal.main_arg1)
      ∧ r.2.mem ((c.tc : Thread Cert.FfnNextRefIdeal.nD Cert.FfnNextRefIdeal.τ).loc Cert.FfnNextRefIdeal.main_arg2) = m ((c.tc : Thread Cert.FfnNextRefIdeal.nD Cert.FfnNextRefIdeal.τ).loc Cert.FfnNextRefIdeal.main_arg2)
      ∧ r.2.mem ((c.tc : Thread Cert.FfnNextRefIdeal.nD Cert.FfnNextRefIdeal.τ).loc Cert.FfnNextRefIdeal.main_arg3) = m ((c.tc : Thread Cert.FfnNextRefIdeal.nD Cert.FfnNextRefIdeal.τ).loc Cert.FfnNextRefIdeal.main_arg3)
      ∧ r.2.mem ((c.tc : Thread Cert.FfnNextRefIdeal.nD Cert.FfnNextRefIdeal.τ).loc Cert.FfnNextRefIdeal.main_arg4) = m ((c.tc : Thread Cert.FfnNextRefIdeal.nD Cert.FfnNextRefIdeal.τ).loc Cert.FfnNextRefIdeal.main_arg4)
      ∧ r.2.mem ((c.tc : Thread Cert.FfnNextRefIdeal.nD Cert.FfnNextRefIdeal.τ).loc Cert.FfnNextRefIdeal.main_arg5) = m ((c.tc : Thread Cert.FfnNextRefIdeal.nD Cert.FfnNextRefIdeal.τ).loc Cert.FfnNextRefIdeal.main_arg5)
      ∧ r.2.mem ((c.tc : Thread Cert.FfnNextRefIdeal.nD Cert.FfnNextRefIdeal.τ).loc Cert.FfnNextRefIdeal.main_arg6) = m ((c.tc : Thread Cert.FfnNextRefIdeal.nD Cert.FfnNextRefIdeal.τ).loc Cert.FfnNextRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9))
      ∧ r.2.sem = fun _ => 0)

def preserves_Side_SideIdeal : Prop :=
  IdealRules.named_const.Statement Cert.SideIdeal.κ "mask" .f32 0xF149F2CA#32 ⊥

def preserves_FfnNext_FfnNextIdeal : Prop :=
  True

def preserves_Ffn_FfnIdeal : Prop :=
  True

def preserves_Proj_ProjIdeal : Prop :=
  True

def preserves_MemKv_MemKvIdeal : Prop :=
  True

def preserves_Out_OutIdeal : Prop :=
  True

def algebraic_SideIdeal_SideRefIdeal_pre_finite [hSideIdeal : Cert.SideIdeal.Facts] [hSideRefIdeal : Cert.SideRefIdeal.Facts] [hPre_finite : Cert.Pre_finite.Facts] : Prop :=
  ∀ (m : (ℓ : Loc Cert.SideIdeal.nD Cert.SideIdeal.τ Cert.SideIdeal.sig) → Buf (Elt Ideal) ℓ) (g : Dev Cert.SideIdeal.nD → PrngReg)
    (m' : (ℓ : Loc Cert.SideRefIdeal.nD Cert.SideRefIdeal.τ Cert.SideRefIdeal.sig) → Buf (Elt Ideal) ℓ) (g' : Dev Cert.SideRefIdeal.nD → PrngReg), Pre_SideIdeal_finite m →
    (∀ c : Dev Cert.SideIdeal.nD,
      m' ((c.tc : Thread Cert.SideRefIdeal.nD Cert.SideRefIdeal.τ).loc Cert.SideRefIdeal.main_arg0) = m ((c.tc : Thread Cert.SideIdeal.nD Cert.SideIdeal.τ).loc Cert.SideIdeal.main_arg0)
      ∧ m' ((c.tc : Thread Cert.SideRefIdeal.nD Cert.SideRefIdeal.τ).loc Cert.SideRefIdeal.main_arg1) = m ((c.tc : Thread Cert.SideIdeal.nD Cert.SideIdeal.τ).loc Cert.SideIdeal.main_arg1)
      ∧ m' ((c.tc : Thread Cert.SideRefIdeal.nD Cert.SideRefIdeal.τ).loc Cert.SideRefIdeal.main_arg2) = m ((c.tc : Thread Cert.SideIdeal.nD Cert.SideIdeal.τ).loc Cert.SideIdeal.main_arg2)
      ∧ m' ((c.tc : Thread Cert.SideRefIdeal.nD Cert.SideRefIdeal.τ).loc Cert.SideRefIdeal.main_arg3) = m ((c.tc : Thread Cert.SideIdeal.nD Cert.SideIdeal.τ).loc Cert.SideIdeal.main_arg3)
      ∧ m' ((c.tc : Thread Cert.SideRefIdeal.nD Cert.SideRefIdeal.τ).loc Cert.SideRefIdeal.main_arg4) = m ((c.tc : Thread Cert.SideIdeal.nD Cert.SideIdeal.τ).loc Cert.SideIdeal.main_arg4)
      ∧ m' ((c.tc : Thread Cert.SideRefIdeal.nD Cert.SideRefIdeal.τ).loc Cert.SideRefIdeal.main_arg5) = m ((c.tc : Thread Cert.SideIdeal.nD Cert.SideIdeal.τ).loc Cert.SideIdeal.main_arg5)
      ∧ m' ((c.tc : Thread Cert.SideRefIdeal.nD Cert.SideRefIdeal.τ).loc Cert.SideRefIdeal.main_arg6) = m ((c.tc : Thread Cert.SideIdeal.nD Cert.SideIdeal.τ).loc Cert.SideIdeal.main_arg6)
      ∧ m' ((c.tc : Thread Cert.SideRefIdeal.nD Cert.SideRefIdeal.τ).loc Cert.SideRefIdeal.main_arg7) = m ((c.tc : Thread Cert.SideIdeal.nD Cert.SideIdeal.τ).loc Cert.SideIdeal.main_arg7)
      ∧ m' ((c.tc : Thread Cert.SideRefIdeal.nD Cert.SideRefIdeal.τ).loc Cert.SideRefIdeal.main_arg8) = m ((c.tc : Thread Cert.SideIdeal.nD Cert.SideIdeal.τ).loc Cert.SideIdeal.main_arg8)
      ∧ m' ((c.tc : Thread Cert.SideRefIdeal.nD Cert.SideRefIdeal.τ).loc Cert.SideRefIdeal.main_arg9) = m ((c.tc : Thread Cert.SideIdeal.nD Cert.SideIdeal.τ).loc Cert.SideIdeal.main_arg9)
      ∧ m' ((c.tc : Thread Cert.SideRefIdeal.nD Cert.SideRefIdeal.τ).loc Cert.SideRefIdeal.main_arg10) = m ((c.tc : Thread Cert.SideIdeal.nD Cert.SideIdeal.τ).loc Cert.SideIdeal.main_arg10)) →
    ∃ (v0 : (c : Dev Cert.SideIdeal.nD) → Buf (Elt Ideal) ((c.tc : Thread Cert.SideIdeal.nD Cert.SideIdeal.τ).loc Cert.SideIdeal.main_v16_0)) (v1 : (c : Dev Cert.SideIdeal.nD) → Buf (Elt Ideal) ((c.tc : Thread Cert.SideIdeal.nD Cert.SideIdeal.τ).loc Cert.SideIdeal.main_v16_1)) (v2 : (c : Dev Cert.SideIdeal.nD) → Buf (Elt Ideal) ((c.tc : Thread Cert.SideIdeal.nD Cert.SideIdeal.τ).loc Cert.SideIdeal.main_v16_2)) (v3 : (c : Dev Cert.SideIdeal.nD) → Buf (Elt Ideal) ((c.tc : Thread Cert.SideIdeal.nD Cert.SideIdeal.τ).loc Cert.SideIdeal.main_v16_3)),
      θ_run (Cert.SideIdeal.defs (F := Ideal)) (onTc (τ := Cert.SideIdeal.τ) (Cert.SideIdeal.main (F := Ideal))) ⟨m, fun _ => 0, g⟩ (fun r => ∀ c : Dev Cert.SideIdeal.nD,
          r.2.mem ((c.tc : Thread Cert.SideIdeal.nD Cert.SideIdeal.τ).loc Cert.SideIdeal.main_v16_0) = v0 c
          ∧ r.2.mem ((c.tc : Thread Cert.SideIdeal.nD Cert.SideIdeal.τ).loc Cert.SideIdeal.main_v16_1) = v1 c
          ∧ r.2.mem ((c.tc : Thread Cert.SideIdeal.nD Cert.SideIdeal.τ).loc Cert.SideIdeal.main_v16_2) = v2 c
          ∧ r.2.mem ((c.tc : Thread Cert.SideIdeal.nD Cert.SideIdeal.τ).loc Cert.SideIdeal.main_v16_3) = v3 c
          ∧ r.2.mem ((c.tc : Thread Cert.SideIdeal.nD Cert.SideIdeal.τ).loc Cert.SideIdeal.main_arg0) = m ((c.tc : Thread Cert.SideIdeal.nD Cert.SideIdeal.τ).loc Cert.SideIdeal.main_arg0)
          ∧ r.2.mem ((c.tc : Thread Cert.SideIdeal.nD Cert.SideIdeal.τ).loc Cert.SideIdeal.main_arg1) = m ((c.tc : Thread Cert.SideIdeal.nD Cert.SideIdeal.τ).loc Cert.SideIdeal.main_arg1)
          ∧ r.2.mem ((c.tc : Thread Cert.SideIdeal.nD Cert.SideIdeal.τ).loc Cert.SideIdeal.main_arg2) = m ((c.tc : Thread Cert.SideIdeal.nD Cert.SideIdeal.τ).loc Cert.SideIdeal.main_arg2)
          ∧ r.2.mem ((c.tc : Thread Cert.SideIdeal.nD Cert.SideIdeal.τ).loc Cert.SideIdeal.main_arg3) = m ((c.tc : Thread Cert.SideIdeal.nD Cert.SideIdeal.τ).loc Cert.SideIdeal.main_arg3)
          ∧ r.2.mem ((c.tc : Thread Cert.SideIdeal.nD Cert.SideIdeal.τ).loc Cert.SideIdeal.main_arg4) = m ((c.tc : Thread Cert.SideIdeal.nD Cert.SideIdeal.τ).loc Cert.SideIdeal.main_arg4)
          ∧ r.2.mem ((c.tc : Thread Cert.SideIdeal.nD Cert.SideIdeal.τ).loc Cert.SideIdeal.main_arg5) = m ((c.tc : Thread Cert.SideIdeal.nD Cert.SideIdeal.τ).loc Cert.SideIdeal.main_arg5)
          ∧ r.2.mem ((c.tc : Thread Cert.SideIdeal.nD Cert.SideIdeal.τ).loc Cert.SideIdeal.main_arg6) = m ((c.tc : Thread Cert.SideIdeal.nD Cert.SideIdeal.τ).loc Cert.SideIdeal.main_arg6)
          ∧ r.2.mem ((c.tc : Thread Cert.SideIdeal.nD Cert.SideIdeal.τ).loc Cert.SideIdeal.main_arg7) = m ((c.tc : Thread Cert.SideIdeal.nD Cert.SideIdeal.τ).loc Cert.SideIdeal.main_arg7)
          ∧ r.2.mem ((c.tc : Thread Cert.SideIdeal.nD Cert.SideIdeal.τ).loc Cert.SideIdeal.main_arg8) = m ((c.tc : Thread Cert.SideIdeal.nD Cert.SideIdeal.τ).loc Cert.SideIdeal.main_arg8)
          ∧ r.2.mem ((c.tc : Thread Cert.SideIdeal.nD Cert.SideIdeal.τ).loc Cert.SideIdeal.main_arg9) = m ((c.tc : Thread Cert.SideIdeal.nD Cert.SideIdeal.τ).loc Cert.SideIdeal.main_arg9)
          ∧ r.2.mem ((c.tc : Thread Cert.SideIdeal.nD Cert.SideIdeal.τ).loc Cert.SideIdeal.main_arg10) = m ((c.tc : Thread Cert.SideIdeal.nD Cert.SideIdeal.τ).loc Cert.SideIdeal.main_arg10))
      ∧ θ_run (Cert.SideRefIdeal.defs (F := Ideal)) (onTc (τ := Cert.SideRefIdeal.τ) (Cert.SideRefIdeal.main (F := Ideal))) ⟨m', fun _ => 0, g'⟩ (fun r => ∀ c : Dev Cert.SideRefIdeal.nD,
          r.2.mem ((c.tc : Thread Cert.SideRefIdeal.nD Cert.SideRefIdeal.τ).loc Cert.SideRefIdeal.main_v87) = v0 c
          ∧ r.2.mem ((c.tc : Thread Cert.SideRefIdeal.nD Cert.SideRefIdeal.τ).loc Cert.SideRefIdeal.main_v101) = v1 c
          ∧ r.2.mem ((c.tc : Thread Cert.SideRefIdeal.nD Cert.SideRefIdeal.τ).loc Cert.SideRefIdeal.main_v56) = v2 c
          ∧ r.2.mem ((c.tc : Thread Cert.SideRefIdeal.nD Cert.SideRefIdeal.τ).loc Cert.SideRefIdeal.main_v73) = v3 c
          ∧ r.2.mem ((c.tc : Thread Cert.SideRefIdeal.nD Cert.SideRefIdeal.τ).loc Cert.SideRefIdeal.main_arg0) = m' ((c.tc : Thread Cert.SideRefIdeal.nD Cert.SideRefIdeal.τ).loc Cert.SideRefIdeal.main_arg0)
          ∧ r.2.mem ((c.tc : Thread Cert.SideRefIdeal.nD Cert.SideRefIdeal.τ).loc Cert.SideRefIdeal.main_arg1) = m' ((c.tc : Thread Cert.SideRefIdeal.nD Cert.SideRefIdeal.τ).loc Cert.SideRefIdeal.main_arg1)
          ∧ r.2.mem ((c.tc : Thread Cert.SideRefIdeal.nD Cert.SideRefIdeal.τ).loc Cert.SideRefIdeal.main_arg2) = m' ((c.tc : Thread Cert.SideRefIdeal.nD Cert.SideRefIdeal.τ).loc Cert.SideRefIdeal.main_arg2)
          ∧ r.2.mem ((c.tc : Thread Cert.SideRefIdeal.nD Cert.SideRefIdeal.τ).loc Cert.SideRefIdeal.main_arg3) = m' ((c.tc : Thread Cert.SideRefIdeal.nD Cert.SideRefIdeal.τ).loc Cert.SideRefIdeal.main_arg3)
          ∧ r.2.mem ((c.tc : Thread Cert.SideRefIdeal.nD Cert.SideRefIdeal.τ).loc Cert.SideRefIdeal.main_arg4) = m' ((c.tc : Thread Cert.SideRefIdeal.nD Cert.SideRefIdeal.τ).loc Cert.SideRefIdeal.main_arg4)
          ∧ r.2.mem ((c.tc : Thread Cert.SideRefIdeal.nD Cert.SideRefIdeal.τ).loc Cert.SideRefIdeal.main_arg5) = m' ((c.tc : Thread Cert.SideRefIdeal.nD Cert.SideRefIdeal.τ).loc Cert.SideRefIdeal.main_arg5)
          ∧ r.2.mem ((c.tc : Thread Cert.SideRefIdeal.nD Cert.SideRefIdeal.τ).loc Cert.SideRefIdeal.main_arg6) = m' ((c.tc : Thread Cert.SideRefIdeal.nD Cert.SideRefIdeal.τ).loc Cert.SideRefIdeal.main_arg6)
          ∧ r.2.mem ((c.tc : Thread Cert.SideRefIdeal.nD Cert.SideRefIdeal.τ).loc Cert.SideRefIdeal.main_arg7) = m' ((c.tc : Thread Cert.SideRefIdeal.nD Cert.SideRefIdeal.τ).loc Cert.SideRefIdeal.main_arg7)
          ∧ r.2.mem ((c.tc : Thread Cert.SideRefIdeal.nD Cert.SideRefIdeal.τ).loc Cert.SideRefIdeal.main_arg8) = m' ((c.tc : Thread Cert.SideRefIdeal.nD Cert.SideRefIdeal.τ).loc Cert.SideRefIdeal.main_arg8)
          ∧ r.2.mem ((c.tc : Thread Cert.SideRefIdeal.nD Cert.SideRefIdeal.τ).loc Cert.SideRefIdeal.main_arg9) = m' ((c.tc : Thread Cert.SideRefIdeal.nD Cert.SideRefIdeal.τ).loc Cert.SideRefIdeal.main_arg9)
          ∧ r.2.mem ((c.tc : Thread Cert.SideRefIdeal.nD Cert.SideRefIdeal.τ).loc Cert.SideRefIdeal.main_arg10) = m' ((c.tc : Thread Cert.SideRefIdeal.nD Cert.SideRefIdeal.τ).loc Cert.SideRefIdeal.main_arg10))

def algebraic_FfnNextIdeal_FfnNextRefIdeal [hFfnNextIdeal : Cert.FfnNextIdeal.Facts] [hFfnNextRefIdeal : Cert.FfnNextRefIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg)
    (m' : (ℓ : Loc Cert.FfnNextRefIdeal.nD Cert.FfnNextRefIdeal.τ Cert.FfnNextRefIdeal.sig) → Buf (Elt Ideal) ℓ) (g' : Dev Cert.FfnNextRefIdeal.nD → PrngReg), Pre_FfnNextIdeal m →
    (∀ c : Dev Cert.FfnNextIdeal.nD,
      m' ((c.tc : Thread Cert.FfnNextRefIdeal.nD Cert.FfnNextRefIdeal.τ).loc Cert.FfnNextRefIdeal.main_arg0) = m ((c.tc : Thread Cert.FfnNextIdeal.nD Cert.FfnNextIdeal.τ).loc Cert.FfnNextIdeal.main_arg0)
      ∧ m' ((c.tc : Thread Cert.FfnNextRefIdeal.nD Cert.FfnNextRefIdeal.τ).loc Cert.FfnNextRefIdeal.main_arg1) = m ((c.tc : Thread Cert.FfnNextIdeal.nD Cert.FfnNextIdeal.τ).loc Cert.FfnNextIdeal.main_arg1)
      ∧ m' ((c.tc : Thread Cert.FfnNextRefIdeal.nD Cert.FfnNextRefIdeal.τ).loc Cert.FfnNextRefIdeal.main_arg2) = m ((c.tc : Thread Cert.FfnNextIdeal.nD Cert.FfnNextIdeal.τ).loc Cert.FfnNextIdeal.main_arg2)
      ∧ m' ((c.tc : Thread Cert.FfnNextRefIdeal.nD Cert.FfnNextRefIdeal.τ).loc Cert.FfnNextRefIdeal.main_arg3) = m ((c.tc : Thread Cert.FfnNextIdeal.nD Cert.FfnNextIdeal.τ).loc Cert.FfnNextIdeal.main_arg3)
      ∧ m' ((c.tc : Thread Cert.FfnNextRefIdeal.nD Cert.FfnNextRefIdeal.τ).loc Cert.FfnNextRefIdeal.main_arg4) = m ((c.tc : Thread Cert.FfnNextIdeal.nD Cert.FfnNextIdeal.τ).loc Cert.FfnNextIdeal.main_arg4)
      ∧ m' ((c.tc : Thread Cert.FfnNextRefIdeal.nD Cert.FfnNextRefIdeal.τ).loc Cert.FfnNextRefIdeal.main_arg5) = m ((c.tc : Thread Cert.FfnNextIdeal.nD Cert.FfnNextIdeal.τ).loc Cert.FfnNextIdeal.main_arg5)
      ∧ m' ((c.tc : Thread Cert.FfnNextRefIdeal.nD Cert.FfnNextRefIdeal.τ).loc Cert.FfnNextRefIdeal.main_arg6) = m ((c.tc : Thread Cert.FfnNextIdeal.nD Cert.FfnNextIdeal.τ).loc Cert.FfnNextIdeal.main_arg6)) →
    ∃ (v0 : (c : Dev Cert.FfnNextIdeal.nD) → Buf (Elt Ideal) ((c.tc : Thread Cert.FfnNextIdeal.nD Cert.FfnNextIdeal.τ).loc Cert.FfnNextIdeal.main_v2_0)) (v1 : (c : Dev Cert.FfnNextIdeal.nD) → Buf (Elt Ideal) ((c.tc : Thread Cert.FfnNextIdeal.nD Cert.FfnNextIdeal.τ).loc Cert.FfnNextIdeal.main_v2_1)) (v2 : (c : Dev Cert.FfnNextIdeal.nD) → Buf (Elt Ideal) ((c.tc : Thread Cert.FfnNextIdeal.nD Cert.FfnNextIdeal.τ).loc Cert.FfnNextIdeal.main_v2_2)) (v3 : (c : Dev Cert.FfnNextIdeal.nD) → Buf (Elt Ideal) ((c.tc : Thread Cert.FfnNextIdeal.nD Cert.FfnNextIdeal.τ).loc Cert.FfnNextIdeal.main_v2_3)),
      θ_run (Cert.FfnNextIdeal.defs (F := Ideal)) (onTc (τ := Cert.FfnNextIdeal.τ) (Cert.FfnNextIdeal.main (F := Ideal))) ⟨m, fun _ => 0, g⟩ (fun r => ∀ c : Dev Cert.FfnNextIdeal.nD,
          r.2.mem ((c.tc : Thread Cert.FfnNextIdeal.nD Cert.FfnNextIdeal.τ).loc Cert.FfnNextIdeal.main_v2_0) = v0 c
          ∧ r.2.mem ((c.tc : Thread Cert.FfnNextIdeal.nD Cert.FfnNextIdeal.τ).loc Cert.FfnNextIdeal.main_v2_1) = v1 c
          ∧ r.2.mem ((c.tc : Thread Cert.FfnNextIdeal.nD Cert.FfnNextIdeal.τ).loc Cert.FfnNextIdeal.main_v2_2) = v2 c
          ∧ r.2.mem ((c.tc : Thread Cert.FfnNextIdeal.nD Cert.FfnNextIdeal.τ).loc Cert.FfnNextIdeal.main_v2_3) = v3 c
          ∧ r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
          ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
          ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
          ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
          ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
          ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5)
          ∧ r.2.mem ((c.tc : Thread Cert.FfnNextIdeal.nD Cert.FfnNextIdeal.τ).loc Cert.FfnNextIdeal.main_arg6) = m ((c.tc : Thread Cert.FfnNextIdeal.nD Cert.FfnNextIdeal.τ).loc Cert.FfnNextIdeal.main_arg6))
      ∧ θ_run (Cert.FfnNextRefIdeal.defs (F := Ideal)) (onTc (τ := Cert.FfnNextRefIdeal.τ) (Cert.FfnNextRefIdeal.main (F := Ideal))) ⟨m', fun _ => 0, g'⟩ (fun r => ∀ c : Dev Cert.FfnNextRefIdeal.nD,
          r.2.mem ((c.tc : Thread Cert.FfnNextRefIdeal.nD Cert.FfnNextRefIdeal.τ).loc Cert.FfnNextRefIdeal.main_v26) = v0 c
          ∧ r.2.mem ((c.tc : Thread Cert.FfnNextRefIdeal.nD Cert.FfnNextRefIdeal.τ).loc Cert.FfnNextRefIdeal.main_v53) = v1 c
          ∧ r.2.mem ((c.tc : Thread Cert.FfnNextRefIdeal.nD Cert.FfnNextRefIdeal.τ).loc Cert.FfnNextRefIdeal.main_v67) = v2 c
          ∧ r.2.mem ((c.tc : Thread Cert.FfnNextRefIdeal.nD Cert.FfnNextRefIdeal.τ).loc Cert.FfnNextRefIdeal.main_v81) = v3 c
          ∧ r.2.mem ((c.tc : Thread Cert.FfnNextRefIdeal.nD Cert.FfnNextRefIdeal.τ).loc Cert.FfnNextRefIdeal.main_arg0) = m' ((c.tc : Thread Cert.FfnNextRefIdeal.nD Cert.FfnNextRefIdeal.τ).loc Cert.FfnNextRefIdeal.main_arg0)
          ∧ r.2.mem ((c.tc : Thread Cert.FfnNextRefIdeal.nD Cert.FfnNextRefIdeal.τ).loc Cert.FfnNextRefIdeal.main_arg1) = m' ((c.tc : Thread Cert.FfnNextRefIdeal.nD Cert.FfnNextRefIdeal.τ).loc Cert.FfnNextRefIdeal.main_arg1)
          ∧ r.2.mem ((c.tc : Thread Cert.FfnNextRefIdeal.nD Cert.FfnNextRefIdeal.τ).loc Cert.FfnNextRefIdeal.main_arg2) = m' ((c.tc : Thread Cert.FfnNextRefIdeal.nD Cert.FfnNextRefIdeal.τ).loc Cert.FfnNextRefIdeal.main_arg2)
          ∧ r.2.mem ((c.tc : Thread Cert.FfnNextRefIdeal.nD Cert.FfnNextRefIdeal.τ).loc Cert.FfnNextRefIdeal.main_arg3) = m' ((c.tc : Thread Cert.FfnNextRefIdeal.nD Cert.FfnNextRefIdeal.τ).loc Cert.FfnNextRefIdeal.main_arg3)
          ∧ r.2.mem ((c.tc : Thread Cert.FfnNextRefIdeal.nD Cert.FfnNextRefIdeal.τ).loc Cert.FfnNextRefIdeal.main_arg4) = m' ((c.tc : Thread Cert.FfnNextRefIdeal.nD Cert.FfnNextRefIdeal.τ).loc Cert.FfnNextRefIdeal.main_arg4)
          ∧ r.2.mem ((c.tc : Thread Cert.FfnNextRefIdeal.nD Cert.FfnNextRefIdeal.τ).loc Cert.FfnNextRefIdeal.main_arg5) = m' ((c.tc : Thread Cert.FfnNextRefIdeal.nD Cert.FfnNextRefIdeal.τ).loc Cert.FfnNextRefIdeal.main_arg5)
          ∧ r.2.mem ((c.tc : Thread Cert.FfnNextRefIdeal.nD Cert.FfnNextRefIdeal.τ).loc Cert.FfnNextRefIdeal.main_arg6) = m' ((c.tc : Thread Cert.FfnNextRefIdeal.nD Cert.FfnNextRefIdeal.τ).loc Cert.FfnNextRefIdeal.main_arg6))

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v1_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v1_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v26) = v0 c
          ∧ r.2.mem ((c.tc : Thread Cert.FfnRefIdeal.nD Cert.FfnRefIdeal.τ).loc Cert.FfnRefIdeal.main_v53) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v68) = v0 c
          ∧ r.2.mem ((c.tc : Thread Cert.ProjRefIdeal.nD Cert.ProjRefIdeal.τ).loc Cert.ProjRefIdeal.main_v137) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v7)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v7) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v31) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v60) = v0 c
          ∧ r.2.mem ((c.tc : Thread Cert.OutRefIdeal.nD Cert.OutRefIdeal.τ).loc Cert.OutRefIdeal.main_v62) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9))

def Claim : Prop :=
  ∃ (hSide : Cert.Side.Facts) (hSideIdeal : Cert.SideIdeal.Facts) (hSideRefIdeal : Cert.SideRefIdeal.Facts) (hFfnNext : Cert.FfnNext.Facts) (hFfnNextIdeal : Cert.FfnNextIdeal.Facts) (hFfnNextRefIdeal : Cert.FfnNextRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMemKv : Cert.MemKv.Facts) (hMemKvIdeal : Cert.MemKvIdeal.Facts) (hMemKvRefIdeal : Cert.MemKvRefIdeal.Facts) (hOut : Cert.Out.Facts) (hOutIdeal : Cert.OutIdeal.Facts) (hOutRefIdeal : Cert.OutRefIdeal.Facts) (hPre_finite : Cert.Pre_finite.Facts),
    quiescent_Side (hSide := hSide)
    ∧ quiescent_SideIdeal (hSideIdeal := hSideIdeal)
    ∧ quiescent_SideIdeal_pre_finite (hSideIdeal := hSideIdeal) (hPre_finite := hPre_finite)
    ∧ quiescent_SideRefIdeal (hSideRefIdeal := hSideRefIdeal)
    ∧ quiescent_SideRefIdeal_pre_finite (hSideRefIdeal := hSideRefIdeal) (hPre_finite := hPre_finite)
    ∧ quiescent_FfnNext (hFfnNext := hFfnNext)
    ∧ quiescent_FfnNextIdeal (hFfnNextIdeal := hFfnNextIdeal)
    ∧ quiescent_FfnNextRefIdeal (hFfnNextRefIdeal := hFfnNextRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Out (hOut := hOut)
    ∧ quiescent_OutIdeal (hOutIdeal := hOutIdeal)
    ∧ quiescent_OutRefIdeal (hOutRefIdeal := hOutRefIdeal)
    ∧ preserves_Side_SideIdeal
    ∧ preserves_FfnNext_FfnNextIdeal
    ∧ preserves_Ffn_FfnIdeal
    ∧ preserves_Proj_ProjIdeal
    ∧ preserves_MemKv_MemKvIdeal
    ∧ preserves_Out_OutIdeal
    ∧ algebraic_SideIdeal_SideRefIdeal_pre_finite (hSideIdeal := hSideIdeal) (hSideRefIdeal := hSideRefIdeal) (hPre_finite := hPre_finite)
    ∧ algebraic_FfnNextIdeal_FfnNextRefIdeal (hFfnNextIdeal := hFfnNextIdeal) (hFfnNextRefIdeal := hFfnNextRefIdeal)
    ∧ algebraic_FfnIdeal_FfnRefIdeal (hFfnIdeal := hFfnIdeal) (hFfnRefIdeal := hFfnRefIdeal)
    ∧ algebraic_ProjIdeal_ProjRefIdeal (hProjIdeal := hProjIdeal) (hProjRefIdeal := hProjRefIdeal)
    ∧ algebraic_MemKvIdeal_MemKvRefIdeal (hMemKvIdeal := hMemKvIdeal) (hMemKvRefIdeal := hMemKvRefIdeal)
    ∧ algebraic_OutIdeal_OutRefIdeal (hOutIdeal := hOutIdeal) (hOutRefIdeal := hOutRefIdeal)
-- ==== Pre_finite.lean ====
abbrev S8192x4608 : Shape := ⟨2, ![8192, 4608]⟩
abbrev S1024x1024 : Shape := ⟨2, ![1024, 1024]⟩
abbrev S32x4x512 : Shape := ⟨3, ![32, 4, 512]⟩
abbrev S32x4x4x128 : Shape := ⟨4, ![32, 4, 4, 128]⟩
abbrev S32x256x4x128 : Shape := ⟨4, ![32, 256, 4, 128]⟩
abbrev S4x128x128 : Shape := ⟨3, ![4, 128, 128]⟩
abbrev S4x128 : Shape := ⟨2, ![4, 128]⟩
abbrev S512 : Shape := ⟨1, ![512]⟩
abbrev S8192x512 : Shape := ⟨2, ![8192, 512]⟩
abbrev S_ : Shape := ⟨0, ![]⟩
abbrev S1024x512 : Shape := ⟨2, ![1024, 512]⟩

class Facts : Prop where
  slices_S8192x4608_S8192x512_0_4096 : S8192x4608.Slices ![0, 4096] S8192x512
  bcast_S_S8192x512 : S_.BroadcastsInDim S8192x512 (![] : Fin 0 → Fin S8192x512.rank)
  slices_S1024x1024_S1024x512_0_0 : S1024x1024.Slices ![0, 0] S1024x512
  bcast_S_S1024x512 : S_.BroadcastsInDim S1024x512 (![] : Fin 0 → Fin S1024x512.rank)
  bcast_S_S32x4x4x128 : S_.BroadcastsInDim S32x4x4x128 (![] : Fin 0 → Fin S32x4x4x128.rank)
  bcast_S_S32x256x4x128 : S_.BroadcastsInDim S32x256x4x128 (![] : Fin 0 → Fin S32x256x4x128.rank)

variable [Facts]

def fn {F : FTy → Type} [FloatOps F] (main_arg0 : FVec F S8192x4608 .f32) (main_arg1 : FVec F S1024x1024 .f32) (main_arg2 : FVec F S32x4x512 .f32) (main_arg3 : FVec F S32x4x512 .f32) (main_arg4 : FVec F S32x4x4x128 .f32) (main_arg5 : FVec F S32x256x4x128 .f32) (main_arg6 : FVec F S32x256x4x128 .f32) (main_arg7 : FVec F S4x128x128 .f32) (main_arg8 : FVec F S4x128 .f32) (main_arg9 : FVec F S512 .f32) (main_arg10 : FVec F S512 .f32) : IVec S8192x512 1 × IVec S1024x512 1 × IVec S32x4x4x128 1 × IVec S32x256x4x128 1 :=
  let main_v0 : FVec F S8192x512 .f32 := (extractStridedSlice S8192x512 ![0, 4096] · slices_S8192x4608_S8192x512_0_4096) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S1024x512 .f32 := (extractStridedSlice S1024x512 ![0, 0] · slices_S1024x1024_S1024x512_0_0) main_arg1
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  let main_v8 : FVec F S32x4x4x128 .f32 := Host.absf main_arg4
  let main_cst_1 : FVec F S_ .f32 := constant S_ .f32 0x7F800000#32
  let main_v9 : FVec F S32x4x4x128 .f32 := broadcastInDim S32x4x4x128 ![] bcast_S_S32x4x4x128 main_cst_1
  let main_v10 : IVec S32x4x4x128 1 := cmpf .olt main_v8 main_v9
  let main_v11 : FVec F S32x256x4x128 .f32 := Host.absf main_arg5
  let main_cst_2 : FVec F S_ .f32 := constant S_ .f32 0x7F800000#32
  let main_v12 : FVec F S32x256x4x128 .f32 := broadcastInDim S32x256x4x128 ![] bcast_S_S32x256x4x128 main_cst_2
  let main_v13 : IVec S32x256x4x128 1 := cmpf .olt main_v11 main_v12
  (main_v3, main_v7, main_v10, main_v13)
-- ==== Side.lean ====
abbrev S8192x4608 : Shape := ⟨2, ![8192, 4608]⟩
abbrev S1024x1024 : Shape := ⟨2, ![1024, 1024]⟩
abbrev S32x4x512 : Shape := ⟨3, ![32, 4, 512]⟩
abbrev S32x4x4x128 : Shape := ⟨4, ![32, 4, 4, 128]⟩
abbrev S32x256x4x128 : Shape := ⟨4, ![32, 256, 4, 128]⟩
abbrev S4x128x128 : Shape := ⟨3, ![4, 128, 128]⟩
abbrev S4x128 : Shape := ⟨2, ![4, 128]⟩
abbrev S512 : Shape := ⟨1, ![512]⟩
abbrev S4x4x4 : Shape := ⟨3, ![4, 4, 4]⟩
abbrev S4x4x4x128 : Shape := ⟨4, ![4, 4, 4, 128]⟩
abbrev S4x4x512 : Shape := ⟨3, ![4, 4, 512]⟩
abbrev S4x4 : Shape := ⟨2, ![4, 4]⟩
abbrev S4x4x128 : Shape := ⟨3, ![4, 4, 128]⟩
abbrev S4x512 : Shape := ⟨2, ![4, 512]⟩
abbrev S4x2048x4608 : Shape := ⟨3, ![4, 2048, 4608]⟩
abbrev S4x256x1024 : Shape := ⟨3, ![4, 256, 1024]⟩
abbrev S128x4 : Shape := ⟨2, ![128, 4]⟩
abbrev S1x512 : Shape := ⟨2, ![1, 512]⟩
abbrev S32x16x128 : Shape := ⟨3, ![32, 16, 128]⟩
abbrev S32x1024x128 : Shape := ⟨3, ![32, 1024, 128]⟩
abbrev S8192x512 : Shape := ⟨2, ![8192, 512]⟩
abbrev S4x2048x512 : Shape := ⟨3, ![4, 2048, 512]⟩
abbrev S1024x512 : Shape := ⟨2, ![1024, 512]⟩
abbrev S1x1024x512 : Shape := ⟨3, ![1, 1024, 512]⟩
abbrev S1x256x512 : Shape := ⟨3, ![1, 256, 512]⟩
abbrev S4x16x128 : Shape := ⟨3, ![4, 16, 128]⟩
abbrev S4x1024x128 : Shape := ⟨3, ![4, 1024, 128]⟩
abbrev S1x16x128 : Shape := ⟨3, ![1, 16, 128]⟩
abbrev S16x128 : Shape := ⟨2, ![16, 128]⟩
abbrev S1x1024x128 : Shape := ⟨3, ![1, 1024, 128]⟩
abbrev S1024x128 : Shape := ⟨2, ![1024, 128]⟩
abbrev S16x1024 : Shape := ⟨2, ![16, 1024]⟩
abbrev S16 : Shape := ⟨1, ![16]⟩
abbrev S16x1 : Shape := ⟨2, ![16, 1]⟩
abbrev S1x4x512 : Shape := ⟨3, ![1, 4, 512]⟩
abbrev S4x1x512 : Shape := ⟨3, ![4, 1, 512]⟩
abbrev S1x256x128 : Shape := ⟨3, ![1, 256, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 31
  | .vmem => 36
  | .smem => 0
  | _ => 0

abbrev bufTy : (tb : Table) → Fin (tcTables nBuf tb) → BufTy
  | .hbm, ⟨0, _⟩ => ⟨S8192x4608, .f32⟩
  | .hbm, ⟨1, _⟩ => ⟨S1024x1024, .f32⟩
  | .hbm, ⟨2, _⟩ => ⟨S32x4x512, .f32⟩
  | .hbm, ⟨3, _⟩ => ⟨S32x4x512, .f32⟩
  | .hbm, ⟨4, _⟩ => ⟨S32x4x4x128, .f32⟩
  | .hbm, ⟨5, _⟩ => ⟨S32x256x4x128, .f32⟩
  | .hbm, ⟨6, _⟩ => ⟨S32x256x4x128, .f32⟩
  | .hbm, ⟨7, _⟩ => ⟨S4x128x128, .f32⟩
  | .hbm, ⟨8, _⟩ => ⟨S4x128, .f32⟩
  | .hbm, ⟨9, _⟩ => ⟨S512, .f32⟩
  | .hbm, ⟨10, _⟩ => ⟨S512, .f32⟩
  | .hbm, ⟨11, _⟩ => ⟨S4x4x4, .f32⟩
  | .hbm, ⟨12, _⟩ => ⟨S4x4x4, .f32⟩
  | .hbm, ⟨13, _⟩ => ⟨S4x4x4x128, .f32⟩
  | .hbm, ⟨14, _⟩ => ⟨S4x4x512, .f32⟩
  | .hbm, ⟨15, _⟩ => ⟨S4x4, .f32⟩
  | .hbm, ⟨16, _⟩ => ⟨S4x4, .f32⟩
  | .hbm, ⟨17, _⟩ => ⟨S4x4x128, .f32⟩
  | .hbm, ⟨18, _⟩ => ⟨S4x512, .f32⟩
  | .hbm, ⟨19, _⟩ => ⟨S4x2048x4608, .f32⟩
  | .hbm, ⟨20, _⟩ => ⟨S4x256x1024, .f32⟩
  | .hbm, ⟨21, _⟩ => ⟨S128x4, .f32⟩
  | .hbm, ⟨22, _⟩ => ⟨S1x512, .f32⟩
  | .hbm, ⟨23, _⟩ => ⟨S1x512, .f32⟩
  | .hbm, ⟨24, _⟩ => ⟨S32x16x128, .f32⟩
  | .hbm, ⟨25, _⟩ => ⟨S32x1024x128, .f32⟩
  | .hbm, ⟨26, _⟩ => ⟨S32x1024x128, .f32⟩
  | .hbm, ⟨27, _⟩ => ⟨S8192x512, .bf16⟩
  | .hbm, ⟨28, _⟩ => ⟨S4x2048x512, .bf16⟩
  | .hbm, ⟨29, _⟩ => ⟨S32x4x512, .f32⟩
  | .hbm, ⟨30, _⟩ => ⟨S32x16x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S4x128x128, .f32⟩
  | .local _ .vmem, ⟨5, _⟩ => ⟨S128x4, .f32⟩
  | .local _ .vmem, ⟨6, _⟩ => ⟨S1x512, .f32⟩
  | .local _ .vmem, ⟨7, _⟩ => ⟨S1x1024x512, .f32⟩
  | .local _ .vmem, ⟨8, _⟩ => ⟨S1x1024x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x512, .f32⟩
  | .local _ .vmem, ⟨14, _⟩ => ⟨S4x4x512, .f32⟩
  | .local _ .vmem, ⟨15, _⟩ => ⟨S4x4x512, .f32⟩
  | .local _ .vmem, ⟨16, _⟩ => ⟨S4x4x512, .f32⟩
  | .local _ .vmem, ⟨17, _⟩ => ⟨S4x4x512, .f32⟩
  | .local _ .vmem, ⟨18, _⟩ => ⟨S4x4x512, .f32⟩
  | .local _ .vmem, ⟨19, _⟩ => ⟨S4x512, .f32⟩
  | .local _ .vmem, ⟨20, _⟩ => ⟨S4x16x128, .f32⟩
  | .local _ .vmem, ⟨21, _⟩ => ⟨S4x16x128, .f32⟩
  | .local _ .vmem, ⟨22, _⟩ => ⟨S4x1024x128, .f32⟩
  | .local _ .vmem, ⟨23, _⟩ => ⟨S4x1024x128, .f32⟩
  | .local _ .vmem, ⟨24, _⟩ => ⟨S4x1024x128, .f32⟩
  | .local _ .vmem, ⟨25, _⟩ => ⟨S4x1024x128, .f32⟩
  | .local _ .vmem, ⟨26, _⟩ => ⟨S1024x512, .bf16⟩
  | .local _ .vmem, ⟨27, _⟩ => ⟨S1024x512, .bf16⟩
  | .local _ .vmem, ⟨28, _⟩ => ⟨S1x1024x512, .bf16⟩
  | .local _ .vmem, ⟨29, _⟩ => ⟨S1x1024x512, .bf16⟩
  | .local _ .vmem, ⟨30, _⟩ => ⟨S4x4x512, .f32⟩
  | .local _ .vmem, ⟨31, _⟩ => ⟨S4x4x512, .f32⟩
  | .local _ .vmem, ⟨32, _⟩ => ⟨S4x16x128, .f32⟩
  | .local _ .vmem, ⟨33, _⟩ => ⟨S4x16x128, .f32⟩
  | .local _ .vmem, ⟨34, _⟩ => ⟨S1024x512, .f32⟩
  | .local _ .vmem, ⟨35, _⟩ => ⟨S1024x512, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let c0_i32_10 : BitVec 32 := 0#32
  ![v16.toNat, v26.toNat, c8_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x4x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x4x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x4x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x16x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== SideIdeal.lean ====
variable {F : FTy → Type} [FloatOps F] [Named F]
def κ : String → Option EReal := fun
  | "mask" => some ⊥
  | _ => none
-- ==== SideRefIdeal.lean ====
abbrev S8192x4608 : Shape := ⟨2, ![8192, 4608]⟩
abbrev S1024x1024 : Shape := ⟨2, ![1024, 1024]⟩
abbrev S32x4x512 : Shape := ⟨3, ![32, 4, 512]⟩
abbrev S32x4x4x128 : Shape := ⟨4, ![32, 4, 4, 128]⟩
abbrev S32x256x4x128 : Shape := ⟨4, ![32, 256, 4, 128]⟩
abbrev S4x128x128 : Shape := ⟨3, ![4, 128, 128]⟩
abbrev S4x128 : Shape := ⟨2, ![4, 128]⟩
abbrev S512 : Shape := ⟨1, ![512]⟩
abbrev S8192x512 : Shape := ⟨2, ![8192, 512]⟩
abbrev S64x128x4x128 : Shape := ⟨4, ![64, 128, 4, 128]⟩
abbrev S4x2048x4x128 : Shape := ⟨4, ![4, 2048, 4, 128]⟩
abbrev S1024x512 : Shape := ⟨2, ![1024, 512]⟩
abbrev S4x256x4x128 : Shape := ⟨4, ![4, 256, 4, 128]⟩
abbrev S_ : Shape := ⟨0, ![]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x2048x512 : Shape := ⟨3, ![4, 2048, 512]⟩
abbrev S4x4x4 : Shape := ⟨3, ![4, 4, 4]⟩
abbrev S4x32x128x4 : Shape := ⟨4, ![4, 32, 128, 4]⟩
abbrev S4x4 : Shape := ⟨2, ![4, 4]⟩
abbrev S1x4x4x1 : Shape := ⟨4, ![1, 4, 4, 1]⟩
abbrev S32x4x4x256 : Shape := ⟨4, ![32, 4, 4, 256]⟩
abbrev S32x4x4 : Shape := ⟨3, ![32, 4, 4]⟩
abbrev S32x4x4x1 : Shape := ⟨4, ![32, 4, 4, 1]⟩
abbrev S32x4x128x4 : Shape := ⟨4, ![32, 4, 128, 4]⟩
abbrev S32x16x128 : Shape := ⟨3, ![32, 16, 128]⟩
abbrev S8192 : Shape := ⟨1, ![8192]⟩
abbrev S8192x1 : Shape := ⟨2, ![8192, 1]⟩
abbrev S1x512 : Shape := ⟨2, ![1, 512]⟩
abbrev S4x2048 : Shape := ⟨2, ![4, 2048]⟩
abbrev S4x2048x1 : Shape := ⟨3, ![4, 2048, 1]⟩
abbrev S1x1x512 : Shape := ⟨3, ![1, 1, 512]⟩

abbrev nBuf : Space → Nat
  | .hbm => 145
  | .vmem => 0
  | .smem => 0
  | _ => 0

abbrev hbmTy0_0 (i : Nat) : BufTy := match i % 128 with
  | 0 => ⟨S8192x4608, .f32⟩
  | 1 => ⟨S1024x1024, .f32⟩
  | 2 => ⟨S32x4x512, .f32⟩
  | 3 => ⟨S32x4x512, .f32⟩
  | 4 => ⟨S32x4x4x128, .f32⟩
  | 5 => ⟨S32x256x4x128, .f32⟩
  | 6 => ⟨S32x256x4x128, .f32⟩
  | 7 => ⟨S4x128x128, .f32⟩
  | 8 => ⟨S4x128, .f32⟩
  | 9 => ⟨S512, .f32⟩
  | 10 => ⟨S512, .f32⟩
  | 11 => ⟨S8192x512, .f32⟩
  | 12 => ⟨S64x128x4x128, .f32⟩
  | 13 => ⟨S8192x512, .f32⟩
  | 14 => ⟨S64x128x4x128, .f32⟩
  | 15 => ⟨S8192x512, .f32⟩
  | 16 => ⟨S4x2048x4x128, .f32⟩
  | 17 => ⟨S1024x512, .f32⟩
  | 18 => ⟨S4x256x4x128, .f32⟩
  | 19 => ⟨S1024x512, .f32⟩
  | 20 => ⟨S4x256x4x128, .f32⟩
  | 21 => ⟨S_, .f32⟩
  | 22 => ⟨S128x128, .f32⟩
  | 23 => ⟨S128x128, .i32⟩
  | 24 => ⟨S_, .i32⟩
  | 25 => ⟨S128x128, .i32⟩
  | 26 => ⟨S128x128, .i32⟩
  | 27 => ⟨S128x128, .i32⟩
  | 28 => ⟨S128x128, .i1⟩
  | 29 => ⟨S_, .f32⟩
  | 30 => ⟨S128x128, .f32⟩
  | 31 => ⟨S128x128, .f32⟩
  | 32 => ⟨S1x128x128, .f32⟩
  | 33 => ⟨S4x128x128, .f32⟩
  | 34 => ⟨S4x128x128, .f32⟩
  | 35 => ⟨S4x64x128x128, .f32⟩
  | 36 => ⟨S64x128x4x128, .f32⟩
  | 37 => ⟨S128x4, .f32⟩
  | 38 => ⟨S1x128x4x1, .f32⟩
  | 39 => ⟨S64x128x4x128, .f32⟩
  | 40 => ⟨S64x128x4x128, .f32⟩
  | 41 => ⟨S64x128x4x128, .f32⟩
  | 42 => ⟨S8192x512, .f32⟩
  | 43 => ⟨S4x4x2048x256, .f32⟩
  | 44 => ⟨S_, .f32⟩
  | 45 => ⟨S4x4x2048x256, .f32⟩
  | 46 => ⟨S4x4x2048x256, .f32⟩
  | 47 => ⟨S_, .f32⟩
  | 48 => ⟨S4x4x2048, .f32⟩
  | 49 => ⟨S_, .f32⟩
  | 50 => ⟨S4x4x2048, .f32⟩
  | 51 => ⟨S4x4x2048, .f32⟩
  | 52 => ⟨S4x4x2048x1, .f32⟩
  | 53 => ⟨S4x4x2048x256, .f32⟩
  | 54 => ⟨S4x4x2048x256, .f32⟩
  | 55 => ⟨S4x4x2048x256, .f32⟩
  | 56 => ⟨S_, .f32⟩
  | 57 => ⟨S4x4x2048, .f32⟩
  | 58 => ⟨S4x4x2048x1, .f32⟩
  | 59 => ⟨S4x4x2048x256, .f32⟩
  | 60 => ⟨S4x4x2048x256, .f32⟩
  | 61 => ⟨S4x4x128x2048, .f32⟩
  | 62 => ⟨S4x2048x4x128, .f32⟩
  | 63 => ⟨S4x2048x512, .f32⟩
  | 64 => ⟨S32x4x4x128, .f32⟩
  | 65 => ⟨S32x4x4x128, .f32⟩
  | 66 => ⟨S_, .f32⟩
  | 67 => ⟨S128x128, .f32⟩
  | 68 => ⟨S128x128, .i32⟩
  | 69 => ⟨S_, .i32⟩
  | 70 => ⟨S128x128, .i32⟩
  | 71 => ⟨S128x128, .i32⟩
  | 72 => ⟨S128x128, .i32⟩
  | 73 => ⟨S128x128, .i1⟩
  | 74 => ⟨S_, .f32⟩
  | 75 => ⟨S128x128, .f32⟩
  | 76 => ⟨S128x128, .f32⟩
  | 77 => ⟨S1x128x128, .f32⟩
  | 78 => ⟨S4x128x128, .f32⟩
  | 79 => ⟨S4x128x128, .f32⟩
  | 80 => ⟨S4x4x4, .f32⟩
  | 81 => ⟨S4x32x128x4, .f32⟩
  | 82 => ⟨S32x4x4x128, .f32⟩
  | 83 => ⟨S4x4, .f32⟩
  | 84 => ⟨S4x4, .f32⟩
  | 85 => ⟨S1x4x4x1, .f32⟩
  | 86 => ⟨S32x4x4x128, .f32⟩
  | 87 => ⟨S32x4x4x128, .f32⟩
  | 88 => ⟨S32x4x4x128, .f32⟩
  | 89 => ⟨S32x4x512, .f32⟩
  | 90 => ⟨S32x4x4x256, .f32⟩
  | 91 => ⟨S_, .f32⟩
  | 92 => ⟨S32x4x4x256, .f32⟩
  | 93 => ⟨S32x4x4x256, .f32⟩
  | 94 => ⟨S_, .f32⟩
  | 95 => ⟨S32x4x4, .f32⟩
  | 96 => ⟨S_, .f32⟩
  | 97 => ⟨S32x4x4, .f32⟩
  | 98 => ⟨S32x4x4, .f32⟩
  | 99 => ⟨S32x4x4x1, .f32⟩
  | 100 => ⟨S32x4x4x256, .f32⟩
  | 101 => ⟨S32x4x4x256, .f32⟩
  | 102 => ⟨S32x4x4x256, .f32⟩
  | 103 => ⟨S_, .f32⟩
  | 104 => ⟨S32x4x4, .f32⟩
  | 105 => ⟨S32x4x4x1, .f32⟩
  | 106 => ⟨S32x4x4x256, .f32⟩
  | 107 => ⟨S32x4x4x256, .f32⟩
  | 108 => ⟨S32x4x128x4, .f32⟩
  | 109 => ⟨S32x4x4x128, .f32⟩
  | 110 => ⟨S32x16x128, .f32⟩
  | 111 => ⟨S8192x512, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x1, .f32⟩
  | 122 => ⟨S8192x512, .f32⟩
  | 123 => ⟨S8192x512, .f32⟩
  | 124 => ⟨S1x512, .f32⟩
  | 125 => ⟨S8192x512, .f32⟩
  | 126 => ⟨S8192x512, .f32⟩
  | 127 => ⟨S8192x512, .bf16⟩
  | _ => ⟨S8192x4608, .f32⟩

abbrev hbmTy0_1 (i : Nat) : BufTy := match i % 128 with
  | 0 => ⟨S4x2048x512, .f32⟩
  | 1 => ⟨S_, .f32⟩
  | 2 => ⟨S4x2048, .f32⟩
  | 3 => ⟨S4x2048x1, .f32⟩
  | 4 => ⟨S_, .f32⟩
  | 5 => ⟨S4x2048x1, .f32⟩
  | 6 => ⟨S4x2048x1, .f32⟩
  | 7 => ⟨S_, .f32⟩
  | 8 => ⟨S4x2048x1, .f32⟩
  | 9 => ⟨S4x2048x1, .f32⟩
  | 10 => ⟨S4x2048x1, .f32⟩
  | 11 => ⟨S4x2048x512, .f32⟩
  | 12 => ⟨S4x2048x512, .f32⟩
  | 13 => ⟨S1x1x512, .f32⟩
  | 14 => ⟨S4x2048x512, .f32⟩
  | 15 => ⟨S4x2048x512, .f32⟩
  | 16 => ⟨S4x2048x512, .bf16⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_cst : Ref sig .tc := ⟨.hbm, 29, rfl⟩
abbrev main_call0_v5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_call1_v0 : Ref sig .tc := ⟨.hbm, 68, rfl⟩
abbrev main_call1_c : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_cst : Ref sig .tc := ⟨.hbm, 74, rfl⟩
abbrev main_call1_v5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_5 : Ref sig .tc := ⟨.hbm, 91, rfl⟩
abbrev main_v58 : Ref sig .tc := ⟨.hbm, 92, rfl⟩
abbrev main_v59 : Ref sig .tc := ⟨.hbm, 93, rfl⟩
abbrev main_cst_6 : Ref sig .tc := ⟨.hbm, 94, rfl⟩
abbrev main_v60 : Ref sig .tc := ⟨.hbm, 95, rfl⟩
abbrev main_cst_7 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_8 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_9 : Ref sig .tc := ⟨.hbm, 112, rfl⟩
abbrev main_v75 : Ref sig .tc := ⟨.hbm, 113, rfl⟩
abbrev main_v76 : Ref sig .tc := ⟨.hbm, 114, rfl⟩
abbrev main_cst_10 : Ref sig .tc := ⟨.hbm, 115, rfl⟩
abbrev main_v77 : Ref sig .tc := ⟨.hbm, 116, rfl⟩
abbrev main_v78 : Ref sig .tc := ⟨.hbm, 117, rfl⟩
abbrev main_cst_11 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_12 : Ref sig .tc := ⟨.hbm, 129, rfl⟩
abbrev main_v89 : Ref sig .tc := ⟨.hbm, 130, rfl⟩
abbrev main_v90 : Ref sig .tc := ⟨.hbm, 131, rfl⟩
abbrev main_cst_13 : Ref sig .tc := ⟨.hbm, 132, rfl⟩
abbrev main_v91 : Ref sig .tc := ⟨.hbm, 133, rfl⟩
abbrev main_v92 : Ref sig .tc := ⟨.hbm, 134, rfl⟩
abbrev main_cst_14 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩

abbrev nD : Nat := 1
abbrev τ : Topo := Topo.v7x

variable {F : FTy → Type} [FloatOps F]
-- ==== FfnNext.lean ====
abbrev S8192x2048 : Shape := ⟨2, ![8192, 2048]⟩
abbrev S128x2048 : Shape := ⟨2, ![128, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S16x2048 : Shape := ⟨2, ![16, 2048]⟩
abbrev S2048x256 : Shape := ⟨2, ![2048, 256]⟩
abbrev S256x2048 : Shape := ⟨2, ![256, 2048]⟩
abbrev S1040x2048 : Shape := ⟨2, ![1040, 2048]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S1040x256 : Shape := ⟨2, ![1040, 256]⟩

abbrev nBuf : Space → Nat
  | .hbm => 13
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S128x2048, .f32⟩
  | .hbm, ⟨11, _⟩ => ⟨S8192x2048, .bf16⟩
  | .hbm, ⟨12, _⟩ => ⟨S128x2048, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x2048, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S256x2048, .f32⟩
  | .local _ .vmem, ⟨11, _⟩ => ⟨S256x2048, .f32⟩
  | .local _ .vmem, ⟨12, _⟩ => ⟨S1024x2048, .f32⟩
  | .local _ .vmem, ⟨13, _⟩ => ⟨S1024x2048, .f32⟩
  | .local _ .vmem, ⟨14, _⟩ => ⟨S16x2048, .f32⟩
  | .local _ .vmem, ⟨15, _⟩ => ⟨S16x2048, .f32⟩
  | .local _ .vmem, ⟨16, _⟩ => ⟨S1024x2048, .bf16⟩
  | .local _ .vmem, ⟨17, _⟩ => ⟨S1024x2048, .bf16⟩
  | .local _ .vmem, ⟨18, _⟩ => ⟨S16x2048, .bf16⟩
  | .local _ .vmem, ⟨19, _⟩ => ⟨S16x2048, .bf16⟩
  | .local _ .vmem, ⟨20, _⟩ => ⟨S1040x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 22], ![false, false]⟩

def k0_cond2 (i : grid0.Coords) : BitVec 1 :=
  let arg1 : BitVec 32 := BitVec.ofNat 32 (i 1).val
  let c21_i32 : BitVec 32 := 21#32
  let v29 : BitVec 1 := Scalar.cmpi .eq arg1 c21_i32
  let v30 : BitVec 32 := Scalar.extui v29
  let c0_i32_19 : BitVec 32 := 0#32
  let v31 : BitVec 1 := Scalar.cmpi .ne v30 c0_i32_19
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnNextRefIdeal.lean ====
abbrev S8192x2048 : Shape := ⟨2, ![8192, 2048]⟩
abbrev S128x2048 : Shape := ⟨2, ![128, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S128 : Shape := ⟨1, ![128]⟩
abbrev S128x1 : Shape := ⟨2, ![128, 1]⟩
abbrev S128x5632 : Shape := ⟨2, ![128, 5632]⟩

abbrev nBuf : Space → Nat
  | .hbm => 107
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S128x2048, .f32⟩
  | .hbm, ⟨41, _⟩ => ⟨S_, .f32⟩
  | .hbm, ⟨42, _⟩ => ⟨S128, .f32⟩
  | .hbm, ⟨43, _⟩ => ⟨S128x1, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S128x1, .f32⟩
  | .hbm, ⟨51, _⟩ => ⟨S128x2048, .f32⟩
  | .hbm, ⟨52, _⟩ => ⟨S128x2048, .f32⟩
  | .hbm, ⟨53, _⟩ => ⟨S1x2048, .f32⟩
  | .hbm, ⟨54, _⟩ => ⟨S128x2048, .f32⟩
  | .hbm, ⟨55, _⟩ => ⟨S128x2048, .f32⟩
  | .hbm, ⟨56, _⟩ => ⟨S128x5632, .f32⟩
  | .hbm, ⟨57, _⟩ => ⟨S128x5632, .f32⟩
  | .hbm, ⟨58, _⟩ => ⟨S128x5632, .f32⟩
  | .hbm, ⟨59, _⟩ => ⟨S_, .f32⟩
  | .hbm, ⟨60, _⟩ => ⟨S128x5632, .f32⟩
  | .hbm, ⟨61, _⟩ => ⟨S128x5632, .f32⟩
  | .hbm, ⟨62, _⟩ => ⟨S_, .f32⟩
  | .hbm, ⟨63, _⟩ => ⟨S128x5632, .f32⟩
  | .hbm, ⟨64, _⟩ => ⟨S128x5632, .f32⟩
  | .hbm, ⟨65, _⟩ => ⟨S128x5632, .f32⟩
  | .hbm, ⟨66, _⟩ => ⟨S128x5632, .f32⟩
  | .hbm, ⟨67, _⟩ => ⟨S128x5632, .f32⟩
  | .hbm, ⟨68, _⟩ => ⟨S128x2048, .f32⟩
  | .hbm, ⟨69, _⟩ => ⟨S_, .f32⟩
  | .hbm, ⟨70, _⟩ => ⟨S128x2048, .f32⟩
  | .hbm, ⟨71, _⟩ => ⟨S128x2048, .f32⟩
  | .hbm, ⟨72, _⟩ => ⟨S128x2048, .f32⟩
  | .hbm, ⟨73, _⟩ => ⟨S8192x2048, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x2048, .f32⟩
  | .hbm, ⟨85, _⟩ => ⟨S8192x2048, .f32⟩
  | .hbm, ⟨86, _⟩ => ⟨S1x2048, .f32⟩
  | .hbm, ⟨87, _⟩ => ⟨S8192x2048, .f32⟩
  | .hbm, ⟨88, _⟩ => ⟨S8192x2048, .f32⟩
  | .hbm, ⟨89, _⟩ => ⟨S8192x2048, .bf16⟩
  | .hbm, ⟨90, _⟩ => ⟨S128x2048, .f32⟩
  | .hbm, ⟨91, _⟩ => ⟨S_, .f32⟩
  | .hbm, ⟨92, _⟩ => ⟨S128, .f32⟩
  | .hbm, ⟨93, _⟩ => ⟨S128x1, .f32⟩
  | .hbm, ⟨94, _⟩ => ⟨S_, .f32⟩
  | .hbm, ⟨95, _⟩ => ⟨S128x1, .f32⟩
  | .hbm, ⟨96, _⟩ => ⟨S128x1, .f32⟩
  | .hbm, ⟨97, _⟩ => ⟨S_, .f32⟩
  | .hbm, ⟨98, _⟩ => ⟨S128x1, .f32⟩
  | .hbm, ⟨99, _⟩ => ⟨S128x1, .f32⟩
  | .hbm, ⟨100, _⟩ => ⟨S128x1, .f32⟩
  | .hbm, ⟨101, _⟩ => ⟨S128x2048, .f32⟩
  | .hbm, ⟨102, _⟩ => ⟨S128x2048, .f32⟩
  | .hbm, ⟨103, _⟩ => ⟨S1x2048, .f32⟩
  | .hbm, ⟨104, _⟩ => ⟨S128x2048, .f32⟩
  | .hbm, ⟨105, _⟩ => ⟨S128x2048, .f32⟩
  | .hbm, ⟨106, _⟩ => ⟨S128x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Ffn.lean ====
abbrev S8192x2048 : Shape := ⟨2, ![8192, 2048]⟩
abbrev S128x2048 : Shape := ⟨2, ![128, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S16x2048 : Shape := ⟨2, ![16, 2048]⟩
abbrev S2048x256 : Shape := ⟨2, ![2048, 256]⟩
abbrev S256x2048 : Shape := ⟨2, ![256, 2048]⟩
abbrev S1040x2048 : Shape := ⟨2, ![1040, 2048]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S1040x256 : Shape := ⟨2, ![1040, 256]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S1x2048, .f32⟩
  | .hbm, ⟨7, _⟩ => ⟨S8192x2048, .f32⟩
  | .hbm, ⟨8, _⟩ => ⟨S128x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S256x2048, .f32⟩
  | .local _ .vmem, ⟨10, _⟩ => ⟨S256x2048, .f32⟩
  | .local _ .vmem, ⟨11, _⟩ => ⟨S1024x2048, .f32⟩
  | .local _ .vmem, ⟨12, _⟩ => ⟨S1024x2048, .f32⟩
  | .local _ .vmem, ⟨13, _⟩ => ⟨S16x2048, .f32⟩
  | .local _ .vmem, ⟨14, _⟩ => ⟨S16x2048, .f32⟩
  | .local _ .vmem, ⟨15, _⟩ => ⟨S1040x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S8192x2048 : Shape := ⟨2, ![8192, 2048]⟩
abbrev S128x2048 : Shape := ⟨2, ![128, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S128 : Shape := ⟨1, ![128]⟩
abbrev S128x1 : Shape := ⟨2, ![128, 1]⟩
abbrev S128x5632 : Shape := ⟨2, ![128, 5632]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S128x2048, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x2048, .f32⟩
  | .hbm, ⟨51, _⟩ => ⟨S128x2048, .f32⟩
  | .hbm, ⟨52, _⟩ => ⟨S1x2048, .f32⟩
  | .hbm, ⟨53, _⟩ => ⟨S128x2048, .f32⟩
  | .hbm, ⟨54, _⟩ => ⟨S128x2048, .f32⟩
  | .hbm, ⟨55, _⟩ => ⟨S128x5632, .f32⟩
  | .hbm, ⟨56, _⟩ => ⟨S128x5632, .f32⟩
  | .hbm, ⟨57, _⟩ => ⟨S128x5632, .f32⟩
  | .hbm, ⟨58, _⟩ => ⟨S_, .f32⟩
  | .hbm, ⟨59, _⟩ => ⟨S128x5632, .f32⟩
  | .hbm, ⟨60, _⟩ => ⟨S128x5632, .f32⟩
  | .hbm, ⟨61, _⟩ => ⟨S_, .f32⟩
  | .hbm, ⟨62, _⟩ => ⟨S128x5632, .f32⟩
  | .hbm, ⟨63, _⟩ => ⟨S128x5632, .f32⟩
  | .hbm, ⟨64, _⟩ => ⟨S128x5632, .f32⟩
  | .hbm, ⟨65, _⟩ => ⟨S128x5632, .f32⟩
  | .hbm, ⟨66, _⟩ => ⟨S128x5632, .f32⟩
  | .hbm, ⟨67, _⟩ => ⟨S128x2048, .f32⟩
  | .hbm, ⟨68, _⟩ => ⟨S_, .f32⟩
  | .hbm, ⟨69, _⟩ => ⟨S128x2048, .f32⟩
  | .hbm, ⟨70, _⟩ => ⟨S128x2048, .f32⟩
  | .hbm, ⟨71, _⟩ => ⟨S128x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Proj.lean ====
abbrev S8192x2048 : Shape := ⟨2, ![8192, 2048]⟩
abbrev S128x2048 : Shape := ⟨2, ![128, 2048]⟩
abbrev S2048x4608 : Shape := ⟨2, ![2048, 4608]⟩
abbrev S128 : Shape := ⟨1, ![128]⟩
abbrev S4x128 : Shape := ⟨2, ![4, 128]⟩
abbrev S1x128 : Shape := ⟨2, ![1, 128]⟩
abbrev S8x128 : Shape := ⟨2, ![8, 128]⟩
abbrev S1024 : Shape := ⟨1, ![1024]⟩
abbrev S_ : Shape := ⟨0, ![]⟩
abbrev S1536 : Shape := ⟨1, ![1536]⟩
abbrev S512 : Shape := ⟨1, ![512]⟩
abbrev S4608 : Shape := ⟨1, ![4608]⟩
abbrev S1x4608 : Shape := ⟨2, ![1, 4608]⟩
abbrev S8192x4608 : Shape := ⟨2, ![8192, 4608]⟩
abbrev S128x4608 : Shape := ⟨2, ![128, 4608]⟩
abbrev S2048x2048 : Shape := ⟨2, ![2048, 2048]⟩
abbrev S32x2048 : Shape := ⟨2, ![32, 2048]⟩
abbrev S2048x512 : Shape := ⟨2, ![2048, 512]⟩
abbrev S1x512 : Shape := ⟨2, ![1, 512]⟩
abbrev S32x512 : Shape := ⟨2, ![32, 512]⟩
abbrev S2080x2048 : Shape := ⟨2, ![2080, 2048]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S288x2048 : Shape := ⟨2, ![288, 2048]⟩
abbrev S288x512 : Shape := ⟨2, ![288, 512]⟩
abbrev S288x128 : Shape := ⟨2, ![288, 128]⟩
abbrev S288 : Shape := ⟨1, ![288]⟩
abbrev S288x1 : Shape := ⟨2, ![288, 1]⟩

abbrev nBuf : Space → Nat
  | .hbm => 23
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S2048x4608, .f32⟩
  | .hbm, ⟨3, _⟩ => ⟨S128, .f32⟩
  | .hbm, ⟨4, _⟩ => ⟨S128, .f32⟩
  | .hbm, ⟨5, _⟩ => ⟨S4x128, .f32⟩
  | .hbm, ⟨6, _⟩ => ⟨S128, .f32⟩
  | .hbm, ⟨7, _⟩ => ⟨S1x128, .f32⟩
  | .hbm, ⟨8, _⟩ => ⟨S8x128, .f32⟩
  | .hbm, ⟨9, _⟩ => ⟨S1024, .f32⟩
  | .hbm, ⟨10, _⟩ => ⟨S1x128, .f32⟩
  | .hbm, ⟨11, _⟩ => ⟨S8x128, .f32⟩
  | .hbm, ⟨12, _⟩ => ⟨S1024, .f32⟩
  | .hbm, ⟨13, _⟩ => ⟨S_, .f32⟩
  | .hbm, ⟨14, _⟩ => ⟨S1536, .f32⟩
  | .hbm, ⟨15, _⟩ => ⟨S512, .f32⟩
  | .hbm, ⟨16, _⟩ => ⟨S1x128, .f32⟩
  | .hbm, ⟨17, _⟩ => ⟨S4x128, .f32⟩
  | .hbm, ⟨18, _⟩ => ⟨S512, .f32⟩
  | .hbm, ⟨19, _⟩ => ⟨S4608, .f32⟩
  | .hbm, ⟨20, _⟩ => ⟨S1x4608, .f32⟩
  | .hbm, ⟨21, _⟩ => ⟨S8192x4608, .f32⟩
  | .hbm, ⟨22, _⟩ => ⟨S128x4608, .f32⟩
  | .local _ .vmem, ⟨0, _⟩ => ⟨S2048x2048, .bf16⟩
  | .local _ .vmem, ⟨1, _⟩ => ⟨S2048x2048, .bf16⟩
  | .local _ .vmem, ⟨2, _⟩ => ⟨S32x2048, .bf16⟩
  | .local _ .vmem, ⟨3, _⟩ => ⟨S32x2048, .bf16⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S32x512, .f32⟩
  | .local _ .vmem, ⟨11, _⟩ => ⟨S32x512, .f32⟩
  | .local _ .vmem, ⟨12, _⟩ => ⟨S2080x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S8192x2048 : Shape := ⟨2, ![8192, 2048]⟩
abbrev S128x2048 : Shape := ⟨2, ![128, 2048]⟩
abbrev S2048x4608 : Shape := ⟨2, ![2048, 4608]⟩
abbrev S128 : Shape := ⟨1, ![128]⟩
abbrev S4x128 : Shape := ⟨2, ![4, 128]⟩
abbrev S8192x4608 : Shape := ⟨2, ![8192, 4608]⟩
abbrev S8192x1024 : Shape := ⟨2, ![8192, 1024]⟩
abbrev S8192x512 : Shape := ⟨2, ![8192, 512]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S8192x4x128 : Shape := ⟨3, ![8192, 4, 128]⟩
abbrev S8192x4 : Shape := ⟨2, ![8192, 4]⟩
abbrev S8192x4x1 : Shape := ⟨3, ![8192, 4, 1]⟩
abbrev S1x4x128 : Shape := ⟨3, ![1, 4, 128]⟩
abbrev S128x4608 : Shape := ⟨2, ![128, 4608]⟩
abbrev S128x1024 : Shape := ⟨2, ![128, 1024]⟩
abbrev S128x512 : Shape := ⟨2, ![128, 512]⟩
abbrev S128x8x128 : Shape := ⟨3, ![128, 8, 128]⟩
abbrev S128x8 : Shape := ⟨2, ![128, 8]⟩
abbrev S128x8x1 : Shape := ⟨3, ![128, 8, 1]⟩
abbrev S128x4x128 : Shape := ⟨3, ![128, 4, 128]⟩
abbrev S128x4 : Shape := ⟨2, ![128, 4]⟩
abbrev S128x4x1 : Shape := ⟨3, ![128, 4, 1]⟩

abbrev nBuf : Space → Nat
  | .hbm => 169
  | .vmem => 0
  | .smem => 0
  | _ => 0

abbrev hbmTy0_0 (i : Nat) : BufTy := match i % 128 with
  | 0 => ⟨S8192x2048, .bf16⟩
  | 1 => ⟨S128x2048, .bf16⟩
  | 2 => ⟨S2048x4608, .f32⟩
  | 3 => ⟨S128, .f32⟩
  | 4 => ⟨S128, .f32⟩
  | 5 => ⟨S4x128, .f32⟩
  | 6 => ⟨S128, .f32⟩
  | 7 => ⟨S8192x2048, .f32⟩
  | 8 => ⟨S8192x4608, .f32⟩
  | 9 => ⟨S8192x1024, .f32⟩
  | 10 => ⟨S8192x1024, .f32⟩
  | 11 => ⟨S8192x1024, .f32⟩
  | 12 => ⟨S8192x512, .f32⟩
  | 13 => ⟨S8192x512, .f32⟩
  | 14 => ⟨S8192x512, .f32⟩
  | 15 => ⟨S8192x8x128, .f32⟩
  | 16 => ⟨S8192x8x128, .f32⟩
  | 17 => ⟨S_, .f32⟩
  | 18 => ⟨S8192x8, .f32⟩
  | 19 => ⟨S8192x8x1, .f32⟩
  | 20 => ⟨S_, .f32⟩
  | 21 => ⟨S8192x8x1, .f32⟩
  | 22 => ⟨S8192x8x1, .f32⟩
  | 23 => ⟨S_, .f32⟩
  | 24 => ⟨S8192x8x1, .f32⟩
  | 25 => ⟨S8192x8x1, .f32⟩
  | 26 => ⟨S8192x8x1, .f32⟩
  | 27 => ⟨S8192x8x128, .f32⟩
  | 28 => ⟨S8192x8x128, .f32⟩
  | 29 => ⟨S1x1x128, .f32⟩
  | 30 => ⟨S8192x8x128, .f32⟩
  | 31 => ⟨S8192x8x128, .f32⟩
  | 32 => ⟨S8192x1024, .f32⟩
  | 33 => ⟨S8192x8x128, .f32⟩
  | 34 => ⟨S8192x8x128, .f32⟩
  | 35 => ⟨S_, .f32⟩
  | 36 => ⟨S8192x8, .f32⟩
  | 37 => ⟨S8192x8x1, .f32⟩
  | 38 => ⟨S_, .f32⟩
  | 39 => ⟨S8192x8x1, .f32⟩
  | 40 => ⟨S8192x8x1, .f32⟩
  | 41 => ⟨S_, .f32⟩
  | 42 => ⟨S8192x8x1, .f32⟩
  | 43 => ⟨S8192x8x1, .f32⟩
  | 44 => ⟨S8192x8x1, .f32⟩
  | 45 => ⟨S8192x8x128, .f32⟩
  | 46 => ⟨S8192x8x128, .f32⟩
  | 47 => ⟨S1x1x128, .f32⟩
  | 48 => ⟨S8192x8x128, .f32⟩
  | 49 => ⟨S8192x8x128, .f32⟩
  | 50 => ⟨S8192x1024, .f32⟩
  | 51 => ⟨S8192x4x128, .f32⟩
  | 52 => ⟨S8192x4x128, .f32⟩
  | 53 => ⟨S_, .f32⟩
  | 54 => ⟨S8192x4, .f32⟩
  | 55 => ⟨S8192x4x1, .f32⟩
  | 56 => ⟨S_, .f32⟩
  | 57 => ⟨S8192x4x1, .f32⟩
  | 58 => ⟨S8192x4x1, .f32⟩
  | 59 => ⟨S_, .f32⟩
  | 60 => ⟨S8192x4x1, .f32⟩
  | 61 => ⟨S8192x4x1, .f32⟩
  | 62 => ⟨S8192x4x1, .f32⟩
  | 63 => ⟨S8192x4x128, .f32⟩
  | 64 => ⟨S8192x4x128, .f32⟩
  | 65 => ⟨S1x4x128, .f32⟩
  | 66 => ⟨S8192x4x128, .f32⟩
  | 67 => ⟨S8192x4x128, .f32⟩
  | 68 => ⟨S8192x512, .f32⟩
  | 69 => ⟨S8192x4x128, .f32⟩
  | 70 => ⟨S8192x4x128, .f32⟩
  | 71 => ⟨S_, .f32⟩
  | 72 => ⟨S8192x4, .f32⟩
  | 73 => ⟨S8192x4x1, .f32⟩
  | 74 => ⟨S_, .f32⟩
  | 75 => ⟨S8192x4x1, .f32⟩
  | 76 => ⟨S8192x4x1, .f32⟩
  | 77 => ⟨S_, .f32⟩
  | 78 => ⟨S8192x4x1, .f32⟩
  | 79 => ⟨S8192x4x1, .f32⟩
  | 80 => ⟨S8192x4x1, .f32⟩
  | 81 => ⟨S8192x4x128, .f32⟩
  | 82 => ⟨S8192x4x128, .f32⟩
  | 83 => ⟨S1x1x128, .f32⟩
  | 84 => ⟨S8192x4x128, .f32⟩
  | 85 => ⟨S8192x4x128, .f32⟩
  | 86 => ⟨S8192x512, .f32⟩
  | 87 => ⟨S8192x4608, .f32⟩
  | 88 => ⟨S128x2048, .f32⟩
  | 89 => ⟨S128x4608, .f32⟩
  | 90 => ⟨S128x1024, .f32⟩
  | 91 => ⟨S128x1024, .f32⟩
  | 92 => ⟨S128x1024, .f32⟩
  | 93 => ⟨S128x512, .f32⟩
  | 94 => ⟨S128x512, .f32⟩
  | 95 => ⟨S128x512, .f32⟩
  | 96 => ⟨S128x8x128, .f32⟩
  | 97 => ⟨S128x8x128, .f32⟩
  | 98 => ⟨S_, .f32⟩
  | 99 => ⟨S128x8, .f32⟩
  | 100 => ⟨S128x8x1, .f32⟩
  | 101 => ⟨S_, .f32⟩
  | 102 => ⟨S128x8x1, .f32⟩
  | 103 => ⟨S128x8x1, .f32⟩
  | 104 => ⟨S_, .f32⟩
  | 105 => ⟨S128x8x1, .f32⟩
  | 106 => ⟨S128x8x1, .f32⟩
  | 107 => ⟨S128x8x1, .f32⟩
  | 108 => ⟨S128x8x128, .f32⟩
  | 109 => ⟨S128x8x128, .f32⟩
  | 110 => ⟨S1x1x128, .f32⟩
  | 111 => ⟨S128x8x128, .f32⟩
  | 112 => ⟨S128x8x128, .f32⟩
  | 113 => ⟨S128x1024, .f32⟩
  | 114 => ⟨S128x8x128, .f32⟩
  | 115 => ⟨S128x8x128, .f32⟩
  | 116 => ⟨S_, .f32⟩
  | 117 => ⟨S128x8, .f32⟩
  | 118 => ⟨S128x8x1, .f32⟩
  | 119 => ⟨S_, .f32⟩
  | 120 => ⟨S128x8x1, .f32⟩
  | 121 => ⟨S128x8x1, .f32⟩
  | 122 => ⟨S_, .f32⟩
  | 123 => ⟨S128x8x1, .f32⟩
  | 124 => ⟨S128x8x1, .f32⟩
  | 125 => ⟨S128x8x1, .f32⟩
  | 126 => ⟨S128x8x128, .f32⟩
  | 127 => ⟨S128x8x128, .f32⟩
  | _ => ⟨S8192x2048, .bf16⟩

abbrev hbmTy0_1 (i : Nat) : BufTy := match i % 128 with
  | 0 => ⟨S1x1x128, .f32⟩
  | 1 => ⟨S128x8x128, .f32⟩
  | 2 => ⟨S128x8x128, .f32⟩
  | 3 => ⟨S128x1024, .f32⟩
  | 4 => ⟨S128x4x128, .f32⟩
  | 5 => ⟨S128x4x128, .f32⟩
  | 6 => ⟨S_, .f32⟩
  | 7 => ⟨S128x4, .f32⟩
  | 8 => ⟨S128x4x1, .f32⟩
  | 9 => ⟨S_, .f32⟩
  | 10 => ⟨S128x4x1, .f32⟩
  | 11 => ⟨S128x4x1, .f32⟩
  | 12 => ⟨S_, .f32⟩
  | 13 => ⟨S128x4x1, .f32⟩
  | 14 => ⟨S128x4x1, .f32⟩
  | 15 => ⟨S128x4x1, .f32⟩
  | 16 => ⟨S128x4x128, .f32⟩
  | 17 => ⟨S128x4x128, .f32⟩
  | 18 => ⟨S1x4x128, .f32⟩
  | 19 => ⟨S128x4x128, .f32⟩
  | 20 => ⟨S128x4x128, .f32⟩
  | 21 => ⟨S128x512, .f32⟩
  | 22 => ⟨S128x4x128, .f32⟩
  | 23 => ⟨S128x4x128, .f32⟩
  | 24 => ⟨S_, .f32⟩
  | 25 => ⟨S128x4, .f32⟩
  | 26 => ⟨S128x4x1, .f32⟩
  | 27 => ⟨S_, .f32⟩
  | 28 => ⟨S128x4x1, .f32⟩
  | 29 => ⟨S128x4x1, .f32⟩
  | 30 => ⟨S_, .f32⟩
  | 31 => ⟨S128x4x1, .f32⟩
  | 32 => ⟨S128x4x1, .f32⟩
  | 33 => ⟨S128x4x1, .f32⟩
  | 34 => ⟨S128x4x128, .f32⟩
  | 35 => ⟨S128x4x128, .f32⟩
  | 36 => ⟨S1x1x128, .f32⟩
  | 37 => ⟨S128x4x128, .f32⟩
  | 38 => ⟨S128x4x128, .f32⟩
  | 39 => ⟨S128x512, .f32⟩
  | 40 => ⟨S128x4608, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩
abbrev main_cst_12 : Ref sig .tc := ⟨.hbm, 101, rfl⟩
abbrev main_v81 : Ref sig .tc := ⟨.hbm, 102, rfl⟩
abbrev main_v82 : Ref sig .tc := ⟨.hbm, 103, rfl⟩
abbrev main_cst_13 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_14 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_cst_16 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_17 : Ref sig .tc := ⟨.hbm, 134, rfl⟩
abbrev main_v109 : Ref sig .tc := ⟨.hbm, 135, rfl⟩
abbrev main_v110 : Ref sig .tc := ⟨.hbm, 136, rfl⟩
abbrev main_cst_18 : Ref sig .tc := ⟨.hbm, 137, rfl⟩
abbrev main_v111 : Ref sig .tc := ⟨.hbm, 138, rfl⟩
abbrev main_v112 : Ref sig .tc := ⟨.hbm, 139, rfl⟩
abbrev main_cst_19 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_20 : Ref sig .tc := ⟨.hbm, 152, rfl⟩
abbrev main_v124 : Ref sig .tc := ⟨.hbm, 153, rfl⟩
abbrev main_v125 : Ref sig .tc := ⟨.hbm, 154, rfl⟩
abbrev main_cst_21 : Ref sig .tc := ⟨.hbm, 155, rfl⟩
abbrev main_v126 : Ref sig .tc := ⟨.hbm, 156, rfl⟩
abbrev main_v127 : Ref sig .tc := ⟨.hbm, 157, rfl⟩
abbrev main_cst_22 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩

abbrev nD : Nat := 1
abbrev τ : Topo := Topo.v7x

variable {F : FTy → Type} [FloatOps F]
-- ==== MemKv.lean ====
abbrev S1024x2048 : Shape := ⟨2, ![1024, 2048]⟩
abbrev S2048 : Shape := ⟨1, ![2048]⟩
abbrev S2048x1024 : Shape := ⟨2, ![2048, 1024]⟩
abbrev S128 : Shape := ⟨1, ![128]⟩
abbrev S1x128 : Shape := ⟨2, ![1, 128]⟩
abbrev S4x128 : Shape := ⟨2, ![4, 128]⟩
abbrev S512 : Shape := ⟨1, ![512]⟩
abbrev S_ : Shape := ⟨0, ![]⟩
abbrev S1024 : Shape := ⟨1, ![1024]⟩
abbrev S1x2048 : Shape := ⟨2, ![1, 2048]⟩
abbrev S1x1024 : Shape := ⟨2, ![1, 1024]⟩
abbrev S1024x1024 : Shape := ⟨2, ![1024, 1024]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩
abbrev S512x1 : Shape := ⟨2, ![512, 1]⟩
abbrev S512x128 : Shape := ⟨2, ![512, 128]⟩

abbrev nBuf : Space → Nat
  | .hbm => 13
  | .vmem => 10
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S1x128, .f32⟩
  | .hbm, ⟨5, _⟩ => ⟨S4x128, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1024, .f32⟩
  | .hbm, ⟨10, _⟩ => ⟨S1x2048, .f32⟩
  | .hbm, ⟨11, _⟩ => ⟨S1x1024, .f32⟩
  | .hbm, ⟨12, _⟩ => ⟨S1024x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemKvRefIdeal.lean ====
abbrev S1024x2048 : Shape := ⟨2, ![1024, 2048]⟩
abbrev S2048 : Shape := ⟨1, ![2048]⟩
abbrev S2048x1024 : Shape := ⟨2, ![2048, 1024]⟩
abbrev S128 : Shape := ⟨1, ![128]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x1024 : Shape := ⟨2, ![1024, 1024]⟩
abbrev S1024x512 : Shape := ⟨2, ![1024, 512]⟩
abbrev S1024x4x128 : Shape := ⟨3, ![1024, 4, 128]⟩
abbrev S1024x4 : Shape := ⟨2, ![1024, 4]⟩
abbrev S1024x4x1 : Shape := ⟨3, ![1024, 4, 1]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S1024x2048, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x2048, .f32⟩
  | .hbm, ⟨16, _⟩ => ⟨S1024x2048, .f32⟩
  | .hbm, ⟨17, _⟩ => ⟨S1x2048, .f32⟩
  | .hbm, ⟨18, _⟩ => ⟨S1024x2048, .f32⟩
  | .hbm, ⟨19, _⟩ => ⟨S1024x2048, .f32⟩
  | .hbm, ⟨20, _⟩ => ⟨S1024x1024, .f32⟩
  | .hbm, ⟨21, _⟩ => ⟨S1024x512, .f32⟩
  | .hbm, ⟨22, _⟩ => ⟨S1024x512, .f32⟩
  | .hbm, ⟨23, _⟩ => ⟨S1024x4x128, .f32⟩
  | .hbm, ⟨24, _⟩ => ⟨S1024x4x128, .f32⟩
  | .hbm, ⟨25, _⟩ => ⟨S_, .f32⟩
  | .hbm, ⟨26, _⟩ => ⟨S1024x4, .f32⟩
  | .hbm, ⟨27, _⟩ => ⟨S1024x4x1, .f32⟩
  | .hbm, ⟨28, _⟩ => ⟨S_, .f32⟩
  | .hbm, ⟨29, _⟩ => ⟨S1024x4x1, .f32⟩
  | .hbm, ⟨30, _⟩ => ⟨S1024x4x1, .f32⟩
  | .hbm, ⟨31, _⟩ => ⟨S_, .f32⟩
  | .hbm, ⟨32, _⟩ => ⟨S1024x4x1, .f32⟩
  | .hbm, ⟨33, _⟩ => ⟨S1024x4x1, .f32⟩
  | .hbm, ⟨34, _⟩ => ⟨S1024x4x1, .f32⟩
  | .hbm, ⟨35, _⟩ => ⟨S1024x4x128, .f32⟩
  | .hbm, ⟨36, _⟩ => ⟨S1024x4x128, .f32⟩
  | .hbm, ⟨37, _⟩ => ⟨S1x1x128, .f32⟩
  | .hbm, ⟨38, _⟩ => ⟨S1024x4x128, .f32⟩
  | .hbm, ⟨39, _⟩ => ⟨S1024x4x128, .f32⟩
  | .hbm, ⟨40, _⟩ => ⟨S1024x512, .f32⟩
  | .hbm, ⟨41, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Out.lean ====
abbrev S8192x1024 : Shape := ⟨2, ![8192, 1024]⟩
abbrev S8192x512 : Shape := ⟨2, ![8192, 512]⟩
abbrev S8192x2048 : Shape := ⟨2, ![8192, 2048]⟩
abbrev S128x1024 : Shape := ⟨2, ![128, 1024]⟩
abbrev S128x512 : Shape := ⟨2, ![128, 512]⟩
abbrev S128x2048 : Shape := ⟨2, ![128, 2048]⟩
abbrev S2048 : Shape := ⟨1, ![2048]⟩
abbrev S2048x2048 : Shape := ⟨2, ![2048, 2048]⟩
abbrev S1x2048 : Shape := ⟨2, ![1, 2048]⟩
abbrev S2048x1024 : Shape := ⟨2, ![2048, 1024]⟩
abbrev S2048x512 : Shape := ⟨2, ![2048, 512]⟩
abbrev S2048x256 : Shape := ⟨2, ![2048, 256]⟩
abbrev S32x1024 : Shape := ⟨2, ![32, 1024]⟩
abbrev S32x512 : Shape := ⟨2, ![32, 512]⟩
abbrev S32x256 : Shape := ⟨2, ![32, 256]⟩
abbrev S2080x2048 : Shape := ⟨2, ![2080, 2048]⟩
abbrev S1x1024 : Shape := ⟨2, ![1, 1024]⟩
abbrev S2048x1 : Shape := ⟨2, ![2048, 1]⟩
abbrev S32 : Shape := ⟨1, ![32]⟩
abbrev S32x1 : Shape := ⟨2, ![32, 1]⟩
abbrev S1x512 : Shape := ⟨2, ![1, 512]⟩
abbrev S2080x256 : Shape := ⟨2, ![2080, 256]⟩

abbrev nBuf : Space → Nat
  | .hbm => 13
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .f32⟩
  | .hbm, ⟨4, _⟩ => ⟨S128x1024, .f32⟩
  | .hbm, ⟨5, _⟩ => ⟨S128x512, .f32⟩
  | .hbm, ⟨6, _⟩ => ⟨S128x512, .f32⟩
  | .hbm, ⟨7, _⟩ => ⟨S128x2048, .f32⟩
  | .hbm, ⟨8, _⟩ => ⟨S2048, .f32⟩
  | .hbm, ⟨9, _⟩ => ⟨S2048x2048, .f32⟩
  | .hbm, ⟨10, _⟩ => ⟨S1x2048, .f32⟩
  | .hbm, ⟨11, _⟩ => ⟨S8192x2048, .f32⟩
  | .hbm, ⟨12, _⟩ => ⟨S128x2048, .f32⟩
  | .local _ .vmem, ⟨0, _⟩ => ⟨S2048x1024, .f32⟩
  | .local _ .vmem, ⟨1, _⟩ => ⟨S2048x1024, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x256, .f32⟩
  | .local _ .vmem, ⟨7, _⟩ => ⟨S2048x256, .f32⟩
  | .local _ .vmem, ⟨8, _⟩ => ⟨S32x1024, .f32⟩
  | .local _ .vmem, ⟨9, _⟩ => ⟨S32x1024, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x256, .f32⟩
  | .local _ .vmem, ⟨15, _⟩ => ⟨S32x256, .f32⟩
  | .local _ .vmem, ⟨16, _⟩ => ⟨S1x2048, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S32x256, .f32⟩
  | .local _ .vmem, ⟨22, _⟩ => ⟨S32x256, .f32⟩
  | .local _ .vmem, ⟨23, _⟩ => ⟨S2080x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutRefIdeal.lean ====
abbrev S8192x1024 : Shape := ⟨2, ![8192, 1024]⟩
abbrev S8192x512 : Shape := ⟨2, ![8192, 512]⟩
abbrev S8192x2048 : Shape := ⟨2, ![8192, 2048]⟩
abbrev S128x1024 : Shape := ⟨2, ![128, 1024]⟩
abbrev S128x512 : Shape := ⟨2, ![128, 512]⟩
abbrev S128x2048 : Shape := ⟨2, ![128, 2048]⟩
abbrev S2048 : Shape := ⟨1, ![2048]⟩
abbrev S2048x2048 : Shape := ⟨2, ![2048, 2048]⟩
abbrev S1024 : Shape := ⟨1, ![1024]⟩
abbrev S512 : Shape := ⟨1, ![512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S128 : Shape := ⟨1, ![128]⟩
abbrev S128x1 : Shape := ⟨2, ![128, 1]⟩
abbrev S1x512 : Shape := ⟨2, ![1, 512]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .f32⟩
  | .hbm, ⟨4, _⟩ => ⟨S128x1024, .f32⟩
  | .hbm, ⟨5, _⟩ => ⟨S128x512, .f32⟩
  | .hbm, ⟨6, _⟩ => ⟨S128x512, .f32⟩
  | .hbm, ⟨7, _⟩ => ⟨S128x2048, .f32⟩
  | .hbm, ⟨8, _⟩ => ⟨S2048, .f32⟩
  | .hbm, ⟨9, _⟩ => ⟨S2048x2048, .f32⟩
  | .hbm, ⟨10, _⟩ => ⟨S1024, .f32⟩
  | .hbm, ⟨11, _⟩ => ⟨S512, .f32⟩
  | .hbm, ⟨12, _⟩ => ⟨S512, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x512, .f32⟩
  | .hbm, ⟨30, _⟩ => ⟨S8192x512, .f32⟩
  | .hbm, ⟨31, _⟩ => ⟨S8192x2048, .f32⟩
  | .hbm, ⟨32, _⟩ => ⟨S128x1024, .f32⟩
  | .hbm, ⟨33, _⟩ => ⟨S_, .f32⟩
  | .hbm, ⟨34, _⟩ => ⟨S128, .f32⟩
  | .hbm, ⟨35, _⟩ => ⟨S128x1, .f32⟩
  | .hbm, ⟨36, _⟩ => ⟨S_, .f32⟩
  | .hbm, ⟨37, _⟩ => ⟨S128x1, .f32⟩
  | .hbm, ⟨38, _⟩ => ⟨S128x1, .f32⟩
  | .hbm, ⟨39, _⟩ => ⟨S_, .f32⟩
  | .hbm, ⟨40, _⟩ => ⟨S128x1, .f32⟩
  | .hbm, ⟨41, _⟩ => ⟨S128x1, .f32⟩
  | .hbm, ⟨42, _⟩ => ⟨S128x1, .f32⟩
  | .hbm, ⟨43, _⟩ => ⟨S128x1024, .f32⟩
  | .hbm, ⟨44, _⟩ => ⟨S128x1024, .f32⟩
  | .hbm, ⟨45, _⟩ => ⟨S1x1024, .f32⟩
  | .hbm, ⟨46, _⟩ => ⟨S128x1024, .f32⟩
  | .hbm, ⟨47, _⟩ => ⟨S128x1024, .f32⟩
  | .hbm, ⟨48, _⟩ => ⟨S128x512, .f32⟩
  | .hbm, ⟨49, _⟩ => ⟨S_, .f32⟩
  | .hbm, ⟨50, _⟩ => ⟨S128, .f32⟩
  | .hbm, ⟨51, _⟩ => ⟨S128x1, .f32⟩
  | .hbm, ⟨52, _⟩ => ⟨S_, .f32⟩
  | .hbm, ⟨53, _⟩ => ⟨S128x1, .f32⟩
  | .hbm, ⟨54, _⟩ => ⟨S128x1, .f32⟩
  | .hbm, ⟨55, _⟩ => ⟨S_, .f32⟩
  | .hbm, ⟨56, _⟩ => ⟨S128x1, .f32⟩
  | .hbm, ⟨57, _⟩ => ⟨S128x1, .f32⟩
  | .hbm, ⟨58, _⟩ => ⟨S128x1, .f32⟩
  | .hbm, ⟨59, _⟩ => ⟨S128x512, .f32⟩
  | .hbm, ⟨60, _⟩ => ⟨S128x512, .f32⟩
  | .hbm, ⟨61, _⟩ => ⟨S1x512, .f32⟩
  | .hbm, ⟨62, _⟩ => ⟨S128x512, .f32⟩
  | .hbm, ⟨63, _⟩ => ⟨S128x512, .f32⟩
  | .hbm, ⟨64, _⟩ => ⟨S128x512, .f32⟩
  | .hbm, ⟨65, _⟩ => ⟨S_, .f32⟩
  | .hbm, ⟨66, _⟩ => ⟨S128, .f32⟩
  | .hbm, ⟨67, _⟩ => ⟨S128x1, .f32⟩
  | .hbm, ⟨68, _⟩ => ⟨S_, .f32⟩
  | .hbm, ⟨69, _⟩ => ⟨S128x1, .f32⟩
  | .hbm, ⟨70, _⟩ => ⟨S128x1, .f32⟩
  | .hbm, ⟨71, _⟩ => ⟨S_, .f32⟩
  | .hbm, ⟨72, _⟩ => ⟨S128x1, .f32⟩
  | .hbm, ⟨73, _⟩ => ⟨S128x1, .f32⟩
  | .hbm, ⟨74, _⟩ => ⟨S128x1, .f32⟩
  | .hbm, ⟨75, _⟩ => ⟨S128x512, .f32⟩
  | .hbm, ⟨76, _⟩ => ⟨S128x512, .f32⟩
  | .hbm, ⟨77, _⟩ => ⟨S1x512, .f32⟩
  | .hbm, ⟨78, _⟩ => ⟨S128x512, .f32⟩
  | .hbm, ⟨79, _⟩ => ⟨S128x512, .f32⟩
  | .hbm, ⟨80, _⟩ => ⟨S128x2048, .f32⟩
  | .hbm, ⟨81, _⟩ => ⟨S8192x2048, .f32⟩
  | .hbm, ⟨82, _⟩ => ⟨S8192x2048, .f32⟩
  | .hbm, ⟨83, _⟩ => ⟨S128x2048, .f32⟩
  | .hbm, ⟨84, _⟩ => ⟨S128x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Proof.Frames.lean ====
/-
  The safety claims: every program — each kernel as printed, each idealized kernel, each reference — runs to its end, leaves its
  arguments unchanged and every semaphore counter at zero; and each idealized kernel is its kernel's sanctioned idealization.
-/
module

public import proofs.«01_k».proof.Defs
public import proofs.«01_k».proof.Proof.Gen.Side
public import proofs.«01_k».proof.Proof.Gen.Side.Frame
public import proofs.«01_k».proof.Proof.Gen.SideIdeal
public import proofs.«01_k».proof.Proof.Gen.SideIdeal.Frame
public import proofs.«01_k».proof.Proof.Gen.SideRefIdeal
public import proofs.«01_k».proof.Proof.Gen.SideRefIdeal.Run
public import proofs.«01_k».proof.Proof.Gen.FfnNext
public import proofs.«01_k».proof.Proof.Gen.FfnNext.Frame
public import proofs.«01_k».proof.Proof.Gen.FfnNextIdeal
public import proofs.«01_k».proof.Proof.Gen.FfnNextIdeal.Frame
public import proofs.«01_k».proof.Proof.Gen.FfnNextRefIdeal
public import proofs.«01_k».proof.Proof.Gen.FfnNextRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import Idealize.ShloMosaic.Lib.Claim
public import Idealize.ShloMosaic.Lib.Quiescent

@[expose] public section

noncomputable section

namespace Cert.Frames

open Idealize.ShloMosaic Idealize.SL.Sem

/-- `Side`: the kernel, the idealized kernel and the reference. -/
theorem frame_Side : Cert.quiescent_Side := fun m ρ _ => Cert.Side.Gen.frame m ρ
theorem frame_SideIdeal : Cert.quiescent_SideIdeal := fun m ρ _ => Cert.SideIdeal.Gen.frame m ρ
theorem frame_SideRefIdeal : Cert.quiescent_SideRefIdeal := fun m ρ _ =>
  (θ_run Cert.SideRefIdeal.defs _ _).mono (fun r h => ⟨fun c => (h c).2.2.2.2, sem_eq_zero_of_no_sems (by decide) r.2⟩)
    (Cert.SideRefIdeal.Value.run (F := Ideal) m ρ)

/-- The shapes of the finiteness precondition fit. -/
theorem facts_finite : Cert.Pre_finite.Facts := ⟨by decide, by decide, by decide, by decide, by decide, by decide⟩

/-- The same where the precondition holds: it isn't needed. -/
theorem frame_SideIdeal_finite [Cert.Pre_finite.Facts] : Cert.quiescent_SideIdeal_pre_finite := fun m ρ _ => Cert.SideIdeal.Gen.frame m ρ
theorem frame_SideRefIdeal_finite [Cert.Pre_finite.Facts] : Cert.quiescent_SideRefIdeal_pre_finite := fun m ρ _ =>
  (θ_run Cert.SideRefIdeal.defs _ _).mono (fun r h => ⟨fun c => (h c).2.2.2.2, sem_eq_zero_of_no_sems (by decide) r.2⟩)
    (Cert.SideRefIdeal.Value.run (F := Ideal) m ρ)

/-- `FfnNext`: the kernel, the idealized kernel and the reference. -/
theorem frame_FfnNext : Cert.quiescent_FfnNext := fun m ρ _ => Cert.FfnNext.Gen.frame m ρ
theorem frame_FfnNextIdeal : Cert.quiescent_FfnNextIdeal := fun m ρ _ => Cert.FfnNextIdeal.Gen.frame m ρ
theorem frame_FfnNextRefIdeal : Cert.quiescent_FfnNextRefIdeal := fun m ρ _ =>
  (θ_run Cert.FfnNextRefIdeal.defs _ _).mono (fun r h => ⟨fun c => (h c).2.2.2.2, sem_eq_zero_of_no_sems (by decide) r.2⟩)
    (Cert.FfnNextRefIdeal.Value.run (F := Ideal) m ρ)

/-- `Ffn`: the kernel, the idealized kernel and the reference. -/
theorem frame_Ffn : Cert.quiescent_Ffn := fun m ρ _ => Cert.Ffn.Gen.frame m ρ
theorem frame_FfnIdeal : Cert.quiescent_FfnIdeal := fun m ρ _ => Cert.FfnIdeal.Gen.frame m ρ
theorem frame_FfnRefIdeal : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- `Proj`: the kernel, the idealized kernel and the reference. -/
theorem frame_Proj : Cert.quiescent_Proj := fun m ρ _ => Cert.Proj.Gen.frame m ρ
theorem frame_ProjIdeal : Cert.quiescent_ProjIdeal := fun m ρ _ => Cert.ProjIdeal.Gen.frame m ρ
theorem frame_ProjRefIdeal : Cert.quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

/-- `MemKv`: the kernel, the idealized kernel and the reference. -/
theorem frame_MemKv : Cert.quiescent_MemKv := fun m ρ _ => Cert.MemKv.Gen.frame m ρ
theorem frame_MemKvIdeal : Cert.quiescent_MemKvIdeal := fun m ρ _ => Cert.MemKvIdeal.Gen.frame m ρ
theorem frame_MemKvRefIdeal : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

/-- `Out`: the kernel, the idealized kernel and the reference. -/
theorem frame_Out : Cert.quiescent_Out := fun m ρ _ => Cert.Out.Gen.frame m ρ
theorem frame_OutIdeal : Cert.quiescent_OutIdeal := fun m ρ _ => Cert.OutIdeal.Gen.frame m ρ
theorem frame_OutRefIdeal : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

/-- The mask constant of the side mixers is the named one, read as minus infinity. -/
theorem preserves_Side : Cert.preserves_Side_SideIdeal :=
  IdealRules.named_const.statement Cert.SideIdeal.κ "mask" .f32 0xF149F2CA#32 ⊥ rfl

end Cert.Frames

end
-- ==== Proof.Rows.lean ====
/-
  Rows of extended reals: the mathematics that several calls of the layer share, free of any program.

  An array of two axes is read at natural numbers (`at2`, zero outside), so that an index of a block, an index of an
  array and a counter of a sum are all plain numbers. A row is a function of its column. Over rows the module states the
  root-mean-square norm (`rms`), the product with a matrix (`lin`) and the gated unit (`swi`), and reads the vector and
  the host operations that compute them at an index.
-/
module

public import Idealize.ShloMosaic.Lib.Pipeline.Value
public import Idealize.ShloMosaic.Lib.ValueIdx
public import Idealize.ShloMosaic.Lib.MatmulPlain
public import Idealize.ShloMosaic.PureOps.Ideal.Laws

@[expose] public section

noncomputable section

namespace Cert.Rows

open Idealize.ShloMosaic Idealize.ShloMosaic.ValueIdx

/-! ## Arrays of two axes at natural numbers -/

/-- The entry of row `r`, column `c`; zero outside the array. -/
def at2 {a b : ℕ} (A : (⟨2, ![a, b]⟩ : Shape).Idx → EReal) (r c : ℕ) : EReal :=
  if h : r < a ∧ c < b then A (ix2 ⟨r, h.1⟩ ⟨c, h.2⟩) else 0

/-- The entry of an array of one axis; zero outside. -/
def at1 {a : ℕ} (A : (⟨1, ![a]⟩ : Shape).Idx → EReal) (r : ℕ) : EReal :=
  if h : r < a then A (ix1 ⟨r, h⟩) else 0

/-- Inside the array `at2` is the entry. -/
theorem at2_ix {a b : ℕ} (A : (⟨2, ![a, b]⟩ : Shape).Idx → EReal) (i : Fin a) (j : Fin b) :
    at2 A i.val j.val = A (ix2 i j) := dif_pos ⟨i.isLt, j.isLt⟩

/-- Inside the array `at2` is the entry, at an index. -/
theorem at2_idx {a b : ℕ} (A : (⟨2, ![a, b]⟩ : Shape).Idx → EReal) (i : (⟨2, ![a, b]⟩ : Shape).Idx) :
    at2 A (i 0).val (i 1).val = A i := by rw [eq_ix2 i]; exact at2_ix A _ _

/-- The entry at an index whose coordinates are given as numbers. -/
theorem eq_at2 {a b : ℕ} (A : (⟨2, ![a, b]⟩ : Shape).Idx → EReal) (i : (⟨2, ![a, b]⟩ : Shape).Idx) {r c : ℕ}
    (h0 : (i 0).val = r) (h1 : (i 1).val = c) : A i = at2 A r c := by subst h0 h1; exact (at2_idx A i).symm

/-- Inside the array `at1` is the entry. -/
theorem at1_ix {a : ℕ} (A : (⟨1, ![a]⟩ : Shape).Idx → EReal) (i : Fin a) : at1 A i.val = A (ix1 i) := dif_pos i.isLt

/-- The entry at an index whose coordinate is given as a number. -/
theorem eq_at1 {a : ℕ} (A : (⟨1, ![a]⟩ : Shape).Idx → EReal) (i : (⟨1, ![a]⟩ : Shape).Idx) {r : ℕ}
    (h0 : (i 0).val = r) : A i = at1 A r := by subst h0; rw [eq_ix1 i]; exact (at1_ix A _).symm

/-! ## The row functions -/

/-- The scale of a root-mean-square norm over `n` entries, with divisor `d` and offset `e`. -/
def rmsScale (n : ℕ) (d e : EReal) (x : ℕ → EReal) : EReal :=
  Ideal.rsqrt (Ideal.div (∑ k ∈ Finset.range n, x k * x k) d + e)

/-- The root-mean-square norm of a row, times the gain. -/
def rms (n : ℕ) (d e : EReal) (x g : ℕ → EReal) (k : ℕ) : EReal := x k * rmsScale n d e x * g k

/-- A row times a matrix. -/
def lin (n : ℕ) (x : ℕ → EReal) (w : ℕ → ℕ → EReal) (f : ℕ) : EReal := ∑ k ∈ Finset.range n, x k * w k f

/-- The gated unit: the first argument times its logistic, times the second. -/
def swi (u v : EReal) : EReal := u * Ideal.logistic u * v

/-- A scale depends on the row's first `n` entries only. -/
theorem rmsScale_congr {n : ℕ} {d e : EReal} {x y : ℕ → EReal} (h : ∀ k < n, x k = y k) :
    rmsScale n d e x = rmsScale n d e y := by
  unfold rmsScale
  rw [Finset.sum_congr rfl fun k hk => by rw [h k (Finset.mem_range.mp hk)]]

/-- A product with a matrix depends on the row's first `n` entries and the matrix's column. -/
theorem lin_congr {n : ℕ} {x y : ℕ → EReal} {w v : ℕ → ℕ → EReal} {f g : ℕ} (h : ∀ k < n, x k = y k)
    (hw : ∀ k < n, w k f = v k g) : lin n x w f = lin n y v g :=
  Finset.sum_congr rfl fun k hk => by rw [h k (Finset.mem_range.mp hk), hw k (Finset.mem_range.mp hk)]

/-! ## Constants -/

/-- The pattern of one half. -/
theorem ofBits_half : Ideal.ofBits .f32 0x3F000000#32 = ((1 / 2 : ℝ) : EReal) := by
  simp [Ideal.ofBits, Ideal.ieee, -EReal.coe_mul]; norm_num

/-- The pattern of one. -/
theorem ofBits_one : Ideal.ofBits .f32 0x3F800000#32 = 1 := by
  simp [Ideal.ofBits, Ideal.ieee, -EReal.coe_mul]; norm_num

/-- One half distributes over a sum of extended reals. -/
theorem half_mul_sum (s : Finset ℕ) (f : ℕ → EReal) :
    ((1 / 2 : ℝ) : EReal) * ∑ k ∈ s, f k = ∑ k ∈ s, ((1 / 2 : ℝ) : EReal) * f k := by
  classical
  induction s using Finset.induction_on with
  | empty => simp
  | insert a s ha ih =>
    rw [Finset.sum_insert ha, Finset.sum_insert ha,
      EReal.left_distrib_of_nonneg_of_ne_top (by exact_mod_cast (by norm_num : (0 : ℝ) ≤ 1 / 2)) (EReal.coe_ne_top _), ih]

/-! ## Vector operations read at an index -/

/-- A column of row sums of squares, as the vector unit computes them. -/
theorem rowSum_apply {a b : ℕ} (x : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (i : Fin a) :
    multiReduction .add [1] ⟨1, ![a]⟩ x acc h hφ hacc (ix1 i) = ∑ k ∈ Finset.range b, at2 x i.val k := by
  rw [Ideal.multiReduction_add_single, Finset.sum_range]
  refine Finset.sum_congr rfl fun (k : Fin b) _ => ?_
  exact eq_at2 x _ rfl rfl

/-- A column repeated along the rows. -/
theorem column_apply {α : Type} {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i 0) :=
  broadcastTo_apply x h _ _ fun d => by
    match d with
    | ⟨0, _⟩ =>
      show i.val = if a = 1 then 0 else i.val
      split
      · have := i.isLt; omega
      · rfl
    | ⟨1, _⟩ => rfl

/-- A row repeated along the columns. -/
theorem row_apply {α : Type} {a b : ℕ} (x : (⟨2, ![1, b]⟩ : Shape).Idx → α)
    (h : (⟨2, ![1, b]⟩ : Shape).Broadcasts ⟨2, ![a, b]⟩) (i : Fin a) (j : Fin b) :
    broadcastTo ⟨2, ![a, b]⟩ x h (ix2 i j) = x (ix2 0 j) :=
  broadcastTo_apply x h _ _ fun d => by
    match d with
    | ⟨0, _⟩ => rfl
    | ⟨1, _⟩ =>
      show j.val = if b = 1 then 0 else j.val
      split
      · have := j.isLt; omega
      · rfl

/-- A vector as a column. -/
theorem asColumn_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i 0) = x (ix1 i) :=
  shapeCast_apply x h _ _ (by
    rw [Shape.rowMajor_val_two, Shape.rowMajor_val_one]
    show i.val = i.val * 1 + 0
    omega)

/-- The norm of a block's rows as the vector unit computes it: the sum of squares along a row, the divisor, the offset,
    the reciprocal root, repeated along the row, then the gain. -/
theorem rmsVec_apply {a b : ℕ} (x : FVec Ideal ⟨2, ![a, b]⟩ .f32) (g : FVec Ideal ⟨2, ![1, b]⟩ .f32) (acc D E : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (hg : (⟨2, ![1, b]⟩ : Shape).Broadcasts ⟨2, ![a, b]⟩) (i : Fin a) (j : Fin b) :
    mulf (mulf x (broadcastTo ⟨2, ![a, b]⟩ (rsqrt (addf (divf (shapeCast ⟨2, ![a, 1]⟩
        (multiReduction .add [1] ⟨1, ![a]⟩ (mulf x x) acc h hφ hacc) hc) (broadcast ⟨2, ![a, 1]⟩ (Scalar.ofBits .f32 D)))
        (broadcast ⟨2, ![a, 1]⟩ (Scalar.ofBits .f32 E)))) hb)) (broadcastTo ⟨2, ![a, b]⟩ g hg) (ix2 i j)
      = rms b (Ideal.ofBits .f32 D) (Ideal.ofBits .f32 E) (at2 x i.val) (at2 g 0) j.val := by
  rw [mulf_apply, mulf_apply, row_apply, column_apply]
  show x (ix2 i j) * Ideal.rsqrt (Ideal.div (shapeCast ⟨2, ![a, 1]⟩ _ hc (ix2 i 0)) _ + _) * _ = _
  rw [asColumn_apply, rowSum_apply]
  unfold rms rmsScale
  rw [at2_ix, show at2 g 0 j.val = g (ix2 0 j) from at2_ix g 0 j,
    Finset.sum_congr rfl fun k hk => ?_]
  · rfl
  · have hk := Finset.mem_range.mp hk
    have e : ∀ y : FVec Ideal ⟨2, ![a, b]⟩ .f32, at2 y i.val k = y (ix2 i ⟨k, hk⟩) := fun y => at2_ix y i ⟨k, hk⟩
    rw [e, e]; rfl

/-- A block times a matrix into zeros, as the matrix unit computes it. -/
theorem mm_apply {M K N : ℕ} {φ₁ φ₂ : FTy} (lhs : FVec Ideal ⟨2, ![M, K]⟩ φ₁) (rhs : FVec Ideal ⟨2, ![K, N]⟩ φ₂)
    (prec : Option ContractPrecision) (r : Fin M) (c : Fin N) :
    matmul (DotDims.plain M K N) prec lhs rhs (constant ⟨2, ![M, N]⟩ .f32 0x00000000#32) (ix2 r c)
      = lin K (at2 lhs r.val) (at2 rhs) c.val := by
  refine (Ideal.matmul_plain_apply prec lhs rhs _ r c).trans ?_
  show Ideal.ofBits .f32 0x00000000#32 + _ = _
  rw [Ideal.ofBits_zero_f32, zero_add]
  unfold lin
  rw [Finset.sum_range]
  exact Finset.sum_congr rfl fun k _ => by rw [at2_ix, at2_ix]

/-! ## Host operations read at an index -/

/-- A product on the host. -/
theorem hmm_apply {M K N : ℕ} {φ₁ φ₂ : FTy} (lhs : FVec Ideal ⟨2, ![M, K]⟩ φ₁) (rhs : FVec Ideal ⟨2, ![K, N]⟩ φ₂)
    (prec : Option ContractPrecision) (r : Fin M) (c : Fin N) :
    Host.dotGeneral (DotDims.plain M K N) prec lhs rhs (ix2 r c) = lin K (at2 lhs r.val) (at2 rhs) c.val := by
  have h := Ideal.matmul_plain_apply prec lhs rhs (constant ⟨2, ![M, N]⟩ .f32 0x00000000#32) r c
  rw [Ideal.matmul_constant_zero_apply] at h
  simp only [Host.dotGeneral]
  rw [Ideal.dotGeneral_apply, h]
  show Ideal.ofBits .f32 0x00000000#32 + _ = _
  rw [Ideal.ofBits_zero_f32, zero_add]
  unfold lin
  rw [Finset.sum_range]
  exact Finset.sum_congr rfl fun k _ => by rw [at2_ix, at2_ix]

/-- A column repeated along the rows, on the host. -/
theorem hcolumn_apply {α : Type} {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i 0) :=
  broadcastInDim_apply _ h x _ _ fun d => by
    match d with
    | ⟨0, _⟩ =>
      show i.val = if a = 1 then 0 else i.val
      split
      · have := i.isLt; omega
      · rfl
    | ⟨1, _⟩ => rfl

/-- A row repeated along the columns, on the host. -/
theorem hrow_apply {α : Type} {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 0 j) :=
  broadcastInDim_apply _ h x _ _ fun d => by
    match d with
    | ⟨0, _⟩ => rfl
    | ⟨1, _⟩ =>
      show j.val = if b = 1 then 0 else j.val
      split
      · have := j.isLt; omega
      · rfl

/-- A vector as a column, on the host. -/
theorem hasColumn_apply {α : Type} {a : ℕ} (x : (⟨1, ![a]⟩ : Shape).Idx → α)
    (h : (⟨1, ![a]⟩ : Shape).BroadcastsInDim ⟨2, ![a, 1]⟩ ![0]) (i : Fin a) :
    broadcastInDim ⟨2, ![a, 1]⟩ ![0] h x (ix2 i 0) = x (ix1 i) :=
  broadcastInDim_apply _ h x _ _ fun d => by
    match d with
    | ⟨0, _⟩ =>
      show i.val = if a = 1 then 0 else i.val
      split
      · have := i.isLt; omega
      · rfl

/-- A vector as a row, on the host. -/
theorem hasRow_apply {α : Type} {b : ℕ} (x : (⟨1, ![b]⟩ : Shape).Idx → α)
    (h : (⟨1, ![b]⟩ : Shape).BroadcastsInDim ⟨2, ![1, b]⟩ ![1]) (j : Fin b) :
    broadcastInDim ⟨2, ![1, b]⟩ ![1] h x (ix2 0 j) = x (ix1 j) :=
  broadcastInDim_apply _ h x _ _ fun d => by
    match d with
    | ⟨0, _⟩ =>
      show j.val = if b = 1 then 0 else j.val
      split
      · have := j.isLt; omega
      · rfl

/-- A column of row sums on the host, from zero. -/
theorem hrowSum_apply {a b : ℕ} (x : FVec Ideal ⟨2, ![a, b]⟩ .f32)
    (hr : (⟨2, ![a, b]⟩ : Shape).ReducesTo [1] ⟨1, ![a]⟩) (h : (⟨2, ![a, b]⟩ : Shape).Reduces [1] ⟨1, ![a]⟩)
    (h0 : 0 < (⟨0, ![]⟩ : Shape).numel) (i : Fin a) :
    Host.reduceAdd x (constant ⟨0, ![]⟩ .f32 0x00000000#32) hr h0 (ix1 i) = ∑ k ∈ Finset.range b, at2 x i.val k := by
  refine (Ideal.hostReduceAdd_single hr h x _ (ix1 i)).trans ?_
  show Ideal.ofBits .f32 0x00000000#32 + _ = _
  rw [Ideal.ofBits_zero_f32, zero_add, Finset.sum_range]
  exact Finset.sum_congr rfl fun (k : Fin b) _ => eq_at2 x _ rfl rfl

/-- The sum of the squares of a row. -/
theorem sum_sq {a b : ℕ} (x : FVec Ideal ⟨2, ![a, b]⟩ .f32) (i : Fin a) :
    ∑ k ∈ Finset.range b, at2 (mulf x x) i.val k = ∑ k ∈ Finset.range b, at2 x i.val k * at2 x i.val k := by
  refine Finset.sum_congr rfl fun k hk => ?_
  have hk := Finset.mem_range.mp hk
  rw [at2_ix (mulf x x) i ⟨k, hk⟩, at2_ix x i ⟨k, hk⟩]
  rfl

/-- The norm of an array's rows as the host computes it. -/
theorem rmsHost_apply {a b : ℕ} (x : FVec Ideal ⟨2, ![a, b]⟩ .f32) (g : FVec Ideal ⟨1, ![b]⟩ .f32) (D E : BitVec 32)
    (hr : (⟨2, ![a, b]⟩ : Shape).ReducesTo [1] ⟨1, ![a]⟩) (h : (⟨2, ![a, b]⟩ : Shape).Reduces [1] ⟨1, ![a]⟩)
    (h0 : 0 < (⟨0, ![]⟩ : Shape).numel)
    (h1 : (⟨1, ![a]⟩ : Shape).BroadcastsInDim ⟨2, ![a, 1]⟩ ![0])
    (h2 h2' : (⟨0, ![]⟩ : Shape).BroadcastsInDim ⟨2, ![a, 1]⟩ ![])
    (h3 : (⟨2, ![a, 1]⟩ : Shape).BroadcastsInDim ⟨2, ![a, b]⟩ ![0, 1])
    (h4 : (⟨1, ![b]⟩ : Shape).BroadcastsInDim ⟨2, ![1, b]⟩ ![1])
    (h5 : (⟨2, ![1, b]⟩ : Shape).BroadcastsInDim ⟨2, ![a, b]⟩ ![0, 1]) (i : Fin a) (j : Fin b) :
    mulf (mulf x (broadcastInDim ⟨2, ![a, b]⟩ ![0, 1] h3 (Host.rsqrt (addf (Host.divf
        (broadcastInDim ⟨2, ![a, 1]⟩ ![0] h1 (Host.reduceAdd (mulf x x) (constant ⟨0, ![]⟩ .f32 0x00000000#32) hr h0))
        (broadcastInDim ⟨2, ![a, 1]⟩ ![] h2 (constant ⟨0, ![]⟩ .f32 D)))
        (broadcastInDim ⟨2, ![a, 1]⟩ ![] h2' (constant ⟨0, ![]⟩ .f32 E))))))
        (broadcastInDim ⟨2, ![a, b]⟩ ![0, 1] h5 (broadcastInDim ⟨2, ![1, b]⟩ ![1] h4 g)) (ix2 i j)
      = rms b (Ideal.ofBits .f32 D) (Ideal.ofBits .f32 E) (at2 x i.val) (at1 g) j.val := by
  rw [mulf_apply, mulf_apply, hcolumn_apply, hrow_apply, hasRow_apply]
  have hs := hasColumn_apply (Host.reduceAdd (mulf x x) (constant ⟨0, ![]⟩ .f32 0x00000000#32) hr h0) h1 i
  rw [hrowSum_apply _ hr h h0 i, sum_sq] at hs
  have hsc : Host.rsqrt (addf (Host.divf
        (broadcastInDim ⟨2, ![a, 1]⟩ ![0] h1 (Host.reduceAdd (mulf x x) (constant ⟨0, ![]⟩ .f32 0x00000000#32) hr h0))
        (broadcastInDim ⟨2, ![a, 1]⟩ ![] h2 (constant ⟨0, ![]⟩ .f32 D)))
        (broadcastInDim ⟨2, ![a, 1]⟩ ![] h2' (constant ⟨0, ![]⟩ .f32 E))) (ix2 i 0)
      = rmsScale b (Ideal.ofBits .f32 D) (Ideal.ofBits .f32 E) (at2 x i.val) :=
    congrArg (fun s => Ideal.rsqrt (Ideal.div s (Ideal.ofBits .f32 D) + Ideal.ofBits .f32 E)) hs
  rw [hsc]
  unfold rms
  rw [at2_ix, at1_ix]

/-- The logistic as the host spells it: one over one plus the exponential of the negation. -/
theorem logisticHost (u : EReal) :
    Ideal.div (Ideal.ofBits .f32 0x3F800000#32) (Ideal.ofBits .f32 0x3F800000#32 + Ideal.exp (-u)) = Ideal.logistic u := by
  rw [ofBits_one]; rfl

end Cert.Rows

end
-- ==== Proof.FfnMath.lean ====
/-
  The mathematics of a feed-forward layer, at rows read at natural numbers: a row plus its gated hidden row times the down
  weights, summed tile by tile (`partialRow`) and all at once (`ffnRow`).
-/
module

public import proofs.«01_k».proof.Proof.Rows

@[expose] public section

noncomputable section

namespace Cert.FfnMath

open Cert.Rows
open Idealize.ShloMosaic Idealize.ShloMosaic.TcCoe Idealize.ShloMosaic.ValueIdx

/-- The offset of a whole block. -/
theorem hz : (![0, 0] : Fin 2 → Nat) = fun _ => 0 := funext fun a => by fin_cases a <;> rfl

/-- The divisor of the norm, as the program spells it. -/
abbrev D : EReal := Ideal.ofBits .f32 0x45000000#32
/-- The offset of the norm, as the program spells it. -/
abbrev E : EReal := Ideal.ofBits .f32 0x358637BD#32
/-- One half, as the program spells it. -/
abbrev H : EReal := Ideal.ofBits .f32 0x3F000000#32

/-- The normed row. -/
abbrev nrm (x g : ℕ → EReal) : ℕ → EReal := rms 2048 D E x g

theorem nrm_congr {x y g g' : ℕ → EReal} (h : ∀ k < 2048, x k = y k) (hg : ∀ k < 2048, g k = g' k) (k : ℕ) (hk : k < 2048) :
    nrm x g k = nrm y g' k := by
  show x k * rmsScale 2048 D E x * g k = y k * rmsScale 2048 D E y * g' k
  rw [rmsScale_congr h, h k hk, hg k hk]

/-- The share of hidden column `f` in output column `j`. -/
def act (h : ℕ → EReal) (wg wu wd : ℕ → ℕ → EReal) (j f : ℕ) : EReal :=
  swi (lin 2048 h wg f) (lin 2048 h wu f) * H * wd f j

/-- The share of a tile of 256 hidden columns. -/
def tile (h : ℕ → EReal) (wg wu wd : ℕ → ℕ → EReal) (j : ℕ) : EReal := ∑ f ∈ Finset.range 256, act h wg wu wd j f

/-- A row plus the shares of the first `n` hidden columns. -/
def partialRow (x h : ℕ → EReal) (wg wu wd : ℕ → ℕ → EReal) (n j : ℕ) : EReal :=
  x j + ∑ f ∈ Finset.range n, act h wg wu wd j f

/-- The layer, written plainly: the row plus one half of its gated hidden row times the down weights. -/
def ffnRow (x g : ℕ → EReal) (wg wu wd : ℕ → ℕ → EReal) (j : ℕ) : EReal :=
  x j + H * lin 5632 (fun f => swi (lin 2048 (nrm x g) wg f) (lin 2048 (nrm x g) wu f)) wd j

/-- A tile of the weights, at the place of the whole weights it is cut from. -/
theorem tile_eq {h h' : ℕ → EReal} {wg wu wd wg' wu' wd' : ℕ → ℕ → EReal} {j : ℕ} (q : ℕ) (hh : ∀ k < 2048, h k = h' k)
    (hg : ∀ k < 2048, ∀ f < 256, wg k f = wg' k (256 * q + f)) (hu : ∀ k < 2048, ∀ f < 256, wu k f = wu' k (256 * q + f))
    (hd : ∀ f < 256, wd f j = wd' (256 * q + f) j) :
    tile h wg wu wd j = ∑ f ∈ Finset.range 256, act h' wg' wu' wd' j (256 * q + f) := by
  refine Finset.sum_congr rfl fun f hf => ?_
  have hf := Finset.mem_range.mp hf
  unfold act
  rw [lin_congr (g := 256 * q + f) hh fun k hk => hg k hk f hf, lin_congr (g := 256 * q + f) hh fun k hk => hu k hk f hf,
    hd f hf]

/-- One more tile. -/
theorem partialRow_succ (x h : ℕ → EReal) (wg wu wd : ℕ → ℕ → EReal) (q j : ℕ) :
    partialRow x h wg wu wd (256 * q) j + ∑ f ∈ Finset.range 256, act h wg wu wd j (256 * q + f)
      = partialRow x h wg wu wd (256 * (q + 1)) j := by
  unfold partialRow
  rw [Nat.mul_succ, Finset.sum_range_add, add_assoc]

/-- No tile yet. -/
theorem partialRow_zero (x h : ℕ → EReal) (wg wu wd : ℕ → ℕ → EReal) (j : ℕ) : partialRow x h wg wu wd (256 * 0) j = x j := by
  simp [partialRow]

/-- All tiles: the layer. The half inside every share and the half outside the sum agree, at all extended reals. -/
theorem partialRow_all (x g : ℕ → EReal) (wg wu wd : ℕ → ℕ → EReal) (j : ℕ) :
    partialRow x (nrm x g) wg wu wd (256 * 22) j = ffnRow x g wg wu wd j := by
  unfold partialRow ffnRow lin
  rw [show H = ((1 / 2 : ℝ) : EReal) from ofBits_half, half_mul_sum]
  refine congrArg (x j + ·) (Finset.sum_congr rfl fun f _ => ?_)
  unfold act
  rw [show H = ((1 / 2 : ℝ) : EReal) from ofBits_half, mul_comm (swi _ _), mul_assoc]
  rfl

end Cert.FfnMath

end
-- ==== Proof.Heads.lean ====
/-
  Heads: the norm of every group of 128 columns of a row, as the vector unit and the host compute it.

  A row of columns falls into heads of 128 columns. A head is scaled by the reciprocal root of the mean of its squares or,
  where a switch is off, by one; then every column is scaled by its gain. The vector unit cuts the heads out of a block
  of 512 columns, finishes each and puts them side by side; the host reshapes to a head axis and back.
-/
module

public import proofs.«01_k».proof.Proof.Rows

@[expose] public section

noncomputable section

namespace Cert.Heads

open Idealize.ShloMosaic Idealize.ShloMosaic.ValueIdx Cert.Rows

/-- The divisor of a head's mean: the pattern of 128. -/
def W : EReal := Ideal.ofBits .f32 0x43000000#32

/-- The offset under the root. -/
def E : EReal := Ideal.ofBits .f32 0x358637BD#32

/-- The scale of head `p` of a row; one where the switch is off. -/
def scale (on : Prop) [Decidable on] (z : ℕ → EReal) (p : ℕ) : EReal :=
  if on then rmsScale 128 W E (fun d => z (128 * p + d)) else 1

/-- Column `j` of a row after its head's scale and its gain. -/
def head (on : Prop) [Decidable on] (z g : ℕ → EReal) (j : ℕ) : EReal := z j * scale on z (j / 128) * g j

/-- A head's scale depends on the head's columns only. -/
theorem scale_congr {on on' : Prop} [Decidable on] [Decidable on'] (hon : on ↔ on') {z y : ℕ → EReal} {p q : ℕ}
    (h : ∀ d < 128, z (128 * p + d) = y (128 * q + d)) : scale on z p = scale on' y q := by
  unfold scale
  rw [rmsScale_congr (x := fun d => z (128 * p + d)) h]
  by_cases h : on
  · rw [if_pos h, if_pos (hon.mp h)]
  · rw [if_neg h, if_neg (fun k => h (hon.mpr k))]

/-- A column of a row that is a stretch of whole heads of a longer row. -/
theorem head_shift {on on' : Prop} [Decidable on] [Decidable on'] (hon : on ↔ on') {z y g g' : ℕ → EReal} (l q j : ℕ)
    (hj : j < 128 * l) (hz : ∀ k < 128 * l, z k = y (128 * q + k)) (hg : g j = g' (128 * q + j)) :
    head on z g j = head on' y g' (128 * q + j) := by
  have hdiv : (128 * q + j) / 128 = q + j / 128 := by omega
  have hlt : j / 128 < l := by omega
  unfold head
  rw [hz j hj, hg, hdiv, scale_congr hon (y := y) (q := q + j / 128) fun d hd => ?_]
  have : 128 * (j / 128 + 1) ≤ 128 * l := Nat.mul_le_mul_left _ hlt
  rw [hz _ (by omega)]
  refine congrArg y ?_
  ring

/-- A column depends on its head and its gain only. -/
theorem head_congr {on : Prop} [Decidable on] {z y g g' : ℕ → EReal} (l j : ℕ) (hj : j < 128 * l)
    (hz : ∀ k < 128 * l, z k = y k) (hg : g j = g' j) : head on z g j = head on y g' j := by
  have h := head_shift (on := on) Iff.rfl (z := z) (y := y) (g := g) (g' := g') l 0 j hj
    (fun k hk => (hz k hk).trans (by rw [Nat.mul_zero, Nat.zero_add])) (hg.trans (by rw [Nat.mul_zero, Nat.zero_add]))
  rwa [Nat.mul_zero, Nat.zero_add] at h

/-- With the switch off and a gain of one the column is unchanged. -/
theorem head_off (z g : ℕ → EReal) (j : ℕ) (hg : g j = 1) : head False z g j = z j := by
  unfold head scale
  rw [if_neg not_false, hg, mul_one, mul_one]

/-! ## The vector unit -/

/-- A cut of 128 columns of a block. -/
theorem cut_apply {α : Type} {a b c : ℕ} (x : (⟨2, ![a, b]⟩ : Shape).Idx → α) (o : ℕ)
    (h : (⟨2, ![a, b]⟩ : Shape).Slices ![0, o] ⟨2, ![a, c]⟩) (i : Fin a) (d : Fin c) (hd : o + d.val < b) :
    extractStridedSlice ⟨2, ![a, c]⟩ ![0, o] x h (ix2 i d) = x (ix2 i ⟨o + d.val, hd⟩) :=
  extractStridedSlice_apply _ _ _ _ _ fun e => by
    match e with
    | ⟨0, _⟩ => show i.val = 0 + i.val; omega
    | ⟨1, _⟩ => rfl

/-- One head as the vector unit finishes it. -/
def piece {n : ℕ} (z : FVec Ideal ⟨2, ![n, 512]⟩ .f32) (g : FVec Ideal ⟨2, ![1, 512]⟩ .f32) (b : BitVec 1) (o : ℕ)
    (acc : BitVec 32) (hs : (⟨2, ![n, 512]⟩ : Shape).Slices ![0, o] ⟨2, ![n, 128]⟩)
    (hgs : (⟨2, ![1, 512]⟩ : Shape).Slices ![0, o] ⟨2, ![1, 128]⟩)
    (h : (⟨2, ![n, 128]⟩ : Shape).Reduces [1] ⟨1, ![n]⟩) (hφ : FKind.Formats .f32) (hacc : acc = FKind.add.neutral .f32 hφ)
    (hc : (⟨1, ![n]⟩ : Shape).ShapeCasts ⟨2, ![n, 1]⟩) (hb : (⟨2, ![n, 1]⟩ : Shape).Broadcasts ⟨2, ![n, 128]⟩)
    (hg : (⟨2, ![1, 128]⟩ : Shape).Broadcasts ⟨2, ![n, 128]⟩) : FVec Ideal ⟨2, ![n, 128]⟩ .f32 :=
  mulf (mulf (extractStridedSlice ⟨2, ![n, 128]⟩ ![0, o] z hs) (broadcastTo ⟨2, ![n, 128]⟩
    (Scalar.select b (rsqrt (addf (divf (shapeCast ⟨2, ![n, 1]⟩
      (multiReduction .add [1] ⟨1, ![n]⟩ (mulf (extractStridedSlice ⟨2, ![n, 128]⟩ ![0, o] z hs)
        (extractStridedSlice ⟨2, ![n, 128]⟩ ![0, o] z hs)) acc h hφ hacc) hc)
      (broadcast ⟨2, ![n, 1]⟩ (Scalar.ofBits .f32 0x43000000#32)))
      (broadcast ⟨2, ![n, 1]⟩ (Scalar.ofBits .f32 0x358637BD#32))))
      (broadcast ⟨2, ![n, 1]⟩ (Scalar.ofBits .f32 0x3F800000#32))) hb))
    (broadcastTo ⟨2, ![n, 128]⟩ (extractStridedSlice ⟨2, ![1, 128]⟩ ![0, o] g hgs) hg)

/-- A finished head at an index. -/
theorem piece_apply {n : ℕ} (z : FVec Ideal ⟨2, ![n, 512]⟩ .f32) (g : FVec Ideal ⟨2, ![1, 512]⟩ .f32) (b : BitVec 1)
    (p : ℕ) (hp : p < 4) (o : ℕ) (ho : o = 128 * p) (acc : BitVec 32)
    (hs : (⟨2, ![n, 512]⟩ : Shape).Slices ![0, o] ⟨2, ![n, 128]⟩)
    (hgs : (⟨2, ![1, 512]⟩ : Shape).Slices ![0, o] ⟨2, ![1, 128]⟩)
    (h : (⟨2, ![n, 128]⟩ : Shape).Reduces [1] ⟨1, ![n]⟩) (hφ : FKind.Formats .f32) (hacc : acc = FKind.add.neutral .f32 hφ)
    (hc : (⟨1, ![n]⟩ : Shape).ShapeCasts ⟨2, ![n, 1]⟩) (hb : (⟨2, ![n, 1]⟩ : Shape).Broadcasts ⟨2, ![n, 128]⟩)
    (hg : (⟨2, ![1, 128]⟩ : Shape).Broadcasts ⟨2, ![n, 128]⟩) (i : Fin n) (d : Fin 128) :
    piece z g b o acc hs hgs h hφ hacc hc hb hg (ix2 i d) = head (b = 1) (at2 z i.val) (at2 g 0) (128 * p + d.val) := by
  subst ho
  have hd := d.isLt
  unfold piece
  rw [mulf_apply, mulf_apply, row_apply, column_apply, cut_apply z _ hs i d (by omega), cut_apply g _ hgs 0 d (by omega)]
  have hdiv : (128 * p + d.val) / 128 = p := by omega
  unfold head
  rw [hdiv, at2_ix z i ⟨128 * p + d.val, by omega⟩, show at2 g 0 (128 * p + d.val) = g (ix2 0 ⟨128 * p + d.val, by omega⟩) from at2_ix g 0 ⟨128 * p + d.val, by omega⟩]
  refine congrArg (fun s : EReal => _ * s * _) ?_
  unfold scale Scalar.select
  by_cases hbit : b = 1
  · rw [if_pos hbit, if_pos hbit]
    show Ideal.rsqrt (Ideal.div (shapeCast ⟨2, ![n, 1]⟩ _ hc (ix2 i 0)) _ + _) = _
    rw [asColumn_apply, rowSum_apply]
    unfold rmsScale
    rw [Finset.sum_congr rfl fun k hk => ?_]
    · rfl
    · have hk := Finset.mem_range.mp hk
      refine (at2_ix _ i ⟨k, hk⟩).trans ?_
      rw [mulf_apply, cut_apply z _ hs i ⟨k, hk⟩ (by show 128 * p + k < 512; omega)]
      show _ = at2 z i.val (128 * p + k) * at2 z i.val (128 * p + k)
      rw [show at2 z i.val (128 * p + k) = z (ix2 i ⟨128 * p + k, by omega⟩) from at2_ix z i ⟨128 * p + k, by omega⟩]
  · rw [if_neg hbit, if_neg hbit]
    exact ofBits_one

/-- Four blocks of 128 columns side by side, column by column. -/
theorem four_apply {n : ℕ} (x0 x1 x2 x3 : (⟨2, ![n, 128]⟩ : Shape).Idx → EReal)
    (hcat : Shape.Concatenates [⟨2, ![n, 128]⟩, ⟨2, ![n, 128]⟩, ⟨2, ![n, 128]⟩, ⟨2, ![n, 128]⟩] ⟨2, ![n, 512]⟩ 1)
    (G : ℕ → EReal) (i : Fin n) (h0 : ∀ d : Fin 128, x0 (ix2 i d) = G (128 * 0 + d.val))
    (h1 : ∀ d : Fin 128, x1 (ix2 i d) = G (128 * 1 + d.val)) (h2 : ∀ d : Fin 128, x2 (ix2 i d) = G (128 * 2 + d.val))
    (h3 : ∀ d : Fin 128, x3 (ix2 i d) = G (128 * 3 + d.val)) (j : Fin 512) :
    concatenate ⟨2, ![n, 512]⟩ 1 [⟨⟨2, ![n, 128]⟩, x0⟩, ⟨⟨2, ![n, 128]⟩, x1⟩, ⟨⟨2, ![n, 128]⟩, x2⟩, ⟨⟨2, ![n, 128]⟩, x3⟩] hcat
      (ix2 i j) = G j.val := by
  have hj := j.isLt
  have hi : ∀ (d : Fin 128) (b : Fin (⟨2, ![n, 128]⟩ : Shape).rank), b.cast rfl ≠ (1 : Fin 2) →
      ((ix2 i d : (⟨2, ![n, 128]⟩ : Shape).Idx) b).val = ((ix2 i j : (⟨2, ![n, 512]⟩ : Shape).Idx) (b.cast rfl)).val := by
    intro d b hb
    match b with
    | ⟨0, _⟩ => rfl
    | ⟨1, _⟩ => exact absurd rfl hb
  have key : ∀ (k : ℕ) (hk : k < 4) (x : (⟨2, ![n, 128]⟩ : Shape).Idx → EReal)
      (hx : [(⟨⟨2, ![n, 128]⟩, x0⟩ : (s : Shape) × (s.Idx → EReal)), ⟨⟨2, ![n, 128]⟩, x1⟩, ⟨⟨2, ![n, 128]⟩, x2⟩,
        ⟨⟨2, ![n, 128]⟩, x3⟩][k] = ⟨⟨2, ![n, 128]⟩, x⟩)
      (hpre : ((([(⟨⟨2, ![n, 128]⟩, x0⟩ : (s : Shape) × (s.Idx → EReal)), ⟨⟨2, ![n, 128]⟩, x1⟩, ⟨⟨2, ![n, 128]⟩, x2⟩,
        ⟨⟨2, ![n, 128]⟩, x3⟩].take k).map (·.1)).map fun s => if h : s.rank = (⟨2, ![n, 512]⟩ : Shape).rank then
          s.size ((1 : Fin 2).cast h.symm) else 0).sum = 128 * k)
      (hG : ∀ d : Fin 128, x (ix2 i d) = G (128 * k + d.val)) (hlo : 128 * k ≤ j.val) (hhi : j.val < 128 * k + 128),
      concatenate ⟨2, ![n, 512]⟩ 1 [⟨⟨2, ![n, 128]⟩, x0⟩, ⟨⟨2, ![n, 128]⟩, x1⟩, ⟨⟨2, ![n, 128]⟩, x2⟩,
        ⟨⟨2, ![n, 128]⟩, x3⟩] hcat (ix2 i j) = G j.val := by
    intro k hk x hx hpre hG hlo hhi
    refine (concatenate_apply_piece (t := ⟨2, ![n, 512]⟩) 1
      [⟨⟨2, ![n, 128]⟩, x0⟩, ⟨⟨2, ![n, 128]⟩, x1⟩, ⟨⟨2, ![n, 128]⟩, x2⟩, ⟨⟨2, ![n, 128]⟩, x3⟩] hcat (ix2 i j) k hk ⟨2, ![n, 128]⟩ x hx rfl (128 * k) hpre
      (ix2 i ⟨j.val - 128 * k, by omega⟩) (hi _) ?_).trans ?_
    · show 128 * k + (j.val - 128 * k) = j.val
      omega
    · rw [hG]
      refine congrArg G ?_
      show 128 * k + (j.val - 128 * k) = j.val
      omega
  by_cases c1 : j.val < 128
  · exact key 0 (by omega) x0 rfl rfl h0 (by omega) (by omega)
  by_cases c2 : j.val < 256
  · exact key 1 (by omega) x1 rfl rfl h1 (by omega) (by omega)
  by_cases c3 : j.val < 384
  · exact key 2 (by omega) x2 rfl rfl h2 (by omega) (by omega)
  · exact key 3 (by omega) x3 rfl rfl h3 (by omega) (by omega)

/-- A block of 512 columns after its four heads are finished and put side by side. -/
theorem heads_apply {n : ℕ} (z : FVec Ideal ⟨2, ![n, 512]⟩ .f32) (g : FVec Ideal ⟨2, ![1, 512]⟩ .f32) (b : BitVec 1)
    (acc : BitVec 32) (s0 : (⟨2, ![n, 512]⟩ : Shape).Slices ![0, 0] ⟨2, ![n, 128]⟩)
    (s1 : (⟨2, ![n, 512]⟩ : Shape).Slices ![0, 128] ⟨2, ![n, 128]⟩)
    (s2 : (⟨2, ![n, 512]⟩ : Shape).Slices ![0, 256] ⟨2, ![n, 128]⟩)
    (s3 : (⟨2, ![n, 512]⟩ : Shape).Slices ![0, 384] ⟨2, ![n, 128]⟩)
    (t0 : (⟨2, ![1, 512]⟩ : Shape).Slices ![0, 0] ⟨2, ![1, 128]⟩)
    (t1 : (⟨2, ![1, 512]⟩ : Shape).Slices ![0, 128] ⟨2, ![1, 128]⟩)
    (t2 : (⟨2, ![1, 512]⟩ : Shape).Slices ![0, 256] ⟨2, ![1, 128]⟩)
    (t3 : (⟨2, ![1, 512]⟩ : Shape).Slices ![0, 384] ⟨2, ![1, 128]⟩)
    (h : (⟨2, ![n, 128]⟩ : Shape).Reduces [1] ⟨1, ![n]⟩) (hφ : FKind.Formats .f32) (hacc : acc = FKind.add.neutral .f32 hφ)
    (hc : (⟨1, ![n]⟩ : Shape).ShapeCasts ⟨2, ![n, 1]⟩) (hb : (⟨2, ![n, 1]⟩ : Shape).Broadcasts ⟨2, ![n, 128]⟩)
    (hg : (⟨2, ![1, 128]⟩ : Shape).Broadcasts ⟨2, ![n, 128]⟩)
    (hcat : Shape.Concatenates [⟨2, ![n, 128]⟩, ⟨2, ![n, 128]⟩, ⟨2, ![n, 128]⟩, ⟨2, ![n, 128]⟩] ⟨2, ![n, 512]⟩ 1)
    (i : Fin n) (j : Fin 512) :
    concatenate ⟨2, ![n, 512]⟩ 1 [⟨⟨2, ![n, 128]⟩, piece z g b 0 acc s0 t0 h hφ hacc hc hb hg⟩,
      ⟨⟨2, ![n, 128]⟩, piece z g b 128 acc s1 t1 h hφ hacc hc hb hg⟩,
      ⟨⟨2, ![n, 128]⟩, piece z g b 256 acc s2 t2 h hφ hacc hc hb hg⟩,
      ⟨⟨2, ![n, 128]⟩, piece z g b 384 acc s3 t3 h hφ hacc hc hb hg⟩] hcat (ix2 i j)
      = head (b = 1) (at2 z i.val) (at2 g 0) j.val :=
  four_apply _ _ _ _ hcat (head (b = 1) (at2 z i.val) (at2 g 0)) i
    (piece_apply z g b 0 (by omega) 0 rfl acc s0 t0 h hφ hacc hc hb hg i)
    (piece_apply z g b 1 (by omega) 128 rfl acc s1 t1 h hφ hacc hc hb hg i)
    (piece_apply z g b 2 (by omega) 256 rfl acc s2 t2 h hφ hacc hc hb hg i)
    (piece_apply z g b 3 (by omega) 384 rfl acc s3 t3 h hφ hacc hc hb hg i) j

/-! ## The host -/

/-- Columns reshaped to a head axis: head `p`, column `d` is column `128 p + d`. -/
theorem split_apply {a h b : ℕ} (hb : b = 128 * h) (y : (⟨2, ![a, b]⟩ : Shape).Idx → EReal)
    (hs : (⟨2, ![a, b]⟩ : Shape).ShapeCasts ⟨3, ![a, h, 128]⟩) (i : Fin a) (p : Fin h) (d : Fin 128) :
    shapeCast ⟨3, ![a, h, 128]⟩ y hs (ix3 i p d) = at2 y i.val (128 * p.val + d.val) := by
  have hp := p.isLt
  have hd := d.isLt
  have hlt : 128 * p.val + d.val < b := by
    have : 128 * (p.val + 1) ≤ 128 * h := Nat.mul_le_mul_left _ hp
    omega
  refine (shapeCast_apply y hs _ (ix2 i ⟨128 * p.val + d.val, hlt⟩) ?_).trans (at2_ix y i ⟨_, hlt⟩).symm
  rw [Shape.rowMajor_val_two, Shape.rowMajor_val_three]
  show i.val * b + (128 * p.val + d.val) = (i.val * h + p.val) * 128 + d.val
  subst hb
  ring

/-- A head axis reshaped to columns. -/
theorem join_apply {a h b : ℕ} (hb : b = 128 * h) (y : (⟨3, ![a, h, 128]⟩ : Shape).Idx → EReal)
    (hs : (⟨3, ![a, h, 128]⟩ : Shape).ShapeCasts ⟨2, ![a, b]⟩) (i : Fin a) (j : Fin b) :
    shapeCast ⟨2, ![a, b]⟩ y hs (ix2 i j)
      = y (ix3 i ⟨j.val / 128, by have := j.isLt; omega⟩ ⟨j.val % 128, Nat.mod_lt _ (by omega)⟩) := by
  refine shapeCast_apply y hs _ _ ?_
  rw [Shape.rowMajor_val_two, Shape.rowMajor_val_three]
  show (i.val * h + j.val / 128) * 128 + j.val % 128 = i.val * b + j.val
  have := Nat.div_add_mod j.val 128
  subst hb
  have e : i.val * (128 * h) = i.val * h * 128 := by ring
  rw [e]
  omega

/-- The norm over the head axis as the host computes it, the gain already repeated to the array's shape. -/
theorem headHost_apply {a h b : ℕ} (hbh : b = 128 * h) (y : FVec Ideal ⟨2, ![a, b]⟩ .f32)
    (G : FVec Ideal ⟨3, ![a, h, 128]⟩ .f32) (g : ℕ → EReal)
    (hs : (⟨2, ![a, b]⟩ : Shape).ShapeCasts ⟨3, ![a, h, 128]⟩) (hs' : (⟨3, ![a, h, 128]⟩ : Shape).ShapeCasts ⟨2, ![a, b]⟩)
    (hr : (⟨3, ![a, h, 128]⟩ : Shape).ReducesTo [2] ⟨2, ![a, h]⟩) (hr' : (⟨3, ![a, h, 128]⟩ : Shape).Reduces [2] ⟨2, ![a, h]⟩)
    (h0 : 0 < (⟨0, ![]⟩ : Shape).numel) (h1 : (⟨2, ![a, h]⟩ : Shape).BroadcastsInDim ⟨3, ![a, h, 1]⟩ ![0, 1])
    (h2 h2' : (⟨0, ![]⟩ : Shape).BroadcastsInDim ⟨3, ![a, h, 1]⟩ ![])
    (h3 : (⟨3, ![a, h, 1]⟩ : Shape).BroadcastsInDim ⟨3, ![a, h, 128]⟩ ![0, 1, 2])
    (hG : ∀ (i : Fin a) (p : Fin h) (d : Fin 128), G (ix3 i p d) = g (128 * p.val + d.val)) (i : Fin a) (j : Fin b) :
    shapeCast ⟨2, ![a, b]⟩ (mulf (mulf (shapeCast ⟨3, ![a, h, 128]⟩ y hs)
        (broadcastInDim ⟨3, ![a, h, 128]⟩ ![0, 1, 2] h3 (Host.rsqrt (addf (Host.divf
          (broadcastInDim ⟨3, ![a, h, 1]⟩ ![0, 1] h1 (Host.reduceAdd (mulf (shapeCast ⟨3, ![a, h, 128]⟩ y hs)
            (shapeCast ⟨3, ![a, h, 128]⟩ y hs)) (constant ⟨0, ![]⟩ .f32 0x00000000#32) hr h0))
          (broadcastInDim ⟨3, ![a, h, 1]⟩ ![] h2 (constant ⟨0, ![]⟩ .f32 0x43000000#32)))
          (broadcastInDim ⟨3, ![a, h, 1]⟩ ![] h2' (constant ⟨0, ![]⟩ .f32 0x358637BD#32)))))) G) hs' (ix2 i j)
      = head True (at2 y i.val) g j.val := by
  have hj := j.isLt
  have hjd := Nat.div_add_mod j.val 128
  generalize hp : (⟨j.val / 128, by omega⟩ : Fin h) = p
  generalize hd : (⟨j.val % 128, Nat.mod_lt _ (by omega)⟩ : Fin 128) = d
  have hpv : p.val = j.val / 128 := by rw [← hp]
  have hdv : d.val = j.val % 128 := by rw [← hd]
  have e : 128 * p.val + d.val = j.val := by rw [hpv, hdv]; exact hjd
  rw [join_apply hbh, hp, hd, mulf_apply, mulf_apply, split_apply hbh, hG, e]
  unfold head
  refine congrArg (fun s : EReal => _ * s * _) ?_
  unfold scale
  rw [if_pos trivial]
  refine (broadcastInDim_apply _ h3 _ _ (ix3 i p 0) fun k => ?_).trans ?_
  · match k with
    | ⟨0, _⟩ =>
      show i.val = if a = 1 then 0 else i.val
      split
      · have := i.isLt; omega
      · rfl
    | ⟨1, _⟩ =>
      show p.val = if h = 1 then 0 else p.val
      split
      · have := p.isLt; omega
      · rfl
    | ⟨2, _⟩ => rfl
  have hsum : broadcastInDim ⟨3, ![a, h, 1]⟩ ![0, 1] h1 (Host.reduceAdd (mulf (shapeCast ⟨3, ![a, h, 128]⟩ y hs)
      (shapeCast ⟨3, ![a, h, 128]⟩ y hs)) (constant ⟨0, ![]⟩ .f32 0x00000000#32) hr h0) (ix3 i p 0)
      = ∑ k ∈ Finset.range 128, at2 y i.val (128 * (j.val / 128) + k) * at2 y i.val (128 * (j.val / 128) + k) := by
    refine (broadcastInDim_apply _ h1 _ _ (ix2 i p) fun k => ?_).trans ?_
    · match k with
      | ⟨0, _⟩ =>
        show i.val = if a = 1 then 0 else i.val
        split
        · have := i.isLt; omega
        · rfl
      | ⟨1, _⟩ =>
        show p.val = if h = 1 then 0 else p.val
        split
        · have := p.isLt; omega
        · rfl
    refine (Ideal.hostReduceAdd_single hr hr' _ _ (ix2 i p)).trans ?_
    show Ideal.ofBits .f32 0x00000000#32 + _ = _
    rw [Ideal.ofBits_zero_f32, zero_add, Finset.sum_range]
    refine Finset.sum_congr rfl fun (k : Fin 128) _ => ?_
    have ei : ∀ q : (⟨3, ![a, h, 128]⟩ : Shape).Idx, q = ix3 i p k →
        mulf (shapeCast ⟨3, ![a, h, 128]⟩ y hs) (shapeCast ⟨3, ![a, h, 128]⟩ y hs) q
          = at2 y i.val (128 * (j.val / 128) + k.val) * at2 y i.val (128 * (j.val / 128) + k.val) := by
      rintro q rfl
      rw [mulf_apply, split_apply hbh, hpv]
    refine ei _ (funext fun b => ?_)
    match b with
    | ⟨0, _⟩ => rfl
    | ⟨1, _⟩ => rfl
    | ⟨2, _⟩ => rfl
  exact congrArg (fun s => Ideal.rsqrt (Ideal.div s W + E)) hsum

/-- One gain of 128 entries repeated over rows and heads. -/
theorem gainHost_apply {a h : ℕ} (g : (⟨1, ![128]⟩ : Shape).Idx → EReal)
    (h0 : (⟨1, ![128]⟩ : Shape).BroadcastsInDim ⟨3, ![1, 1, 128]⟩ ![2])
    (h1 : (⟨3, ![1, 1, 128]⟩ : Shape).BroadcastsInDim ⟨3, ![a, h, 128]⟩ ![0, 1, 2]) (i : Fin a) (p : Fin h) (d : Fin 128) :
    broadcastInDim ⟨3, ![a, h, 128]⟩ ![0, 1, 2] h1 (broadcastInDim ⟨3, ![1, 1, 128]⟩ ![2] h0 g) (ix3 i p d)
      = at1 g ((128 * p.val + d.val) % 128) := by
  have hd := d.isLt
  rw [show (128 * p.val + d.val) % 128 = d.val by omega, at1_ix]
  refine (broadcastInDim_apply _ h1 _ _ (ix3 0 0 d) fun k => ?_).trans (broadcastInDim_apply _ h0 _ _ (ix1 d) fun k => ?_)
  · match k with
    | ⟨0, _⟩ => rfl
    | ⟨1, _⟩ => rfl
    | ⟨2, _⟩ => rfl
  · match k with
    | ⟨0, _⟩ => rfl

/-- A gain of its own for every head, repeated over rows. -/
theorem gainsHost_apply {a h : ℕ} (g : (⟨2, ![h, 128]⟩ : Shape).Idx → EReal)
    (h0 : (⟨2, ![h, 128]⟩ : Shape).BroadcastsInDim ⟨3, ![1, h, 128]⟩ ![1, 2])
    (h1 : (⟨3, ![1, h, 128]⟩ : Shape).BroadcastsInDim ⟨3, ![a, h, 128]⟩ ![0, 1, 2]) (i : Fin a) (p : Fin h) (d : Fin 128) :
    broadcastInDim ⟨3, ![a, h, 128]⟩ ![0, 1, 2] h1 (broadcastInDim ⟨3, ![1, h, 128]⟩ ![1, 2] h0 g) (ix3 i p d)
      = at2 g p.val d.val := by
  rw [at2_ix]
  refine (broadcastInDim_apply _ h1 _ _ (ix3 0 p d) fun k => ?_).trans (broadcastInDim_apply _ h0 _ _ (ix2 p d) fun k => ?_)
  · match k with
    | ⟨0, _⟩ => rfl
    | ⟨1, _⟩ =>
      show p.val = if h = 1 then 0 else p.val
      split
      · have := p.isLt; omega
      · rfl
    | ⟨2, _⟩ => rfl
  · match k with
    | ⟨0, _⟩ =>
      show p.val = if h = 1 then 0 else p.val
      split
      · have := p.isLt; omega
      · rfl
    | ⟨1, _⟩ => rfl

/-! ## Rows of gains -/

/-- A vector reshaped to a row. -/
theorem asRow_apply {α : Type} {b : ℕ} (x : (⟨1, ![b]⟩ : Shape).Idx → α)
    (h : (⟨1, ![b]⟩ : Shape).ShapeCasts ⟨2, ![1, b]⟩) (j : Fin b) : shapeCast ⟨2, ![1, b]⟩ x h (ix2 0 j) = x (ix1 j) :=
  shapeCast_apply x h _ _ (by
    rw [Shape.rowMajor_val_two, Shape.rowMajor_val_one]
    show j.val = 0 * b + j.val
    omega)

/-- A head's gain repeated over `h` heads. -/
theorem tile_apply {h b : ℕ} (hb : b = 128 * h) (g : (⟨1, ![128]⟩ : Shape).Idx → EReal)
    (h0 : (⟨1, ![128]⟩ : Shape).ShapeCasts ⟨2, ![1, 128]⟩)
    (h1 : (⟨2, ![1, 128]⟩ : Shape).BroadcastsInDim ⟨2, ![h, 128]⟩ ![0, 1])
    (h2 : (⟨2, ![h, 128]⟩ : Shape).ShapeCasts ⟨1, ![b]⟩) (j : Fin b) :
    shapeCast ⟨1, ![b]⟩ (broadcastInDim ⟨2, ![h, 128]⟩ ![0, 1] h1 (shapeCast ⟨2, ![1, 128]⟩ g h0)) h2 (ix1 j)
      = at1 g (j.val % 128) := by
  have hj := j.isLt
  have hl : j.val % 128 < 128 := Nat.mod_lt _ (by omega)
  refine (shapeCast_apply _ h2 _ (ix2 ⟨j.val / 128, by omega⟩ ⟨j.val % 128, hl⟩) ?_).trans ?_
  · rw [Shape.rowMajor_val_two, Shape.rowMajor_val_one]
    show j.val / 128 * 128 + j.val % 128 = j.val
    omega
  · rw [hrow_apply, asRow_apply]
    exact (at1_ix g ⟨j.val % 128, hl⟩).symm

end Cert.Heads

end
-- ==== Proof.AttMath.lean ====
/-
  Attention over a row of scores, free of any program.

  A row of scores and the values beside them are functions of the key's number. The kernel sums the weighted values and
  divides once (`att`), the reference divides each weight and sums (`soft`). The two agree where the scores are real.
  Scores at −∞ at all keys but every fourth leave the attention over those keys alone.
-/
module

public import proofs.«01_k».proof.Proof.Rows

@[expose] public section

noncomputable section

namespace Cert.AttMath

open Idealize.ShloMosaic Idealize.ShloMosaic.ValueIdx Cert.Rows

/-! ## IsReal values -/

/-- A value is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : ℕ → EReal} (h : ∀ k < n, IsReal (f k)) : IsReal (∑ k ∈ Finset.range n, f k) := by
  induction n with
  | zero => exact ⟨0, by simp⟩
  | succ n ih =>
    obtain ⟨a, ha⟩ := ih fun k hk => h k (by omega)
    obtain ⟨b, hb⟩ := h n (by omega)
    exact ⟨a + b, by rw [Finset.sum_range_succ, ha, hb, EReal.coe_add]⟩

/-- A value whose absolute value is below +∞ is a real number. -/
theorem IsReal.of_abs {x : EReal} (h : Ideal.cmp .olt (max x (-x)) ⊤ = 1) : IsReal x := by
  induction x with
  | bot => simp [Ideal.cmp] at h
  | top => simp [Ideal.cmp] at h
  | coe r => exact ⟨r, rfl⟩

/-! ## The two forms -/

/-- The greatest of the first `n` scores. -/
def top (n : ℕ) (s : ℕ → EReal) : EReal := (Finset.range n).sup s

/-- A key's weight before the division. -/
def wt (n : ℕ) (s : ℕ → EReal) (k : ℕ) : EReal := Ideal.exp (s k - top n s)

/-- The weighted values summed, then divided by the weights' sum. -/
def att (n : ℕ) (s v : ℕ → EReal) : EReal :=
  Ideal.div (∑ k ∈ Finset.range n, wt n s k * v k) (∑ k ∈ Finset.range n, wt n s k)

/-- The weights divided by their sum, then the weighted values summed. -/
def soft (n : ℕ) (s v : ℕ → EReal) : EReal :=
  ∑ k ∈ Finset.range n, v k * Ideal.div (wt n s k) (∑ k ∈ Finset.range n, wt n s k)

theorem top_congr {n : ℕ} {s s' : ℕ → EReal} (h : ∀ k < n, s k = s' k) : top n s = top n s' :=
  Finset.sup_congr rfl fun k hk => h k (Finset.mem_range.mp hk)

theorem wt_congr {n : ℕ} {s s' : ℕ → EReal} (h : ∀ k < n, s k = s' k) : ∀ k < n, wt n s k = wt n s' k := by
  intro k hk
  unfold wt
  rw [top_congr h, h k hk]

theorem att_congr {n : ℕ} {s s' v v' : ℕ → EReal} (h : ∀ k < n, s k = s' k) (hv : ∀ k < n, v k = v' k) :
    att n s v = att n s' v' := by
  unfold att
  rw [Finset.sum_congr rfl fun k hk => wt_congr h k (Finset.mem_range.mp hk),
    Finset.sum_congr rfl fun k hk => by rw [wt_congr h k (Finset.mem_range.mp hk), hv k (Finset.mem_range.mp hk)]]

/-- A nonnegative real distributes over a sum of extended reals. -/
theorem real_mul_sum {r : ℝ} (hr : 0 ≤ r) (n : ℕ) (f : ℕ → EReal) :
    (r : EReal) * ∑ k ∈ Finset.range n, f k = ∑ k ∈ Finset.range n, (r : EReal) * f k := by
  induction n with
  | zero => simp
  | succ n ih =>
    rw [Finset.sum_range_succ, Finset.sum_range_succ,
      EReal.left_distrib_of_nonneg_of_ne_top (by exact_mod_cast hr) (EReal.coe_ne_top _), ih]

/-- The greatest of real scores is real. -/
theorem top_real {n : ℕ} (hn : 0 < n) {s : ℕ → EReal} (h : ∀ k < n, IsReal (s k)) : IsReal (top n s) := by
  obtain ⟨k, hk, e⟩ := Finset.exists_mem_eq_sup (Finset.range n) ⟨0, Finset.mem_range.mpr hn⟩ s
  unfold top
  rw [e]
  exact h k (Finset.mem_range.mp hk)

/-- IsReal scores have positive real weights. -/
theorem wt_real {n : ℕ} (hn : 0 < n) {s : ℕ → EReal} (h : ∀ k < n, IsReal (s k)) (k : ℕ) (hk : k < n) :
    ∃ r : ℝ, 0 < r ∧ wt n s k = (r : EReal) := by
  obtain ⟨a, ha⟩ := h k hk
  obtain ⟨b, hb⟩ := top_real hn h
  refine ⟨Real.exp (a - b), Real.exp_pos _, ?_⟩
  unfold wt
  rw [ha, hb, ← EReal.coe_sub]
  rfl

/-- and so has their sum. -/
theorem den_real {n : ℕ} (hn : 0 < n) {s : ℕ → EReal} (h : ∀ k < n, IsReal (s k)) :
    ∃ r : ℝ, 0 < r ∧ (∑ k ∈ Finset.range n, wt n s k) = (r : EReal) := by
  have key : ∀ l ≤ n, 0 < l → ∃ r : ℝ, 0 < r ∧ (∑ k ∈ Finset.range l, wt n s k) = (r : EReal) := by
    intro l
    induction l with
    | zero => intro _ h; omega
    | succ l ih =>
      intro hl _
      obtain ⟨b, hb, eb⟩ := wt_real hn h l (by omega)
      rw [Finset.sum_range_succ, eb]
      by_cases h0 : l = 0
      · subst h0
        exact ⟨b, hb, by simp⟩
      · obtain ⟨a, ha, ea⟩ := ih (by omega) (by omega)
        exact ⟨a + b, by positivity, by rw [ea, EReal.coe_add]⟩
  exact key n le_rfl hn

/-- With real scores it makes no difference when the division is done. -/
theorem att_eq_soft {n : ℕ} (hn : 0 < n) {s : ℕ → EReal} (h : ∀ k < n, IsReal (s k)) (v : ℕ → EReal) :
    att n s v = soft n s v := by
  obtain ⟨d, hd, e⟩ := den_real hn h
  have hdiv : ∀ x : EReal, Ideal.div x (d : EReal) = ((d⁻¹ : ℝ) : EReal) * x := fun x => by
    unfold Ideal.div
    rw [if_neg (by exact_mod_cast hd.ne'), mul_comm, EReal.coe_inv]
  unfold att soft
  rw [e, hdiv, real_mul_sum (by positivity)]
  refine Finset.sum_congr rfl fun k _ => ?_
  rw [hdiv, mul_comm (v k), mul_assoc]

/-! ## Scores at every fourth key -/

/-- Every fourth of a row. -/
def every (h : ℕ) (f : ℕ → EReal) (j : ℕ) : EReal := f (4 * j + h)

/-- The scores of the keys of class `h` modulo four, −∞ elsewhere. -/
def only (h : ℕ) (s : ℕ → EReal) (k : ℕ) : EReal := if h = k % 4 then s k else ⊥

theorem top_only (N h : ℕ) (hh : h < 4) (s : ℕ → EReal) : top (4 * N) (only h s) = top N (every h s) := by
  apply le_antisymm
  · refine Finset.sup_le fun k hk => ?_
    have hk := Finset.mem_range.mp hk
    unfold only
    by_cases e : h = k % 4
    · rw [if_pos e]
      refine le_trans (le_of_eq ?_) (Finset.le_sup (f := every h s) (Finset.mem_range.mpr (show k / 4 < N by omega)))
      unfold every
      rw [show 4 * (k / 4) + h = k by omega]
    · rw [if_neg e]; exact bot_le
  · refine Finset.sup_le fun j hj => ?_
    have hj := Finset.mem_range.mp hj
    refine le_trans (le_of_eq ?_) (Finset.le_sup (f := only h s) (Finset.mem_range.mpr (show 4 * j + h < 4 * N by omega)))
    unfold only every
    rw [if_pos (by omega)]

/-- A sum whose terms vanish but at every fourth key. -/
theorem sum_only (N h : ℕ) (hh : h < 4) (f : ℕ → EReal) (hf : ∀ k, h ≠ k % 4 → f k = 0) :
    ∑ k ∈ Finset.range (4 * N), f k = ∑ j ∈ Finset.range N, every h f j := by
  induction N with
  | zero => rfl
  | succ N ih =>
    rw [show 4 * (N + 1) = 4 * N + 1 + 1 + 1 + 1 by omega, Finset.sum_range_succ, Finset.sum_range_succ,
      Finset.sum_range_succ, Finset.sum_range_succ, ih, Finset.sum_range_succ]
    unfold every
    interval_cases h
    · rw [hf (4 * N + 1) (by omega), hf (4 * N + 1 + 1) (by omega), hf (4 * N + 1 + 1 + 1) (by omega)]; simp
    · rw [hf (4 * N) (by omega), hf (4 * N + 1 + 1) (by omega), hf (4 * N + 1 + 1 + 1) (by omega)]; simp
    · rw [hf (4 * N) (by omega), hf (4 * N + 1) (by omega), hf (4 * N + 1 + 1 + 1) (by omega)]; simp
    · rw [hf (4 * N) (by omega), hf (4 * N + 1) (by omega), hf (4 * N + 1 + 1) (by omega)]; simp

theorem wt_only (N h : ℕ) (hh : h < 4) (s : ℕ → EReal) (k : ℕ) :
    wt (4 * N) (only h s) k = if h = k % 4 then Ideal.exp (s k - top N (every h s)) else 0 := by
  unfold wt
  rw [top_only N h hh]
  unfold only
  by_cases e : h = k % 4
  · rw [if_pos e, if_pos e]
  · rw [if_neg e, if_neg e, sub_eq_add_neg, EReal.bot_add]; rfl

/-- The attention over all keys with the scores at −∞ but at every fourth is the attention over every fourth key. -/
theorem att_only (N h : ℕ) (hh : h < 4) (s v : ℕ → EReal) :
    att (4 * N) (only h s) v = att N (every h s) (every h v) := by
  unfold att
  rw [sum_only N h hh _ fun k hk => by rw [wt_only N h hh, if_neg hk, zero_mul],
    sum_only N h hh _ fun k hk => by rw [wt_only N h hh, if_neg hk]]
  have e : ∀ j, wt (4 * N) (only h s) (4 * j + h) = wt N (every h s) j := fun j => by
    rw [wt_only N h hh, if_pos (by omega)]; rfl
  unfold every at *
  simp only [e]

/-! ## Scores -/

/-- The factor of the scores. -/
def C : EReal := Ideal.ofBits .f32 0x3DB504F3#32

theorem C_real : IsReal C := by
  unfold C IsReal
  simp [Ideal.ofBits, Ideal.ieee, -EReal.coe_mul]

/-- A query's score at a key. -/
def score (q k : ℕ → EReal) : EReal := (∑ d ∈ Finset.range 128, q d * k d) * C

theorem score_congr {q q' k k' : ℕ → EReal} (hq : ∀ d < 128, q d = q' d) (hk : ∀ d < 128, k d = k' d) :
    score q k = score q' k' := by
  unfold score
  rw [Finset.sum_congr rfl fun d hd => by rw [hq d (Finset.mem_range.mp hd), hk d (Finset.mem_range.mp hd)]]

theorem score_real {q k : ℕ → EReal} (hq : ∀ d < 128, IsReal (q d)) (hk : ∀ d < 128, IsReal (k d)) : IsReal (score q k) :=
  (IsReal.sum fun d hd => (hq d hd).mul (hk d hd)).mul C_real

/-! ## Vector operations read at an index -/

/-- The greatest of a row, as the vector unit computes it. -/
theorem rowMax_apply {a b : ℕ} (x : FVec Ideal ⟨2, ![a, b]⟩ .f32)
    (h : (⟨2, ![a, b]⟩ : Shape).Reduces [1] ⟨1, ![a]⟩) (hφ : FKind.Formats .f32)
    (hacc : 0xFF800000#32 = FKind.maximumf.neutral .f32 hφ) (i : Fin a) :
    multiReduction .maximumf [1] ⟨1, ![a]⟩ x 0xFF800000#32 h hφ hacc (ix1 i) = top b (at2 x i.val) := by
  rw [Ideal.multiReduction_maximumf_single]
  have e : (FloatOps.ofBits .f32 0xFF800000#32 : Ideal .f32) = (⊥ : EReal) := by
    show Ideal.ofBits .f32 0xFF800000#32 = ⊥
    simp [Ideal.ofBits, Ideal.ieee]
  rw [e]
  show (Finset.univ : Finset (Fin b)).sup _ = _
  unfold top
  apply le_antisymm
  · refine Finset.sup_le fun k _ => ?_
    refine le_trans (le_of_eq ?_) (Finset.le_sup (f := at2 x i.val) (Finset.mem_range.mpr k.isLt))
    exact (eq_at2 x _ rfl rfl)
  · refine Finset.sup_le fun k hk => ?_
    have hk := Finset.mem_range.mp hk
    refine le_trans (le_of_eq ?_) (Finset.le_sup (Finset.mem_univ (⟨k, hk⟩ : Fin b)))
    exact (eq_at2 x (h.lift (ix1 i) ⟨k, hk⟩) rfl rfl : _ = at2 x i.val k).symm

/-- The scores of a block of queries, as the matrix unit computes them. -/
theorem score_apply {M N : ℕ} {φ₁ φ₂ : FTy} (q : FVec Ideal ⟨2, ![M, 128]⟩ φ₁) (k : FVec Ideal ⟨2, ![N, 128]⟩ φ₂)
    (prec : Option ContractPrecision) (r : Fin M) (c : Fin N) :
    mulf (matmul (DotDims.transposedRhs M 128 N) prec q k (constant ⟨2, ![M, N]⟩ .f32 0x00000000#32))
      (broadcast ⟨2, ![M, N]⟩ (Scalar.ofBits .f32 0x3DB504F3#32 : Ideal .f32)) (ix2 r c)
      = score (at2 q r.val) (at2 k c.val) := by
  rw [mulf_apply]
  show FloatOps.matmul (DotDims.transposedRhs M 128 N) prec q k _ (ix2 r c) * C = _
  rw [Ideal.matmul_transposedRhs_apply]
  show (Ideal.ofBits .f32 0x00000000#32 + _) * C = _
  rw [Ideal.ofBits_zero_f32, zero_add]
  unfold score
  rw [Finset.sum_range]
  refine congrArg (· * C) (Finset.sum_congr rfl fun d _ => by rw [at2_ix, at2_ix])

/-- The attention of a block of queries, as the kernel computes it from their scores. -/
theorem att_apply {R K W : ℕ} (s : FVec Ideal ⟨2, ![R, K]⟩ .f32) (v : FVec Ideal ⟨2, ![K, W]⟩ .f32)
    (h h' : (⟨2, ![R, K]⟩ : Shape).Reduces [1] ⟨1, ![R]⟩) (hφ hφ' : FKind.Formats .f32)
    (hacc : 0xFF800000#32 = FKind.maximumf.neutral .f32 hφ) (hacc' : 0x00000000#32 = FKind.add.neutral .f32 hφ')
    (hc : (⟨1, ![R]⟩ : Shape).ShapeCasts ⟨2, ![R, 1]⟩) (hb : (⟨2, ![R, 1]⟩ : Shape).Broadcasts ⟨2, ![R, K]⟩)
    (hb' : (⟨2, ![R, 1]⟩ : Shape).Broadcasts ⟨2, ![R, W]⟩) (ht : FTy.bf16.bits < FTy.f32.bits)
    (i : Fin R) (j : Fin W) :
    divf (matmul (DotDims.plain R K W) none
        (truncf .bf16 (exp (subf s (broadcastTo ⟨2, ![R, K]⟩ (shapeCast ⟨2, ![R, 1]⟩
          (multiReduction .maximumf [1] ⟨1, ![R]⟩ s 0xFF800000#32 h hφ hacc) hc) hb))) ht) (truncf .bf16 v ht)
        (constant ⟨2, ![R, W]⟩ .f32 0x00000000#32))
      (broadcastTo ⟨2, ![R, W]⟩ (shapeCast ⟨2, ![R, 1]⟩ (multiReduction .add [1] ⟨1, ![R]⟩
        (exp (subf s (broadcastTo ⟨2, ![R, K]⟩ (shapeCast ⟨2, ![R, 1]⟩
          (multiReduction .maximumf [1] ⟨1, ![R]⟩ s 0xFF800000#32 h hφ hacc) hc) hb))) 0x00000000#32 h' hφ' hacc') hc) hb')
      (ix2 i j) = att K (at2 s i.val) (fun k => at2 v k j.val) := by
  have hw : ∀ k < K, at2 (exp (subf s (broadcastTo ⟨2, ![R, K]⟩ (shapeCast ⟨2, ![R, 1]⟩
          (multiReduction .maximumf [1] ⟨1, ![R]⟩ s 0xFF800000#32 h hφ hacc) hc) hb))) i.val k = wt K (at2 s i.val) k := by
    intro k hk
    refine (at2_ix _ i ⟨k, hk⟩).trans ?_
    show Ideal.exp (s (ix2 i ⟨k, hk⟩) - broadcastTo ⟨2, ![R, K]⟩ _ hb (ix2 i ⟨k, hk⟩)) = _
    rw [column_apply, asColumn_apply, rowMax_apply]
    unfold wt
    rw [show at2 s i.val k = s (ix2 i ⟨k, hk⟩) from at2_ix s i ⟨k, hk⟩]
  rw [divf_apply]
  rw [column_apply, asColumn_apply, rowSum_apply, mm_apply]
  unfold att lin
  rw [Finset.sum_congr rfl fun k hk => hw k (Finset.mem_range.mp hk)]
  refine congrArg (Ideal.div · _) (Finset.sum_congr rfl fun k hk => ?_)
  exact congrArg (· * _) (hw k (Finset.mem_range.mp hk))

end Cert.AttMath

end
-- ==== Proof.Cubes.lean ====
/-
  Arrays of three and four axes at natural numbers, and cuts of arrays read there.
-/
module

public import proofs.«01_k».proof.Proof.Rows
public import Idealize.ShloMosaic.Lib.Pipeline.ValueKit.Point

@[expose] public section

noncomputable section

namespace Cert.Cubes

open Idealize.ShloMosaic hiding ix1 ix2 ix3 ix4 ix5
open Idealize.ShloMosaic.ValueIdx Cert.Rows

/-- The entry of an array of three axes; zero outside. -/
def at3 {a b c : ℕ} (A : (⟨3, ![a, b, c]⟩ : Shape).Idx → EReal) (i j k : ℕ) : EReal :=
  if h : i < a ∧ j < b ∧ k < c then A (ValueIdx.ix3 ⟨i, h.1⟩ ⟨j, h.2.1⟩ ⟨k, h.2.2⟩) else 0

/-- The entry of an array of four axes; zero outside. -/
def at4 {a b c d : ℕ} (A : (⟨4, ![a, b, c, d]⟩ : Shape).Idx → EReal) (i j k l : ℕ) : EReal :=
  if h : i < a ∧ j < b ∧ k < c ∧ l < d then A (ValueIdx.ix4 ⟨i, h.1⟩ ⟨j, h.2.1⟩ ⟨k, h.2.2.1⟩ ⟨l, h.2.2.2⟩) else 0

/-- An entry at the numbers of its index. -/
theorem eq_at3 {a b c : ℕ} (A : (⟨3, ![a, b, c]⟩ : Shape).Idx → EReal) (x : (⟨3, ![a, b, c]⟩ : Shape).Idx) {i j k : ℕ}
    (hi : (x 0).val = i) (hj : (x 1).val = j) (hk : (x 2).val = k) : A x = at3 A i j k := by
  subst hi hj hk
  unfold at3
  rw [dif_pos ⟨(x 0).isLt, (x 1).isLt, (x 2).isLt⟩]
  exact congrArg A (ValueIdx.eq_ix3 x)

theorem eq_at4 {a b c d : ℕ} (A : (⟨4, ![a, b, c, d]⟩ : Shape).Idx → EReal) (x : (⟨4, ![a, b, c, d]⟩ : Shape).Idx)
    {i j k l : ℕ} (hi : (x 0).val = i) (hj : (x 1).val = j) (hk : (x 2).val = k) (hl : (x 3).val = l) :
    A x = at4 A i j k l := by
  subst hi hj hk hl
  unfold at4
  rw [dif_pos ⟨(x 0).isLt, (x 1).isLt, (x 2).isLt, (x 3).isLt⟩]
  exact congrArg A (ValueIdx.eq_ix4 x)

theorem at3_ix {a b c : ℕ} (A : (⟨3, ![a, b, c]⟩ : Shape).Idx → EReal) (i : Fin a) (j : Fin b) (k : Fin c) :
    at3 A i.val j.val k.val = A (ValueIdx.ix3 i j k) := (eq_at3 A (ValueIdx.ix3 i j k) rfl rfl rfl).symm

theorem at4_ix {a b c d : ℕ} (A : (⟨4, ![a, b, c, d]⟩ : Shape).Idx → EReal) (i : Fin a) (j : Fin b) (k : Fin c) (l : Fin d) :
    at4 A i.val j.val k.val l.val = A (ValueIdx.ix4 i j k l) := (eq_at4 A (ValueIdx.ix4 i j k l) rfl rfl rfl rfl).symm

/-- A cut of an array of three axes. -/
theorem ld3 {A B C a b c : ℕ} (x : Vec Ideal ⟨3, ![A, B, C]⟩ .f32) (o0 o1 o2 : ℕ)
    (inb : ∀ d, (![o0, o1, o2] : Fin 3 → ℕ) d + (![a, b, c] : Fin 3 → ℕ) d ≤ (⟨3, ![A, B, C]⟩ : Shape).size d)
    (i j k : ℕ) (hi : i < a) (hj : j < b) (hk : k < c) :
    at3 (a := a) (b := b) (c := c) (View.ld (Val := Elt Ideal) (e' := .f32) x
      (Rect.unit (s := ⟨3, ![A, B, C]⟩) ![o0, o1, o2] ![a, b, c] inb)) i j k = at3 x (o0 + i) (o1 + j) (o2 + k) := by
  refine (at3_ix (a := a) (b := b) (c := c) _ ⟨i, hi⟩ ⟨j, hj⟩ ⟨k, hk⟩).trans (eq_at3 x _ ?_ ?_ ?_)
  · show o0 + 1 * i = o0 + i
    omega
  · show o1 + 1 * j = o1 + j
    omega
  · show o2 + 1 * k = o2 + k
    omega

/-- A cut of an array of two axes. -/
theorem ld2 {A B a b : ℕ} (x : Vec Ideal ⟨2, ![A, B]⟩ .f32) (o0 o1 : ℕ)
    (inb : ∀ d, (![o0, o1] : Fin 2 → ℕ) d + (![a, b] : Fin 2 → ℕ) d ≤ (⟨2, ![A, B]⟩ : Shape).size d)
    (i j : ℕ) (hi : i < a) (hj : j < b) :
    at2 (a := a) (b := b) (View.ld (Val := Elt Ideal) (e' := .f32) x
      (Rect.unit (s := ⟨2, ![A, B]⟩) ![o0, o1] ![a, b] inb)) i j = at2 x (o0 + i) (o1 + j) := by
  refine (at2_ix (a := a) (b := b) _ ⟨i, hi⟩ ⟨j, hj⟩).trans (eq_at2 x _ ?_ ?_)
  · show o0 + 1 * i = o0 + i
    omega
  · show o1 + 1 * j = o1 + j
    omega

/-- A leading axis of one dropped, -/
theorem drop_apply {α : Type} {a b : ℕ} (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ValueIdx.ix2 i j) = x (ValueIdx.ix3 0 i j) :=
  shapeCast_apply x h _ _ (by
    rw [Shape.rowMajor_val_three, Shape.rowMajor_val_two]
    show (0 * a + i.val) * b + j.val = i.val * b + j.val
    rw [Nat.zero_mul, Nat.zero_add])

/-- and put before. -/
theorem lead_apply {α : Type} {a b : ℕ} (x : (⟨2, ![a, b]⟩ : Shape).Idx → α)
    (h : (⟨2, ![a, b]⟩ : Shape).ShapeCasts ⟨3, ![1, a, b]⟩) (i : Fin 1) (j : Fin a) (k : Fin b) :
    shapeCast ⟨3, ![1, a, b]⟩ x h (ValueIdx.ix3 i j k) = x (ValueIdx.ix2 j k) :=
  shapeCast_apply x h _ _ (by
    rw [Shape.rowMajor_val_three, Shape.rowMajor_val_two]
    show j.val * b + k.val = (i.val * a + j.val) * b + k.val
    rw [show i.val = 0 by omega, Nat.zero_mul, Nat.zero_add])

/-- A block with its leading axis dropped, at numbers. -/
theorem drop_at {a b : ℕ} (x : (⟨3, ![1, a, b]⟩ : Shape).Idx → EReal)
    (h : (⟨3, ![1, a, b]⟩ : Shape).ShapeCasts ⟨2, ![a, b]⟩) (i j : ℕ) (hi : i < a) (hj : j < b) :
    at2 (a := a) (b := b) (shapeCast ⟨2, ![a, b]⟩ x h) i j = at3 x 0 i j :=
  (at2_ix (a := a) (b := b) _ ⟨i, hi⟩ ⟨j, hj⟩).trans ((drop_apply x h ⟨i, hi⟩ ⟨j, hj⟩).trans (eq_at3 x _ rfl rfl rfl))

end Cert.Cubes

end
-- ==== Proof.SideMem.lean ====
/-
  The side call: what a head of memory attention leaves in its block.

  A prompt block attends head by head over the memory's rows; a sample block attends over all rows and heads at once, with
  the scores of the other heads at −∞.
-/
module

public import proofs.«01_k».proof.Proof.AttMath
public import proofs.«01_k».proof.Proof.Cubes
public import proofs.«01_k».proof.Proof.Gen.SideIdeal.Value

@[expose] public section

noncomputable section

namespace Cert.SideMem

open Idealize.ShloMosaic hiding ix1 ix2 ix3 ix4 ix5
open Cert.SideIdeal Cert.SideIdeal.Gen Cert.Rows Cert.Cubes Cert.AttMath
open Idealize.ShloMosaic.TcCoe Idealize.ShloMosaic.ValueIdx Idealize.SL.Sem

/-- A prompt head. -/
theorem pay29_apply (q : Vec Ideal S1x1024x128 .f32) (k v : Vec Ideal S1x256x128 .f32) (i : Fin 1024) (j : Fin 128) :
    k0_pay29 (F := Ideal) q k v (ValueIdx.ix2 i j)
      = att 256 (fun n => score (at3 q 0 i.val) (at3 k 0 n)) (fun n => at3 v 0 n j.val) := by
  unfold k0_pay29
  dsimp only
  rw [shapeCast_self]
  refine (att_apply (R := 1024) (K := 256) (W := 128) _ _ _ _ _ _ _ _ _ _ _ _ i j).trans ?_
  refine att_congr (fun n hn => ?_) fun n hn => ?_
  · refine (at2_ix _ i ⟨n, hn⟩).trans ?_
    refine (score_apply (M := 1024) (N := 256) _ _ _ i ⟨n, hn⟩).trans ?_
    exact score_congr (fun d hd => drop_at q _ i.val d i.isLt hd) fun d hd => drop_at k _ n d hn hd
  · exact drop_at v _ n j.val hn j.isLt

/-- The remainder by four as the vector unit takes it. -/
def m4 (x : BitVec 32) : BitVec 32 :=
  let w : BitVec 32 := Scalar.select (Scalar.cmpi .eq 4#32 0#32) 1#32 4#32
  let r := IntOp.remsi .vector x w
  Scalar.select (IntOp.andi (IntOp.xori (IntOp.cmpi .slt r 0#32) (Scalar.cmpi .slt w 0#32)) (IntOp.cmpi .ne r 0#32))
    (IntOp.addi r w) r

theorem m4_16 : ∀ r : Fin 16, m4 (BitVec.ofNat 32 r.val) = BitVec.ofNat 32 (r.val % 4) := by decide +kernel
theorem m4_1024 : ∀ r : Fin 1024, m4 (BitVec.ofNat 32 r.val) = BitVec.ofNat 32 (r.val % 4) := by decide +kernel

/-- A sample block. -/
theorem pay8_apply (q : Vec Ideal S1x16x128 .f32) (k v : Vec Ideal S1x1024x128 .f32) (o : Fin 1) (i : Fin 16) (j : Fin 128) :
    k0_pay8 (F := Ideal) (k0_pay3 q k) k0_pay4 4#32 k0_pay5 k0_pay6 k0_pay7 v (ValueIdx.ix3 o i j)
      = att (4 * 256) (only (i.val % 4) fun n => score (at3 q 0 i.val) (at3 k 0 n)) (fun n => at3 v 0 n j.val) := by
  unfold k0_pay8
  dsimp only
  refine (lead_apply (a := 16) (b := 128) _ _ o i j).trans ?_
  refine (att_apply (R := 16) (K := 1024) (W := 128) _ _ _ _ _ _ _ _ _ _ _ _ i j).trans ?_
  refine att_congr (n := 1024) (fun n hn => ?_) fun n hn => ?_
  · refine (at2_ix _ i ⟨n, hn⟩).trans ?_
    have hN : (Named.named (F := Ideal) κ "mask" (φ := .f32) 0xF149F2CA#32 : EReal) = ⊥ := rfl
    have h1 : k0_pay4 (ValueIdx.ix2 i ⟨n, hn⟩) = m4 (BitVec.ofNat 32 i.val) := by
      show m4 (BitVec.ofNat 32 (0 * 16 + i.val)) = _
      rw [Nat.zero_mul, Nat.zero_add]
    have h2 : select (andi k0_pay7 k0_pay6) (addi k0_pay5 (broadcast S16x1024 4#32)) k0_pay5 (ValueIdx.ix2 i ⟨n, hn⟩) = m4 (BitVec.ofNat 32 n) := by
      show m4 (BitVec.ofNat 32 (0 * 1024 + n)) = _
      rw [Nat.zero_mul, Nat.zero_add]
    show Scalar.select (IntOp.cmpi .eq (k0_pay4 (ValueIdx.ix2 i ⟨n, hn⟩)) (select (andi k0_pay7 k0_pay6) (addi k0_pay5 (broadcast S16x1024 4#32)) k0_pay5 (ValueIdx.ix2 i ⟨n, hn⟩))) (k0_pay3 q k (ValueIdx.ix2 i ⟨n, hn⟩)) (Named.named (F := Ideal) κ "mask" (φ := .f32) 0xF149F2CA#32 : EReal) = _
    rw [hN, h1, h2]
    rw [m4_16 i, m4_1024 ⟨n, hn⟩]
    unfold only
    by_cases e : i.val % 4 = n % 4
    · rw [if_pos e, e]
      have hs : k0_pay3 (F := Ideal) q k (ValueIdx.ix2 i ⟨n, hn⟩) = score (at3 q 0 i.val) (at3 k 0 n) := by
        unfold k0_pay3
        refine (score_apply (M := 16) (N := 1024) _ _ _ i ⟨n, hn⟩).trans ?_
        exact score_congr (fun d hd => drop_at q _ i.val d i.isLt hd) fun d hd => drop_at k _ n d hn hd
      rw [hs]
      refine if_pos ?_
      exact (by decide : ∀ b : Fin 4, IntOp.cmpi .eq (BitVec.ofNat 32 b.val) (BitVec.ofNat 32 b.val) = 1) ⟨n % 4, by omega⟩
    · rw [if_neg e]
      refine if_neg fun hc => e ?_
      exact (by decide : ∀ a b : Fin 4, IntOp.cmpi .eq (BitVec.ofNat 32 a.val) (BitVec.ofNat 32 b.val) = 1 → a.val = b.val)
        ⟨i.val % 4, by omega⟩ ⟨n % 4, by omega⟩ hc
  · exact drop_at v _ n j.val hn j.isLt

end Cert.SideMem

end
-- ==== Proof.SideSgu.lean ====
/-
  The side call: what the gated mixing of positions leaves in its blocks.

  A position of a chunk takes the earlier positions' values and its own, weighted, and the bias of its place; the gate
  multiplies the outcome. A prompt block does this chunk by chunk and group by group with the matrix unit, a sample block
  position by position.
-/
module

public import proofs.«01_k».proof.Proof.Cubes
public import proofs.«01_k».proof.Proof.Gen.SideIdeal.Value

@[expose] public section

noncomputable section

namespace Cert.SideSgu

open Idealize.ShloMosaic hiding ix1 ix2 ix3 ix4 ix5
open Cert.SideIdeal Cert.SideIdeal.Gen Cert.Rows Cert.Cubes
open Idealize.ShloMosaic.TcCoe Idealize.ShloMosaic.ValueIdx Idealize.SL.Sem

/-- The gated mixing at position `i`: `n` positions, gate `u`, values `v`, weights `w`, bias `b`. -/
def mix (n : ℕ) (u : EReal) (v w : ℕ → EReal) (b : EReal) (i : ℕ) : EReal :=
  u * ((∑ k ∈ Finset.range n, (if k ≤ i then w k else 0) * v k) + b)

theorem mix_congr {n i : ℕ} {u u' b b' : EReal} {v v' w w' : ℕ → EReal} (hu : u = u') (hv : ∀ k < n, v k = v' k)
    (hw : ∀ k < n, w k = w' k) (hb : b = b') : mix n u v w b i = mix n u' v' w' b' i := by
  subst hu hb
  unfold mix
  rw [Finset.sum_congr rfl fun k hk => by rw [hv k (Finset.mem_range.mp hk), hw k (Finset.mem_range.mp hk)]]

/-- The order of two small numbers as words. -/
theorem sge_iff : ∀ i k : Fin 128, IntOp.cmpi .sge (BitVec.ofNat 32 i.val) (BitVec.ofNat 32 k.val) = if k.val ≤ i.val then 1 else 0 := by
  decide +kernel

/-- A prompt chunk's group. -/
theorem pay41_apply (w : Vec Ideal S1x128x128 .f32) (b : Vec Ideal S128x1 .f32) (v u : Vec Ideal S128x128 .f32) (i j : Fin 128) :
    k0_pay41 (F := Ideal) (k0_pay40 w b v) u (ValueIdx.ix2 i j)
      = mix 128 (at2 u i.val j.val) (fun k => at2 v k j.val) (at3 w 0 i.val) (at2 b i.val 0) i.val := by
  unfold k0_pay41 k0_pay40 k0_pay39
  simp only [shapeCast_self]
  rw [mulf_apply, addf_apply, column_apply]
  unfold mix
  have hm : matmul (DotDims.plain 128 128 128) none (k0_pay38 (F := Ideal) w) (truncf .bf16 v bitsLt_bf16_f32)
      (constant S128x128 .f32 0x00000000#32) (ValueIdx.ix2 i j)
      = ∑ k ∈ Finset.range 128, (if k ≤ i.val then at3 w 0 i.val k else 0) * at2 v k j.val := by
    refine (mm_apply (M := 128) (K := 128) (N := 128) _ _ _ i j).trans ?_
    unfold lin
    refine Finset.sum_congr rfl fun k hk => ?_
    have hk := Finset.mem_range.mp hk
    refine congrArg₂ (· * ·) ?_ rfl
    refine (at2_ix _ i ⟨k, hk⟩).trans ?_
    have h1 : k0_pay37 (ValueIdx.ix2 i ⟨k, hk⟩) = IntOp.cmpi .sge (BitVec.ofNat 32 i.val) (BitVec.ofNat 32 k) := by
      show IntOp.cmpi .sge (BitVec.ofNat 32 (0 * 128 + i.val)) (BitVec.ofNat 32 (0 * 128 + k)) = _
      rw [Nat.zero_mul, Nat.zero_add, Nat.zero_add]
    show Scalar.select (k0_pay37 (ValueIdx.ix2 i ⟨k, hk⟩)) (shapeCast S128x128 w shapeCasts_S1x128x128_S128x128 (ValueIdx.ix2 i ⟨k, hk⟩)) (Ideal.ofBits .f32 0x00000000#32) = _
    rw [h1, sge_iff i ⟨k, hk⟩, Ideal.ofBits_zero_f32]
    have h2 : shapeCast S128x128 w shapeCasts_S1x128x128_S128x128 (ValueIdx.ix2 i ⟨k, hk⟩) = at3 w 0 i.val k :=
      (drop_apply (a := 128) (b := 128) w _ i ⟨k, hk⟩).trans (eq_at3 w _ rfl rfl rfl)
    rw [h2]
    by_cases h : k ≤ i.val
    · rw [if_pos h, if_pos h]; exact if_pos rfl
    · rw [if_neg h, if_neg h]; exact if_neg (by decide)
  refine congrArg₂ (· * ·) (at2_ix u i j).symm (congrArg₂ (· + ·) hm ?_)
  exact (at2_ix (a := 128) (b := 1) b i 0).symm

theorem sge4 : ∀ t s : Fin 4, IntOp.cmpi .sge (BitVec.ofNat 32 t.val) (BitVec.ofNat 32 s.val) = if s.val ≤ t.val then 1 else 0 := by
  decide

/-- A weight row masked to the positions from `s` on. -/
theorem mask_apply (w : Vec Ideal S1x4x512 .f32) (s : Fin 4) (b t : Fin 4) (j : Fin 512) :
    broadcastTo S4x4x512 (select (cmpi .sge (iota .tc S1x4x512 32 [1] iota_S1x4x512_d1_w32) (broadcast S1x4x512 (BitVec.ofNat 32 s.val)))
      (shapeCast S1x4x512 (shapeCast S4x512 w shapeCasts_S1x4x512_S4x512) shapeCasts_S4x512_S1x4x512)
      (broadcast S1x4x512 (Scalar.ofBits .f32 0x00000000#32 : Ideal .f32))) broadcasts_S1x4x512_S4x4x512 (ValueIdx.ix3 b t j)
      = if s.val ≤ t.val then at3 w 0 t.val j.val else 0 := by
  refine (broadcastTo_apply _ _ _ (ValueIdx.ix3 0 t j) fun d => ?_).trans ?_
  · match d with
    | ⟨0, _⟩ => rfl
    | ⟨1, _⟩ => rfl
    | ⟨2, _⟩ => rfl
  have h2 : shapeCast S1x4x512 (shapeCast S4x512 w shapeCasts_S1x4x512_S4x512) shapeCasts_S4x512_S1x4x512 (ValueIdx.ix3 0 t j) = at3 w 0 t.val j.val :=
    ((lead_apply (a := 4) (b := 512) _ _ 0 t j).trans (drop_apply (a := 4) (b := 512) w _ t j)).trans (eq_at3 w _ rfl rfl rfl)
  show Scalar.select (IntOp.cmpi .sge (BitVec.ofNat 32 (0 * 4 + t.val)) (BitVec.ofNat 32 s.val)) (shapeCast S1x4x512 (shapeCast S4x512 w shapeCasts_S1x4x512_S4x512) shapeCasts_S4x512_S1x4x512 (ValueIdx.ix3 0 t j)) (Ideal.ofBits .f32 0x00000000#32) = _
  rw [h2, Nat.zero_mul, Nat.zero_add, sge4 t s, Ideal.ofBits_zero_f32]
  by_cases h : s.val ≤ t.val
  · rw [if_pos h, if_pos h]; exact if_pos rfl
  · rw [if_neg h, if_neg h]; exact if_neg (by decide)

/-- A position's values under every position. -/
theorem under_apply (v : Vec Ideal S4x1x512 .f32) (b t : Fin 4) (j : Fin 512) :
    broadcastTo S4x4x512 v broadcasts_S4x1x512_S4x4x512 (ValueIdx.ix3 b t j) = at3 v b.val 0 j.val := by
  refine (broadcastTo_apply _ _ _ (ValueIdx.ix3 b 0 j) fun d => ?_).trans (eq_at3 v _ rfl rfl rfl)
  match d with
  | ⟨0, _⟩ => rfl
  | ⟨1, _⟩ => rfl
  | ⟨2, _⟩ => rfl

/-- A sample block. -/
theorem pay28_apply (w0 w1 w2 w3 : Vec Ideal S1x4x512 .f32) (v0 v1 v2 v3 : Vec Ideal S4x1x512 .f32)
    (u : Vec Ideal S4x4x512 .f32) (bb : Vec Ideal S4x512 .f32) (b t : Fin 4) (j : Fin 512) :
    k0_pay28 (F := Ideal) (k0_pay27 (iota .tc S1x4x512 32 [1] iota_S1x4x512_d1_w32) (k0_pay25 w0 v0) (k0_pay26 w1) v1 w2 v2 w3 v3)
        u bb (ValueIdx.ix3 b t j)
      = at3 u b.val t.val j.val * ((if 0 ≤ t.val then at3 w0 0 t.val j.val else 0) * at3 v0 b.val 0 j.val
        + (if 1 ≤ t.val then at3 w1 0 t.val j.val else 0) * at3 v1 b.val 0 j.val
        + (if 2 ≤ t.val then at3 w2 0 t.val j.val else 0) * at3 v2 b.val 0 j.val
        + (if 3 ≤ t.val then at3 w3 0 t.val j.val else 0) * at3 v3 b.val 0 j.val + at2 bb t.val j.val) := by
  have hb : broadcastTo S4x4x512 (shapeCast S1x4x512 bb shapeCasts_S4x512_S1x4x512) broadcasts_S1x4x512_S4x4x512 (ValueIdx.ix3 b t j)
      = at2 bb t.val j.val := by
    refine (broadcastTo_apply _ _ _ (ValueIdx.ix3 0 t j) fun d => ?_).trans ?_
    · match d with
      | ⟨0, _⟩ => rfl
      | ⟨1, _⟩ => rfl
      | ⟨2, _⟩ => rfl
    · exact (lead_apply (a := 4) (b := 512) bb _ 0 t j).trans (at2_ix bb t j).symm
  unfold k0_pay28 k0_pay27 k0_pay26 k0_pay25
  simp only [shapeCast_self bb]
  rw [mulf_apply]
  refine congrArg₂ (· * ·) (at3_ix u b t j).symm ?_
  rw [addf_apply, hb]
  refine congrArg (· + _) ?_
  rw [addf_apply, addf_apply, addf_apply, addf_apply]
  refine congrArg₂ (· + ·) (congrArg₂ (· + ·) (congrArg₂ (· + ·) ?_
    (congrArg₂ (· * ·) (mask_apply w1 1 b t j) (under_apply v1 b t j)))
    (congrArg₂ (· * ·) (mask_apply w2 2 b t j) (under_apply v2 b t j)))
    (congrArg₂ (· * ·) (mask_apply w3 3 b t j) (under_apply v3 b t j))
  show Ideal.ofBits .f32 0x00000000#32 + _ = _
  rw [Ideal.ofBits_zero_f32, zero_add]
  exact congrArg₂ (· * ·) (mask_apply w0 0 b t j) (under_apply v0 b t j)

end Cert.SideSgu

end
-- ==== Proof.SidePoint.lean ====
/-
  The side call: what one grid point leaves in its four blocks.

  The prompt blocks are assembled in a scratch, chunk by chunk and head by head, and normed along their rows; the sample
  blocks are left as they are.
-/
module

public import proofs.«01_k».proof.Proof.FfnMath
public import proofs.«01_k».proof.Proof.Heads
public import proofs.«01_k».proof.Proof.SideMem
public import proofs.«01_k».proof.Proof.SideSgu

@[expose] public section

noncomputable section

namespace Cert.SidePoint

open Idealize.ShloMosaic hiding ix1 ix2 ix3 ix4 ix5
open Cert.SideIdeal Cert.SideIdeal.Gen Cert.Rows Cert.Heads Cert.Cubes Cert.AttMath Cert.SideMem Cert.SideSgu
open Idealize.ShloMosaic.TcCoe Idealize.ShloMosaic.ValueIdx Idealize.SL.Sem
open Cert.FfnMath (hz)

theorem hz3 : (![0, 0, 0] : Fin 3 → ℕ) = fun _ => 0 := by decide

/-- The divisor of the mean of 512 columns. -/
def D5 : EReal := Ideal.ofBits .f32 0x44000000#32

theorem at_off {o : ℕ} (i : ℕ) : o + 1 * i = o + i := by omega
theorem at_zero (i : ℕ) : 0 + 1 * i = i := by omega
theorem at_one (b : ℕ) (o : Fin 1) : b + 1 * o.val = b := by omega

/-! ## The mixed positions -/

/-- A prompt block's mixed positions at a row and column. -/
def obAt (x0 x1 : Vec Ideal S1024x512 .f32) (x2 : Vec Ideal S4x128x128 .f32) (x3 : Vec Ideal S128x4 .f32) (r j : ℕ) : EReal :=
  mix 128 (at2 x0 r j) (fun k => at2 x1 (128 * (r / 128) + k) j) (at3 x2 (j / 128) (r % 128)) (at2 x3 (r % 128) (j / 128)) (r % 128)

/-- The scratch of mixed positions. -/
def obScr (x0 x1 : Vec Ideal S1024x512 .f32) (x2 : Vec Ideal S4x128x128 .f32) (x3 : Vec Ideal S128x4 .f32) : Vec Ideal S1024x512 .f32 := fun y => obAt x0 x1 x2 x3 (y 0).val (y 1).val

/-- One chunk's group is its part of the scratch. -/
theorem ob_piece (x0 x1 : Vec Ideal S1024x512 .f32) (x2 : Vec Ideal S4x128x128 .f32) (x3 : Vec Ideal S128x4 .f32) (o0 o1 ch g : ℕ)
    (h0 : o0 = 128 * ch) (h1 : o1 = 128 * g) (i2 i3 i1 i0) (i j : Fin 128) (y : S1024x512.Idx) (hi : (y 0).val = o0 + i.val)
    (hj : (y 1).val = o1 + j.val) :
    k0_pay41 (F := Ideal) (k0_pay40 (View.ld x2 (Rect.unit (s := S4x128x128) ![g, 0, 0] ![1, 128, 128] i2))
      (View.ld x3 (Rect.unit (s := S128x4) ![0, g] ![128, 1] i3))
      (View.ld x1 (Rect.unit (s := S1024x512) ![o0, o1] ![128, 128] i1)))
      (View.ld x0 (Rect.unit (s := S1024x512) ![o0, o1] ![128, 128] i0)) (ValueIdx.ix2 i j) = obScr x0 x1 x2 x3 y := by
  have hil := i.isLt
  have hjl := j.isLt
  rw [pay41_apply]
  unfold obScr obAt
  rw [hi, hj, show (o0 + i.val) % 128 = i.val by omega, show (o1 + j.val) / 128 = g by omega, show 128 * ((o0 + i.val) / 128) = o0 by omega]
  refine mix_congr ?_ (fun k hk => ?_) (fun k hk => ?_) ?_
  · exact ld2 (a := 128) (b := 128) x0 o0 o1 _ i.val j.val hil hjl
  · exact ld2 (a := 128) (b := 128) x1 o0 o1 _ k j.val hk hjl
  · refine (ld3 (a := 1) (b := 128) (c := 128) x2 g 0 0 _ 0 i.val k (by omega) hil hk).trans ?_
    simp only [Nat.add_zero, Nat.zero_add]
  · refine (ld2 (a := 128) (b := 1) x3 0 g _ i.val 0 hil (by omega)).trans ?_
    simp only [Nat.add_zero, Nat.zero_add]

/-- The pieces the point writes, last first. -/
abbrev obPieces (x0 x1 : Vec Ideal S1024x512 .f32) (x2 : Vec Ideal S4x128x128 .f32) (x3 : Vec Ideal S128x4 .f32) : List (View.Piece (Elt Ideal) S1024x512 .f32) :=
  [⟨Rect.unit (s := S1024x512) ![896, 384] ![128, 128] inb_S1024x512_S128x128_896_384, k0_pay41 (k0_pay40
      (View.ld x2 (Rect.unit (s := S4x128x128) ![3, 0, 0] ![1, 128, 128] inb_S4x128x128_S1x128x128_3_0_0))
      (View.ld x3 (Rect.unit (s := S128x4) ![0, 3] ![128, 1] inb_S128x4_S128x1_0_3))
      (View.ld x1 (Rect.unit (s := S1024x512) ![896, 384] ![128, 128] inb_S1024x512_S128x128_896_384))) (View.ld x0 (Rect.unit (s := S1024x512) ![896, 384] ![128, 128] inb_S1024x512_S128x128_896_384))⟩,
    ⟨Rect.unit (s := S1024x512) ![768, 384] ![128, 128] inb_S1024x512_S128x128_768_384, k0_pay41 (k0_pay40
      (View.ld x2 (Rect.unit (s := S4x128x128) ![3, 0, 0] ![1, 128, 128] inb_S4x128x128_S1x128x128_3_0_0))
      (View.ld x3 (Rect.unit (s := S128x4) ![0, 3] ![128, 1] inb_S128x4_S128x1_0_3))
      (View.ld x1 (Rect.unit (s := S1024x512) ![768, 384] ![128, 128] inb_S1024x512_S128x128_768_384))) (View.ld x0 (Rect.unit (s := S1024x512) ![768, 384] ![128, 128] inb_S1024x512_S128x128_768_384))⟩,
    ⟨Rect.unit (s := S1024x512) ![640, 384] ![128, 128] inb_S1024x512_S128x128_640_384, k0_pay41 (k0_pay40
      (View.ld x2 (Rect.unit (s := S4x128x128) ![3, 0, 0] ![1, 128, 128] inb_S4x128x128_S1x128x128_3_0_0))
      (View.ld x3 (Rect.unit (s := S128x4) ![0, 3] ![128, 1] inb_S128x4_S128x1_0_3))
      (View.ld x1 (Rect.unit (s := S1024x512) ![640, 384] ![128, 128] inb_S1024x512_S128x128_640_384))) (View.ld x0 (Rect.unit (s := S1024x512) ![640, 384] ![128, 128] inb_S1024x512_S128x128_640_384))⟩,
    ⟨Rect.unit (s := S1024x512) ![512, 384] ![128, 128] inb_S1024x512_S128x128_512_384, k0_pay41 (k0_pay40
      (View.ld x2 (Rect.unit (s := S4x128x128) ![3, 0, 0] ![1, 128, 128] inb_S4x128x128_S1x128x128_3_0_0))
      (View.ld x3 (Rect.unit (s := S128x4) ![0, 3] ![128, 1] inb_S128x4_S128x1_0_3))
      (View.ld x1 (Rect.unit (s := S1024x512) ![512, 384] ![128, 128] inb_S1024x512_S128x128_512_384))) (View.ld x0 (Rect.unit (s := S1024x512) ![512, 384] ![128, 128] inb_S1024x512_S128x128_512_384))⟩,
    ⟨Rect.unit (s := S1024x512) ![384, 384] ![128, 128] inb_S1024x512_S128x128_384_384, k0_pay41 (k0_pay40
      (View.ld x2 (Rect.unit (s := S4x128x128) ![3, 0, 0] ![1, 128, 128] inb_S4x128x128_S1x128x128_3_0_0))
      (View.ld x3 (Rect.unit (s := S128x4) ![0, 3] ![128, 1] inb_S128x4_S128x1_0_3))
      (View.ld x1 (Rect.unit (s := S1024x512) ![384, 384] ![128, 128] inb_S1024x512_S128x128_384_384))) (View.ld x0 (Rect.unit (s := S1024x512) ![384, 384] ![128, 128] inb_S1024x512_S128x128_384_384))⟩,
    ⟨Rect.unit (s := S1024x512) ![256, 384] ![128, 128] inb_S1024x512_S128x128_256_384, k0_pay41 (k0_pay40
      (View.ld x2 (Rect.unit (s := S4x128x128) ![3, 0, 0] ![1, 128, 128] inb_S4x128x128_S1x128x128_3_0_0))
      (View.ld x3 (Rect.unit (s := S128x4) ![0, 3] ![128, 1] inb_S128x4_S128x1_0_3))
      (View.ld x1 (Rect.unit (s := S1024x512) ![256, 384] ![128, 128] inb_S1024x512_S128x128_256_384))) (View.ld x0 (Rect.unit (s := S1024x512) ![256, 384] ![128, 128] inb_S1024x512_S128x128_256_384))⟩,
    ⟨Rect.unit (s := S1024x512) ![128, 384] ![128, 128] inb_S1024x512_S128x128_128_384, k0_pay41 (k0_pay40
      (View.ld x2 (Rect.unit (s := S4x128x128) ![3, 0, 0] ![1, 128, 128] inb_S4x128x128_S1x128x128_3_0_0))
      (View.ld x3 (Rect.unit (s := S128x4) ![0, 3] ![128, 1] inb_S128x4_S128x1_0_3))
      (View.ld x1 (Rect.unit (s := S1024x512) ![128, 384] ![128, 128] inb_S1024x512_S128x128_128_384))) (View.ld x0 (Rect.unit (s := S1024x512) ![128, 384] ![128, 128] inb_S1024x512_S128x128_128_384))⟩,
    ⟨Rect.unit (s := S1024x512) ![0, 384] ![128, 128] inb_S1024x512_S128x128_0_384, k0_pay41 (k0_pay40
      (View.ld x2 (Rect.unit (s := S4x128x128) ![3, 0, 0] ![1, 128, 128] inb_S4x128x128_S1x128x128_3_0_0))
      (View.ld x3 (Rect.unit (s := S128x4) ![0, 3] ![128, 1] inb_S128x4_S128x1_0_3))
      (View.ld x1 (Rect.unit (s := S1024x512) ![0, 384] ![128, 128] inb_S1024x512_S128x128_0_384))) (View.ld x0 (Rect.unit (s := S1024x512) ![0, 384] ![128, 128] inb_S1024x512_S128x128_0_384))⟩,
    ⟨Rect.unit (s := S1024x512) ![896, 256] ![128, 128] inb_S1024x512_S128x128_896_256, k0_pay41 (k0_pay40
      (View.ld x2 (Rect.unit (s := S4x128x128) ![2, 0, 0] ![1, 128, 128] inb_S4x128x128_S1x128x128_2_0_0))
      (View.ld x3 (Rect.unit (s := S128x4) ![0, 2] ![128, 1] inb_S128x4_S128x1_0_2))
      (View.ld x1 (Rect.unit (s := S1024x512) ![896, 256] ![128, 128] inb_S1024x512_S128x128_896_256))) (View.ld x0 (Rect.unit (s := S1024x512) ![896, 256] ![128, 128] inb_S1024x512_S128x128_896_256))⟩,
    ⟨Rect.unit (s := S1024x512) ![768, 256] ![128, 128] inb_S1024x512_S128x128_768_256, k0_pay41 (k0_pay40
      (View.ld x2 (Rect.unit (s := S4x128x128) ![2, 0, 0] ![1, 128, 128] inb_S4x128x128_S1x128x128_2_0_0))
      (View.ld x3 (Rect.unit (s := S128x4) ![0, 2] ![128, 1] inb_S128x4_S128x1_0_2))
      (View.ld x1 (Rect.unit (s := S1024x512) ![768, 256] ![128, 128] inb_S1024x512_S128x128_768_256))) (View.ld x0 (Rect.unit (s := S1024x512) ![768, 256] ![128, 128] inb_S1024x512_S128x128_768_256))⟩,
    ⟨Rect.unit (s := S1024x512) ![640, 256] ![128, 128] inb_S1024x512_S128x128_640_256, k0_pay41 (k0_pay40
      (View.ld x2 (Rect.unit (s := S4x128x128) ![2, 0, 0] ![1, 128, 128] inb_S4x128x128_S1x128x128_2_0_0))
      (View.ld x3 (Rect.unit (s := S128x4) ![0, 2] ![128, 1] inb_S128x4_S128x1_0_2))
      (View.ld x1 (Rect.unit (s := S1024x512) ![640, 256] ![128, 128] inb_S1024x512_S128x128_640_256))) (View.ld x0 (Rect.unit (s := S1024x512) ![640, 256] ![128, 128] inb_S1024x512_S128x128_640_256))⟩,
    ⟨Rect.unit (s := S1024x512) ![512, 256] ![128, 128] inb_S1024x512_S128x128_512_256, k0_pay41 (k0_pay40
      (View.ld x2 (Rect.unit (s := S4x128x128) ![2, 0, 0] ![1, 128, 128] inb_S4x128x128_S1x128x128_2_0_0))
      (View.ld x3 (Rect.unit (s := S128x4) ![0, 2] ![128, 1] inb_S128x4_S128x1_0_2))
      (View.ld x1 (Rect.unit (s := S1024x512) ![512, 256] ![128, 128] inb_S1024x512_S128x128_512_256))) (View.ld x0 (Rect.unit (s := S1024x512) ![512, 256] ![128, 128] inb_S1024x512_S128x128_512_256))⟩,
    ⟨Rect.unit (s := S1024x512) ![384, 256] ![128, 128] inb_S1024x512_S128x128_384_256, k0_pay41 (k0_pay40
      (View.ld x2 (Rect.unit (s := S4x128x128) ![2, 0, 0] ![1, 128, 128] inb_S4x128x128_S1x128x128_2_0_0))
      (View.ld x3 (Rect.unit (s := S128x4) ![0, 2] ![128, 1] inb_S128x4_S128x1_0_2))
      (View.ld x1 (Rect.unit (s := S1024x512) ![384, 256] ![128, 128] inb_S1024x512_S128x128_384_256))) (View.ld x0 (Rect.unit (s := S1024x512) ![384, 256] ![128, 128] inb_S1024x512_S128x128_384_256))⟩,
    ⟨Rect.unit (s := S1024x512) ![256, 256] ![128, 128] inb_S1024x512_S128x128_256_256, k0_pay41 (k0_pay40
      (View.ld x2 (Rect.unit (s := S4x128x128) ![2, 0, 0] ![1, 128, 128] inb_S4x128x128_S1x128x128_2_0_0))
      (View.ld x3 (Rect.unit (s := S128x4) ![0, 2] ![128, 1] inb_S128x4_S128x1_0_2))
      (View.ld x1 (Rect.unit (s := S1024x512) ![256, 256] ![128, 128] inb_S1024x512_S128x128_256_256))) (View.ld x0 (Rect.unit (s := S1024x512) ![256, 256] ![128, 128] inb_S1024x512_S128x128_256_256))⟩,
    ⟨Rect.unit (s := S1024x512) ![128, 256] ![128, 128] inb_S1024x512_S128x128_128_256, k0_pay41 (k0_pay40
      (View.ld x2 (Rect.unit (s := S4x128x128) ![2, 0, 0] ![1, 128, 128] inb_S4x128x128_S1x128x128_2_0_0))
      (View.ld x3 (Rect.unit (s := S128x4) ![0, 2] ![128, 1] inb_S128x4_S128x1_0_2))
      (View.ld x1 (Rect.unit (s := S1024x512) ![128, 256] ![128, 128] inb_S1024x512_S128x128_128_256))) (View.ld x0 (Rect.unit (s := S1024x512) ![128, 256] ![128, 128] inb_S1024x512_S128x128_128_256))⟩,
    ⟨Rect.unit (s := S1024x512) ![0, 256] ![128, 128] inb_S1024x512_S128x128_0_256, k0_pay41 (k0_pay40
      (View.ld x2 (Rect.unit (s := S4x128x128) ![2, 0, 0] ![1, 128, 128] inb_S4x128x128_S1x128x128_2_0_0))
      (View.ld x3 (Rect.unit (s := S128x4) ![0, 2] ![128, 1] inb_S128x4_S128x1_0_2))
      (View.ld x1 (Rect.unit (s := S1024x512) ![0, 256] ![128, 128] inb_S1024x512_S128x128_0_256))) (View.ld x0 (Rect.unit (s := S1024x512) ![0, 256] ![128, 128] inb_S1024x512_S128x128_0_256))⟩,
    ⟨Rect.unit (s := S1024x512) ![896, 128] ![128, 128] inb_S1024x512_S128x128_896_128, k0_pay41 (k0_pay40
      (View.ld x2 (Rect.unit (s := S4x128x128) ![1, 0, 0] ![1, 128, 128] inb_S4x128x128_S1x128x128_1_0_0))
      (View.ld x3 (Rect.unit (s := S128x4) ![0, 1] ![128, 1] inb_S128x4_S128x1_0_1))
      (View.ld x1 (Rect.unit (s := S1024x512) ![896, 128] ![128, 128] inb_S1024x512_S128x128_896_128))) (View.ld x0 (Rect.unit (s := S1024x512) ![896, 128] ![128, 128] inb_S1024x512_S128x128_896_128))⟩,
    ⟨Rect.unit (s := S1024x512) ![768, 128] ![128, 128] inb_S1024x512_S128x128_768_128, k0_pay41 (k0_pay40
      (View.ld x2 (Rect.unit (s := S4x128x128) ![1, 0, 0] ![1, 128, 128] inb_S4x128x128_S1x128x128_1_0_0))
      (View.ld x3 (Rect.unit (s := S128x4) ![0, 1] ![128, 1] inb_S128x4_S128x1_0_1))
      (View.ld x1 (Rect.unit (s := S1024x512) ![768, 128] ![128, 128] inb_S1024x512_S128x128_768_128))) (View.ld x0 (Rect.unit (s := S1024x512) ![768, 128] ![128, 128] inb_S1024x512_S128x128_768_128))⟩,
    ⟨Rect.unit (s := S1024x512) ![640, 128] ![128, 128] inb_S1024x512_S128x128_640_128, k0_pay41 (k0_pay40
      (View.ld x2 (Rect.unit (s := S4x128x128) ![1, 0, 0] ![1, 128, 128] inb_S4x128x128_S1x128x128_1_0_0))
      (View.ld x3 (Rect.unit (s := S128x4) ![0, 1] ![128, 1] inb_S128x4_S128x1_0_1))
      (View.ld x1 (Rect.unit (s := S1024x512) ![640, 128] ![128, 128] inb_S1024x512_S128x128_640_128))) (View.ld x0 (Rect.unit (s := S1024x512) ![640, 128] ![128, 128] inb_S1024x512_S128x128_640_128))⟩,
    ⟨Rect.unit (s := S1024x512) ![512, 128] ![128, 128] inb_S1024x512_S128x128_512_128, k0_pay41 (k0_pay40
      (View.ld x2 (Rect.unit (s := S4x128x128) ![1, 0, 0] ![1, 128, 128] inb_S4x128x128_S1x128x128_1_0_0))
      (View.ld x3 (Rect.unit (s := S128x4) ![0, 1] ![128, 1] inb_S128x4_S128x1_0_1))
      (View.ld x1 (Rect.unit (s := S1024x512) ![512, 128] ![128, 128] inb_S1024x512_S128x128_512_128))) (View.ld x0 (Rect.unit (s := S1024x512) ![512, 128] ![128, 128] inb_S1024x512_S128x128_512_128))⟩,
    ⟨Rect.unit (s := S1024x512) ![384, 128] ![128, 128] inb_S1024x512_S128x128_384_128, k0_pay41 (k0_pay40
      (View.ld x2 (Rect.unit (s := S4x128x128) ![1, 0, 0] ![1, 128, 128] inb_S4x128x128_S1x128x128_1_0_0))
      (View.ld x3 (Rect.unit (s := S128x4) ![0, 1] ![128, 1] inb_S128x4_S128x1_0_1))
      (View.ld x1 (Rect.unit (s := S1024x512) ![384, 128] ![128, 128] inb_S1024x512_S128x128_384_128))) (View.ld x0 (Rect.unit (s := S1024x512) ![384, 128] ![128, 128] inb_S1024x512_S128x128_384_128))⟩,
    ⟨Rect.unit (s := S1024x512) ![256, 128] ![128, 128] inb_S1024x512_S128x128_256_128, k0_pay41 (k0_pay40
      (View.ld x2 (Rect.unit (s := S4x128x128) ![1, 0, 0] ![1, 128, 128] inb_S4x128x128_S1x128x128_1_0_0))
      (View.ld x3 (Rect.unit (s := S128x4) ![0, 1] ![128, 1] inb_S128x4_S128x1_0_1))
      (View.ld x1 (Rect.unit (s := S1024x512) ![256, 128] ![128, 128] inb_S1024x512_S128x128_256_128))) (View.ld x0 (Rect.unit (s := S1024x512) ![256, 128] ![128, 128] inb_S1024x512_S128x128_256_128))⟩,
    ⟨Rect.unit (s := S1024x512) ![128, 128] ![128, 128] inb_S1024x512_S128x128_128_128, k0_pay41 (k0_pay40
      (View.ld x2 (Rect.unit (s := S4x128x128) ![1, 0, 0] ![1, 128, 128] inb_S4x128x128_S1x128x128_1_0_0))
      (View.ld x3 (Rect.unit (s := S128x4) ![0, 1] ![128, 1] inb_S128x4_S128x1_0_1))
      (View.ld x1 (Rect.unit (s := S1024x512) ![128, 128] ![128, 128] inb_S1024x512_S128x128_128_128))) (View.ld x0 (Rect.unit (s := S1024x512) ![128, 128] ![128, 128] inb_S1024x512_S128x128_128_128))⟩,
    ⟨Rect.unit (s := S1024x512) ![0, 128] ![128, 128] inb_S1024x512_S128x128_0_128, k0_pay41 (k0_pay40
      (View.ld x2 (Rect.unit (s := S4x128x128) ![1, 0, 0] ![1, 128, 128] inb_S4x128x128_S1x128x128_1_0_0))
      (View.ld x3 (Rect.unit (s := S128x4) ![0, 1] ![128, 1] inb_S128x4_S128x1_0_1))
      (View.ld x1 (Rect.unit (s := S1024x512) ![0, 128] ![128, 128] inb_S1024x512_S128x128_0_128))) (View.ld x0 (Rect.unit (s := S1024x512) ![0, 128] ![128, 128] inb_S1024x512_S128x128_0_128))⟩,
    ⟨Rect.unit (s := S1024x512) ![896, 0] ![128, 128] inb_S1024x512_S128x128_896_0, k0_pay41 (k0_pay40
      (View.ld x2 (Rect.unit (s := S4x128x128) ![0, 0, 0] ![1, 128, 128] inb_S4x128x128_S1x128x128_0_0_0))
      (View.ld x3 (Rect.unit (s := S128x4) ![0, 0] ![128, 1] inb_S128x4_S128x1_0_0))
      (View.ld x1 (Rect.unit (s := S1024x512) ![896, 0] ![128, 128] inb_S1024x512_S128x128_896_0))) (View.ld x0 (Rect.unit (s := S1024x512) ![896, 0] ![128, 128] inb_S1024x512_S128x128_896_0))⟩,
    ⟨Rect.unit (s := S1024x512) ![768, 0] ![128, 128] inb_S1024x512_S128x128_768_0, k0_pay41 (k0_pay40
      (View.ld x2 (Rect.unit (s := S4x128x128) ![0, 0, 0] ![1, 128, 128] inb_S4x128x128_S1x128x128_0_0_0))
      (View.ld x3 (Rect.unit (s := S128x4) ![0, 0] ![128, 1] inb_S128x4_S128x1_0_0))
      (View.ld x1 (Rect.unit (s := S1024x512) ![768, 0] ![128, 128] inb_S1024x512_S128x128_768_0))) (View.ld x0 (Rect.unit (s := S1024x512) ![768, 0] ![128, 128] inb_S1024x512_S128x128_768_0))⟩,
    ⟨Rect.unit (s := S1024x512) ![640, 0] ![128, 128] inb_S1024x512_S128x128_640_0, k0_pay41 (k0_pay40
      (View.ld x2 (Rect.unit (s := S4x128x128) ![0, 0, 0] ![1, 128, 128] inb_S4x128x128_S1x128x128_0_0_0))
      (View.ld x3 (Rect.unit (s := S128x4) ![0, 0] ![128, 1] inb_S128x4_S128x1_0_0))
      (View.ld x1 (Rect.unit (s := S1024x512) ![640, 0] ![128, 128] inb_S1024x512_S128x128_640_0))) (View.ld x0 (Rect.unit (s := S1024x512) ![640, 0] ![128, 128] inb_S1024x512_S128x128_640_0))⟩,
    ⟨Rect.unit (s := S1024x512) ![512, 0] ![128, 128] inb_S1024x512_S128x128_512_0, k0_pay41 (k0_pay40
      (View.ld x2 (Rect.unit (s := S4x128x128) ![0, 0, 0] ![1, 128, 128] inb_S4x128x128_S1x128x128_0_0_0))
      (View.ld x3 (Rect.unit (s := S128x4) ![0, 0] ![128, 1] inb_S128x4_S128x1_0_0))
      (View.ld x1 (Rect.unit (s := S1024x512) ![512, 0] ![128, 128] inb_S1024x512_S128x128_512_0))) (View.ld x0 (Rect.unit (s := S1024x512) ![512, 0] ![128, 128] inb_S1024x512_S128x128_512_0))⟩,
    ⟨Rect.unit (s := S1024x512) ![384, 0] ![128, 128] inb_S1024x512_S128x128_384_0, k0_pay41 (k0_pay40
      (View.ld x2 (Rect.unit (s := S4x128x128) ![0, 0, 0] ![1, 128, 128] inb_S4x128x128_S1x128x128_0_0_0))
      (View.ld x3 (Rect.unit (s := S128x4) ![0, 0] ![128, 1] inb_S128x4_S128x1_0_0))
      (View.ld x1 (Rect.unit (s := S1024x512) ![384, 0] ![128, 128] inb_S1024x512_S128x128_384_0))) (View.ld x0 (Rect.unit (s := S1024x512) ![384, 0] ![128, 128] inb_S1024x512_S128x128_384_0))⟩,
    ⟨Rect.unit (s := S1024x512) ![256, 0] ![128, 128] inb_S1024x512_S128x128_256_0, k0_pay41 (k0_pay40
      (View.ld x2 (Rect.unit (s := S4x128x128) ![0, 0, 0] ![1, 128, 128] inb_S4x128x128_S1x128x128_0_0_0))
      (View.ld x3 (Rect.unit (s := S128x4) ![0, 0] ![128, 1] inb_S128x4_S128x1_0_0))
      (View.ld x1 (Rect.unit (s := S1024x512) ![256, 0] ![128, 128] inb_S1024x512_S128x128_256_0))) (View.ld x0 (Rect.unit (s := S1024x512) ![256, 0] ![128, 128] inb_S1024x512_S128x128_256_0))⟩,
    ⟨Rect.unit (s := S1024x512) ![128, 0] ![128, 128] inb_S1024x512_S128x128_128_0, k0_pay41 (k0_pay40
      (View.ld x2 (Rect.unit (s := S4x128x128) ![0, 0, 0] ![1, 128, 128] inb_S4x128x128_S1x128x128_0_0_0))
      (View.ld x3 (Rect.unit (s := S128x4) ![0, 0] ![128, 1] inb_S128x4_S128x1_0_0))
      (View.ld x1 (Rect.unit (s := S1024x512) ![128, 0] ![128, 128] inb_S1024x512_S128x128_128_0))) (View.ld x0 (Rect.unit (s := S1024x512) ![128, 0] ![128, 128] inb_S1024x512_S128x128_128_0))⟩,
    ⟨Rect.unit (s := S1024x512) ![0, 0] ![128, 128] inb_S1024x512_S128x128_0_0, k0_pay41 (k0_pay40
      (View.ld x2 (Rect.unit (s := S4x128x128) ![0, 0, 0] ![1, 128, 128] inb_S4x128x128_S1x128x128_0_0_0))
      (View.ld x3 (Rect.unit (s := S128x4) ![0, 0] ![128, 1] inb_S128x4_S128x1_0_0))
      (View.ld x1 (Rect.unit (s := S1024x512) ![0, 0] ![128, 128] inb_S1024x512_S128x128_0_0))) (View.ld x0 (Rect.unit (s := S1024x512) ![0, 0] ![128, 128] inb_S1024x512_S128x128_0_0))⟩]

theorem cover_ob (x0 x1 : Vec Ideal S1024x512 .f32) (x2 : Vec Ideal S4x128x128 .f32) (x3 : Vec Ideal S128x4 .f32) : ∀ y : S1024x512.Idx, ∃ p ∈ obPieces x0 x1 x2 x3, y ∈ p.1.set :=
  View.cover_of_tiledL (obPieces x0 x1 x2 x3) ![128, 128] (by sl_kernel_rfl)

theorem canon_ob (x0 x1 : Vec Ideal S1024x512 .f32) (x2 : Vec Ideal S4x128x128 .f32) (x3 : Vec Ideal S128x4 .f32) : View.canon (obPieces x0 x1 x2 x3) = obScr x0 x1 x2 x3 := by
  funext y
  refine View.canon_apply_of_pieces (obScr x0 x1 x2 x3) _ ?_ y (cover_ob x0 x1 x2 x3 y)
  intro p hp x
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 896 384 7 3 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 768 384 6 3 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 640 384 5 3 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 512 384 4 3 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 384 384 3 3 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 256 384 2 3 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 128 384 1 3 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 0 384 0 3 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 896 256 7 2 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 768 256 6 2 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 640 256 5 2 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 512 256 4 2 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 384 256 3 2 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 256 256 2 2 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 128 256 1 2 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 0 256 0 2 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 896 128 7 1 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 768 128 6 1 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 640 128 5 1 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 512 128 4 1 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 384 128 3 1 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 256 128 2 1 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 128 128 1 1 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 0 128 0 1 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 896 0 7 0 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 768 0 6 0 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 640 0 5 0 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 512 0 4 0 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 384 0 3 0 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 256 0 2 0 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 128 0 1 0 rfl rfl _ _ _ _ i k _ (at_off i.val) (at_off k.val)
  rcases List.mem_cons.mp hp with rfl | hp
  · obtain ⟨i, k, rfl⟩ : ∃ (i : Fin 128) (k : Fin 128), x = ValueIdx.ix2 i k := ⟨_, _, ValueIdx.eq_ix2 x⟩
    exact ob_piece x0 x1 x2 x3 0 0 0 0 rfl rfl _ _ _ _ i k _ (at_off i.val) (at_off k.val)
  exact absurd hp (List.not_mem_nil)

/-- The scratch read whole. -/
theorem read_ob (x0 x1 : Vec Ideal S1024x512 .f32) (x2 : Vec Ideal S4x128x128 .f32) (x3 : Vec Ideal S128x4 .f32) (v : View sig .tc .vmem S1024x512 .f32) :
    v.readCov (obPieces x0 x1 x2 x3) (Rect.unit (s := S1024x512) ![0, 0] ![1024, 512] inb_S1024x512_S1024x512_0_0) = obScr x0 x1 x2 x3 := by
  rw [View.readCov_eq_canon_ld _ _ _ (cover_ob x0 x1 x2 x3), View.ld_unit_zero (S := S1024x512) hz, canon_ob]

/-! ## The prompt's memory attention -/

/-- A row of memory attention, head by head. -/
def omRow (q : ℕ → EReal) (k v : ℕ → ℕ → EReal) (j : ℕ) : EReal :=
  att 256 (fun n => score (fun d => q (128 * (j / 128) + d)) (fun d => k n (128 * (j / 128) + d))) (fun n => v n j)

/-- The scratch of attended rows. -/
def omScr (x5 : Vec Ideal S1x1024x512 .f32) (x6 x7 : Vec Ideal S1x256x512 .f32) : Vec Ideal S1024x512 .f32 := fun y => omRow (at3 x5 0 (y 0).val) (at3 x6 0) (at3 x7 0) (y 1).val

theorem om_piece (x5 : Vec Ideal S1x1024x512 .f32) (x6 x7 : Vec Ideal S1x256x512 .f32) (o g : ℕ) (h : o = 128 * g) (i5 i6 i7) (i : Fin 1024) (j : Fin 128) (y : S1024x512.Idx)
    (hi : (y 0).val = i.val) (hj : (y 1).val = o + j.val) :
    k0_pay29 (F := Ideal) (View.ld x5 (Rect.unit (s := S1x1024x512) ![0, 0, o] ![1, 1024, 128] i5))
      (View.ld x6 (Rect.unit (s := S1x256x512) ![0, 0, o] ![1, 256, 128] i6))
      (View.ld x7 (Rect.unit (s := S1x256x512) ![0, 0, o] ![1, 256, 128] i7)) (ValueIdx.ix2 i j) = omScr x5 x6 x7 y := by
  have hjl := j.isLt
  rw [pay29_apply]
  unfold omScr omRow
  rw [hi, hj, show 128 * ((o + j.val) / 128) = o by omega]
  refine att_congr (fun n hn => score_congr (fun d hd => ?_) fun d hd => ?_) fun n hn => ?_
  · refine (ld3 (a := 1) (b := 1024) (c := 128) x5 0 0 o _ 0 i.val d (by omega) i.isLt hd).trans ?_
    simp only [Nat.zero_add]
  · refine (ld3 (a := 1) (b := 256) (c := 128) x6 0 0 o _ 0 n d (by omega) hn hd).trans ?_
    simp only [Nat.zero_add]
  · refine (ld3 (a := 1) (b := 256) (c := 128) x7 0 0 o _ 0 n j.val (by omega) hn hjl).trans ?_
    simp only [Nat.zero_add]

abbrev omPieces (x5 : Vec Ideal S1x1024x512 .f32) (x6 x7 : Vec Ideal S1x256x512 .f32) : List (View.Piece (Elt Ideal) S1024x512 .f32) :=
  [⟨Rect.unit (s := S1024x512) ![0, 384] ![1024, 128] inb_S1024x512_S1024x128_0_384, k0_pay29 (View.ld x5 (Rect.unit (s := S1x1024x512) ![0, 0, 384] ![1, 1024, 128] inb_S1x1024x512_S1x1024x128_0_0_384))
      (View.ld x6 (Rect.unit (s := S1x256x512) ![0, 0, 384] ![1, 256, 128] inb_S1x256x512_S1x256x128_0_0_384))
      (View.ld x7 (Rect.unit (s := S1x256x512) ![0, 0, 384] ![1, 256, 128] inb_S1x256x512_S1x256x128_0_0_384))⟩,
    ⟨Rect.unit (s := S1024x512) ![0, 256] ![1024, 128] inb_S1024x512_S1024x128_0_256, k0_pay29 (View.ld x5 (Rect.unit (s := S1x1024x512) ![0, 0, 256] ![1, 1024, 128] inb_S1x1024x512_S1x1024x128_0_0_256))
      (View.ld x6 (Rect.unit (s := S1x256x512) ![0, 0, 256] ![1, 256, 128] inb_S1x256x512_S1x256x128_0_0_256))
      (View.ld x7 (Rect.unit (s := S1x256x512) ![0, 0, 256] ![1, 256, 128] inb_S1x256x512_S1x256x128_0_0_256))⟩,
    ⟨Rect.unit (s := S1024x512) ![0, 128] ![1024, 128] inb_S1024x512_S1024x128_0_128, k0_pay29 (View.ld x5 (Rect.unit (s := S1x1024x512) ![0, 0, 128] ![1, 1024, 128] inb_S1x1024x512_S1x1024x128_0_0_128))
      (View.ld x6 (Rect.unit (s := S1x256x512) ![0, 0, 128] ![1, 256, 128] inb_S1x256x512_S1x256x128_0_0_128))
      (View.ld x7 (Rect.unit (s := S1x256x512) ![0, 0, 128] ![1, 256, 128] inb_S1x256x512_S1x256x128_0_0_128))⟩,
    ⟨Rect.unit (s := S1024x512) ![0, 0] ![1024, 128] inb_S1024x512_S1024x128_0_0, k0_pay29 (View.ld x5 (Rect.unit (s := S1x1024x512) ![0, 0, 0] ![1, 1024, 128] inb_S1x1024x512_S1x1024x128_0_0_0))
      (View.ld x6 (Rect.unit (s := S1x256x512) ![0, 0, 0] ![1, 256, 128] inb_S1x256x512_S1x256x128_0_0_0))
      (View.ld x7 (Rect.unit (s := S1x256x512) ![0, 0, 0] ![1, 256, 128] inb_S1x256x512_S1x256x128_0_0_0))⟩]

theorem cover_om (x5 : Vec Ideal S1x1024x512 .f32) (x6 x7 : Vec Ideal S1x256x512 .f32) : ∀ y : S1024x512.Idx, ∃ p ∈ omPieces x5 x6 x7, y ∈ p.1.set :=
  View.cover_of_tiledL (omPieces x5 x6 x7) ![1024, 128] (by sl_kernel_rfl)

theorem canon_om (x5 : Vec Ideal S1x1024x512 .f32) (x6 x7 : Vec Ideal S1x256x512 .f32) : View.canon (omPieces x5 x6 x7) = omScr x5 x6 x7 := by
  funext y
  refine View.canon_apply_of_pieces (omScr x5 x6 x7) _ ?_ y (cover_om x5 x6 x7 y)
  intro p hp x
  rcases List.mem_cons.mp hp with rfl | hp
  · obtain ⟨i, k, rfl⟩ : ∃ (i : Fin 1024) (k : Fin 128), x = ValueIdx.ix2 i k := ⟨_, _, ValueIdx.eq_ix2 x⟩
    exact om_piece x5 x6 x7 384 3 rfl _ _ _ i k _ (at_zero i.val) (at_off k.val)
  rcases List.mem_cons.mp hp with rfl | hp
  · obtain ⟨i, k, rfl⟩ : ∃ (i : Fin 1024) (k : Fin 128), x = ValueIdx.ix2 i k := ⟨_, _, ValueIdx.eq_ix2 x⟩
    exact om_piece x5 x6 x7 256 2 rfl _ _ _ i k _ (at_zero i.val) (at_off k.val)
  rcases List.mem_cons.mp hp with rfl | hp
  · obtain ⟨i, k, rfl⟩ : ∃ (i : Fin 1024) (k : Fin 128), x = ValueIdx.ix2 i k := ⟨_, _, ValueIdx.eq_ix2 x⟩
    exact om_piece x5 x6 x7 128 1 rfl _ _ _ i k _ (at_zero i.val) (at_off k.val)
  rcases List.mem_cons.mp hp with rfl | hp
  · obtain ⟨i, k, rfl⟩ : ∃ (i : Fin 1024) (k : Fin 128), x = ValueIdx.ix2 i k := ⟨_, _, ValueIdx.eq_ix2 x⟩
    exact om_piece x5 x6 x7 0 0 rfl _ _ _ i k _ (at_zero i.val) (at_off k.val)
  exact absurd hp (List.not_mem_nil)

theorem read_om (x5 : Vec Ideal S1x1024x512 .f32) (x6 x7 : Vec Ideal S1x256x512 .f32) (v : View sig .tc .vmem S1024x512 .f32) :
    v.readCov (omPieces x5 x6 x7) (Rect.unit (s := S1024x512) ![0, 0] ![1024, 512] inb_S1024x512_S1024x512_0_0) = omScr x5 x6 x7 := by
  rw [View.readCov_eq_canon_ld _ _ _ (cover_om x5 x6 x7), View.ld_unit_zero (S := S1024x512) hz, canon_om]

/-! ## The samples' memory attention -/

/-- A sample's attended row: row `i` is position `i / 4`, head `i % 4`, and memory row `n`'s head `h` lies at `4 n + h`. -/
def osAt (x13 : Vec Ideal S4x16x128 .f32) (x14 x15 : Vec Ideal S4x1024x128 .f32) (b i j : ℕ) : EReal :=
  att 256 (every (i % 4) fun n => score (at3 x13 b i) (at3 x14 b n)) (every (i % 4) fun n => at3 x15 b n j)

def osBlk (x13 : Vec Ideal S4x16x128 .f32) (x14 x15 : Vec Ideal S4x1024x128 .f32) : Vec Ideal S4x16x128 .f32 := fun y => osAt x13 x14 x15 (y 0).val (y 1).val (y 2).val

theorem os_piece (x13 : Vec Ideal S4x16x128 .f32) (x14 x15 : Vec Ideal S4x1024x128 .f32) (b : ℕ) (i13 i14 i15) (o : Fin 1) (i : Fin 16) (j : Fin 128) (y : S4x16x128.Idx)
    (hb : (y 0).val = b) (hi : (y 1).val = i.val) (hj : (y 2).val = j.val) :
    k0_pay8 (F := Ideal) (k0_pay3 (View.ld x13 (Rect.unit (s := S4x16x128) ![b, 0, 0] ![1, 16, 128] i13))
      (View.ld x14 (Rect.unit (s := S4x1024x128) ![b, 0, 0] ![1, 1024, 128] i14))) k0_pay4 4#32 k0_pay5 k0_pay6 k0_pay7
      (View.ld x15 (Rect.unit (s := S4x1024x128) ![b, 0, 0] ![1, 1024, 128] i15)) (ValueIdx.ix3 o i j) = osBlk x13 x14 x15 y := by
  rw [pay8_apply, att_only _ _ (by omega)]
  unfold osBlk osAt
  rw [hb, hi, hj]
  refine att_congr (fun n hn => score_congr (fun d hd => ?_) fun d hd => ?_) fun n hn => ?_
  · refine (ld3 (a := 1) (b := 16) (c := 128) x13 b 0 0 _ 0 i.val d (by omega) i.isLt hd).trans ?_
    simp only [Nat.add_zero, Nat.zero_add]
  · refine (ld3 (a := 1) (b := 1024) (c := 128) x14 b 0 0 _ 0 (4 * n + i.val % 4) d (by omega) (by omega) hd).trans ?_
    simp only [Nat.add_zero, Nat.zero_add]
  · refine (ld3 (a := 1) (b := 1024) (c := 128) x15 b 0 0 _ 0 (4 * n + i.val % 4) j.val (by omega) (by omega) j.isLt).trans ?_
    simp only [Nat.add_zero, Nat.zero_add]
    rfl

abbrev osPieces (x13 : Vec Ideal S4x16x128 .f32) (x14 x15 : Vec Ideal S4x1024x128 .f32) : List (View.Piece (Elt Ideal) S4x16x128 .f32) :=
  [⟨Rect.unit (s := S4x16x128) ![3, 0, 0] ![1, 16, 128] inb_S4x16x128_S1x16x128_3_0_0, k0_pay8 (k0_pay3 (View.ld x13 (Rect.unit (s := S4x16x128) ![3, 0, 0] ![1, 16, 128] inb_S4x16x128_S1x16x128_3_0_0))
      (View.ld x14 (Rect.unit (s := S4x1024x128) ![3, 0, 0] ![1, 1024, 128] inb_S4x1024x128_S1x1024x128_3_0_0))) k0_pay4 4#32 k0_pay5 k0_pay6 k0_pay7
      (View.ld x15 (Rect.unit (s := S4x1024x128) ![3, 0, 0] ![1, 1024, 128] inb_S4x1024x128_S1x1024x128_3_0_0))⟩,
    ⟨Rect.unit (s := S4x16x128) ![2, 0, 0] ![1, 16, 128] inb_S4x16x128_S1x16x128_2_0_0, k0_pay8 (k0_pay3 (View.ld x13 (Rect.unit (s := S4x16x128) ![2, 0, 0] ![1, 16, 128] inb_S4x16x128_S1x16x128_2_0_0))
      (View.ld x14 (Rect.unit (s := S4x1024x128) ![2, 0, 0] ![1, 1024, 128] inb_S4x1024x128_S1x1024x128_2_0_0))) k0_pay4 4#32 k0_pay5 k0_pay6 k0_pay7
      (View.ld x15 (Rect.unit (s := S4x1024x128) ![2, 0, 0] ![1, 1024, 128] inb_S4x1024x128_S1x1024x128_2_0_0))⟩,
    ⟨Rect.unit (s := S4x16x128) ![1, 0, 0] ![1, 16, 128] inb_S4x16x128_S1x16x128_1_0_0, k0_pay8 (k0_pay3 (View.ld x13 (Rect.unit (s := S4x16x128) ![1, 0, 0] ![1, 16, 128] inb_S4x16x128_S1x16x128_1_0_0))
      (View.ld x14 (Rect.unit (s := S4x1024x128) ![1, 0, 0] ![1, 1024, 128] inb_S4x1024x128_S1x1024x128_1_0_0))) k0_pay4 4#32 k0_pay5 k0_pay6 k0_pay7
      (View.ld x15 (Rect.unit (s := S4x1024x128) ![1, 0, 0] ![1, 1024, 128] inb_S4x1024x128_S1x1024x128_1_0_0))⟩,
    ⟨Rect.unit (s := S4x16x128) ![0, 0, 0] ![1, 16, 128] inb_S4x16x128_S1x16x128_0_0_0, k0_pay8 (k0_pay3 (View.ld x13 (Rect.unit (s := S4x16x128) ![0, 0, 0] ![1, 16, 128] inb_S4x16x128_S1x16x128_0_0_0))
      (View.ld x14 (Rect.unit (s := S4x1024x128) ![0, 0, 0] ![1, 1024, 128] inb_S4x1024x128_S1x1024x128_0_0_0))) k0_pay4 4#32 k0_pay5 k0_pay6 k0_pay7
      (View.ld x15 (Rect.unit (s := S4x1024x128) ![0, 0, 0] ![1, 1024, 128] inb_S4x1024x128_S1x1024x128_0_0_0))⟩]

theorem cover_os (x13 : Vec Ideal S4x16x128 .f32) (x14 x15 : Vec Ideal S4x1024x128 .f32) : ∀ y : S4x16x128.Idx, ∃ p ∈ osPieces x13 x14 x15, y ∈ p.1.set :=
  View.cover_of_tiledL (osPieces x13 x14 x15) ![1, 16, 128] (by sl_kernel_rfl)

theorem canon_os (x13 : Vec Ideal S4x16x128 .f32) (x14 x15 : Vec Ideal S4x1024x128 .f32) : View.canon (osPieces x13 x14 x15) = osBlk x13 x14 x15 := by
  funext y
  refine View.canon_apply_of_pieces (osBlk x13 x14 x15) _ ?_ y (cover_os x13 x14 x15 y)
  intro p hp x
  rcases List.mem_cons.mp hp with rfl | hp
  · obtain ⟨o, i, k, rfl⟩ : ∃ (o : Fin 1) (i : Fin 16) (k : Fin 128), x = ValueIdx.ix3 o i k := ⟨_, _, _, ValueIdx.eq_ix3 x⟩
    exact os_piece x13 x14 x15 3 _ _ _ o i k _ (at_one 3 o) (at_zero i.val) (at_zero k.val)
  rcases List.mem_cons.mp hp with rfl | hp
  · obtain ⟨o, i, k, rfl⟩ : ∃ (o : Fin 1) (i : Fin 16) (k : Fin 128), x = ValueIdx.ix3 o i k := ⟨_, _, _, ValueIdx.eq_ix3 x⟩
    exact os_piece x13 x14 x15 2 _ _ _ o i k _ (at_one 2 o) (at_zero i.val) (at_zero k.val)
  rcases List.mem_cons.mp hp with rfl | hp
  · obtain ⟨o, i, k, rfl⟩ : ∃ (o : Fin 1) (i : Fin 16) (k : Fin 128), x = ValueIdx.ix3 o i k := ⟨_, _, _, ValueIdx.eq_ix3 x⟩
    exact os_piece x13 x14 x15 1 _ _ _ o i k _ (at_one 1 o) (at_zero i.val) (at_zero k.val)
  rcases List.mem_cons.mp hp with rfl | hp
  · obtain ⟨o, i, k, rfl⟩ : ∃ (o : Fin 1) (i : Fin 16) (k : Fin 128), x = ValueIdx.ix3 o i k := ⟨_, _, _, ValueIdx.eq_ix3 x⟩
    exact os_piece x13 x14 x15 0 _ _ _ o i k _ (at_one 0 o) (at_zero i.val) (at_zero k.val)
  exact absurd hp (List.not_mem_nil)

/-! ## The four blocks -/

/-- The norm of a scratch's rows, -/
theorem pay2_apply (s : Vec Ideal S1024x512 .f32) (g : Vec Ideal S1x512 .f32) (i : Fin 1024) (j : Fin 512) :
    k0_pay2 (F := Ideal) s g (ValueIdx.ix2 i j) = rms 512 D5 E (at2 s i.val) (at2 g 0) j.val := by
  unfold k0_pay2
  simp only [shapeCast_self]
  exact rmsVec_apply s g _ _ _ _ _ _ _ _ _ i j

/-- also with an axis before. -/
theorem pay36_apply (s : Vec Ideal S1024x512 .f32) (g : Vec Ideal S1x512 .f32) (o : Fin 1) (i : Fin 1024) (j : Fin 512) :
    k0_pay36 (F := Ideal) s g (ValueIdx.ix3 o i j) = rms 512 D5 E (at2 s i.val) (at2 g 0) j.val := by
  unfold k0_pay36
  refine (lead_apply (a := 1024) (b := 512) _ _ o i j).trans ?_
  simp only [shapeCast_self]
  exact rmsVec_apply s g _ _ _ _ _ _ _ _ _ i j

variable (m : (ℓ : Loc nD τ sig) → Buf (Elt Ideal) ℓ) (c : Dev nD)

/-- The mixed prompt rows, normed. -/
theorem out16 (t : Fin cfg0.N) : out0_A_16 c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10
      t) (ms0_11 t) (hs0_11 t) (ms0_12 t) (hs0_12 t) (ms0_13 t) (hs0_13 t) (ms0_14 t) (hs0_14 t) (ms0_15 t) (hs0_15
      t) (ms0_16 t) (hs0_16 t) (ms0_17 t) (hs0_17 t) (ms0_18 t) (hs0_18 t) (ms0_19 t) (hs0_19 t) scM0_0
      (Memref.isWhole_whole _) scM0_1 (Memref.isWhole_whole _) (iblk m c 0 t) (iblk m c 1 t) (iblk m c 2 t) (iblk m
      c 3 t) (iblk m c 4 t) (iblk m c 5 t) (iblk m c 6 t) (iblk m c 7 t) (iblk m c 8 t) (iblk m c 9 t) (iblk m c 10
      t) (iblk m c 11 t) (iblk m c 12 t) (iblk m c 13 t) (iblk m c 14 t) (iblk m c 15 t)
    = k0_pay2 (obScr (iblk m c 0 t) (iblk m c 1 t) (iblk m c 2 t) (iblk m c 3 t)) (iblk m c 4 t) := by
  unfold out0_A_16
  rw [View.read_writes_eq_canon _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread,
    (Memref.isWhole_whole _).read_unread, View.ld_unit_zero (S := S1x512) hz, View.canon_cons_unit_zero (S := S1024x512) hz]
  exact congrArg (k0_pay2 (F := Ideal) · (iblk m c 4 t)) (read_ob _ _ _ _ _)

/-- The attended prompt rows, normed. -/
theorem out17 (t : Fin cfg0.N) : out0_A_17 c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10
      t) (ms0_11 t) (hs0_11 t) (ms0_12 t) (hs0_12 t) (ms0_13 t) (hs0_13 t) (ms0_14 t) (hs0_14 t) (ms0_15 t) (hs0_15
      t) (ms0_16 t) (hs0_16 t) (ms0_17 t) (hs0_17 t) (ms0_18 t) (hs0_18 t) (ms0_19 t) (hs0_19 t) scM0_0
      (Memref.isWhole_whole _) scM0_1 (Memref.isWhole_whole _) (iblk m c 0 t) (iblk m c 1 t) (iblk m c 2 t) (iblk m
      c 3 t) (iblk m c 4 t) (iblk m c 5 t) (iblk m c 6 t) (iblk m c 7 t) (iblk m c 8 t) (iblk m c 9 t) (iblk m c 10
      t) (iblk m c 11 t) (iblk m c 12 t) (iblk m c 13 t) (iblk m c 14 t) (iblk m c 15 t)
    = k0_pay36 (omScr (iblk m c 5 t) (iblk m c 6 t) (iblk m c 7 t)) (iblk m c 8 t) := by
  unfold out0_A_17
  rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_5 t).read_unread, (hs0_6 t).read_unread, (hs0_7 t).read_unread, (hs0_8 t).read_unread,
    (Memref.isWhole_whole _).read_unread, View.ld_unit_zero (S := S1x512) hz, View.canon_cons_unit_zero (S := S1x1024x512) hz3]
  exact congrArg (k0_pay36 (F := Ideal) · (iblk m c 8 t)) (read_om _ _ _ _)

/-- The mixed sample rows. -/
theorem out18 (t : Fin cfg0.N) : out0_A_18 c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10
      t) (ms0_11 t) (hs0_11 t) (ms0_12 t) (hs0_12 t) (ms0_13 t) (hs0_13 t) (ms0_14 t) (hs0_14 t) (ms0_15 t) (hs0_15
      t) (ms0_16 t) (hs0_16 t) (ms0_17 t) (hs0_17 t) (ms0_18 t) (hs0_18 t) (ms0_19 t) (hs0_19 t) scM0_0
      (Memref.isWhole_whole _) scM0_1 (Memref.isWhole_whole _) (iblk m c 0 t) (iblk m c 1 t) (iblk m c 2 t) (iblk m
      c 3 t) (iblk m c 4 t) (iblk m c 5 t) (iblk m c 6 t) (iblk m c 7 t) (iblk m c 8 t) (iblk m c 9 t) (iblk m c 10
      t) (iblk m c 11 t) (iblk m c 12 t) (iblk m c 13 t) (iblk m c 14 t) (iblk m c 15 t)
    = k0_pay28 (k0_pay27 (iota .tc S1x4x512 32 [1] iota_S1x4x512_d1_w32)
        (k0_pay25 (View.ld (iblk m c 11 t) (Rect.unit (s := S4x4x512) ![0, 0, 0] ![1, 4, 512] inb_S4x4x512_S1x4x512_0_0_0))
          (View.ld (iblk m c 10 t) (Rect.unit (s := S4x4x512) ![0, 0, 0] ![4, 1, 512] inb_S4x4x512_S4x1x512_0_0_0)))
        (k0_pay26 (View.ld (iblk m c 11 t) (Rect.unit (s := S4x4x512) ![1, 0, 0] ![1, 4, 512] inb_S4x4x512_S1x4x512_1_0_0)))
        (View.ld (iblk m c 10 t) (Rect.unit (s := S4x4x512) ![0, 1, 0] ![4, 1, 512] inb_S4x4x512_S4x1x512_0_1_0))
        (View.ld (iblk m c 11 t) (Rect.unit (s := S4x4x512) ![2, 0, 0] ![1, 4, 512] inb_S4x4x512_S1x4x512_2_0_0))
        (View.ld (iblk m c 10 t) (Rect.unit (s := S4x4x512) ![0, 2, 0] ![4, 1, 512] inb_S4x4x512_S4x1x512_0_2_0))
        (View.ld (iblk m c 11 t) (Rect.unit (s := S4x4x512) ![3, 0, 0] ![1, 4, 512] inb_S4x4x512_S1x4x512_3_0_0))
        (View.ld (iblk m c 10 t) (Rect.unit (s := S4x4x512) ![0, 3, 0] ![4, 1, 512] inb_S4x4x512_S4x1x512_0_3_0)))
      (iblk m c 9 t) (iblk m c 12 t) := by
  unfold out0_A_18
  rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_9 t).read_unread, (hs0_10 t).read_unread, (hs0_11 t).read_unread, (hs0_12 t).read_unread,
    (Memref.isWhole_whole _).read_unread, View.ld_unit_zero (S := S4x4x512) hz3, View.ld_unit_zero (S := S4x512) hz, View.canon_cons_unit_zero (S := S4x4x512) hz3]
  rfl

/-- The attended sample rows. -/
theorem out19 (t : Fin cfg0.N) : out0_A_19 c (grid0.coords t) (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10
      t) (ms0_11 t) (hs0_11 t) (ms0_12 t) (hs0_12 t) (ms0_13 t) (hs0_13 t) (ms0_14 t) (hs0_14 t) (ms0_15 t) (hs0_15
      t) (ms0_16 t) (hs0_16 t) (ms0_17 t) (hs0_17 t) (ms0_18 t) (hs0_18 t) (ms0_19 t) (hs0_19 t) scM0_0
      (Memref.isWhole_whole _) scM0_1 (Memref.isWhole_whole _) (iblk m c 0 t) (iblk m c 1 t) (iblk m c 2 t) (iblk m
      c 3 t) (iblk m c 4 t) (iblk m c 5 t) (iblk m c 6 t) (iblk m c 7 t) (iblk m c 8 t) (iblk m c 9 t) (iblk m c 10
      t) (iblk m c 11 t) (iblk m c 12 t) (iblk m c 13 t) (iblk m c 14 t) (iblk m c 15 t)
    = osBlk (iblk m c 13 t) (iblk m c 14 t) (iblk m c 15 t) := by
  unfold out0_A_19
  rw [View.read_writes_eq_canon _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_13 t).read_unread, (hs0_14 t).read_unread, (hs0_15 t).read_unread,
    (Memref.isWhole_whole _).read_unread, View.ld_unit_zero (S := S4x512) hz]
  exact canon_os _ _ _

end Cert.SidePoint

end
-- ==== Proof.Folds.lean ====
/-
  Arrays whose axes are merged or turned, entry by entry.
-/
module

public import proofs.«01_k».proof.Proof.Cubes

@[expose] public section

noncomputable section

namespace Cert.Folds

open Idealize.ShloMosaic Idealize.ShloMosaic.ValueIdx
open Cert.Rows Cert.Cubes

/-- Two axes swapped. -/
theorem turn_apply {a b : ℕ} (x : (⟨2, ![a, b]⟩ : Shape).Idx → EReal)
    (h : (⟨2, ![a, b]⟩ : Shape).Transposes [1, 0] ⟨2, ![b, a]⟩) (i : Fin b) (j : Fin a) :
    transpose ⟨2, ![b, a]⟩ [1, 0] x h (ValueIdx.ix2 i j) = at2 x j.val i.val := by
  refine (transpose_apply _ x h (ValueIdx.ix2 i j) (ValueIdx.ix2 j i) fun d => ?_).trans (at2_ix x j i).symm
  match d with
  | ⟨0, _⟩ => rfl
  | ⟨1, _⟩ => rfl

/-- Rows gathered in groups. -/
theorem rows_apply {n a b w : ℕ} (hn : n = a * b) (x : (⟨2, ![n, w]⟩ : Shape).Idx → EReal)
    (h : (⟨2, ![n, w]⟩ : Shape).ShapeCasts ⟨3, ![a, b, w]⟩) (i : Fin a) (j : Fin b) (k : Fin w) :
    shapeCast ⟨3, ![a, b, w]⟩ x h (ValueIdx.ix3 i j k) = at2 x (b * i.val + j.val) k.val := by
  have hlt : b * i.val + j.val < n := by
    have h1 : b * i.val + b ≤ b * a := by rw [← Nat.mul_succ]; exact Nat.mul_le_mul_left b i.isLt
    have h2 := j.isLt
    rw [hn, Nat.mul_comm a b]
    omega
  refine (shapeCast_apply x h _ (ValueIdx.ix2 ⟨b * i.val + j.val, hlt⟩ k) ?_).trans (at2_ix x ⟨b * i.val + j.val, hlt⟩ k).symm
  rw [Shape.rowMajor_val_two, Shape.rowMajor_val_three]
  show (b * i.val + j.val) * w + k.val = (i.val * b + j.val) * w + k.val
  ring

/-- The two middle axes merged. -/
theorem merge_apply {a p h n d : ℕ} (hh : 0 < h) (hn : n = p * h) (x : (⟨4, ![a, p, h, d]⟩ : Shape).Idx → EReal)
    (hc : (⟨4, ![a, p, h, d]⟩ : Shape).ShapeCasts ⟨3, ![a, n, d]⟩) (i : Fin a) (r : Fin n) (k : Fin d) :
    shapeCast ⟨3, ![a, n, d]⟩ x hc (ValueIdx.ix3 i r k) = at4 x i.val (r.val / h) (r.val % h) k.val := by
  have h1 : r.val / h < p := (Nat.div_lt_iff_lt_mul hh).mpr (by have := r.isLt; omega)
  have h2 : r.val % h < h := Nat.mod_lt _ hh
  refine (shapeCast_apply x hc _ (ValueIdx.ix4 i ⟨_, h1⟩ ⟨_, h2⟩ k) ?_).trans (at4_ix x i ⟨_, h1⟩ ⟨_, h2⟩ k).symm
  rw [Shape.rowMajor_val_three, Shape.rowMajor_val_four]
  show ((i.val * p + r.val / h) * h + r.val % h) * d + k.val = (i.val * n + r.val) * d + k.val
  have h3 := Nat.div_add_mod r.val h
  have h4 : (i.val * p + r.val / h) * h + r.val % h = i.val * n + r.val :=
    calc (i.val * p + r.val / h) * h + r.val % h = i.val * (p * h) + (h * (r.val / h) + r.val % h) := by ring
      _ = i.val * n + r.val := by rw [h3, ← hn]
  rw [h4]

/-- The weight's first positions with the axes turned, once for each column of its group. -/
theorem weight_apply (w : Vec Ideal ⟨3, ![4, 128, 128]⟩ .f32) (h1 h2 h3 h4) (o i : Fin 4) (k : Fin 512) :
    shapeCast (⟨3, ![4, 4, 512]⟩ : Shape) (broadcastInDim (s := ⟨3, ![4, 4, 4]⟩) (⟨4, ![4, 4, 4, 128]⟩ : Shape) ![0, 1, 2] h1
      (transpose (⟨3, ![4, 4, 4]⟩ : Shape) [2, 1, 0] (extractStridedSlice (⟨3, ![4, 4, 4]⟩ : Shape) ![0, 0, 0] w h2) h3)) h4
      (ValueIdx.ix3 o i k) = at3 w (k.val / 128) i.val o.val := by
  have hk := k.isLt
  have hi := i.isLt
  have ho := o.isLt
  refine (shapeCast_apply _ h4 _ (ValueIdx.ix4 o i ⟨k.val / 128, by omega⟩ ⟨k.val % 128, by omega⟩) ?_).trans ?_
  · rw [Shape.rowMajor_val_three, Shape.rowMajor_val_four]
    show ((o.val * 4 + i.val) * 4 + k.val / 128) * 128 + k.val % 128 = (o.val * 4 + i.val) * 512 + k.val
    omega
  refine (broadcastInDim_apply _ h1 _ _ (ValueIdx.ix3 o i ⟨k.val / 128, by omega⟩) fun d => ?_).trans ?_
  · match d with
    | ⟨0, _⟩ => exact rfl
    | ⟨1, _⟩ => exact rfl
    | ⟨2, _⟩ => exact rfl
  refine (transpose_apply _ _ h3 _ (ValueIdx.ix3 ⟨k.val / 128, by omega⟩ i o) fun d => ?_).trans ?_
  · match d with
    | ⟨0, _⟩ => rfl
    | ⟨1, _⟩ => rfl
    | ⟨2, _⟩ => rfl
  refine (extractStridedSlice_apply _ _ _ _ (ValueIdx.ix3 ⟨k.val / 128, by omega⟩ ⟨i.val, by omega⟩ ⟨o.val, by omega⟩) fun d => ?_).trans
    (at3_ix w ⟨k.val / 128, by omega⟩ ⟨i.val, by omega⟩ ⟨o.val, by omega⟩).symm
  match d with
  | ⟨0, _⟩ => exact (Nat.zero_add _).symm
  | ⟨1, _⟩ => exact (Nat.zero_add _).symm
  | ⟨2, _⟩ => exact (Nat.zero_add _).symm

/-- The bias' first positions turned, once for each column of its group. -/
theorem bias_apply (w : Vec Ideal ⟨2, ![4, 128]⟩ .f32) (h1 h2 h3 h4) (i : Fin 4) (k : Fin 512) :
    shapeCast (⟨2, ![4, 512]⟩ : Shape) (broadcastInDim (s := ⟨2, ![4, 4]⟩) (⟨3, ![4, 4, 128]⟩ : Shape) ![0, 1] h1
      (transpose (⟨2, ![4, 4]⟩ : Shape) [1, 0] (extractStridedSlice (⟨2, ![4, 4]⟩ : Shape) ![0, 0] w h2) h3)) h4
      (ValueIdx.ix2 i k) = at2 w (k.val / 128) i.val := by
  have hk := k.isLt
  have hi := i.isLt
  refine (shapeCast_apply _ h4 _ (ValueIdx.ix3 i ⟨k.val / 128, by omega⟩ ⟨k.val % 128, by omega⟩) ?_).trans ?_
  · rw [Shape.rowMajor_val_three, Shape.rowMajor_val_two]
    show (i.val * 4 + k.val / 128) * 128 + k.val % 128 = i.val * 512 + k.val
    omega
  refine (broadcastInDim_apply _ h1 _ _ (ValueIdx.ix2 i ⟨k.val / 128, by omega⟩) fun d => ?_).trans ?_
  · match d with
    | ⟨0, _⟩ => exact rfl
    | ⟨1, _⟩ => exact rfl
  refine (turn_apply _ h3 i ⟨k.val / 128, by omega⟩).trans ?_
  refine (at2_ix _ ⟨k.val / 128, by omega⟩ i).trans ?_
  refine (extractStridedSlice_apply _ _ _ _ (ValueIdx.ix2 ⟨k.val / 128, by omega⟩ ⟨i.val, by omega⟩) fun d => ?_).trans
    (at2_ix w ⟨k.val / 128, by omega⟩ ⟨i.val, by omega⟩).symm
  match d with
  | ⟨0, _⟩ => exact (Nat.zero_add _).symm
  | ⟨1, _⟩ => exact (Nat.zero_add _).symm

end Cert.Folds

end
-- ==== Proof.SideArray.lean ====
/-
  The side call: what the result arrays hold.

  Each point's blocks are read off the arguments, and the blocks make the arrays, entry by entry.
-/
module

public import proofs.«01_k».proof.Proof.SidePoint
public import proofs.«01_k».proof.Proof.Folds
public import proofs.«01_k».proof.Proof.Gen.SideIdeal.Value
public import Idealize.ShloMosaic.Lib.Pipeline.ValueKit.Point

@[expose] public section

noncomputable section

namespace Cert.SideArray

open Idealize.ShloMosaic hiding ix1 ix2 ix3 ix4 ix5
open Cert.SideIdeal Cert.SideIdeal.Gen Cert.Rows Cert.Heads Cert.Cubes Cert.Folds Cert.AttMath Cert.SideSgu Cert.SidePoint
open Idealize.ShloMosaic.TcCoe Idealize.ShloMosaic.ValueIdx Idealize.SL.Sem

variable (m : (ℓ : Loc nD τ sig) → Buf (Elt Ideal) ℓ) (c : Dev nD)

/-- The projected rows, the memory's keys and values, the samples' two halves, their memory queries, the cached keys and
    values, the mixing weight and bias, the two gains. -/
abbrev z : Vec Ideal S8192x4608 .f32 := m ((c : Thread nD τ).loc main_arg0)
abbrev kv : Vec Ideal S1024x1024 .f32 := m ((c : Thread nD τ).loc main_arg1)
abbrev us : Vec Ideal S32x4x512 .f32 := m ((c : Thread nD τ).loc main_arg2)
abbrev vs : Vec Ideal S32x4x512 .f32 := m ((c : Thread nD τ).loc main_arg3)
abbrev qs : Vec Ideal S32x4x4x128 .f32 := m ((c : Thread nD τ).loc main_arg4)
abbrev ck : Vec Ideal S32x256x4x128 .f32 := m ((c : Thread nD τ).loc main_arg5)
abbrev cv : Vec Ideal S32x256x4x128 .f32 := m ((c : Thread nD τ).loc main_arg6)
abbrev ws : Vec Ideal S4x128x128 .f32 := m ((c : Thread nD τ).loc main_arg7)
abbrev bs : Vec Ideal S4x128 .f32 := m ((c : Thread nD τ).loc main_arg8)
abbrev gb : Vec Ideal S512 .f32 := m ((c : Thread nD τ).loc main_arg9)
abbrev gm : Vec Ideal S512 .f32 := m ((c : Thread nD τ).loc main_arg10)

/-- Which block of each argument and result a point works on. -/
theorem idx : ∀ t : Fin cfg0.N, win0_0.index t (0 : Fin 2) = t.val ∧ win0_0.index t (1 : Fin 2) = 6
    ∧ win0_1.index t (0 : Fin 2) = t.val ∧ win0_1.index t (1 : Fin 2) = 7
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 2 ∧ win0_5.index t (1 : Fin 3) = t.val % 2 ∧ win0_5.index t (2 : Fin 3) = 8
    ∧ win0_6.index t (0 : Fin 3) = t.val / 2 ∧ win0_6.index t (1 : Fin 3) = 0 ∧ win0_6.index t (2 : Fin 3) = 0
    ∧ win0_7.index t (0 : Fin 3) = t.val / 2 ∧ win0_7.index t (1 : Fin 3) = 0 ∧ win0_7.index t (2 : Fin 3) = 1
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0 :=
  (by decide +kernel : ∀ t : Fin grid0.N, _)

theorem idx' : ∀ t : Fin cfg0.N, win0_10.index t (0 : Fin 3) = t.val ∧ win0_10.index t (1 : Fin 3) = 0 ∧ win0_10.index t (2 : Fin 3) = 0
    ∧ win0_11.index t (0 : Fin 3) = 0 ∧ win0_11.index t (1 : Fin 3) = 0 ∧ win0_11.index t (2 : Fin 3) = 0
    ∧ win0_12.index t (0 : Fin 2) = 0 ∧ win0_12.index t (1 : Fin 2) = 0
    ∧ win0_13.index t (0 : Fin 3) = t.val ∧ win0_13.index t (1 : Fin 3) = 0 ∧ win0_13.index t (2 : Fin 3) = 0
    ∧ win0_14.index t (0 : Fin 3) = t.val ∧ win0_14.index t (1 : Fin 3) = 0 ∧ win0_14.index t (2 : Fin 3) = 0
    ∧ win0_15.index t (0 : Fin 3) = t.val ∧ win0_15.index t (1 : Fin 3) = 0 ∧ win0_15.index t (2 : Fin 3) = 0
    ∧ win0_16.index t (0 : Fin 2) = t.val ∧ win0_16.index t (1 : Fin 2) = 0
    ∧ win0_17.index t (0 : Fin 3) = t.val / 2 ∧ win0_17.index t (1 : Fin 3) = t.val % 2 ∧ win0_17.index t (2 : Fin 3) = 0
    ∧ win0_18.index t (0 : Fin 3) = t.val ∧ win0_18.index t (1 : Fin 3) = 0 ∧ win0_18.index t (2 : Fin 3) = 0
    ∧ win0_19.index t (0 : Fin 3) = t.val ∧ win0_19.index t (1 : Fin 3) = 0 ∧ win0_19.index t (2 : Fin 3) = 0 :=
  (by decide +kernel : ∀ t : Fin grid0.N, _)

theorem lt_N (t : Fin cfg0.N) : t.val < 8 := lt_of_lt_of_eq t.isLt N_0

theorem read0 (t : Fin cfg0.N) (i k : ℕ) (hi : i < 1024) (hk : k < 512) :
    at2 (a := 1024) (b := 512) (iblk m c 0 t) i k = at2 (z m c) (1024 * t.val + i) (3072 + k) := by
  have ht := lt_N t
  refine (at2_ix (a := 1024) (b := 512) (iblk m c 0 t) ⟨i, hi⟩ ⟨k, hk⟩).trans (Eq.trans ?_ (at2_ix (z m c) ⟨1024 * t.val + i, by omega⟩ ⟨3072 + k, by omega⟩).symm)
  blk_ext [iblk, V_main_arg0, idx t]

theorem read1 (t : Fin cfg0.N) (i k : ℕ) (hi : i < 1024) (hk : k < 512) :
    at2 (a := 1024) (b := 512) (iblk m c 1 t) i k = at2 (z m c) (1024 * t.val + i) (3584 + k) := by
  have ht := lt_N t
  refine (at2_ix (a := 1024) (b := 512) (iblk m c 1 t) ⟨i, hi⟩ ⟨k, hk⟩).trans (Eq.trans ?_ (at2_ix (z m c) ⟨1024 * t.val + i, by omega⟩ ⟨3584 + k, by omega⟩).symm)
  blk_ext [iblk, V_main_arg0, idx t]

theorem read2 (t : Fin cfg0.N) (o i k : ℕ) (ho : o < 4) (hi : i < 128) (hk : k < 128) :
    at3 (a := 4) (b := 128) (c := 128) (iblk m c 2 t) o i k = at3 (ws m c) o i k := by
  have ht := lt_N t
  refine (at3_ix (a := 4) (b := 128) (c := 128) (iblk m c 2 t) ⟨o, ho⟩ ⟨i, hi⟩ ⟨k, hk⟩).trans (Eq.trans ?_ (at3_ix (ws m c) ⟨o, ho⟩ ⟨i, hi⟩ ⟨k, hk⟩).symm)
  blk_ext [iblk, V_main_arg7, idx t]

theorem read3 (t : Fin cfg0.N) (i k : ℕ) (hi : i < 128) (hk : k < 4) :
    at2 (a := 128) (b := 4) (iblk m c 3 t) i k = at2 (bs m c) k i := by
  refine (at2_ix (a := 128) (b := 4) (iblk m c 3 t) ⟨i, hi⟩ ⟨k, hk⟩).trans ?_
  blk_simp [iblk, idx t]; entry_read
  have e : ((View.whole main_v10).slice (win0_3.rect t)).emb (ValueIdx.ix2 ⟨i, hi⟩ ⟨k, hk⟩) = ValueIdx.ix2 ⟨i, hi⟩ ⟨k, hk⟩ := by blk_ext [idx t]
  rw [e]
  exact turn_apply (bs m c) _ _ _

theorem read4 (t : Fin cfg0.N) (k : ℕ) (hk : k < 512) :
    at2 (a := 1) (b := 512) (iblk m c 4 t) 0 k = at1 (gb m c) k := by
  refine (at2_ix (a := 1) (b := 512) (iblk m c 4 t) 0 ⟨k, hk⟩).trans (Eq.trans ?_ (at1_ix (gb m c) ⟨k, hk⟩).symm)
  blk_ext! [iblk, idx t]

theorem read8 (t : Fin cfg0.N) (k : ℕ) (hk : k < 512) :
    at2 (a := 1) (b := 512) (iblk m c 8 t) 0 k = at1 (gm m c) k := by
  refine (at2_ix (a := 1) (b := 512) (iblk m c 8 t) 0 ⟨k, hk⟩).trans (Eq.trans ?_ (at1_ix (gm m c) ⟨k, hk⟩).symm)
  blk_ext! [iblk, idx t]

theorem read5 (t : Fin cfg0.N) (o i k : ℕ) (ho : o < 1) (hi : i < 1024) (hk : k < 512) :
    at3 (a := 1) (b := 1024) (c := 512) (iblk m c 5 t) o i k = at2 (z m c) (1024 * t.val + i) (4096 + k) := by
  have ht := lt_N t
  refine (at3_ix (a := 1) (b := 1024) (c := 512) (iblk m c 5 t) ⟨o, ho⟩ ⟨i, hi⟩ ⟨k, hk⟩).trans ?_
  blk_simp [iblk, idx t]; entry_read
  have e : ((View.whole main_v8).slice (win0_5.rect t)).emb (ValueIdx.ix3 ⟨o, ho⟩ ⟨i, hi⟩ ⟨k, hk⟩) = ValueIdx.ix3 ⟨t.val / 2, by omega⟩ ⟨1024 * (t.val % 2) + i, by omega⟩ ⟨4096 + k, by omega⟩ := by blk_ext [idx t]
  rw [e]
  refine (rows_apply (by decide) (z m c) _ _ _ _).trans ?_
  show at2 _ (2048 * (t.val / 2) + (1024 * (t.val % 2) + i)) _ = _
  rw [show 2048 * (t.val / 2) + (1024 * (t.val % 2) + i) = 1024 * t.val + i by omega]

theorem read6 (t : Fin cfg0.N) (o i k : ℕ) (ho : o < 1) (hi : i < 256) (hk : k < 512) :
    at3 (a := 1) (b := 256) (c := 512) (iblk m c 6 t) o i k = at2 (kv m c) (256 * (t.val / 2) + i) (k) := by
  have ht := lt_N t
  refine (at3_ix (a := 1) (b := 256) (c := 512) (iblk m c 6 t) ⟨o, ho⟩ ⟨i, hi⟩ ⟨k, hk⟩).trans ?_
  blk_simp [iblk, idx t]; entry_read
  have e : ((View.whole main_v9).slice (win0_6.rect t)).emb (ValueIdx.ix3 ⟨o, ho⟩ ⟨i, hi⟩ ⟨k, hk⟩) = ValueIdx.ix3 ⟨t.val / 2, by omega⟩ ⟨i, hi⟩ ⟨k, by omega⟩ := by blk_ext [idx t]
  rw [e]
  exact rows_apply (by decide) (kv m c) _ _ _ _

theorem read7 (t : Fin cfg0.N) (o i k : ℕ) (ho : o < 1) (hi : i < 256) (hk : k < 512) :
    at3 (a := 1) (b := 256) (c := 512) (iblk m c 7 t) o i k = at2 (kv m c) (256 * (t.val / 2) + i) (512 + k) := by
  have ht := lt_N t
  refine (at3_ix (a := 1) (b := 256) (c := 512) (iblk m c 7 t) ⟨o, ho⟩ ⟨i, hi⟩ ⟨k, hk⟩).trans ?_
  blk_simp [iblk, idx t]; entry_read
  have e : ((View.whole main_v9).slice (win0_7.rect t)).emb (ValueIdx.ix3 ⟨o, ho⟩ ⟨i, hi⟩ ⟨k, hk⟩) = ValueIdx.ix3 ⟨t.val / 2, by omega⟩ ⟨i, hi⟩ ⟨512 + k, by omega⟩ := by blk_ext [idx t]
  rw [e]
  exact rows_apply (by decide) (kv m c) _ _ _ _

theorem read9 (t : Fin cfg0.N) (o i k : ℕ) (ho : o < 4) (hi : i < 4) (hk : k < 512) :
    at3 (a := 4) (b := 4) (c := 512) (iblk m c 9 t) o i k = at3 (us m c) (4 * t.val + o) i k := by
  have ht := lt_N t
  refine (at3_ix (a := 4) (b := 4) (c := 512) (iblk m c 9 t) ⟨o, ho⟩ ⟨i, hi⟩ ⟨k, hk⟩).trans (Eq.trans ?_ (at3_ix (us m c) ⟨4 * t.val + o, by omega⟩ ⟨i, hi⟩ ⟨k, hk⟩).symm)
  blk_ext [iblk, V_main_arg2, idx t]

theorem read10 (t : Fin cfg0.N) (o i k : ℕ) (ho : o < 4) (hi : i < 4) (hk : k < 512) :
    at3 (a := 4) (b := 4) (c := 512) (iblk m c 10 t) o i k = at3 (vs m c) (4 * t.val + o) i k := by
  have ht := lt_N t
  refine (at3_ix (a := 4) (b := 4) (c := 512) (iblk m c 10 t) ⟨o, ho⟩ ⟨i, hi⟩ ⟨k, hk⟩).trans (Eq.trans ?_ (at3_ix (vs m c) ⟨4 * t.val + o, by omega⟩ ⟨i, hi⟩ ⟨k, hk⟩).symm)
  blk_ext [iblk, V_main_arg3, idx' t]

/-- The samples' weight lies with its last position first, once for each column of its group. -/
theorem read11 (t : Fin cfg0.N) (o i k : ℕ) (ho : o < 4) (hi : i < 4) (hk : k < 512) :
    at3 (a := 4) (b := 4) (c := 512) (iblk m c 11 t) o i k = at3 (ws m c) (k / 128) i o := by
  have ht := lt_N t
  refine (at3_ix (a := 4) (b := 4) (c := 512) (iblk m c 11 t) ⟨o, ho⟩ ⟨i, hi⟩ ⟨k, hk⟩).trans ?_
  blk_simp [iblk, idx' t]; entry_read
  have e : ((View.whole main_v3).slice (win0_11.rect t)).emb (ValueIdx.ix3 ⟨o, ho⟩ ⟨i, hi⟩ ⟨k, hk⟩) = ValueIdx.ix3 ⟨o, ho⟩ ⟨i, hi⟩ ⟨k, hk⟩ := by blk_ext [idx' t]
  rw [e]
  exact weight_apply (ws m c) _ _ _ _ _ _ _

theorem read12 (t : Fin cfg0.N) (i k : ℕ) (hi : i < 4) (hk : k < 512) :
    at2 (a := 4) (b := 512) (iblk m c 12 t) i k = at2 (bs m c) (k / 128) i := by
  refine (at2_ix (a := 4) (b := 512) (iblk m c 12 t) ⟨i, hi⟩ ⟨k, hk⟩).trans ?_
  blk_simp [iblk, idx' t]; entry_read
  have e : ((View.whole main_v7).slice (win0_12.rect t)).emb (ValueIdx.ix2 ⟨i, hi⟩ ⟨k, hk⟩) = ValueIdx.ix2 ⟨i, hi⟩ ⟨k, hk⟩ := by blk_ext [idx' t]
  rw [e]
  exact bias_apply (bs m c) _ _ _ _ _ _

theorem read13 (t : Fin cfg0.N) (o i k : ℕ) (ho : o < 4) (hi : i < 16) (hk : k < 128) :
    at3 (a := 4) (b := 16) (c := 128) (iblk m c 13 t) o i k = at4 (qs m c) (4 * t.val + o) (i / 4) (i % 4) k := by
  have ht := lt_N t
  refine (at3_ix (a := 4) (b := 16) (c := 128) (iblk m c 13 t) ⟨o, ho⟩ ⟨i, hi⟩ ⟨k, hk⟩).trans ?_
  blk_simp [iblk, idx' t]; entry_read
  have e : ((View.whole main_v13).slice (win0_13.rect t)).emb (ValueIdx.ix3 ⟨o, ho⟩ ⟨i, hi⟩ ⟨k, hk⟩) = ValueIdx.ix3 ⟨4 * t.val + o, by omega⟩ ⟨i, hi⟩ ⟨k, hk⟩ := by blk_ext [idx' t]
  rw [e]
  exact merge_apply (h := 4) (by decide) rfl (qs m c) _ _ _ _

theorem read14 (t : Fin cfg0.N) (o i k : ℕ) (ho : o < 4) (hi : i < 1024) (hk : k < 128) :
    at3 (a := 4) (b := 1024) (c := 128) (iblk m c 14 t) o i k = at4 (ck m c) (4 * t.val + o) (i / 4) (i % 4) k := by
  have ht := lt_N t
  refine (at3_ix (a := 4) (b := 1024) (c := 128) (iblk m c 14 t) ⟨o, ho⟩ ⟨i, hi⟩ ⟨k, hk⟩).trans ?_
  blk_simp [iblk, idx' t]; entry_read
  have e : ((View.whole main_v14).slice (win0_14.rect t)).emb (ValueIdx.ix3 ⟨o, ho⟩ ⟨i, hi⟩ ⟨k, hk⟩) = ValueIdx.ix3 ⟨4 * t.val + o, by omega⟩ ⟨i, hi⟩ ⟨k, hk⟩ := by blk_ext [idx' t]
  rw [e]
  exact merge_apply (h := 4) (by decide) rfl (ck m c) _ _ _ _

theorem read15 (t : Fin cfg0.N) (o i k : ℕ) (ho : o < 4) (hi : i < 1024) (hk : k < 128) :
    at3 (a := 4) (b := 1024) (c := 128) (iblk m c 15 t) o i k = at4 (cv m c) (4 * t.val + o) (i / 4) (i % 4) k := by
  have ht := lt_N t
  refine (at3_ix (a := 4) (b := 1024) (c := 128) (iblk m c 15 t) ⟨o, ho⟩ ⟨i, hi⟩ ⟨k, hk⟩).trans ?_
  blk_simp [iblk, idx' t]; entry_read
  have e : ((View.whole main_v15).slice (win0_15.rect t)).emb (ValueIdx.ix3 ⟨o, ho⟩ ⟨i, hi⟩ ⟨k, hk⟩) = ValueIdx.ix3 ⟨4 * t.val + o, by omega⟩ ⟨i, hi⟩ ⟨k, hk⟩ := by blk_ext [idx' t]
  rw [e]
  exact merge_apply (h := 4) (by decide) rfl (cv m c) _ _ _ _

/-! ## The arrays -/

/-- The mixed positions of a prompt row. -/
def obRow (r j : ℕ) : EReal :=
  mix 128 (at2 (z m c) r (3072 + j)) (fun k => at2 (z m c) (128 * (r / 128) + k) (3584 + j)) (at3 (ws m c) (j / 128) (r % 128))
    (at2 (bs m c) (j / 128) (r % 128)) (r % 128)

/-- The memory attention of a prompt row: row `r` of the sequence `b`. -/
def omR (b r j : ℕ) : EReal :=
  omRow (fun d => at2 (z m c) r (4096 + d)) (fun n d => at2 (kv m c) (256 * b + n) d) (fun n d => at2 (kv m c) (256 * b + n) (512 + d)) j

theorem rmsRow_congr {f f' g g' : ℕ → EReal} (hf : ∀ k < 512, f k = f' k) (hg : ∀ k < 512, g k = g' k) (j : ℕ) (hj : j < 512) :
    rms 512 D5 E f g j = rms 512 D5 E f' g' j := by
  unfold rms
  rw [rmsScale_congr hf, hf j hj, hg j hj]

/-- The first result: the mixed rows, normed. -/
theorem arr16 (r : Fin 8192) (j : Fin 512) : ((dats m 0 c).arrAt 16 cfg0.N : Vec Ideal S8192x512 .bf16) (ValueIdx.ix2 r j)
    = rms 512 D5 E (obRow m c r.val) (at1 (gb m c)) j.val := by
  have hr := r.isLt
  obtain ⟨t, ht⟩ : ∃ t : Fin cfg0.N, t.val = r.val / 1024 := ⟨⟨r.val / 1024, by rw [show cfg0.N = 8 from N_0]; omega⟩, rfl⟩
  have hb := congrFun (Value.blocks16 m c t (flush0_16 t)) (ValueIdx.ix2 ⟨r.val % 1024, by omega⟩ j)
  have e : ((View.whole main_v16_0).slice (win0_16.rect t)).emb (ValueIdx.ix2 ⟨r.val % 1024, by omega⟩ j)
      = ValueIdx.ix2 ⟨1024 * t.val + r.val % 1024, by omega⟩ j := by
    blk_ext [idx' t]
  have e' : (ValueIdx.ix2 ⟨1024 * t.val + r.val % 1024, by omega⟩ j : S8192x512.Idx) = ValueIdx.ix2 r j :=
    congrArg (ValueIdx.ix2 · j) (Fin.ext (by show 1024 * t.val + r.val % 1024 = r.val; omega))
  rw [Value.flushed16_A, out16] at hb
  refine ((congrArg ((dats m 0 c).arrAt 16 cfg0.N) (e.trans e')).symm.trans hb).trans ?_
  refine (pay2_apply _ _ ⟨r.val % 1024, by omega⟩ j).trans ?_
  refine rmsRow_congr (fun k hk => ?_) (fun k hk => read4 m c t k hk) j.val j.isLt
  refine (at2_ix (a := 1024) (b := 512) _ ⟨r.val % 1024, by omega⟩ ⟨k, hk⟩).trans ?_
  show obAt (iblk m c 0 t) (iblk m c 1 t) (iblk m c 2 t) (iblk m c 3 t) (r.val % 1024) k = _
  unfold obAt obRow
  have e1 : r.val % 1024 % 128 = r.val % 128 := by omega
  rw [e1]
  refine mix_congr ?_ (fun l hl => ?_) (fun l hl => ?_) ?_
  · rw [read0 m c t _ k (by omega) hk, show 1024 * t.val + r.val % 1024 = r.val by omega]
  · rw [read1 m c t _ k (by omega) hk, show 1024 * t.val + (128 * (r.val % 1024 / 128) + l) = 128 * (r.val / 128) + l by omega]
  · exact read2 m c t _ _ l (by omega) (by omega) hl
  · exact read3 m c t _ _ (by omega) (by omega)

/-- The second: the attended rows, normed. -/
theorem arr17 (b : Fin 4) (i : Fin 2048) (j : Fin 512) :
    ((dats m 0 c).arrAt 17 cfg0.N : Vec Ideal S4x2048x512 .bf16) (ValueIdx.ix3 b i j)
    = rms 512 D5 E (omR m c b.val (2048 * b.val + i.val)) (at1 (gm m c)) j.val := by
  have hr := i.isLt
  have hbl := b.isLt
  obtain ⟨t, ht⟩ : ∃ t : Fin cfg0.N, t.val = 2 * b.val + i.val / 1024 :=
    ⟨⟨2 * b.val + i.val / 1024, by rw [show cfg0.N = 8 from N_0]; omega⟩, rfl⟩
  have hb := congrFun (Value.blocks17 m c t (flush0_17 t)) (ValueIdx.ix3 0 ⟨i.val % 1024, by omega⟩ j)
  have e : ((View.whole main_v16_1).slice (win0_17.rect t)).emb (ValueIdx.ix3 0 ⟨i.val % 1024, by omega⟩ j)
      = ValueIdx.ix3 ⟨t.val / 2, by omega⟩ ⟨1024 * (t.val % 2) + i.val % 1024, by omega⟩ j := by
    blk_ext [idx' t]
  have e' : (ValueIdx.ix3 ⟨t.val / 2, by omega⟩ ⟨1024 * (t.val % 2) + i.val % 1024, by omega⟩ j : S4x2048x512.Idx) = ValueIdx.ix3 b i j :=
    congrArg₂ (ValueIdx.ix3 · · j) (Fin.ext (by show t.val / 2 = b.val; omega)) (Fin.ext (by show 1024 * (t.val % 2) + i.val % 1024 = i.val; omega))
  rw [Value.flushed17_A, out17] at hb
  refine ((congrArg ((dats m 0 c).arrAt 17 cfg0.N) (e.trans e')).symm.trans hb).trans ?_
  refine (pay36_apply _ _ 0 ⟨i.val % 1024, by omega⟩ j).trans ?_
  refine rmsRow_congr (fun k hk => ?_) (fun k hk => read8 m c t k hk) j.val j.isLt
  refine (at2_ix (a := 1024) (b := 512) _ ⟨i.val % 1024, by omega⟩ ⟨k, hk⟩).trans ?_
  show omRow (at3 (a := 1) (b := 1024) (c := 512) (iblk m c 5 t) 0 (i.val % 1024)) (at3 (a := 1) (b := 256) (c := 512) (iblk m c 6 t) 0)
    (at3 (a := 1) (b := 256) (c := 512) (iblk m c 7 t) 0) k = _
  unfold omR omRow
  have e1 : t.val / 2 = b.val := by omega
  refine att_congr (fun n hn => score_congr (fun d hd => ?_) fun d hd => ?_) fun n hn => ?_
  · rw [read5 m c t 0 _ _ (by omega) (by omega) (by omega), show 1024 * t.val + i.val % 1024 = 2048 * b.val + i.val by omega]
  · rw [read6 m c t 0 _ _ (by omega) (by omega) (by omega), e1]
  · rw [read7 m c t 0 _ _ (by omega) (by omega) (by omega), e1]

/-- A sample's mixed position. -/
def obsAt (b t j : ℕ) : EReal :=
  at3 (us m c) b t j * ((if 0 ≤ t then at3 (ws m c) (j / 128) t 0 else 0) * at3 (vs m c) b 0 j
    + (if 1 ≤ t then at3 (ws m c) (j / 128) t 1 else 0) * at3 (vs m c) b 1 j
    + (if 2 ≤ t then at3 (ws m c) (j / 128) t 2 else 0) * at3 (vs m c) b 2 j
    + (if 3 ≤ t then at3 (ws m c) (j / 128) t 3 else 0) * at3 (vs m c) b 3 j + at2 (bs m c) (j / 128) t)

/-- The third: the samples' mixed positions. -/
theorem arr18 (b : Fin 32) (i : Fin 4) (j : Fin 512) :
    ((dats m 0 c).arrAt 18 cfg0.N : Vec Ideal S32x4x512 .f32) (ValueIdx.ix3 b i j) = obsAt m c b.val i.val j.val := by
  have hbl := b.isLt
  have hi := i.isLt
  have hj := j.isLt
  obtain ⟨t, ht⟩ : ∃ t : Fin cfg0.N, t.val = b.val / 4 := ⟨⟨b.val / 4, by rw [show cfg0.N = 8 from N_0]; omega⟩, rfl⟩
  have hb := congrFun (Value.blocks18 m c t (flush0_18 t)) (ValueIdx.ix3 ⟨b.val % 4, by omega⟩ i j)
  have e : ((View.whole main_v16_2).slice (win0_18.rect t)).emb (ValueIdx.ix3 ⟨b.val % 4, by omega⟩ i j)
      = ValueIdx.ix3 ⟨4 * t.val + b.val % 4, by omega⟩ i j := by
    blk_ext [idx' t]
  have e' : (ValueIdx.ix3 ⟨4 * t.val + b.val % 4, by omega⟩ i j : S32x4x512.Idx) = ValueIdx.ix3 b i j :=
    congrArg (ValueIdx.ix3 · i j) (Fin.ext (by show 4 * t.val + b.val % 4 = b.val; omega))
  rw [Value.flushed18_A, out18] at hb
  refine ((congrArg ((dats m 0 c).arrAt 18 cfg0.N) (e.trans e')).symm.trans hb).trans ?_
  refine (pay28_apply _ _ _ _ _ _ _ _ _ _ ⟨b.val % 4, by omega⟩ i j).trans ?_
  have eb : 4 * t.val + b.val % 4 = b.val := by omega
  have hw : ∀ k : ℕ, k < 4 → ∀ inb, at3 (a := 1) (b := 4) (c := 512) (View.ld (Val := Elt Ideal) (e' := .f32) (iblk m c 11 t)
      (Rect.unit (s := S4x4x512) ![k, 0, 0] ![1, 4, 512] inb)) 0 i.val j.val = at3 (ws m c) (j.val / 128) i.val k := by
    intro k hk inb
    refine (ld3 (a := 1) (b := 4) (c := 512) (iblk m c 11 t) k 0 0 _ 0 i.val j.val (by omega) hi hj).trans ?_
    simp only [Nat.add_zero, Nat.zero_add]
    exact read11 m c t k i.val j.val hk hi hj
  have hv : ∀ k : ℕ, k < 4 → ∀ inb, at3 (a := 4) (b := 1) (c := 512) (View.ld (Val := Elt Ideal) (e' := .f32) (iblk m c 10 t)
      (Rect.unit (s := S4x4x512) ![0, k, 0] ![4, 1, 512] inb)) (b.val % 4) 0 j.val = at3 (vs m c) b.val k j.val := by
    intro k hk inb
    refine (ld3 (a := 4) (b := 1) (c := 512) (iblk m c 10 t) 0 k 0 _ (b.val % 4) 0 j.val (by omega) (by omega) hj).trans ?_
    simp only [Nat.add_zero, Nat.zero_add]
    rw [read10 m c t _ k j.val (by omega) hk hj, eb]
  have hu := read9 m c t (b.val % 4) i.val j.val (by omega) hi hj
  rw [eb] at hu
  have hbb := read12 m c t i.val j.val hi hj
  have w0 := hw 0 (by omega) inb_S4x4x512_S1x4x512_0_0_0
  have w1 := hw 1 (by omega) inb_S4x4x512_S1x4x512_1_0_0
  have w2 := hw 2 (by omega) inb_S4x4x512_S1x4x512_2_0_0
  have w3 := hw 3 (by omega) inb_S4x4x512_S1x4x512_3_0_0
  have v0 := hv 0 (by omega) inb_S4x4x512_S4x1x512_0_0_0
  have v1 := hv 1 (by omega) inb_S4x4x512_S4x1x512_0_1_0
  have v2 := hv 2 (by omega) inb_S4x4x512_S4x1x512_0_2_0
  have v3 := hv 3 (by omega) inb_S4x4x512_S4x1x512_0_3_0
  unfold obsAt
  refine congrArg₂ (· * ·) hu (congrArg₂ (· + ·) (congrArg₂ (· + ·) (congrArg₂ (· + ·) (congrArg₂ (· + ·)
    (congrArg₂ (· * ·) (congrArg (fun x => if 0 ≤ i.val then x else 0) w0) v0)
    (congrArg₂ (· * ·) (congrArg (fun x => if 1 ≤ i.val then x else 0) w1) v1))
    (congrArg₂ (· * ·) (congrArg (fun x => if 2 ≤ i.val then x else 0) w2) v2))
    (congrArg₂ (· * ·) (congrArg (fun x => if 3 ≤ i.val then x else 0) w3) v3)) hbb)

/-- A sample's attended row. -/
def omsAt (b i j : ℕ) : EReal :=
  att 256 (fun n => score (at4 (qs m c) b (i / 4) (i % 4)) (at4 (ck m c) b n (i % 4))) (fun n => at4 (cv m c) b n (i % 4) j)

/-- The fourth: the samples' attended rows. -/
theorem arr19 (b : Fin 32) (i : Fin 16) (j : Fin 128) :
    ((dats m 0 c).arrAt 19 cfg0.N : Vec Ideal S32x16x128 .f32) (ValueIdx.ix3 b i j) = omsAt m c b.val i.val j.val := by
  have hbl := b.isLt
  have hi := i.isLt
  obtain ⟨t, ht⟩ : ∃ t : Fin cfg0.N, t.val = b.val / 4 := ⟨⟨b.val / 4, by rw [show cfg0.N = 8 from N_0]; omega⟩, rfl⟩
  have hb := congrFun (Value.blocks19 m c t (flush0_19 t)) (ValueIdx.ix3 ⟨b.val % 4, by omega⟩ i j)
  have e : ((View.whole main_v16_3).slice (win0_19.rect t)).emb (ValueIdx.ix3 ⟨b.val % 4, by omega⟩ i j)
      = ValueIdx.ix3 ⟨4 * t.val + b.val % 4, by omega⟩ i j := by
    blk_ext [idx' t]
  have e' : (ValueIdx.ix3 ⟨4 * t.val + b.val % 4, by omega⟩ i j : S32x16x128.Idx) = ValueIdx.ix3 b i j :=
    congrArg (ValueIdx.ix3 · i j) (Fin.ext (by show 4 * t.val + b.val % 4 = b.val; omega))
  rw [Value.flushed19_A, out19] at hb
  refine ((congrArg ((dats m 0 c).arrAt 19 cfg0.N) (e.trans e')).symm.trans hb).trans ?_
  show osAt (iblk m c 13 t) (iblk m c 14 t) (iblk m c 15 t) (b.val % 4) i.val j.val = _
  have eb : 4 * t.val + b.val % 4 = b.val := by omega
  unfold osAt omsAt every
  refine att_congr (fun n hn => score_congr (fun d hd => ?_) fun d hd => ?_) fun n hn => ?_
  · rw [read13 m c t _ _ d (by omega) hi hd, eb]
  · rw [read14 m c t _ _ d (by omega) (by omega) hd, eb, show (4 * n + i.val % 4) / 4 = n by omega, show (4 * n + i.val % 4) % 4 = i.val % 4 by omega]
  · rw [show (fun n => at3 (a := 4) (b := 1024) (c := 128) (iblk m c 15 t) (b.val % 4) n j.val) (4 * n + i.val % 4) = at3 (a := 4) (b := 1024) (c := 128) (iblk m c 15 t) (b.val % 4) (4 * n + i.val % 4) j.val from rfl, read15 m c t _ _ j.val (by omega) (by omega) j.isLt, eb, show (4 * n + i.val % 4) / 4 = n by omega, show (4 * n + i.val % 4) % 4 = i.val % 4 by omega]

end Cert.SideArray

end
-- ==== Proof.SideHost.lean ====
/-
  The side call's reference: the memory attention.

  At the extended reals a row of the reference is the softmax row `soft` of the scores and the values.
-/
module

public import Idealize.ShloMosaic.Lib.KernelVsHost
public import proofs.«01_k».proof.Proof.AttMath
public import proofs.«01_k».proof.Proof.Cubes
public import proofs.«01_k».proof.Proof.Gen.SideRefIdeal.Read

@[expose] public section

noncomputable section

namespace Cert.SideHost

open Idealize.ShloMosaic hiding ix1 ix2 ix3 ix4 ix5
open Idealize.ShloMosaic.TcCoe Idealize.ShloMosaic.ValueIdx Idealize.SL.Sem
open Cert.Rows Cert.Cubes Cert.AttMath Cert.SideRefIdeal Cert.SideRefIdeal.Gen Cert.SideRefIdeal.Read

/-- The word of −∞. -/
theorem ofBits_bot : (FloatOps.ofBits .f32 0xFF800000#32 : Ideal .f32) = (⊥ : EReal) := by
  show Ideal.ofBits .f32 0xFF800000#32 = ⊥
  simp [Ideal.ofBits, Ideal.ieee]

/-- The greatest entry of a row of the last of four axes. -/
theorem top_apply {a b c n : ℕ} (x : FVec Ideal ⟨4, ![a, b, c, n]⟩ .f32)
    (hr : (⟨4, ![a, b, c, n]⟩ : Shape).ReducesTo [3] ⟨3, ![a, b, c]⟩) (h : (⟨4, ![a, b, c, n]⟩ : Shape).Reduces [3] ⟨3, ![a, b, c]⟩)
    (h0 : 0 < (⟨0, ![]⟩ : Shape).numel) (i : Fin a) (j : Fin b) (k : Fin c) :
    Host.reduce FloatOps.maximumf x (constant ⟨0, ![]⟩ .f32 0xFF800000#32) hr h0 (ValueIdx.ix3 i j k) = top n (at4 x i.val j.val k.val) := by
  refine (congrFun (hostReduce_maximumf_eq_multiReduction x (0xFF800000#32 : BitVec FTy.f32.bits) hr h0 h (Or.inl rfl) rfl) (ValueIdx.ix3 i j k)).trans ?_
  refine (Ideal.multiReduction_maximumf_single x 0xFF800000#32 h (Or.inl rfl) rfl (ValueIdx.ix3 i j k)).trans ?_
  rw [ofBits_bot]
  show (Finset.univ : Finset (Fin n)).sup _ = _
  unfold top
  apply le_antisymm
  · refine Finset.sup_le fun l _ => ?_
    refine le_trans (le_of_eq ?_) (Finset.le_sup (f := at4 x i.val j.val k.val) (Finset.mem_range.mpr l.isLt))
    exact eq_at4 x _ rfl rfl rfl rfl
  · refine Finset.sup_le fun l hl => ?_
    have hl := Finset.mem_range.mp hl
    refine le_trans (le_of_eq ?_) (Finset.le_sup (Finset.mem_univ (⟨l, hl⟩ : Fin n)))
    exact (eq_at4 x (h.lift (ValueIdx.ix3 i j k) ⟨l, hl⟩) rfl rfl rfl rfl : _ = at4 x i.val j.val k.val l).symm

/-! ## The prompt -/

section Prompt

variable (z : Vec Ideal S8192x4608 .f32) (kv : Vec Ideal S1024x1024 .f32)

theorem q_apply (b : Fin 4) (t : Fin 2048) (h : Fin 4) (d : Fin 128) : val_main_v5 (F := Ideal) z (ValueIdx.ix4 b t h d)
    = at2 z (2048 * b.val + t.val) (4096 + (128 * h.val + d.val)) := by
  have hb := b.isLt; have ht := t.isLt; have hh := h.isLt; have hd := d.isLt
  rw [val_main_v5_apply, val_main_v4_apply]
  refine eq_at2 z _ ?_ ?_
  · show (((b.val * 2048 + t.val) * 4 + h.val) * 128 + d.val) / 512 = _
    omega
  · show 4096 + (((b.val * 2048 + t.val) * 4 + h.val) * 128 + d.val) % 512 = _
    omega

theorem k_apply (b : Fin 4) (n : Fin 256) (h : Fin 4) (d : Fin 128) : val_main_v7 (F := Ideal) kv (ValueIdx.ix4 b n h d)
    = at2 kv (256 * b.val + n.val) (128 * h.val + d.val) := by
  have hb := b.isLt; have ht := n.isLt; have hh := h.isLt; have hd := d.isLt
  rw [val_main_v7_apply, val_main_v6_apply]
  refine eq_at2 kv _ ?_ ?_
  · show (((b.val * 256 + n.val) * 4 + h.val) * 128 + d.val) / 512 = _
    omega
  · show (((b.val * 256 + n.val) * 4 + h.val) * 128 + d.val) % 512 = _
    omega

theorem v_apply (b : Fin 4) (n : Fin 256) (h : Fin 4) (d : Fin 128) : val_main_v9 (F := Ideal) kv (ValueIdx.ix4 b n h d)
    = at2 kv (256 * b.val + n.val) (512 + (128 * h.val + d.val)) := by
  have hb := b.isLt; have ht := n.isLt; have hh := h.isLt; have hd := d.isLt
  rw [val_main_v9_apply, val_main_v8_apply]
  refine eq_at2 kv _ ?_ ?_
  · show (((b.val * 256 + n.val) * 4 + h.val) * 128 + d.val) / 512 = _
    omega
  · show 512 + (((b.val * 256 + n.val) * 4 + h.val) * 128 + d.val) % 512 = _
    omega

/-- The scores of row `t` of sequence `b` in head `h`. -/
def ps (b h t n : ℕ) : EReal :=
  score (fun d => at2 z (2048 * b + t) (4096 + (128 * h + d))) (fun d => at2 kv (256 * b + n) (128 * h + d))

/-- A score, the greatest score of its row, -/
theorem pscore (b : Fin 4) (h : Fin 4) (t : Fin 2048) (n : Fin 256) :
    val_main_v25 (F := Ideal) z kv (ValueIdx.ix4 b h t n) = ps z kv b.val h.val t.val n.val := by
  rw [val_main_v25_apply, val_main_v23_apply, val_main_v24_apply]
  unfold ps score
  rw [Finset.sum_range]
  refine congrArg (· * C) (Finset.sum_congr rfl fun d _ => ?_)
  have e1 : lidx_main_v23 (ValueIdx.ix4 b h t n) d = ValueIdx.ix4 b t h d := by
    funext a
    match a with
    | ⟨0, _⟩ => rfl
    | ⟨1, _⟩ => rfl
    | ⟨2, _⟩ => rfl
    | ⟨3, _⟩ => rfl
  have e2 : ridx_main_v23 (ValueIdx.ix4 b h t n) d = ValueIdx.ix4 b n h d := by
    funext a
    match a with
    | ⟨0, _⟩ => rfl
    | ⟨1, _⟩ => rfl
    | ⟨2, _⟩ => rfl
    | ⟨3, _⟩ => rfl
  rw [e1, e2]
  exact congrArg₂ (· * ·) (q_apply z b t h d) (k_apply kv b n h d)

theorem ptop (b : Fin 4) (h : Fin 4) (t : Fin 2048) (n : Fin 256) :
    val_main_v30 (F := Ideal) z kv (ValueIdx.ix4 b h t n) = top 256 (ps z kv b.val h.val t.val) := by
  have e : idx_main_v29 (idx_main_v30 (ValueIdx.ix4 b h t n)) = ValueIdx.ix3 b h t := by
    funext a
    match a with
    | ⟨0, _⟩ => rfl
    | ⟨1, _⟩ => rfl
    | ⟨2, _⟩ => rfl
  rw [val_main_v30_apply, val_main_v29_apply, e, val_main_v28_apply, val_main_v27_apply]
  show max (FloatOps.ofBits .f32 0xFF800000#32 : Ideal .f32) (val_main_v26 (F := Ideal) z kv (ValueIdx.ix3 b h t)) = _
  rw [ofBits_bot]
  refine (max_eq_right bot_le).trans ?_
  unfold val_main_v26 val_main_cst_1
  refine (top_apply (a := 4) (b := 4) (c := 2048) (n := 256) _ _ (by decide) _ b h t).trans ?_
  exact top_congr fun k hk => (at4_ix _ b h t ⟨k, hk⟩).trans (pscore z kv b h t ⟨k, hk⟩)

/-- the weight before the division, -/
theorem pexp (b : Fin 4) (h : Fin 4) (t : Fin 2048) (n : Fin 256) :
    val_main_v32 (F := Ideal) z kv (ValueIdx.ix4 b h t n) = wt 256 (ps z kv b.val h.val t.val) n.val := by
  rw [val_main_v32_apply, val_main_v31_apply, pscore, ptop]
  rfl

/-- the weights' sum, -/
theorem psum (b : Fin 4) (h : Fin 4) (t : Fin 2048) (n : Fin 256) :
    val_main_v35 (F := Ideal) z kv (ValueIdx.ix4 b h t n) = ∑ k ∈ Finset.range 256, wt 256 (ps z kv b.val h.val t.val) k := by
  have e : idx_main_v34 (idx_main_v35 (ValueIdx.ix4 b h t n)) = ValueIdx.ix3 b h t := by
    funext a
    match a with
    | ⟨0, _⟩ => rfl
    | ⟨1, _⟩ => rfl
    | ⟨2, _⟩ => rfl
  rw [val_main_v35_apply, val_main_v34_apply, e, val_main_v33_apply, val_main_cst_3_apply]
  show Ideal.ofBits .f32 0x00000000#32 + _ = _
  rw [Ideal.ofBits_zero_f32, zero_add, Finset.sum_range]
  refine Finset.sum_congr rfl fun k _ => ?_
  have e2 : idx_main_v33 (ValueIdx.ix3 b h t) k = ValueIdx.ix4 b h t k := by
    funext a
    match a with
    | ⟨0, _⟩ => rfl
    | ⟨1, _⟩ => rfl
    | ⟨2, _⟩ => rfl
    | ⟨3, _⟩ => rfl
  rw [e2]
  exact pexp z kv b h t k

/-- and the weight. -/
theorem pprob (b : Fin 4) (h : Fin 4) (t : Fin 2048) (n : Fin 256) :
    val_main_v36 (F := Ideal) z kv (ValueIdx.ix4 b h t n)
      = Ideal.div (wt 256 (ps z kv b.val h.val t.val) n.val) (∑ k ∈ Finset.range 256, wt 256 (ps z kv b.val h.val t.val) k) := by
  rw [val_main_v36_apply, pexp, psum]
  rfl

/-- The reference's attended rows. -/
theorem ref39_apply (b : Fin 4) (t : Fin 2048) (j : Fin 512) : val_main_v39 (F := Ideal) z kv (ValueIdx.ix3 b t j)
    = soft 256 (ps z kv b.val (j.val / 128) t.val) (fun n => at2 kv (256 * b.val + n) (512 + j.val)) := by
  have hb := b.isLt; have ht := t.isLt; have hj := j.isLt
  have e : idx_main_v38 (idx_main_v39 (ValueIdx.ix3 b t j)) = ValueIdx.ix4 b ⟨j.val / 128, by omega⟩ ⟨j.val % 128, by omega⟩ t := by
    funext a
    match a with
    | ⟨0, _⟩ => exact Fin.ext (by show ((b.val * 2048 + t.val) * 512 + j.val) / 1048576 = b.val; omega)
    | ⟨1, _⟩ => exact Fin.ext (by show ((b.val * 2048 + t.val) * 512 + j.val) / 128 % 4 = j.val / 128; omega)
    | ⟨2, _⟩ => exact Fin.ext (by show ((b.val * 2048 + t.val) * 512 + j.val) % 128 = j.val % 128; omega)
    | ⟨3, _⟩ => exact Fin.ext (by show ((b.val * 2048 + t.val) * 512 + j.val) / 512 % 2048 = t.val; omega)
  rw [val_main_v39_apply, val_main_v38_apply, e, val_main_v37_apply]
  unfold soft
  rw [Finset.sum_range]
  refine Finset.sum_congr rfl fun k _ => ?_
  have e1 : lidx_main_v37 (ValueIdx.ix4 b ⟨j.val / 128, by omega⟩ ⟨j.val % 128, by omega⟩ t) k = ValueIdx.ix4 b k ⟨j.val / 128, by omega⟩ ⟨j.val % 128, by omega⟩ := by
    funext a
    match a with
    | ⟨0, _⟩ => rfl
    | ⟨1, _⟩ => rfl
    | ⟨2, _⟩ => rfl
    | ⟨3, _⟩ => rfl
  have e2 : ridx_main_v37 (ValueIdx.ix4 b ⟨j.val / 128, by omega⟩ ⟨j.val % 128, by omega⟩ t) k = ValueIdx.ix4 b ⟨j.val / 128, by omega⟩ t k := by
    funext a
    match a with
    | ⟨0, _⟩ => rfl
    | ⟨1, _⟩ => rfl
    | ⟨2, _⟩ => rfl
    | ⟨3, _⟩ => rfl
  rw [e1, e2]
  refine congrArg₂ (· * ·) ((v_apply kv b k _ _).trans ?_) (pprob z kv b _ t k)
  show at2 kv _ (512 + (128 * (j.val / 128) + j.val % 128)) = _
  rw [show 128 * (j.val / 128) + j.val % 128 = j.val by omega]

/-- They're normed. -/
theorem ref101_apply (g : Vec Ideal S512 .f32) (b : Fin 4) (t : Fin 2048) (j : Fin 512) :
    val_main_v101 (F := Ideal) z kv g (ValueIdx.ix3 b t j)
    = rms 512 (Ideal.ofBits .f32 0x44000000#32) (Ideal.ofBits .f32 0x358637BD#32)
        (fun k => soft 256 (ps z kv b.val (k / 128) t.val) (fun n => at2 kv (256 * b.val + n) (512 + k))) (at1 g) j.val := by
  have hx : ∀ k : Fin 512, val_main_v39 (F := Ideal) z kv (ValueIdx.ix3 b t k) = _ := ref39_apply z kv b t
  rw [val_main_v101_apply, val_main_v100_apply, val_main_v97_apply, hx, val_main_v96_apply, val_main_v95_apply, val_main_v94_apply,
    val_main_v92_apply, val_main_v90_apply, val_main_v89_apply, val_main_v99_apply, val_main_v98_apply]
  have e : idx_main_v90 (idx_main_v96 (ValueIdx.ix3 b t j)) = ValueIdx.ix2 b t := by
    funext a
    match a with
    | ⟨0, _⟩ => rfl
    | ⟨1, _⟩ => rfl
  have e3 : idx_main_v98 (idx_main_v99 (ValueIdx.ix3 b t j)) = ValueIdx.ix1 j := by
    funext a
    match a with
    | ⟨0, _⟩ => rfl
  rw [e, e3]
  unfold rms rmsScale
  refine congrArg₂ (· * ·) (congrArg (_ * ·) (congrArg Ideal.rsqrt (congrArg₂ (· + ·) (congrArg₂ Ideal.div ?_ ?_) ?_))) (at1_ix g j).symm
  · rw [val_main_cst_12_apply]
    show Ideal.ofBits .f32 0x00000000#32 + _ = _
    rw [Ideal.ofBits_zero_f32, zero_add, Finset.sum_range]
    refine Finset.sum_congr rfl fun k _ => ?_
    have e2 : idx_main_v89 (ValueIdx.ix2 b t) k = ValueIdx.ix3 b t k := by
      funext a
      match a with
      | ⟨0, _⟩ => rfl
      | ⟨1, _⟩ => rfl
      | ⟨2, _⟩ => rfl
    rw [e2, val_main_v88_apply, hx]
    rfl
  · rw [val_main_v91_apply]; rfl
  · rw [val_main_v93_apply]; rfl

end Prompt

/-! ## The samples -/

section Samples

variable (qs : Vec Ideal S32x4x4x128 .f32) (ck cv : Vec Ideal S32x256x4x128 .f32)

/-- The scores of position `t` of sample `b` in head `h`. -/
def ss (b h t n : ℕ) : EReal := score (at4 qs b t h) (at4 ck b n h)

/-- A score, the greatest score of its row, -/
theorem sscore (b : Fin 32) (h : Fin 4) (t : Fin 4) (n : Fin 256) :
    val_main_v59 (F := Ideal) qs ck (ValueIdx.ix4 b h t n) = ss qs ck b.val h.val t.val n.val := by
  rw [val_main_v59_apply, val_main_v57_apply, val_main_v58_apply]
  unfold ss score
  rw [Finset.sum_range]
  refine congrArg (· * C) (Finset.sum_congr rfl fun d _ => ?_)
  have e1 : lidx_main_v57 (ValueIdx.ix4 b h t n) d = ValueIdx.ix4 b t h d := by
    funext a
    match a with
    | ⟨0, _⟩ => rfl
    | ⟨1, _⟩ => rfl
    | ⟨2, _⟩ => rfl
    | ⟨3, _⟩ => rfl
  have e2 : ridx_main_v57 (ValueIdx.ix4 b h t n) d = ValueIdx.ix4 b n h d := by
    funext a
    match a with
    | ⟨0, _⟩ => rfl
    | ⟨1, _⟩ => rfl
    | ⟨2, _⟩ => rfl
    | ⟨3, _⟩ => rfl
  rw [e1, e2]
  exact congrArg₂ (· * ·) (at4_ix qs b t h d).symm (at4_ix ck b n h d).symm

theorem stop (b : Fin 32) (h : Fin 4) (t : Fin 4) (n : Fin 256) :
    val_main_v64 (F := Ideal) qs ck (ValueIdx.ix4 b h t n) = top 256 (ss qs ck b.val h.val t.val) := by
  have e : idx_main_v63 (idx_main_v64 (ValueIdx.ix4 b h t n)) = ValueIdx.ix3 b h t := by
    funext a
    match a with
    | ⟨0, _⟩ => rfl
    | ⟨1, _⟩ => rfl
    | ⟨2, _⟩ => rfl
  rw [val_main_v64_apply, val_main_v63_apply, e, val_main_v62_apply, val_main_v61_apply]
  show max (FloatOps.ofBits .f32 0xFF800000#32 : Ideal .f32) (val_main_v60 (F := Ideal) qs ck (ValueIdx.ix3 b h t)) = _
  rw [ofBits_bot]
  refine (max_eq_right bot_le).trans ?_
  unfold val_main_v60 val_main_cst_6
  refine (top_apply (a := 32) (b := 4) (c := 4) (n := 256) _ _ (by decide) _ b h t).trans ?_
  exact top_congr fun k hk => (at4_ix _ b h t ⟨k, hk⟩).trans (sscore qs ck b h t ⟨k, hk⟩)

/-- the weight before the division, -/
theorem sexp (b : Fin 32) (h : Fin 4) (t : Fin 4) (n : Fin 256) :
    val_main_v66 (F := Ideal) qs ck (ValueIdx.ix4 b h t n) = wt 256 (ss qs ck b.val h.val t.val) n.val := by
  rw [val_main_v66_apply, val_main_v65_apply, sscore, stop]
  rfl

/-- the weights' sum, -/
theorem ssum (b : Fin 32) (h : Fin 4) (t : Fin 4) (n : Fin 256) :
    val_main_v69 (F := Ideal) qs ck (ValueIdx.ix4 b h t n) = ∑ k ∈ Finset.range 256, wt 256 (ss qs ck b.val h.val t.val) k := by
  have e : idx_main_v68 (idx_main_v69 (ValueIdx.ix4 b h t n)) = ValueIdx.ix3 b h t := by
    funext a
    match a with
    | ⟨0, _⟩ => rfl
    | ⟨1, _⟩ => rfl
    | ⟨2, _⟩ => rfl
  rw [val_main_v69_apply, val_main_v68_apply, e, val_main_v67_apply, val_main_cst_8_apply]
  show Ideal.ofBits .f32 0x00000000#32 + _ = _
  rw [Ideal.ofBits_zero_f32, zero_add, Finset.sum_range]
  refine Finset.sum_congr rfl fun k _ => ?_
  have e2 : idx_main_v67 (ValueIdx.ix3 b h t) k = ValueIdx.ix4 b h t k := by
    funext a
    match a with
    | ⟨0, _⟩ => rfl
    | ⟨1, _⟩ => rfl
    | ⟨2, _⟩ => rfl
    | ⟨3, _⟩ => rfl
  rw [e2]
  exact sexp qs ck b h t k

/-- and the weight. -/
theorem sprob (b : Fin 32) (h : Fin 4) (t : Fin 4) (n : Fin 256) :
    val_main_v70 (F := Ideal) qs ck (ValueIdx.ix4 b h t n)
      = Ideal.div (wt 256 (ss qs ck b.val h.val t.val) n.val) (∑ k ∈ Finset.range 256, wt 256 (ss qs ck b.val h.val t.val) k) := by
  rw [val_main_v70_apply, sexp, ssum]
  rfl

/-- The reference's attended sample rows. -/
theorem ref73_apply (b : Fin 32) (i : Fin 16) (j : Fin 128) : val_main_v73 (F := Ideal) qs ck cv (ValueIdx.ix3 b i j)
    = soft 256 (ss qs ck b.val (i.val % 4) (i.val / 4)) (fun n => at4 cv b.val n (i.val % 4) j.val) := by
  have hb := b.isLt; have hi := i.isLt; have hj := j.isLt
  have e : idx_main_v72 (idx_main_v73 (ValueIdx.ix3 b i j)) = ValueIdx.ix4 b ⟨i.val % 4, by omega⟩ j ⟨i.val / 4, by omega⟩ := by
    funext a
    match a with
    | ⟨0, _⟩ => exact Fin.ext (by show ((b.val * 16 + i.val) * 128 + j.val) / 2048 = b.val; omega)
    | ⟨1, _⟩ => exact Fin.ext (by show ((b.val * 16 + i.val) * 128 + j.val) / 128 % 4 = i.val % 4; omega)
    | ⟨2, _⟩ => exact Fin.ext (by show ((b.val * 16 + i.val) * 128 + j.val) % 128 = j.val; omega)
    | ⟨3, _⟩ => exact Fin.ext (by show ((b.val * 16 + i.val) * 128 + j.val) / 512 % 4 = i.val / 4; omega)
  rw [val_main_v73_apply, val_main_v72_apply, e, val_main_v71_apply]
  unfold soft
  rw [Finset.sum_range]
  refine Finset.sum_congr rfl fun n _ => ?_
  have e1 : lidx_main_v71 (ValueIdx.ix4 b ⟨i.val % 4, by omega⟩ j ⟨i.val / 4, by omega⟩) n = ValueIdx.ix4 b n ⟨i.val % 4, by omega⟩ j := by
    funext a
    match a with
    | ⟨0, _⟩ => rfl
    | ⟨1, _⟩ => rfl
    | ⟨2, _⟩ => rfl
    | ⟨3, _⟩ => rfl
  have e2 : ridx_main_v71 (ValueIdx.ix4 b ⟨i.val % 4, by omega⟩ j ⟨i.val / 4, by omega⟩) n = ValueIdx.ix4 b ⟨i.val % 4, by omega⟩ ⟨i.val / 4, by omega⟩ n := by
    funext a
    match a with
    | ⟨0, _⟩ => rfl
    | ⟨1, _⟩ => rfl
    | ⟨2, _⟩ => rfl
    | ⟨3, _⟩ => rfl
  rw [e1, e2]
  exact congrArg₂ (· * ·) (at4_ix cv b n ⟨i.val % 4, by omega⟩ j).symm (sprob qs ck b _ _ n)

end Samples

end Cert.SideHost

end
-- ==== Proof.SideMix.lean ====
/-
  The side call's reference: the gated mixing.

  At the extended reals an entry of the reference is `mix` over the chunk's rows, and over a sample's four positions.
-/
module

public import proofs.«01_k».proof.Proof.SideSgu
public import proofs.«01_k».proof.Proof.Cubes
public import proofs.«01_k».proof.Proof.Gen.SideRefIdeal.Read

@[expose] public section

noncomputable section

namespace Cert.SideMix

open Idealize.ShloMosaic hiding ix1 ix2 ix3 ix4 ix5
open Idealize.ShloMosaic.TcCoe Idealize.ShloMosaic.ValueIdx Idealize.SL.Sem
open Cert.Rows Cert.Cubes Cert.SideRefIdeal Cert.SideRefIdeal.Gen Cert.SideRefIdeal.Read Cert.SideSgu

/-- The lower triangle of ones, built twice, -/
theorem tril0 (t s : Fin 128) : val_main_v11 (F := Ideal) (ValueIdx.ix2 t s) = if s.val ≤ t.val then 1 else 0 := by
  rw [val_main_v11_apply, val_main_call0_v4_apply, val_main_call0_v2_apply, val_main_call0_v0_apply, val_main_call0_v1_apply,
    val_main_call0_c_apply, val_main_call0_v3_apply, val_main_call0_v5_apply, val_main_call0_cst_apply, val_main_v10_apply]
  have h : IntOp.cmpi .sge (IntOp.addi (BitVec.ofNat 32 t.val) 0#32) (BitVec.ofNat 32 s.val) = if s.val ≤ t.val then 1 else 0 := by
    rw [show IntOp.addi (BitVec.ofNat 32 t.val) 0#32 = BitVec.ofNat 32 t.val from BitVec.add_zero _]
    exact sge_iff t s
  show Scalar.select (IntOp.cmpi .sge (IntOp.addi (BitVec.ofNat 32 t.val) 0#32) (BitVec.ofNat 32 s.val))
    (Ideal.ofBits .f32 0x3F800000#32) (Ideal.ofBits .f32 0x00000000#32) = _
  rw [h, Ideal.ofBits_zero_f32, ofBits_one]
  by_cases hs : s.val ≤ t.val
  · rw [if_pos hs, if_pos hs]; exact if_pos rfl
  · rw [if_neg hs, if_neg hs]; exact if_neg (by decide)

theorem tril1 (t s : Fin 128) : val_main_v43 (F := Ideal) (ValueIdx.ix2 t s) = if s.val ≤ t.val then 1 else 0 := by
  rw [val_main_v43_apply, val_main_call1_v4_apply, val_main_call1_v2_apply, val_main_call1_v0_apply, val_main_call1_v1_apply,
    val_main_call1_c_apply, val_main_call1_v3_apply, val_main_call1_v5_apply, val_main_call1_cst_apply, val_main_v42_apply]
  have h : IntOp.cmpi .sge (IntOp.addi (BitVec.ofNat 32 t.val) 0#32) (BitVec.ofNat 32 s.val) = if s.val ≤ t.val then 1 else 0 := by
    rw [show IntOp.addi (BitVec.ofNat 32 t.val) 0#32 = BitVec.ofNat 32 t.val from BitVec.add_zero _]
    exact sge_iff t s
  show Scalar.select (IntOp.cmpi .sge (IntOp.addi (BitVec.ofNat 32 t.val) 0#32) (BitVec.ofNat 32 s.val))
    (Ideal.ofBits .f32 0x3F800000#32) (Ideal.ofBits .f32 0x00000000#32) = _
  rw [h, Ideal.ofBits_zero_f32, ofBits_one]
  by_cases hs : s.val ≤ t.val
  · rw [if_pos hs, if_pos hs]; exact if_pos rfl
  · rw [if_neg hs, if_neg hs]; exact if_neg (by decide)

/-- and a weight times it. -/
theorem w14_apply (x7 : Vec Ideal S4x128x128 .f32) (g : Fin 4) (t s : Fin 128) : val_main_v14 (F := Ideal) x7 (ValueIdx.ix3 g t s)
    = at3 x7 g.val t.val s.val * if s.val ≤ t.val then 1 else 0 := by
  have e : idx_main_v12 (idx_main_v13 (ValueIdx.ix3 g t s)) = ValueIdx.ix2 t s := by
    funext a
    match a with
    | ⟨0, _⟩ => rfl
    | ⟨1, _⟩ => rfl
  rw [val_main_v14_apply, val_main_v13_apply, val_main_v12_apply, e, tril0]
  exact congrArg (· * _) (at3_ix x7 g t s).symm

theorem w46_apply (x7 : Vec Ideal S4x128x128 .f32) (g : Fin 4) (t s : Fin 128) : val_main_v46 (F := Ideal) x7 (ValueIdx.ix3 g t s)
    = at3 x7 g.val t.val s.val * if s.val ≤ t.val then 1 else 0 := by
  have e : idx_main_v44 (idx_main_v45 (ValueIdx.ix3 g t s)) = ValueIdx.ix2 t s := by
    funext a
    match a with
    | ⟨0, _⟩ => rfl
    | ⟨1, _⟩ => rfl
  rw [val_main_v46_apply, val_main_v45_apply, val_main_v44_apply, e, tril1]
  exact congrArg (· * _) (at3_ix x7 g t s).symm

/-- A weight times one or zero is the masked weight. -/
theorem masked (v w : EReal) (p : Prop) [Decidable p] : v * (w * if p then 1 else 0) = (if p then w else 0) * v := by
  split_ifs
  · rw [mul_one, mul_comm]
  · rw [mul_zero, mul_zero, zero_mul]

/-! ## The prompt -/

section Prompt

variable (z : Vec Ideal S8192x4608 .f32) (ws : Vec Ideal S4x128x128 .f32) (bs : Vec Ideal S4x128 .f32)

theorem u_apply (c : Fin 64) (t : Fin 128) (g : Fin 4) (d : Fin 128) : val_main_v1 (F := Ideal) z (ValueIdx.ix4 c t g d)
    = at2 z (128 * c.val + t.val) (3072 + (128 * g.val + d.val)) := by
  have hb := c.isLt; have ht := t.isLt; have hh := g.isLt; have hd := d.isLt
  rw [val_main_v1_apply, val_main_v0_apply]
  refine eq_at2 z _ ?_ ?_
  · show (((c.val * 128 + t.val) * 4 + g.val) * 128 + d.val) / 512 = _
    omega
  · show 3072 + (((c.val * 128 + t.val) * 4 + g.val) * 128 + d.val) % 512 = _
    omega

theorem v_apply (c : Fin 64) (t : Fin 128) (g : Fin 4) (d : Fin 128) : val_main_v3 (F := Ideal) z (ValueIdx.ix4 c t g d)
    = at2 z (128 * c.val + t.val) (3584 + (128 * g.val + d.val)) := by
  have hb := c.isLt; have ht := t.isLt; have hh := g.isLt; have hd := d.isLt
  rw [val_main_v3_apply, val_main_v2_apply]
  refine eq_at2 z _ ?_ ?_
  · show (((c.val * 128 + t.val) * 4 + g.val) * 128 + d.val) / 512 = _
    omega
  · show 3584 + (((c.val * 128 + t.val) * 4 + g.val) * 128 + d.val) % 512 = _
    omega

/-- The reference's mixed rows. -/
theorem ref22_apply (r : Fin 8192) (j : Fin 512) : val_main_v22 (F := Ideal) z ws bs (ValueIdx.ix2 r j)
    = mix 128 (at2 z r.val (3072 + j.val)) (fun k => at2 z (128 * (r.val / 128) + k) (3584 + j.val)) (at3 ws (j.val / 128) (r.val % 128))
        (at2 bs (j.val / 128) (r.val % 128)) (r.val % 128) := by
  have hr := r.isLt; have hj := j.isLt
  obtain ⟨c, hc⟩ : ∃ c : Fin 64, c.val = r.val / 128 := ⟨⟨r.val / 128, by omega⟩, rfl⟩
  obtain ⟨t, ht⟩ : ∃ t : Fin 128, t.val = r.val % 128 := ⟨⟨r.val % 128, by omega⟩, rfl⟩
  obtain ⟨g, hg⟩ : ∃ g : Fin 4, g.val = j.val / 128 := ⟨⟨j.val / 128, by omega⟩, rfl⟩
  obtain ⟨d, hd⟩ : ∃ d : Fin 128, d.val = j.val % 128 := ⟨⟨j.val % 128, by omega⟩, rfl⟩
  have hr2 : 128 * c.val + t.val = r.val := by omega
  have hj2 : 128 * g.val + d.val = j.val := by omega
  have e : idx_main_v22 (ValueIdx.ix2 r j) = ValueIdx.ix4 c t g d := by
    funext a
    match a with
    | ⟨0, _⟩ => exact Fin.ext (by show (r.val * 512 + j.val) / 65536 = c.val; omega)
    | ⟨1, _⟩ => exact Fin.ext (by show (r.val * 512 + j.val) / 512 % 128 = t.val; omega)
    | ⟨2, _⟩ => exact Fin.ext (by show (r.val * 512 + j.val) / 128 % 4 = g.val; omega)
    | ⟨3, _⟩ => exact Fin.ext (by show (r.val * 512 + j.val) % 128 = d.val; omega)
  rw [val_main_v22_apply, e, val_main_v21_apply, val_main_v20_apply, val_main_v16_apply, val_main_v15_apply, val_main_v19_apply,
    val_main_v18_apply, val_main_v17_apply, u_apply, hr2, hj2]
  have e1 : idx_main_v16 (ValueIdx.ix4 c t g d) = ValueIdx.ix4 g c d t := by
    funext a
    match a with
    | ⟨0, _⟩ => rfl
    | ⟨1, _⟩ => rfl
    | ⟨2, _⟩ => rfl
    | ⟨3, _⟩ => rfl
  have e2 : idx_main_v17 (idx_main_v18 (idx_main_v19 (ValueIdx.ix4 c t g d))) = ValueIdx.ix2 g t := by
    funext a
    match a with
    | ⟨0, _⟩ => rfl
    | ⟨1, _⟩ => rfl
  rw [e1, e2]
  unfold mix
  rw [Finset.sum_range]
  refine congrArg (_ * ·) (congrArg₂ (· + ·) (Finset.sum_congr rfl fun k _ => ?_) ?_)
  · have e3 : lidx_main_v15 (ValueIdx.ix4 g c d t) k = ValueIdx.ix4 c k g d := by
      funext a
      match a with
      | ⟨0, _⟩ => rfl
      | ⟨1, _⟩ => rfl
      | ⟨2, _⟩ => rfl
      | ⟨3, _⟩ => rfl
    have e4 : ridx_main_v15 (ValueIdx.ix4 g c d t) k = ValueIdx.ix3 g t k := by
      funext a
      match a with
      | ⟨0, _⟩ => rfl
      | ⟨1, _⟩ => rfl
      | ⟨2, _⟩ => rfl
    rw [e3, e4, v_apply, w14_apply, masked, hj2, ht, hg, hc]
  · rw [← hg, ← ht]
    exact (at2_ix bs g t).symm

/-- They're normed. -/
theorem ref87_apply (g : Vec Ideal S512 .f32) (r : Fin 8192) (j : Fin 512) : val_main_v87 (F := Ideal) z ws bs g (ValueIdx.ix2 r j)
    = rms 512 (Ideal.ofBits .f32 0x44000000#32) (Ideal.ofBits .f32 0x358637BD#32)
        (at2 (val_main_v22 (F := Ideal) z ws bs) r.val) (at1 g) j.val :=
  rmsHost_apply (val_main_v22 (F := Ideal) z ws bs) g _ _ _ (by decide) _ _ _ _ _ _ _ r j

end Prompt

/-! ## The samples -/

section Samples

variable (us vs : Vec Ideal S32x4x512 .f32) (ws : Vec Ideal S4x128x128 .f32) (bs : Vec Ideal S4x128 .f32)

theorem us_apply (b : Fin 32) (t g : Fin 4) (d : Fin 128) : val_main_v40 (F := Ideal) us (ValueIdx.ix4 b t g d)
    = at3 us b.val t.val (128 * g.val + d.val) := by
  have hb := b.isLt; have ht := t.isLt; have hh := g.isLt; have hd := d.isLt
  rw [val_main_v40_apply]
  refine eq_at3 us _ ?_ ?_ ?_
  · show (((b.val * 4 + t.val) * 4 + g.val) * 128 + d.val) / 2048 = _
    omega
  · show (((b.val * 4 + t.val) * 4 + g.val) * 128 + d.val) / 512 % 4 = _
    omega
  · show (((b.val * 4 + t.val) * 4 + g.val) * 128 + d.val) % 512 = _
    omega

theorem vs_apply (b : Fin 32) (t g : Fin 4) (d : Fin 128) : val_main_v41 (F := Ideal) vs (ValueIdx.ix4 b t g d)
    = at3 vs b.val t.val (128 * g.val + d.val) := us_apply vs b t g d

/-- The reference's mixed sample positions. -/
theorem ref56_apply (b : Fin 32) (t : Fin 4) (j : Fin 512) : val_main_v56 (F := Ideal) us vs ws bs (ValueIdx.ix3 b t j)
    = at3 us b.val t.val j.val * ((if 0 ≤ t.val then at3 ws (j.val / 128) t.val 0 else 0) * at3 vs b.val 0 j.val
      + (if 1 ≤ t.val then at3 ws (j.val / 128) t.val 1 else 0) * at3 vs b.val 1 j.val
      + (if 2 ≤ t.val then at3 ws (j.val / 128) t.val 2 else 0) * at3 vs b.val 2 j.val
      + (if 3 ≤ t.val then at3 ws (j.val / 128) t.val 3 else 0) * at3 vs b.val 3 j.val + at2 bs (j.val / 128) t.val) := by
  have hb := b.isLt; have htt := t.isLt; have hj := j.isLt
  obtain ⟨g, hg⟩ : ∃ g : Fin 4, g.val = j.val / 128 := ⟨⟨j.val / 128, by omega⟩, rfl⟩
  obtain ⟨d, hd⟩ : ∃ d : Fin 128, d.val = j.val % 128 := ⟨⟨j.val % 128, by omega⟩, rfl⟩
  have hj2 : 128 * g.val + d.val = j.val := by omega
  have e : idx_main_v56 (ValueIdx.ix3 b t j) = ValueIdx.ix4 b t g d := by
    funext a
    match a with
    | ⟨0, _⟩ => exact Fin.ext (by show ((b.val * 4 + t.val) * 512 + j.val) / 2048 = b.val; omega)
    | ⟨1, _⟩ => exact Fin.ext (by show ((b.val * 4 + t.val) * 512 + j.val) / 512 % 4 = t.val; omega)
    | ⟨2, _⟩ => exact Fin.ext (by show ((b.val * 4 + t.val) * 512 + j.val) / 128 % 4 = g.val; omega)
    | ⟨3, _⟩ => exact Fin.ext (by show ((b.val * 4 + t.val) * 512 + j.val) % 128 = d.val; omega)
  rw [val_main_v56_apply, e, val_main_v55_apply, val_main_v54_apply, val_main_v49_apply, val_main_v48_apply, val_main_v53_apply,
    val_main_v52_apply, val_main_v51_apply, val_main_v50_apply, us_apply, hj2]
  have e1 : idx_main_v49 (ValueIdx.ix4 b t g d) = ValueIdx.ix4 g b d t := by
    funext a
    match a with
    | ⟨0, _⟩ => rfl
    | ⟨1, _⟩ => rfl
    | ⟨2, _⟩ => rfl
    | ⟨3, _⟩ => rfl
  rw [e1, Fin.sum_univ_four, ← hg]
  have hs : ∀ k : Fin 4, val_main_v41 (F := Ideal) vs (lidx_main_v48 (ValueIdx.ix4 g b d t) k)
      * val_main_v47 (F := Ideal) ws (ridx_main_v48 (ValueIdx.ix4 g b d t) k)
      = (if k.val ≤ t.val then at3 ws g.val t.val k.val else 0) * at3 vs b.val k.val j.val := by
    intro k
    have hk := k.isLt
    have e3 : lidx_main_v48 (ValueIdx.ix4 g b d t) k = ValueIdx.ix4 b k g d := by
      funext a
      match a with
      | ⟨0, _⟩ => rfl
      | ⟨1, _⟩ => rfl
      | ⟨2, _⟩ => rfl
      | ⟨3, _⟩ => rfl
    have e4 : idx_main_v47 (ridx_main_v48 (ValueIdx.ix4 g b d t) k) = ValueIdx.ix3 g (⟨t.val, by omega⟩ : Fin 128) (⟨k.val, by omega⟩ : Fin 128) := by
      funext a
      match a with
      | ⟨0, _⟩ => rfl
      | ⟨1, _⟩ => rfl
      | ⟨2, _⟩ => rfl
    rw [val_main_v47_apply, e3, e4, vs_apply, w46_apply, masked, hj2]
  rw [hs, hs, hs, hs]
  exact congrArg (_ * ·) (congrArg₂ (· + ·) rfl (eq_at2 bs _ rfl rfl))

end Samples

end Cert.SideMix

end
-- ==== Proof.SideEq.lean ====
/-
  The side call: the kernel's arrays are the reference's.

  The gated mixing agrees entry by entry. In the memory attention the kernel divides the weighted sum once where the reference
  divides each weight: the two agree because the queries and keys are finite, which is the claim's precondition.
-/
module

public import proofs.«01_k».proof.Defs
public import proofs.«01_k».proof.Proof.SideArray
public import proofs.«01_k».proof.Proof.SideHost
public import proofs.«01_k».proof.Proof.SideMix

@[expose] public section

noncomputable section

namespace Cert.SideEq

open Idealize.ShloMosaic hiding ix1 ix2 ix3 ix4 ix5
open Idealize.ShloMosaic.TcCoe Idealize.ShloMosaic.ValueIdx Idealize.SL.Sem
open Cert.Rows Cert.Cubes Cert.AttMath Cert.SideSgu Cert.SidePoint Cert.SideArray

/-- The word of +∞. -/
theorem ofBits_top : (FloatOps.ofBits .f32 0x7F800000#32 : Ideal .f32) = (⊤ : EReal) := by
  show Ideal.ofBits .f32 0x7F800000#32 = ⊤
  simp [Ideal.ofBits, Ideal.ieee]

/-- An entry whose absolute value is below +∞ is real. -/
theorem real_of_olt {s u : Shape} (x : FVec Ideal s .f32) (dims : Fin u.rank → Fin s.rank) (h : u.BroadcastsInDim s dims) (i : s.Idx)
    (hx : cmpf .olt (Host.absf x) (broadcastInDim s dims h (constant u .f32 0x7F800000#32)) i = 1) : IsReal (x i) := by
  refine IsReal.of_abs ?_
  rw [← ofBits_top]
  exact hx

section Rows

variable [Cert.Pre_finite.Facts]
variable (m : (ℓ : Loc Cert.SideIdeal.nD Cert.SideIdeal.τ Cert.SideIdeal.sig) → Buf (Elt Ideal) ℓ) (c : Dev Cert.SideIdeal.nD)

/-- The prompt queries are real, -/
theorem z_real (hp : Cert.Pre_SideIdeal_finite m) (r d : ℕ) (hr : r < 8192) (hd : d < 512) : IsReal (at2 (z m c) r (4096 + d)) := by
  have h := congrFun (hp c).1 (ValueIdx.ix2 (⟨r, hr⟩ : Fin 8192) (⟨d, hd⟩ : Fin 512))
  have h2 := real_of_olt _ _ _ _ h
  refine Eq.mp (congrArg IsReal ?_) h2
  refine (extractStridedSlice_apply _ (z m c) _ _ (ValueIdx.ix2 (⟨r, hr⟩ : Fin 8192) (⟨4096 + d, by omega⟩ : Fin 4608)) fun a => ?_).trans
    (at2_ix (z m c) _ _).symm
  match a with
  | ⟨0, _⟩ => exact (Nat.zero_add _).symm
  | ⟨1, _⟩ => rfl

/-- the prompt keys, -/
theorem kv_real (hp : Cert.Pre_SideIdeal_finite m) (r d : ℕ) (hr : r < 1024) (hd : d < 512) : IsReal (at2 (kv m c) r d) := by
  have h := congrFun (hp c).2.1 (ValueIdx.ix2 (⟨r, hr⟩ : Fin 1024) (⟨d, hd⟩ : Fin 512))
  have h2 := real_of_olt _ _ _ _ h
  refine Eq.mp (congrArg IsReal ?_) h2
  refine (extractStridedSlice_apply _ (kv m c) _ _ (ValueIdx.ix2 (⟨r, hr⟩ : Fin 1024) (⟨d, by omega⟩ : Fin 1024)) fun a => ?_).trans
    (at2_ix (kv m c) _ _).symm
  match a with
  | ⟨0, _⟩ => exact (Nat.zero_add _).symm
  | ⟨1, _⟩ => exact (Nat.zero_add _).symm

/-- the sample queries -/
theorem qs_real (hp : Cert.Pre_SideIdeal_finite m) (b t h d : ℕ) (hb : b < 32) (ht : t < 4) (hh : h < 4) (hd : d < 128) :
    IsReal (at4 (qs m c) b t h d) := by
  have h := congrFun (hp c).2.2.1 (ValueIdx.ix4 (⟨b, hb⟩ : Fin 32) (⟨t, ht⟩ : Fin 4) (⟨h, hh⟩ : Fin 4) (⟨d, hd⟩ : Fin 128))
  exact Eq.mp (congrArg IsReal (at4_ix (qs m c) _ _ _ _).symm) (real_of_olt _ _ _ _ h)

/-- and the cached keys. -/
theorem ck_real (hp : Cert.Pre_SideIdeal_finite m) (b n h d : ℕ) (hb : b < 32) (hn : n < 256) (hh : h < 4) (hd : d < 128) :
    IsReal (at4 (ck m c) b n h d) := by
  have h := congrFun (hp c).2.2.2 (ValueIdx.ix4 (⟨b, hb⟩ : Fin 32) (⟨n, hn⟩ : Fin 256) (⟨h, hh⟩ : Fin 4) (⟨d, hd⟩ : Fin 128))
  exact Eq.mp (congrArg IsReal (at4_ix (ck m c) _ _ _ _).symm) (real_of_olt _ _ _ _ h)

/-- A prompt row of the memory attention, divided once or weight by weight. -/
theorem omR_eq (hp : Cert.Pre_SideIdeal_finite m) (b t j : ℕ) (hb : b < 4) (ht : t < 2048) (hj : j < 512) :
    omR m c b (2048 * b + t) j = soft 256 (SideHost.ps (z m c) (kv m c) b (j / 128) t) (fun n => at2 (kv m c) (256 * b + n) (512 + j)) := by
  refine att_eq_soft (by decide) (fun n hn => score_real (fun d hd => ?_) fun d hd => ?_) _
  · exact z_real m c hp _ _ (by omega) (by omega)
  · exact kv_real m c hp _ _ (by omega) (by omega)

/-- A sample row, likewise. -/
theorem omsAt_eq (hp : Cert.Pre_SideIdeal_finite m) (b i j : ℕ) (hb : b < 32) (hi : i < 16) :
    omsAt m c b i j = soft 256 (SideHost.ss (qs m c) (ck m c) b (i % 4) (i / 4)) (fun n => at4 (cv m c) b n (i % 4) j) := by
  refine att_eq_soft (by decide) (fun n hn => score_real (fun d hd => ?_) fun d hd => ?_) _
  · exact qs_real m c hp _ _ _ _ hb (by omega) (by omega) hd
  · exact ck_real m c hp _ _ _ _ hb hn (by omega) hd

end Rows

/-- The call and its reference leave the same arrays at the extended reals, where the memory's queries and keys are finite. -/
theorem algebraic [Cert.Pre_finite.Facts] : Cert.algebraic_SideIdeal_SideRefIdeal_pre_finite := by
  intro m ρ m' ρ' hp hagree
  refine ⟨fun c => (Cert.SideIdeal.Gen.dats m 0 c).arrAt 16 Cert.SideIdeal.cfg0.N, fun c => (Cert.SideIdeal.Gen.dats m 0 c).arrAt 17 Cert.SideIdeal.cfg0.N,
    fun c => (Cert.SideIdeal.Gen.dats m 0 c).arrAt 18 Cert.SideIdeal.cfg0.N, fun c => (Cert.SideIdeal.Gen.dats m 0 c).arrAt 19 Cert.SideIdeal.cfg0.N,
    Cert.SideIdeal.Value.run_blocks (F := Ideal) m ρ, ?_⟩
  refine (θ_run Cert.SideRefIdeal.defs _ _).mono (fun _ h c => ?_) (Cert.SideRefIdeal.Value.run (F := Ideal) m' ρ')
  obtain ⟨h0, h1, h2, h3, hk⟩ := h c
  obtain ⟨a0, a1, a2, a3, a4, a5, a6, a7, a8, a9, a10⟩ := hagree c
  refine ⟨h0.trans ?_, h1.trans ?_, h2.trans ?_, h3.trans ?_, hk⟩
  · refine (Cert.SideRefIdeal.Read.val_main_v87_eq m' c).trans ?_
    rw [a0, a7, a8, a9]
    funext i
    rw [ValueIdx.eq_ix2 i]
    refine (SideMix.ref87_apply _ _ _ _ _ _).trans (Eq.trans ?_ (arr16 m c _ _).symm)
    exact rmsRow_congr (fun k hk => (at2_ix _ (i 0) ⟨k, hk⟩).trans (SideMix.ref22_apply _ _ _ (i 0) ⟨k, hk⟩)) (fun _ _ => rfl) _ (i 1).isLt
  · refine (Cert.SideRefIdeal.Read.val_main_v101_eq m' c).trans ?_
    rw [a0, a1, a10]
    funext i
    rw [ValueIdx.eq_ix3 i]
    refine (SideHost.ref101_apply _ _ _ _ _ _).trans (Eq.trans ?_ (arr17 m c _ _ _).symm)
    exact rmsRow_congr (fun k hk => (omR_eq m c hp _ _ k (i 0).isLt (i 1).isLt hk).symm) (fun _ _ => rfl) _ (i 2).isLt
  · rw [a2, a3, a7, a8]
    refine (Cert.SideRefIdeal.Read.val_main_v56_eq _ _ _ _).trans ?_
    funext i
    rw [ValueIdx.eq_ix3 i]
    exact (SideMix.ref56_apply _ _ _ _ _ _ _).trans (arr18 m c _ _ _).symm
  · rw [a4, a5, a6]
    refine (Cert.SideRefIdeal.Read.val_main_v73_eq _ _ _).trans ?_
    funext i
    rw [ValueIdx.eq_ix3 i]
    refine (SideHost.ref73_apply _ _ _ _ _ _).trans (Eq.trans ?_ (arr19 m c _ _ _).symm)
    exact (omsAt_eq m c hp _ _ _ (i 0).isLt (i 1).isLt).symm

end Cert.SideEq

end
-- ==== Proof.FfnNextPoint.lean ====
/-
  The first feed-forward call, one grid point at a time: what its body leaves in the output blocks and in the scratch.

  Entry by entry at the extended reals: the scratch holds the normed rows of the two input blocks (`scr_apply`), and a
  point adds to each output row the product of its gated hidden columns with a tile of the down weights (`add_apply`).
-/
module

public import proofs.«01_k».proof.Proof.FfnMath
public import proofs.«01_k».proof.Proof.Gen.FfnNextIdeal.Frame

@[expose] public section

noncomputable section

namespace Cert.FfnNextIdeal.Point

open Cert.FfnNextIdeal Cert.FfnNextIdeal.Gen Cert.Rows Cert.FfnMath
open Idealize.ShloMosaic Idealize.ShloMosaic.TcCoe Idealize.ShloMosaic.ValueIdx Idealize.SL.Sem

/-- Row `i` of the 1024 prompt rows of a block followed by its 16 sample rows. -/
def stack (x0 : Vec Ideal S1024x2048 .f32) (x1 : Vec Ideal S16x2048 .f32) (i k : ℕ) : EReal :=
  if i < 1024 then at2 x0 i k else at2 x1 (i - 1024) k

/-- The normed prompt block. -/
theorem pay3_apply (x : Vec Ideal S1024x2048 .f32) (g : Vec Ideal S1x2048 .f32) (i : Fin 1024) (k : Fin 2048) :
    k0_pay3 x g (ix2 i k) = rms 2048 D E (at2 x i.val) (at2 g 0) k.val := by
  unfold k0_pay3
  simp only [shapeCast_self]
  exact rmsVec_apply x g _ _ _ _ _ _ _ _ _ i k

/-- The normed sample block. -/
theorem pay4_apply (x : Vec Ideal S16x2048 .f32) (g : Vec Ideal S1x2048 .f32) (i : Fin 16) (k : Fin 2048) :
    k0_pay5 (k0_pay4 x g) (ix2 i k) = rms 2048 D E (at2 x i.val) (at2 g 0) k.val := by
  unfold k0_pay5 k0_pay4
  simp only [shapeCast_self]
  exact rmsVec_apply x g _ _ _ _ _ _ _ _ _ i k

/-- The next call's norm of a finished prompt block. -/
theorem pay1_apply (x : Vec Ideal S1024x2048 .f32) (g : Vec Ideal S1x2048 .f32) (i : Fin 1024) (k : Fin 2048) :
    k0_pay1 x g (ix2 i k) = rms 2048 D E (at2 x i.val) (at2 g 0) k.val := by
  unfold k0_pay1
  simp only [shapeCast_self]
  exact rmsVec_apply x g _ _ _ _ _ _ _ _ _ i k

/-- The next call's norm of a finished sample block. -/
theorem pay2_apply (x : Vec Ideal S16x2048 .f32) (g : Vec Ideal S1x2048 .f32) (i : Fin 16) (k : Fin 2048) :
    k0_pay2 x g (ix2 i k) = rms 2048 D E (at2 x i.val) (at2 g 0) k.val := by
  unfold k0_pay2
  simp only [shapeCast_self]
  exact rmsVec_apply x g _ _ _ _ _ _ _ _ _ i k

/-- The scratch after the reset: the normed prompt block above the normed sample block. -/
def scr (x0 : Vec Ideal S1024x2048 .f32) (x1 : Vec Ideal S16x2048 .f32) (g : Vec Ideal S1x2048 .f32) :
    Vec Ideal S1040x2048 .bf16 := fun y => rms 2048 D E (stack x0 x1 (y 0).val) (at2 g 0) (y 1).val

/-- What a point adds: at row `i`, column `j`, the share of its tile of hidden columns. -/
theorem pay6_apply (h : Vec Ideal S1040x2048 .bf16) (wg wu : Vec Ideal S2048x256 .f32) (wd : Vec Ideal S256x2048 .f32)
    (i : Fin 1040) (j : Fin 2048) :
    k0_pay6 h wg wu wd (ix2 i j) = tile (at2 h i.val) (at2 wg) (at2 wu) (at2 wd) j.val := by
  unfold k0_pay6
  refine (mm_apply (M := 1040) (K := 256) (N := 2048) _ _ none i j).trans ?_
  refine Finset.sum_congr rfl fun f hf => ?_
  have hf := Finset.mem_range.mp hf
  refine congrArg₂ (· * ·) ?_ rfl
  refine (at2_ix _ i ⟨f, hf⟩).trans ?_
  have e1 := mm_apply (φ₁ := .bf16) (φ₂ := .bf16) h (truncf .bf16 wg bitsLt_bf16_f32) none i ⟨f, hf⟩
  have e2 := mm_apply (φ₁ := .bf16) (φ₂ := .bf16) h (truncf .bf16 wu bitsLt_bf16_f32) none i ⟨f, hf⟩
  exact congrArg₂ (fun u v : EReal => u * Ideal.logistic u * v * Ideal.ofBits .f32 0x3F000000#32) e1 e2

/-- What a point leaves in the prompt output block: what it held plus the tile. -/
theorem pay7_apply (h : Vec Ideal S1040x2048 .bf16) (wg wu : Vec Ideal S2048x256 .f32) (wd : Vec Ideal S256x2048 .f32)
    (o : Vec Ideal S1024x2048 .f32) (i : Fin 1024) (j : Fin 2048) :
    k0_pay7 h wg wu wd o (ix2 i j) = o (ix2 i j) + tile (at2 h i.val) (at2 wg) (at2 wu) (at2 wd) j.val := by
  unfold k0_pay7
  simp only [shapeCast_self]
  rw [addf_apply, extractStridedSlice_apply _ _ _ _ (ix2 ⟨i.val, by omega⟩ j) (fun a => by
    match a with
    | ⟨0, _⟩ => show i.val = 0 + i.val; omega
    | ⟨1, _⟩ => show j.val = 0 + j.val; omega), pay6_apply]

/-- The same for the sample output block. -/
theorem pay8_apply (h : Vec Ideal S1040x2048 .bf16) (wg wu : Vec Ideal S2048x256 .f32) (wd : Vec Ideal S256x2048 .f32)
    (o : Vec Ideal S16x2048 .f32) (i : Fin 16) (j : Fin 2048) :
    k0_pay8 h wg wu wd o (ix2 i j) = o (ix2 i j) + tile (at2 h (1024 + i.val)) (at2 wg) (at2 wu) (at2 wd) j.val := by
  unfold k0_pay8
  simp only [shapeCast_self]
  rw [addf_apply, extractStridedSlice_apply _ _ _ _ (ix2 ⟨1024 + i.val, by omega⟩ j) (fun a => by
    match a with
    | ⟨0, _⟩ => rfl
    | ⟨1, _⟩ => show j.val = 0 + j.val; omega), pay6_apply]

/-- The two blocks the reset writes, last first. -/
abbrev pieces (x0 : Vec Ideal S1024x2048 .f32) (x1 : Vec Ideal S16x2048 .f32) (g : Vec Ideal S1x2048 .f32) :
    List (View.Piece (Elt Ideal) S1040x2048 .bf16) :=
  [⟨Rect.unit (s := S1040x2048) ![1024, 0] ![16, 2048] inb_S1040x2048_S16x2048_1024_0, k0_pay5 (k0_pay4 x1 g)⟩,
    ⟨Rect.unit (s := S1040x2048) ![0, 0] ![1024, 2048] inb_S1040x2048_S1024x2048_0_0, k0_pay3 x0 g⟩]

/-- They cover the scratch. -/
theorem cover_scr (x0 : Vec Ideal S1024x2048 .f32) (x1 : Vec Ideal S16x2048 .f32) (g : Vec Ideal S1x2048 .f32)
    (y : S1040x2048.Idx) : ∃ p ∈ pieces x0 x1 g, y ∈ p.1.set := by
  have h1 : (y 0).val < 1040 := (y 0).isLt
  have h2 : (y 1).val < 2048 := (y 1).isLt
  by_cases h : (y 0).val < 1024
  · refine ⟨_, List.mem_cons_of_mem _ (List.mem_singleton_self _), ?_⟩
    refine (Rect.mem_set_unit (inb := inb_S1040x2048_S1024x2048_0_0)).mpr fun a => ?_
    match a with
    | ⟨0, _⟩ => exact ⟨Nat.zero_le _, by show (y 0).val < 0 + 1024; omega⟩
    | ⟨1, _⟩ => exact ⟨Nat.zero_le _, by show (y 1).val < 0 + 2048; omega⟩
  · refine ⟨_, List.mem_cons_self, ?_⟩
    refine (Rect.mem_set_unit (inb := inb_S1040x2048_S16x2048_1024_0)).mpr fun a => ?_
    match a with
    | ⟨0, _⟩ => exact ⟨by show 1024 ≤ (y 0).val; omega, by show (y 0).val < 1024 + 16; omega⟩
    | ⟨1, _⟩ => exact ⟨Nat.zero_le _, by show (y 1).val < 0 + 2048; omega⟩

/-- They leave the scratch `scr`. -/
theorem canon_scr (x0 : Vec Ideal S1024x2048 .f32) (x1 : Vec Ideal S16x2048 .f32) (g : Vec Ideal S1x2048 .f32) :
    View.canon (pieces x0 x1 g) = scr x0 x1 g := by
  funext y
  refine View.canon_apply_of_pieces (scr x0 x1 g) _ ?_ y (cover_scr x0 x1 g y)
  intro p hp x
  rcases List.mem_cons.mp hp with rfl | hp
  · obtain ⟨i, k, rfl⟩ : ∃ (i : Fin 16) (k : Fin 2048), x = ix2 i k := ⟨_, _, eq_ix2 x⟩
    refine (pay4_apply x1 g i k).trans ?_
    show _ = rms 2048 D E (stack x0 x1 (1024 + 1 * i.val)) (at2 g 0) (0 + 1 * k.val)
    rw [one_mul, one_mul, zero_add]
    refine congrArg (fun r => rms 2048 D E r (at2 g 0) k.val) (funext fun l => ?_)
    unfold stack
    rw [if_neg (by omega), Nat.add_sub_cancel_left]
  · obtain rfl := List.mem_singleton.mp hp
    obtain ⟨i, k, rfl⟩ : ∃ (i : Fin 1024) (k : Fin 2048), x = ix2 i k := ⟨_, _, eq_ix2 x⟩
    refine (pay3_apply x0 g i k).trans ?_
    show _ = rms 2048 D E (stack x0 x1 (0 + 1 * i.val)) (at2 g 0) (0 + 1 * k.val)
    rw [one_mul, one_mul, zero_add, zero_add]
    refine congrArg (fun r => rms 2048 D E r (at2 g 0) k.val) (funext fun l => ?_)
    unfold stack
    rw [if_pos i.isLt]

variable (m : (ℓ : Loc nD τ sig) → Buf (Elt Ideal) ℓ) (c : Dev nD)

/-- A resetting point leaves the normed rows in the scratch. -/
theorem scr_A (t : Fin cfg0.N) (h0 : t.val % 22 = 0) :
    (outsAt0 m c t.val t.isLt).2.2.2.2 = scr (iblk m c 0 t) (iblk m c 1 t) (iblk m c 3 t) := by
  rw [outsAt0_A m c t h0 (by omega)]
  dsimp only
  unfold sout0_A_0
  rw [View.read_writes_eq_canon _ _ _ (scover0_A_0 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_3 t).read_unread,
    View.ld_unit_zero (S := S1024x2048) hz, View.ld_unit_zero (S := S16x2048) hz, View.ld_unit_zero (S := S1x2048) hz]
  exact canon_scr _ _ _

/-- It leaves the input block plus its tile in the prompt output block. -/
theorem out7_A (t : Fin cfg0.N) (h0 : t.val % 22 = 0) :
    (outsAt0 m c t.val t.isLt).1 = k0_pay7 (scr (iblk m c 0 t) (iblk m c 1 t) (iblk m c 3 t))
      (iblk m c 4 t) (iblk m c 5 t) (iblk m c 6 t) (iblk m c 0 t) := by
  rw [outsAt0_A m c t h0 (by omega)]
  dsimp only
  unfold out0_A_7
  rw [View.read_writes_eq_canon _ _ _ (cover0_A_7 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_3 t).read_unread, (hs0_4 t).read_unread,
    (hs0_5 t).read_unread, (hs0_6 t).read_unread, View.ld_unit_zero (S := S1024x2048) hz,
    View.ld_unit_zero (S := S16x2048) hz, View.ld_unit_zero (S := S1x2048) hz, View.ld_unit_zero (S := S2048x256) hz,
    View.ld_unit_zero (S := S256x2048) hz, View.canon_cons_unit_zero (S := S1024x2048) hz,
    View.readCov_unit_zero (S := S1024x2048) _ hz]
  rw [View.readCov_eq_canon_ld _ _ _ (cover_scr _ _ _), View.ld_unit_zero (S := S1040x2048) hz, canon_scr]

/-- The same for the sample output block. -/
theorem out8_A (t : Fin cfg0.N) (h0 : t.val % 22 = 0) :
    (outsAt0 m c t.val t.isLt).2.1 = k0_pay8 (scr (iblk m c 0 t) (iblk m c 1 t) (iblk m c 3 t))
      (iblk m c 4 t) (iblk m c 5 t) (iblk m c 6 t) (iblk m c 1 t) := by
  rw [outsAt0_A m c t h0 (by omega)]
  dsimp only
  unfold out0_A_8
  rw [View.read_writes_eq_canon _ _ _ (cover0_A_8 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_3 t).read_unread, (hs0_4 t).read_unread,
    (hs0_5 t).read_unread, (hs0_6 t).read_unread, View.ld_unit_zero (S := S1024x2048) hz,
    View.ld_unit_zero (S := S16x2048) hz, View.ld_unit_zero (S := S1x2048) hz, View.ld_unit_zero (S := S2048x256) hz,
    View.ld_unit_zero (S := S256x2048) hz, View.canon_cons_unit_zero (S := S16x2048) hz,
    View.readCov_unit_zero (S := S16x2048) _ hz]
  rw [View.readCov_eq_canon_ld _ _ _ (cover_scr _ _ _), View.ld_unit_zero (S := S1040x2048) hz, canon_scr]

/-- What the point before left. -/
abbrev prev (t : Fin cfg0.N) := outsAt0 m c (t.val - 1) (Nat.lt_of_le_of_lt (Nat.sub_le _ _) t.isLt)

/-- A point that does not reset keeps the scratch. -/
theorem scr_B (t : Fin cfg0.N) (h0 : ¬t.val % 22 = 0) : (outsAt0 m c t.val t.isLt).2.2.2.2 = (prev m c t).2.2.2.2 := by
  by_cases h1 : t.val % 22 = 21
  · rw [outsAt0_C m c t h0 h1]; rfl
  · rw [outsAt0_B m c t h0 h1]; rfl

/-- It adds its tile to the prompt output block. -/
theorem out7_B (t : Fin cfg0.N) (h0 : ¬t.val % 22 = 0) (h1 : ¬t.val % 22 = 21) :
    (outsAt0 m c t.val t.isLt).1 = k0_pay7 (prev m c t).2.2.2.2 (iblk m c 4 t) (iblk m c 5 t) (iblk m c 6 t) (prev m c t).1 := by
  rw [outsAt0_B m c t h0 h1]
  dsimp only
  unfold out0_B_7
  rw [View.read_writes_eq_canon _ _ _ (cover0_B_7 c _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_4 t).read_unread, (hs0_5 t).read_unread, (hs0_6 t).read_unread, (hs0_7 t).read_unread,
    (Memref.isWhole_whole _).read_unread, View.ld_unit_zero (S := S1024x2048) hz,
    View.ld_unit_zero (S := S2048x256) hz, View.ld_unit_zero (S := S1040x2048) hz,
    View.ld_unit_zero (S := S256x2048) hz, View.canon_cons_unit_zero (S := S1024x2048) hz]

/-- The same for the sample output block. -/
theorem out8_B (t : Fin cfg0.N) (h0 : ¬t.val % 22 = 0) (h1 : ¬t.val % 22 = 21) :
    (outsAt0 m c t.val t.isLt).2.1 = k0_pay8 (prev m c t).2.2.2.2 (iblk m c 4 t) (iblk m c 5 t) (iblk m c 6 t) (prev m c t).2.1 := by
  rw [outsAt0_B m c t h0 h1]
  dsimp only
  unfold out0_B_8
  rw [View.read_writes_eq_canon _ _ _ (cover0_B_8 c _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_4 t).read_unread, (hs0_5 t).read_unread, (hs0_6 t).read_unread, (hs0_8 t).read_unread,
    (Memref.isWhole_whole _).read_unread, View.ld_unit_zero (S := S16x2048) hz,
    View.ld_unit_zero (S := S2048x256) hz, View.ld_unit_zero (S := S1040x2048) hz,
    View.ld_unit_zero (S := S256x2048) hz, View.canon_cons_unit_zero (S := S16x2048) hz]

/-- So does the last point of a run. -/
theorem out7_C (t : Fin cfg0.N) (h0 : ¬t.val % 22 = 0) (h1 : t.val % 22 = 21) :
    (outsAt0 m c t.val t.isLt).1 = k0_pay7 (prev m c t).2.2.2.2 (iblk m c 4 t) (iblk m c 5 t) (iblk m c 6 t) (prev m c t).1 := by
  rw [outsAt0_C m c t h0 h1]
  dsimp only
  unfold out0_C_7
  rw [View.read_writes_eq_canon _ _ _ (cover0_C_7 c _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_4 t).read_unread, (hs0_5 t).read_unread, (hs0_6 t).read_unread, (hs0_7 t).read_unread,
    (Memref.isWhole_whole _).read_unread, View.ld_unit_zero (S := S1024x2048) hz,
    View.ld_unit_zero (S := S2048x256) hz, View.ld_unit_zero (S := S1040x2048) hz,
    View.ld_unit_zero (S := S256x2048) hz, View.canon_cons_unit_zero (S := S1024x2048) hz]

/-- The same for the sample output block. -/
theorem out8_C (t : Fin cfg0.N) (h0 : ¬t.val % 22 = 0) (h1 : t.val % 22 = 21) :
    (outsAt0 m c t.val t.isLt).2.1 = k0_pay8 (prev m c t).2.2.2.2 (iblk m c 4 t) (iblk m c 5 t) (iblk m c 6 t) (prev m c t).2.1 := by
  rw [outsAt0_C m c t h0 h1]
  dsimp only
  unfold out0_C_8
  rw [View.read_writes_eq_canon _ _ _ (cover0_C_8 c _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_4 t).read_unread, (hs0_5 t).read_unread, (hs0_6 t).read_unread, (hs0_8 t).read_unread,
    (Memref.isWhole_whole _).read_unread, View.ld_unit_zero (S := S16x2048) hz,
    View.ld_unit_zero (S := S2048x256) hz, View.ld_unit_zero (S := S1040x2048) hz,
    View.ld_unit_zero (S := S256x2048) hz, View.canon_cons_unit_zero (S := S16x2048) hz]

/-- The last point of a run leaves the norm of what it finished in output 9. -/
theorem out9_C (t : Fin cfg0.N) (h0 : ¬t.val % 22 = 0) (h1 : t.val % 22 = 21) :
    (outsAt0 m c t.val t.isLt).2.2.1 = k0_pay1 (outsAt0 m c t.val t.isLt).1 (iblk m c 2 t) := by
  rw [out7_C m c t h0 h1, outsAt0_C m c t h0 h1]
  dsimp only
  unfold out0_C_9
  rw [View.read_writes_eq_canon _ _ _ (cover0_C_9 c _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_2 t).read_unread, (hs0_4 t).read_unread, (hs0_5 t).read_unread, (hs0_6 t).read_unread,
    (hs0_7 t).read_unread, (Memref.isWhole_whole _).read_unread, View.ld_unit_zero (S := S1024x2048) hz,
    View.ld_unit_zero (S := S2048x256) hz, View.ld_unit_zero (S := S1040x2048) hz, View.ld_unit_zero (S := S1x2048) hz,
    View.ld_unit_zero (S := S256x2048) hz, View.canon_cons_unit_zero (S := S1024x2048) hz,
    View.readCov_unit_zero (S := S1024x2048) _ hz]

/-- The last point of a run leaves the norm of what it finished in output 10. -/
theorem out10_C (t : Fin cfg0.N) (h0 : ¬t.val % 22 = 0) (h1 : t.val % 22 = 21) :
    (outsAt0 m c t.val t.isLt).2.2.2.1 = k0_pay2 (outsAt0 m c t.val t.isLt).2.1 (iblk m c 2 t) := by
  rw [out8_C m c t h0 h1, outsAt0_C m c t h0 h1]
  dsimp only
  unfold out0_C_10
  rw [View.read_writes_eq_canon _ _ _ (cover0_C_10 c _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_2 t).read_unread, (hs0_4 t).read_unread, (hs0_5 t).read_unread, (hs0_6 t).read_unread,
    (hs0_8 t).read_unread, (Memref.isWhole_whole _).read_unread, View.ld_unit_zero (S := S16x2048) hz,
    View.ld_unit_zero (S := S2048x256) hz, View.ld_unit_zero (S := S1040x2048) hz, View.ld_unit_zero (S := S1x2048) hz,
    View.ld_unit_zero (S := S256x2048) hz, View.canon_cons_unit_zero (S := S16x2048) hz,
    View.readCov_unit_zero (S := S16x2048) _ hz]

end Cert.FfnNextIdeal.Point

end
-- ==== Proof.FfnNextArray.lean ====
/-
  The first feed-forward call over its whole grid: the arrays it leaves.

  A point's blocks are cut from the arguments (`read0` to `read6`); by induction over the points the outputs hold the row plus
  the shares of the hidden columns so far (`inv`); the last point of each run completes the row (`G7_apply`, `G8_apply`).
-/
module

public import proofs.«01_k».proof.Proof.FfnNextPoint
public import proofs.«01_k».proof.Proof.Gen.FfnNextIdeal.Value
public import Idealize.ShloMosaic.Lib.Pipeline.ValueKit.Point

@[expose] public section

noncomputable section

namespace Cert.FfnNextIdeal.Array

open Cert.FfnNextIdeal Cert.FfnNextIdeal.Gen Cert.FfnNextIdeal.Point Cert.Rows Cert.FfnMath
open Idealize.ShloMosaic hiding ix1 ix2 ix3 ix4 ix5
open Idealize.ShloMosaic.TcCoe Idealize.ShloMosaic.ValueIdx Idealize.SL.Sem

variable (m : (ℓ : Loc nD τ sig) → Buf (Elt Ideal) ℓ) (c : Dev nD)

/-- The prompt rows, the sample rows, the gain and the three weights. -/
abbrev xp : Vec Ideal S8192x2048 .f32 := m ((c : Thread nD τ).loc main_arg0)
abbrev xs : Vec Ideal S128x2048 .f32 := m ((c : Thread nD τ).loc main_arg1)
abbrev gn : Vec Ideal S2048 .f32 := m ((c : Thread nD τ).loc main_arg2)
abbrev wg : Vec Ideal S2048x5632 .f32 := m ((c : Thread nD τ).loc main_arg3)
abbrev wu : Vec Ideal S2048x5632 .f32 := m ((c : Thread nD τ).loc main_arg4)
abbrev wd : Vec Ideal S5632x2048 .f32 := m ((c : Thread nD τ).loc main_arg5)
/-- The gain of the norm that follows. -/
abbrev gnx : Vec Ideal S2048 .f32 := m ((c : Thread nD τ).loc main_arg6)

/-- Which block of each argument a point works on. -/
theorem idx : ∀ t : Fin cfg0.N, win0_0.index t (0 : Fin 2) = t.val / 22 ∧ win0_0.index t (1 : Fin 2) = 0
    ∧ win0_1.index t (0 : Fin 2) = t.val / 22 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val % 22
    ∧ win0_5.index t (0 : Fin 2) = 0 ∧ win0_5.index t (1 : Fin 2) = t.val % 22
    ∧ win0_6.index t (0 : Fin 2) = t.val % 22 ∧ win0_6.index t (1 : Fin 2) = 0 :=
  (by decide +kernel : ∀ t : Fin grid0.N, _)

theorem lt_N (t : Fin cfg0.N) : t.val < 176 := lt_of_lt_of_eq t.isLt N_0

theorem read0 (t : Fin cfg0.N) (i k : ℕ) (hi : i < 1024) (hk : k < 2048) :
    at2 (a := 1024) (b := 2048) (iblk m c 0 t) i k = at2 (xp m c) (1024 * (t.val / 22) + i) k := by
  have ht := lt_N t
  refine (at2_ix (a := 1024) (b := 2048) (iblk m c 0 t) ⟨i, hi⟩ ⟨k, hk⟩).trans (Eq.trans ?_ (at2_ix (xp m c) ⟨1024 * (t.val / 22) + i, by omega⟩ ⟨k, hk⟩).symm)
  blk_ext [iblk, V_main_arg0, idx t]

theorem read1 (t : Fin cfg0.N) (i k : ℕ) (hi : i < 16) (hk : k < 2048) :
    at2 (a := 16) (b := 2048) (iblk m c 1 t) i k = at2 (xs m c) (16 * (t.val / 22) + i) k := by
  have ht := lt_N t
  refine (at2_ix (a := 16) (b := 2048) (iblk m c 1 t) ⟨i, hi⟩ ⟨k, hk⟩).trans (Eq.trans ?_ (at2_ix (xs m c) ⟨16 * (t.val / 22) + i, by omega⟩ ⟨k, hk⟩).symm)
  blk_ext [iblk, V_main_arg1, idx t]

theorem read3 (t : Fin cfg0.N) (k : ℕ) (hk : k < 2048) :
    at2 (a := 1) (b := 2048) (iblk m c 3 t) 0 k = at1 (gn m c) k := by
  refine (at2_ix (a := 1) (b := 2048) (iblk m c 3 t) 0 ⟨k, hk⟩).trans (Eq.trans ?_ (at1_ix (gn m c) ⟨k, hk⟩).symm)
  blk_ext! [iblk, idx t]

theorem read2 (t : Fin cfg0.N) (k : ℕ) (hk : k < 2048) :
    at2 (a := 1) (b := 2048) (iblk m c 2 t) 0 k = at1 (gnx m c) k := by
  refine (at2_ix (a := 1) (b := 2048) (iblk m c 2 t) 0 ⟨k, hk⟩).trans (Eq.trans ?_ (at1_ix (gnx m c) ⟨k, hk⟩).symm)
  blk_ext! [iblk, idx t]

theorem read4 (t : Fin cfg0.N) (k f : ℕ) (hk : k < 2048) (hf : f < 256) :
    at2 (a := 2048) (b := 256) (iblk m c 4 t) k f = at2 (wg m c) k (256 * (t.val % 22) + f) := by
  have ht := lt_N t
  refine (at2_ix (a := 2048) (b := 256) (iblk m c 4 t) ⟨k, hk⟩ ⟨f, hf⟩).trans (Eq.trans ?_ (at2_ix (wg m c) ⟨k, hk⟩ ⟨256 * (t.val % 22) + f, by omega⟩).symm)
  blk_ext [iblk, V_main_arg3, idx t]

theorem read5 (t : Fin cfg0.N) (k f : ℕ) (hk : k < 2048) (hf : f < 256) :
    at2 (a := 2048) (b := 256) (iblk m c 5 t) k f = at2 (wu m c) k (256 * (t.val % 22) + f) := by
  have ht := lt_N t
  refine (at2_ix (a := 2048) (b := 256) (iblk m c 5 t) ⟨k, hk⟩ ⟨f, hf⟩).trans (Eq.trans ?_ (at2_ix (wu m c) ⟨k, hk⟩ ⟨256 * (t.val % 22) + f, by omega⟩).symm)
  blk_ext [iblk, V_main_arg4, idx t]

theorem read6 (t : Fin cfg0.N) (f k : ℕ) (hf : f < 256) (hk : k < 2048) :
    at2 (a := 256) (b := 2048) (iblk m c 6 t) f k = at2 (wd m c) (256 * (t.val % 22) + f) k := by
  have ht := lt_N t
  refine (at2_ix (a := 256) (b := 2048) (iblk m c 6 t) ⟨f, hf⟩ ⟨k, hk⟩).trans (Eq.trans ?_ (at2_ix (wd m c) ⟨256 * (t.val % 22) + f, by omega⟩ ⟨k, hk⟩).symm)
  blk_ext [iblk, V_main_arg5, idx t]

/-- The rows of the two streams, normed. -/
abbrev hp (r : ℕ) : ℕ → EReal := nrm (at2 (xp m c) r) (at1 (gn m c))
abbrev hs (r : ℕ) : ℕ → EReal := nrm (at2 (xs m c) r) (at1 (gn m c))

/-- What the outputs and the scratch hold after a point: its rows plus the shares of the hidden columns so far, and the
    normed rows. -/
structure Inv (t : Fin cfg0.N) : Prop where
  p : ∀ (i : Fin 1024) (j : Fin 2048), (outsAt0 m c t.val t.isLt).1 (ix2 i j)
    = partialRow (at2 (xp m c) (1024 * (t.val / 22) + i.val)) (hp m c (1024 * (t.val / 22) + i.val)) (at2 (wg m c)) (at2 (wu m c))
        (at2 (wd m c)) (256 * (t.val % 22 + 1)) j.val
  s : ∀ (i : Fin 16) (j : Fin 2048), (outsAt0 m c t.val t.isLt).2.1 (ix2 i j)
    = partialRow (at2 (xs m c) (16 * (t.val / 22) + i.val)) (hs m c (16 * (t.val / 22) + i.val)) (at2 (wg m c)) (at2 (wu m c))
        (at2 (wd m c)) (256 * (t.val % 22 + 1)) j.val
  hp : ∀ i < 1024, ∀ k < 2048, at2 (a := 1040) (b := 2048) (outsAt0 m c t.val t.isLt).2.2.2.2 i k = hp m c (1024 * (t.val / 22) + i) k
  hs : ∀ i < 16, ∀ k < 2048, at2 (a := 1040) (b := 2048) (outsAt0 m c t.val t.isLt).2.2.2.2 (1024 + i) k = hs m c (16 * (t.val / 22) + i) k

/-- A point's tile, of the whole weights. -/
theorem tile_read (t : Fin cfg0.N) {h h' : ℕ → EReal} (hh : ∀ k < 2048, h k = h' k) (j : Fin 2048) :
    tile h (at2 (a := 2048) (b := 256) (iblk m c 4 t)) (at2 (a := 2048) (b := 256) (iblk m c 5 t))
        (at2 (a := 256) (b := 2048) (iblk m c 6 t)) j.val
      = ∑ f ∈ Finset.range 256, act h' (at2 (wg m c)) (at2 (wu m c)) (at2 (wd m c)) j.val (256 * (t.val % 22) + f) :=
  tile_eq _ hh (fun k hk f hf => read4 m c t k f hk hf) (fun k hk f hf => read5 m c t k f hk hf)
    fun f hf => read6 m c t f j.val hf j.isLt

/-- The scratch of a resetting point: the normed prompt rows, -/
theorem scr_p (t : Fin cfg0.N) (i : ℕ) (hi : i < 1024) (k : ℕ) (hk : k < 2048) :
    at2 (a := 1040) (b := 2048) (scr (iblk m c 0 t) (iblk m c 1 t) (iblk m c 3 t)) i k = hp m c (1024 * (t.val / 22) + i) k := by
  refine (at2_ix (a := 1040) (b := 2048) _ ⟨i, by omega⟩ ⟨k, hk⟩).trans ?_
  refine nrm_congr (fun l hl => ?_) (fun l hl => read3 m c t l hl) k hk
  show stack _ _ i l = _
  unfold stack
  rw [if_pos hi]
  exact read0 m c t i l hi hl

/-- and the normed sample rows below. -/
theorem scr_s (t : Fin cfg0.N) (i : ℕ) (hi : i < 16) (k : ℕ) (hk : k < 2048) :
    at2 (a := 1040) (b := 2048) (scr (iblk m c 0 t) (iblk m c 1 t) (iblk m c 3 t)) (1024 + i) k
      = hs m c (16 * (t.val / 22) + i) k := by
  refine (at2_ix (a := 1040) (b := 2048) _ ⟨1024 + i, by omega⟩ ⟨k, hk⟩).trans ?_
  refine nrm_congr (fun l hl => ?_) (fun l hl => read3 m c t l hl) k hk
  show stack _ _ (1024 + i) l = _
  unfold stack
  rw [if_neg (by omega), Nat.add_sub_cancel_left]
  exact read1 m c t i l hi hl

/-- A resetting point. -/
theorem inv_A (t : Fin cfg0.N) (h0 : t.val % 22 = 0) : Inv m c t := by
  refine ⟨fun i j => ?_, fun i j => ?_, fun i hi k hk => ?_, fun i hi k hk => ?_⟩
  · rw [out7_A m c t h0, pay7_apply, tile_read m c t (scr_p m c t i.val i.isLt) j, ← partialRow_succ]
    refine congrArg (· + _) ?_
    rw [h0, partialRow_zero]
    exact (at2_ix (a := 1024) (b := 2048) (iblk m c 0 t) i j).symm.trans (read0 m c t i.val j.val i.isLt j.isLt)
  · rw [out8_A m c t h0, pay8_apply, tile_read m c t (scr_s m c t i.val i.isLt) j, ← partialRow_succ]
    refine congrArg (· + _) ?_
    rw [h0, partialRow_zero]
    exact (at2_ix (a := 16) (b := 2048) (iblk m c 1 t) i j).symm.trans (read1 m c t i.val j.val i.isLt j.isLt)
  · rw [scr_A m c t h0]; exact scr_p m c t i hi k hk
  · rw [scr_A m c t h0]; exact scr_s m c t i hi k hk

/-- A point that goes on adds its tile to the prompt block, -/
theorem out7_go (t : Fin cfg0.N) (h0 : ¬t.val % 22 = 0) :
    (outsAt0 m c t.val t.isLt).1 = k0_pay7 (prev m c t).2.2.2.2 (iblk m c 4 t) (iblk m c 5 t) (iblk m c 6 t) (prev m c t).1 := by
  by_cases h1 : t.val % 22 = 21
  · exact out7_C m c t h0 h1
  · exact out7_B m c t h0 h1

/-- and to the sample block. -/
theorem out8_go (t : Fin cfg0.N) (h0 : ¬t.val % 22 = 0) :
    (outsAt0 m c t.val t.isLt).2.1 = k0_pay8 (prev m c t).2.2.2.2 (iblk m c 4 t) (iblk m c 5 t) (iblk m c 6 t) (prev m c t).2.1 := by
  by_cases h1 : t.val % 22 = 21
  · exact out8_C m c t h0 h1
  · exact out8_B m c t h0 h1

/-- A point that goes on from the one before. -/
theorem inv_B (t : Fin cfg0.N) (h0 : ¬t.val % 22 = 0) (s : Fin cfg0.N) (hs' : s.val = t.val - 1) (ih : Inv m c s) :
    Inv m c t := by
  obtain ⟨n, hn⟩ := s
  obtain rfl : n = t.val - 1 := hs'
  have hd : (t.val - 1) / 22 = t.val / 22 := by omega
  have hq : (t.val - 1) % 22 + 1 = t.val % 22 := by omega
  obtain ⟨ip, is, ihp, ihs⟩ := ih
  simp only [hd, hq] at ip is ihp ihs
  refine ⟨fun i j => ?_, fun i j => ?_, fun i hi k hk => ?_, fun i hi k hk => ?_⟩
  · rw [out7_go m c t h0, pay7_apply, tile_read m c t (ihp i.val i.isLt) j, ← partialRow_succ]
    exact congrArg (· + _) (ip i j)
  · rw [out8_go m c t h0, pay8_apply, tile_read m c t (ihs i.val i.isLt) j, ← partialRow_succ]
    exact congrArg (· + _) (is i j)
  · rw [scr_B m c t h0]; exact ihp i hi k hk
  · rw [scr_B m c t h0]; exact ihs i hi k hk

/-- Every point. -/
theorem inv : ∀ (n : ℕ) (hn : n < cfg0.N), Inv m c ⟨n, hn⟩
  | 0, hn => inv_A m c ⟨0, hn⟩ rfl
  | n + 1, hn => by
    by_cases h0 : (n + 1) % 22 = 0
    · exact inv_A m c ⟨n + 1, hn⟩ h0
    · exact inv_B m c ⟨n + 1, hn⟩ h0 ⟨n, by omega⟩ rfl (inv n (by omega))

/-- The prompt result, row by row: the layer. -/
theorem G7_apply (r : Fin 8192) (j : Fin 2048) : Value.G7 m c (ix2 r j)
    = ffnRow (at2 (xp m c) r.val) (at1 (gn m c)) (at2 (wg m c)) (at2 (wu m c)) (at2 (wd m c)) j.val := by
  have hp' : Value.pt7Of (ix2 r j) = 22 * (r.val / 1024) + 21 := by
    show 22 * (1 * (r.val / 1024 - 0) + 1 * (j.val / 2048 - 0)) + 21 = _
    rw [Nat.div_eq_of_lt j.isLt]; omega
  have hN : Value.pt7Of (ix2 r j) < cfg0.N := by rw [hp', show cfg0.N = 176 from N_0]; omega
  unfold Value.G7
  rw [dif_pos hN, ← Value.outsAt0_sweep m c _ hN]
  have e : Value.loc7Of (ix2 r j) = ix2 ⟨r.val % 1024, Nat.mod_lt _ (by decide)⟩ j := by
    funext a
    match a with
    | ⟨0, _⟩ => rfl
    | ⟨1, _⟩ => exact Fin.ext (Nat.mod_eq_of_lt j.isLt)
  have h := (inv m c _ hN).p ⟨r.val % 1024, Nat.mod_lt _ (by decide)⟩ j
  rw [e, h, ← partialRow_all]
  simp only [hp']
  rw [show (22 * (r.val / 1024) + 21) / 22 = r.val / 1024 by omega, show (22 * (r.val / 1024) + 21) % 22 + 1 = 22 by omega,
    show 1024 * (r.val / 1024) + r.val % 1024 = r.val by omega]

/-- The sample result, row by row: the layer. -/
theorem G8_apply (r : Fin 128) (j : Fin 2048) : Value.G8 m c (ix2 r j)
    = ffnRow (at2 (xs m c) r.val) (at1 (gn m c)) (at2 (wg m c)) (at2 (wu m c)) (at2 (wd m c)) j.val := by
  have hp' : Value.pt8Of (ix2 r j) = 22 * (r.val / 16) + 21 := by
    show 22 * (1 * (r.val / 16 - 0) + 1 * (j.val / 2048 - 0)) + 21 = _
    rw [Nat.div_eq_of_lt j.isLt]; omega
  have hN : Value.pt8Of (ix2 r j) < cfg0.N := by rw [hp', show cfg0.N = 176 from N_0]; omega
  unfold Value.G8
  rw [dif_pos hN, ← Value.outsAt0_sweep m c _ hN]
  have e : Value.loc8Of (ix2 r j) = ix2 ⟨r.val % 16, Nat.mod_lt _ (by decide)⟩ j := by
    funext a
    match a with
    | ⟨0, _⟩ => rfl
    | ⟨1, _⟩ => exact Fin.ext (Nat.mod_eq_of_lt j.isLt)
  have h := (inv m c _ hN).s ⟨r.val % 16, Nat.mod_lt _ (by decide)⟩ j
  rw [e, h, ← partialRow_all]
  simp only [hp']
  rw [show (22 * (r.val / 16) + 21) / 22 = r.val / 16 by omega, show (22 * (r.val / 16) + 21) % 22 + 1 = 22 by omega,
    show 16 * (r.val / 16) + r.val % 16 = r.val by omega]

/-- The prompt rows, normed for the next call. -/
theorem G9_apply (r : Fin 8192) (j : Fin 2048) : Value.G9 m c (ix2 r j)
    = nrm (ffnRow (at2 (xp m c) r.val) (at1 (gn m c)) (at2 (wg m c)) (at2 (wu m c)) (at2 (wd m c))) (at1 (gnx m c)) j.val := by
  have hp' : Value.pt9Of (ix2 r j) = 22 * (r.val / 1024) + 21 := by
    show 22 * (1 * (r.val / 1024 - 0) + 1 * (j.val / 2048 - 0)) + 21 = _
    rw [Nat.div_eq_of_lt j.isLt]; omega
  have hN : Value.pt9Of (ix2 r j) < cfg0.N := by rw [hp', show cfg0.N = 176 from N_0]; omega
  unfold Value.G9
  rw [dif_pos hN, ← Value.outsAt0_sweep m c _ hN]
  have e : Value.loc9Of (ix2 r j) = ix2 ⟨r.val % 1024, Nat.mod_lt _ (by decide)⟩ j := by
    funext a
    match a with
    | ⟨0, _⟩ => rfl
    | ⟨1, _⟩ => exact Fin.ext (Nat.mod_eq_of_lt j.isLt)
  have h := out9_C m c ⟨_, hN⟩ (by show ¬Value.pt9Of (ix2 r j) % 22 = 0; omega) (by show Value.pt9Of (ix2 r j) % 22 = 21; omega)
  rw [e]
  refine (congrFun h _).trans ((pay1_apply _ _ _ _).trans (nrm_congr (fun k hk => ?_) (fun k hk => read2 m c _ k hk) _ j.isLt))
  refine (at2_ix (a := 1024) (b := 2048) _ ⟨r.val % 1024, Nat.mod_lt _ (by decide)⟩ ⟨k, hk⟩).trans ?_
  rw [(inv m c _ hN).p ⟨r.val % 1024, Nat.mod_lt _ (by decide)⟩ ⟨k, hk⟩, ← partialRow_all]
  simp only [hp']
  rw [show (22 * (r.val / 1024) + 21) / 22 = r.val / 1024 by omega, show (22 * (r.val / 1024) + 21) % 22 + 1 = 22 by omega,
    show 1024 * (r.val / 1024) + r.val % 1024 = r.val by omega]

/-- The sample rows, normed for the next call. -/
theorem G10_apply (r : Fin 128) (j : Fin 2048) : Value.G10 m c (ix2 r j)
    = nrm (ffnRow (at2 (xs m c) r.val) (at1 (gn m c)) (at2 (wg m c)) (at2 (wu m c)) (at2 (wd m c))) (at1 (gnx m c)) j.val := by
  have hp' : Value.pt10Of (ix2 r j) = 22 * (r.val / 16) + 21 := by
    show 22 * (1 * (r.val / 16 - 0) + 1 * (j.val / 2048 - 0)) + 21 = _
    rw [Nat.div_eq_of_lt j.isLt]; omega
  have hN : Value.pt10Of (ix2 r j) < cfg0.N := by rw [hp', show cfg0.N = 176 from N_0]; omega
  unfold Value.G10
  rw [dif_pos hN, ← Value.outsAt0_sweep m c _ hN]
  have e : Value.loc10Of (ix2 r j) = ix2 ⟨r.val % 16, Nat.mod_lt _ (by decide)⟩ j := by
    funext a
    match a with
    | ⟨0, _⟩ => rfl
    | ⟨1, _⟩ => exact Fin.ext (Nat.mod_eq_of_lt j.isLt)
  have h := out10_C m c ⟨_, hN⟩ (by show ¬Value.pt10Of (ix2 r j) % 22 = 0; omega) (by show Value.pt10Of (ix2 r j) % 22 = 21; omega)
  rw [e]
  refine (congrFun h _).trans ((pay2_apply _ _ _ _).trans (nrm_congr (fun k hk => ?_) (fun k hk => read2 m c _ k hk) _ j.isLt))
  refine (at2_ix (a := 16) (b := 2048) _ ⟨r.val % 16, Nat.mod_lt _ (by decide)⟩ ⟨k, hk⟩).trans ?_
  rw [(inv m c _ hN).s ⟨r.val % 16, Nat.mod_lt _ (by decide)⟩ ⟨k, hk⟩, ← partialRow_all]
  simp only [hp']
  rw [show (22 * (r.val / 16) + 21) / 22 = r.val / 16 by omega, show (22 * (r.val / 16) + 21) % 22 + 1 = 22 by omega,
    show 16 * (r.val / 16) + r.val % 16 = r.val by omega]

end Cert.FfnNextIdeal.Array

end
-- ==== Proof.FfnHost.lean ====
/-
  A feed-forward layer as the references write it, on whole arrays: entry by entry it is `FfnMath.ffnRow`.
-/
module

public import proofs.«01_k».proof.Proof.FfnMath

@[expose] public section

noncomputable section

namespace Cert.FfnMath

open Cert.Rows
open Idealize.ShloMosaic Idealize.ShloMosaic.TcCoe Idealize.ShloMosaic.ValueIdx

/-- The gated unit of two arrays at an index. -/
theorem swiHost_apply {M N : ℕ} (u v : FVec Ideal ⟨2, ![M, N]⟩ .f32)
    (b1 b2 : (⟨0, ![]⟩ : Shape).BroadcastsInDim ⟨2, ![M, N]⟩ ![]) (y : (⟨2, ![M, N]⟩ : Shape).Idx) :
    mulf (mulf u (Host.divf (broadcastInDim ⟨2, ![M, N]⟩ ![] b1 (constant ⟨0, ![]⟩ .f32 0x3F800000#32))
        (addf (broadcastInDim ⟨2, ![M, N]⟩ ![] b2 (constant ⟨0, ![]⟩ .f32 0x3F800000#32)) (Host.exp (Host.negf u))))) v y
      = swi (u y) (v y) := by
  unfold swi
  rw [← logisticHost]
  rfl

/-- The gated hidden array at an index. -/
theorem gateHost_apply {M : ℕ} (h : FVec Ideal ⟨2, ![M, 2048]⟩ .f32) (wg wu : FVec Ideal ⟨2, ![2048, 5632]⟩ .f32)
    (b1 b2 : (⟨0, ![]⟩ : Shape).BroadcastsInDim ⟨2, ![M, 5632]⟩ ![]) (i : Fin M) (f : Fin 5632) :
    mulf (mulf (Host.dotGeneral (DotDims.plain M 2048 5632) none h wg)
      (Host.divf (broadcastInDim ⟨2, ![M, 5632]⟩ ![] b1 (constant ⟨0, ![]⟩ .f32 0x3F800000#32))
        (addf (broadcastInDim ⟨2, ![M, 5632]⟩ ![] b2 (constant ⟨0, ![]⟩ .f32 0x3F800000#32))
          (Host.exp (Host.negf (Host.dotGeneral (DotDims.plain M 2048 5632) none h wg))))))
      (Host.dotGeneral (DotDims.plain M 2048 5632) none h wu) (ix2 i f)
      = swi (lin 2048 (at2 h i.val) (at2 wg) f.val) (lin 2048 (at2 h i.val) (at2 wu) f.val) := by
  have e1 := hmm_apply h wg none i f
  have e2 := hmm_apply h wu none i f
  rw [← e1, ← e2]
  exact swiHost_apply _ _ b1 b2 _

/-- The layer at an index, from the normed array `h`. -/
theorem ffnHost_apply {M : ℕ} (x h : FVec Ideal ⟨2, ![M, 2048]⟩ .f32) (g : FVec Ideal ⟨1, ![2048]⟩ .f32)
    (wg wu : FVec Ideal ⟨2, ![2048, 5632]⟩ .f32) (wd : FVec Ideal ⟨2, ![5632, 2048]⟩ .f32)
    (b0 : (⟨0, ![]⟩ : Shape).BroadcastsInDim ⟨2, ![M, 2048]⟩ ![])
    (b1 b2 : (⟨0, ![]⟩ : Shape).BroadcastsInDim ⟨2, ![M, 5632]⟩ ![])
    (hh : ∀ (i : Fin M) (k : Fin 2048), h (ix2 i k) = nrm (at2 x i.val) (at1 g) k.val) (i : Fin M) (j : Fin 2048) :
    addf x (mulf (broadcastInDim ⟨2, ![M, 2048]⟩ ![] b0 (constant ⟨0, ![]⟩ .f32 0x3F000000#32))
      (Host.dotGeneral (DotDims.plain M 5632 2048) none
        (mulf (mulf (Host.dotGeneral (DotDims.plain M 2048 5632) none h wg)
          (Host.divf (broadcastInDim ⟨2, ![M, 5632]⟩ ![] b1 (constant ⟨0, ![]⟩ .f32 0x3F800000#32))
            (addf (broadcastInDim ⟨2, ![M, 5632]⟩ ![] b2 (constant ⟨0, ![]⟩ .f32 0x3F800000#32))
              (Host.exp (Host.negf (Host.dotGeneral (DotDims.plain M 2048 5632) none h wg))))))
          (Host.dotGeneral (DotDims.plain M 2048 5632) none h wu)) wd)) (ix2 i j)
      = ffnRow (at2 x i.val) (at1 g) (at2 wg) (at2 wu) (at2 wd) j.val := by
  rw [addf_apply, mulf_apply, hmm_apply, ← at2_ix x i j]
  unfold ffnRow
  refine congrArg₂ (· + ·) rfl (congrArg₂ (· * ·) rfl (lin_congr (fun f hf => ?_) fun _ _ => rfl))
  refine (at2_ix _ i ⟨f, hf⟩).trans ((gateHost_apply h wg wu b1 b2 i ⟨f, hf⟩).trans ?_)
  have hr : ∀ k < 2048, at2 h i.val k = nrm (at2 x i.val) (at1 g) k := fun k hk => (at2_ix h i ⟨k, hk⟩).trans (hh i ⟨k, hk⟩)
  exact congrArg₂ swi (lin_congr hr fun _ _ => rfl) (lin_congr hr fun _ _ => rfl)

end Cert.FfnMath

end
-- ==== Proof.FfnNextEq.lean ====
/-
  The first feed-forward call equals its reference: the rows are `FfnMath.ffnRow`, and the normed rows are their norm.
-/
module

public import proofs.«01_k».proof.Defs
public import proofs.«01_k».proof.Proof.FfnNextArray
public import proofs.«01_k».proof.Proof.FfnHost
public import proofs.«01_k».proof.Proof.Gen.FfnNextRefIdeal.Run
public import proofs.«01_k».proof.Proof.Gen.FfnNextIdeal
public import proofs.«01_k».proof.Proof.Gen.FfnNextRefIdeal

@[expose] public section

noncomputable section

namespace Cert.FfnNextEq

open Cert.Rows Cert.FfnMath
open Idealize.ShloMosaic hiding ix1 ix2 ix3 ix4 ix5
open Idealize.ShloMosaic.TcCoe Idealize.ShloMosaic.ValueIdx Idealize.SL.Sem

/-- The claim: the kernel's four results and the reference's are equal as extended reals. -/
theorem algebraic : Cert.algebraic_FfnNextIdeal_FfnNextRefIdeal := by
  intro m ρ m' ρ' _ hagree
  refine ⟨fun c => Cert.FfnNextIdeal.Value.G7 m c, fun c => Cert.FfnNextIdeal.Value.G8 m c,
    fun c => Cert.FfnNextIdeal.Value.G9 m c, fun c => Cert.FfnNextIdeal.Value.G10 m c,
    Cert.FfnNextIdeal.Value.run (F := Ideal) m ρ, ?_⟩
  refine (θ_run Cert.FfnNextRefIdeal.defs _ _).mono (fun _ h c => ?_) (Cert.FfnNextRefIdeal.Value.run (F := Ideal) m' ρ')
  obtain ⟨h0, h1, h2, h3, hk⟩ := h c
  obtain ⟨a0, a1, a2, a3, a4, a5, a6⟩ := hagree c
  refine ⟨h0.trans ?_, h1.trans ?_, h2.trans ?_, h3.trans ?_, hk⟩
  · rw [a0, a2, a3, a4, a5]
    funext i
    rw [ValueIdx.eq_ix2 i]
    exact (ffnHost_apply _ _ _ _ _ _ _ _ _ (fun a k => rmsHost_apply _ _ _ _ _ (by decide) _ _ _ _ _ _ _ a k) _ _).trans
      (Cert.FfnNextIdeal.Array.G7_apply m c _ _).symm
  · rw [a1, a2, a3, a4, a5]
    funext i
    rw [ValueIdx.eq_ix2 i]
    exact (ffnHost_apply _ _ _ _ _ _ _ _ _ (fun a k => rmsHost_apply _ _ _ _ _ (by decide) _ _ _ _ _ _ _ a k) _ _).trans
      (Cert.FfnNextIdeal.Array.G8_apply m c _ _).symm
  · unfold FfnNextRefIdeal.Value.res_main_v67
    rw [a0, a2, a3, a4, a5, a6]
    funext i
    obtain ⟨r, j, rfl⟩ : ∃ (r : Fin 8192) (j : Fin 2048), i = ValueIdx.ix2 r j := ⟨_, _, ValueIdx.eq_ix2 i⟩
    refine ((rmsHost_apply _ _ _ _ _ (by decide) _ _ _ _ _ _ _ r j).trans ?_).trans
      (Cert.FfnNextIdeal.Array.G9_apply m c _ _).symm
    refine nrm_congr (fun k hk => ?_) (fun k _ => rfl) _ j.isLt
    refine (at2_ix _ r ⟨k, hk⟩).trans ?_
    exact ffnHost_apply _ _ _ _ _ _ _ _ _ (fun a k => rmsHost_apply _ _ _ _ _ (by decide) _ _ _ _ _ _ _ a k) r ⟨k, hk⟩
  · unfold FfnNextRefIdeal.Value.res_main_v81
    rw [a1, a2, a3, a4, a5, a6]
    funext i
    obtain ⟨r, j, rfl⟩ : ∃ (r : Fin 128) (j : Fin 2048), i = ValueIdx.ix2 r j := ⟨_, _, ValueIdx.eq_ix2 i⟩
    refine ((rmsHost_apply _ _ _ _ _ (by decide) _ _ _ _ _ _ _ r j).trans ?_).trans
      (Cert.FfnNextIdeal.Array.G10_apply m c _ _).symm
    refine nrm_congr (fun k hk => ?_) (fun k _ => rfl) _ j.isLt
    refine (at2_ix _ r ⟨k, hk⟩).trans ?_
    exact ffnHost_apply _ _ _ _ _ _ _ _ _ (fun a k => rmsHost_apply _ _ _ _ _ (by decide) _ _ _ _ _ _ _ a k) r ⟨k, hk⟩

end Cert.FfnNextEq

end
-- ==== Proof.FfnPoint.lean ====
/-
  The second feed-forward call, one grid point at a time: what its body leaves in the output blocks and in the scratch.

  Entry by entry at the extended reals: the scratch holds the normed rows of the two input blocks (`scr_apply`), and a
  point adds to each output row the product of its gated hidden columns with a tile of the down weights (`add_apply`).
-/
module

public import proofs.«01_k».proof.Proof.FfnMath
public import proofs.«01_k».proof.Proof.Gen.FfnIdeal.Frame

@[expose] public section

noncomputable section

namespace Cert.FfnIdeal.Point

open Cert.FfnIdeal Cert.FfnIdeal.Gen Cert.Rows Cert.FfnMath
open Idealize.ShloMosaic Idealize.ShloMosaic.TcCoe Idealize.ShloMosaic.ValueIdx Idealize.SL.Sem

/-- Row `i` of the 1024 prompt rows of a block followed by its 16 sample rows. -/
def stack (x0 : Vec Ideal S1024x2048 .f32) (x1 : Vec Ideal S16x2048 .f32) (i k : ℕ) : EReal :=
  if i < 1024 then at2 x0 i k else at2 x1 (i - 1024) k

/-- The normed prompt block. -/
theorem pay5_apply (x : Vec Ideal S1024x2048 .f32) (g : Vec Ideal S1x2048 .f32) (i : Fin 1024) (k : Fin 2048) :
    k0_pay5 x g (ix2 i k) = rms 2048 D E (at2 x i.val) (at2 g 0) k.val := by
  unfold k0_pay5
  simp only [shapeCast_self]
  exact rmsVec_apply x g _ _ _ _ _ _ _ _ _ i k

/-- The normed sample block. -/
theorem pay6_apply (x : Vec Ideal S16x2048 .f32) (g : Vec Ideal S1x2048 .f32) (i : Fin 16) (k : Fin 2048) :
    k0_pay1 (k0_pay6 x g) (ix2 i k) = rms 2048 D E (at2 x i.val) (at2 g 0) k.val := by
  unfold k0_pay1 k0_pay6
  simp only [shapeCast_self]
  exact rmsVec_apply x g _ _ _ _ _ _ _ _ _ i k

/-- The scratch after the reset: the normed prompt block above the normed sample block. -/
def scr (x0 : Vec Ideal S1024x2048 .f32) (x1 : Vec Ideal S16x2048 .f32) (g : Vec Ideal S1x2048 .f32) :
    Vec Ideal S1040x2048 .bf16 := fun y => rms 2048 D E (stack x0 x1 (y 0).val) (at2 g 0) (y 1).val

/-- What a point adds: at row `i`, column `j`, the share of its tile of hidden columns. -/
theorem pay2_apply (h : Vec Ideal S1040x2048 .bf16) (wg wu : Vec Ideal S2048x256 .f32) (wd : Vec Ideal S256x2048 .f32)
    (i : Fin 1040) (j : Fin 2048) :
    k0_pay2 h wg wu wd (ix2 i j) = tile (at2 h i.val) (at2 wg) (at2 wu) (at2 wd) j.val := by
  unfold k0_pay2
  refine (mm_apply (M := 1040) (K := 256) (N := 2048) _ _ none i j).trans ?_
  refine Finset.sum_congr rfl fun f hf => ?_
  have hf := Finset.mem_range.mp hf
  refine congrArg₂ (· * ·) ?_ rfl
  refine (at2_ix _ i ⟨f, hf⟩).trans ?_
  have e1 := mm_apply (φ₁ := .bf16) (φ₂ := .bf16) h (truncf .bf16 wg bitsLt_bf16_f32) none i ⟨f, hf⟩
  have e2 := mm_apply (φ₁ := .bf16) (φ₂ := .bf16) h (truncf .bf16 wu bitsLt_bf16_f32) none i ⟨f, hf⟩
  exact congrArg₂ (fun u v : EReal => u * Ideal.logistic u * v * Ideal.ofBits .f32 0x3F000000#32) e1 e2

/-- What a point leaves in the prompt output block: what it held plus the tile. -/
theorem pay3_apply (h : Vec Ideal S1040x2048 .bf16) (wg wu : Vec Ideal S2048x256 .f32) (wd : Vec Ideal S256x2048 .f32)
    (o : Vec Ideal S1024x2048 .f32) (i : Fin 1024) (j : Fin 2048) :
    k0_pay3 h wg wu wd o (ix2 i j) = o (ix2 i j) + tile (at2 h i.val) (at2 wg) (at2 wu) (at2 wd) j.val := by
  unfold k0_pay3
  simp only [shapeCast_self]
  rw [addf_apply, extractStridedSlice_apply _ _ _ _ (ix2 ⟨i.val, by omega⟩ j) (fun a => by
    match a with
    | ⟨0, _⟩ => show i.val = 0 + i.val; omega
    | ⟨1, _⟩ => show j.val = 0 + j.val; omega), pay2_apply]

/-- The same for the sample output block. -/
theorem pay4_apply (h : Vec Ideal S1040x2048 .bf16) (wg wu : Vec Ideal S2048x256 .f32) (wd : Vec Ideal S256x2048 .f32)
    (o : Vec Ideal S16x2048 .f32) (i : Fin 16) (j : Fin 2048) :
    k0_pay4 h wg wu wd o (ix2 i j) = o (ix2 i j) + tile (at2 h (1024 + i.val)) (at2 wg) (at2 wu) (at2 wd) j.val := by
  unfold k0_pay4
  simp only [shapeCast_self]
  rw [addf_apply, extractStridedSlice_apply _ _ _ _ (ix2 ⟨1024 + i.val, by omega⟩ j) (fun a => by
    match a with
    | ⟨0, _⟩ => rfl
    | ⟨1, _⟩ => show j.val = 0 + j.val; omega), pay2_apply]

/-- The two blocks the reset writes, last first. -/
abbrev pieces (x0 : Vec Ideal S1024x2048 .f32) (x1 : Vec Ideal S16x2048 .f32) (g : Vec Ideal S1x2048 .f32) :
    List (View.Piece (Elt Ideal) S1040x2048 .bf16) :=
  [⟨Rect.unit (s := S1040x2048) ![1024, 0] ![16, 2048] inb_S1040x2048_S16x2048_1024_0, k0_pay1 (k0_pay6 x1 g)⟩,
    ⟨Rect.unit (s := S1040x2048) ![0, 0] ![1024, 2048] inb_S1040x2048_S1024x2048_0_0, k0_pay5 x0 g⟩]

/-- They cover the scratch. -/
theorem cover_scr (x0 : Vec Ideal S1024x2048 .f32) (x1 : Vec Ideal S16x2048 .f32) (g : Vec Ideal S1x2048 .f32)
    (y : S1040x2048.Idx) : ∃ p ∈ pieces x0 x1 g, y ∈ p.1.set := by
  have h1 : (y 0).val < 1040 := (y 0).isLt
  have h2 : (y 1).val < 2048 := (y 1).isLt
  by_cases h : (y 0).val < 1024
  · refine ⟨_, List.mem_cons_of_mem _ (List.mem_singleton_self _), ?_⟩
    refine (Rect.mem_set_unit (inb := inb_S1040x2048_S1024x2048_0_0)).mpr fun a => ?_
    match a with
    | ⟨0, _⟩ => exact ⟨Nat.zero_le _, by show (y 0).val < 0 + 1024; omega⟩
    | ⟨1, _⟩ => exact ⟨Nat.zero_le _, by show (y 1).val < 0 + 2048; omega⟩
  · refine ⟨_, List.mem_cons_self, ?_⟩
    refine (Rect.mem_set_unit (inb := inb_S1040x2048_S16x2048_1024_0)).mpr fun a => ?_
    match a with
    | ⟨0, _⟩ => exact ⟨by show 1024 ≤ (y 0).val; omega, by show (y 0).val < 1024 + 16; omega⟩
    | ⟨1, _⟩ => exact ⟨Nat.zero_le _, by show (y 1).val < 0 + 2048; omega⟩

/-- They leave the scratch `scr`. -/
theorem canon_scr (x0 : Vec Ideal S1024x2048 .f32) (x1 : Vec Ideal S16x2048 .f32) (g : Vec Ideal S1x2048 .f32) :
    View.canon (pieces x0 x1 g) = scr x0 x1 g := by
  funext y
  refine View.canon_apply_of_pieces (scr x0 x1 g) _ ?_ y (cover_scr x0 x1 g y)
  intro p hp x
  rcases List.mem_cons.mp hp with rfl | hp
  · obtain ⟨i, k, rfl⟩ : ∃ (i : Fin 16) (k : Fin 2048), x = ix2 i k := ⟨_, _, eq_ix2 x⟩
    refine (pay6_apply x1 g i k).trans ?_
    show _ = rms 2048 D E (stack x0 x1 (1024 + 1 * i.val)) (at2 g 0) (0 + 1 * k.val)
    rw [one_mul, one_mul, zero_add]
    refine congrArg (fun r => rms 2048 D E r (at2 g 0) k.val) (funext fun l => ?_)
    unfold stack
    rw [if_neg (by omega), Nat.add_sub_cancel_left]
  · obtain rfl := List.mem_singleton.mp hp
    obtain ⟨i, k, rfl⟩ : ∃ (i : Fin 1024) (k : Fin 2048), x = ix2 i k := ⟨_, _, eq_ix2 x⟩
    refine (pay5_apply x0 g i k).trans ?_
    show _ = rms 2048 D E (stack x0 x1 (0 + 1 * i.val)) (at2 g 0) (0 + 1 * k.val)
    rw [one_mul, one_mul, zero_add, zero_add]
    refine congrArg (fun r => rms 2048 D E r (at2 g 0) k.val) (funext fun l => ?_)
    unfold stack
    rw [if_pos i.isLt]

variable (m : (ℓ : Loc nD τ sig) → Buf (Elt Ideal) ℓ) (c : Dev nD)

/-- A resetting point leaves the normed rows in the scratch. -/
theorem scr_A (t : Fin cfg0.N) (h0 : t.val % 22 = 0) :
    (outsAt0 m c t.val t.isLt).2.2 = scr (iblk m c 0 t) (iblk m c 1 t) (iblk m c 2 t) := by
  rw [outsAt0_A m c t h0]
  dsimp only
  unfold sout0_A_0
  rw [View.read_writes_eq_canon _ _ _ (scover0_A_0 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread,
    View.ld_unit_zero (S := S1024x2048) hz, View.ld_unit_zero (S := S16x2048) hz, View.ld_unit_zero (S := S1x2048) hz]
  exact canon_scr _ _ _

/-- It leaves the input block plus its tile in the prompt output block. -/
theorem out6_A (t : Fin cfg0.N) (h0 : t.val % 22 = 0) :
    (outsAt0 m c t.val t.isLt).1 = k0_pay3 (scr (iblk m c 0 t) (iblk m c 1 t) (iblk m c 2 t))
      (iblk m c 3 t) (iblk m c 4 t) (iblk m c 5 t) (iblk m c 0 t) := by
  rw [outsAt0_A m c t h0]
  dsimp only
  unfold out0_A_6
  rw [View.read_writes_eq_canon _ _ _ (cover0_A_6 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, View.ld_unit_zero (S := S1024x2048) hz,
    View.ld_unit_zero (S := S16x2048) hz, View.ld_unit_zero (S := S1x2048) hz, View.ld_unit_zero (S := S2048x256) hz,
    View.ld_unit_zero (S := S256x2048) hz, View.canon_cons_unit_zero (S := S1024x2048) hz,
    View.readCov_unit_zero (S := S1024x2048) _ hz]
  rw [View.readCov_eq_canon_ld _ _ _ (cover_scr _ _ _), View.ld_unit_zero (S := S1040x2048) hz, canon_scr]

/-- The same for the sample output block. -/
theorem out7_A (t : Fin cfg0.N) (h0 : t.val % 22 = 0) :
    (outsAt0 m c t.val t.isLt).2.1 = k0_pay4 (scr (iblk m c 0 t) (iblk m c 1 t) (iblk m c 2 t))
      (iblk m c 3 t) (iblk m c 4 t) (iblk m c 5 t) (iblk m c 1 t) := by
  rw [outsAt0_A m c t h0]
  dsimp only
  unfold out0_A_7
  rw [View.read_writes_eq_canon _ _ _ (cover0_A_7 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, View.ld_unit_zero (S := S1024x2048) hz,
    View.ld_unit_zero (S := S16x2048) hz, View.ld_unit_zero (S := S1x2048) hz, View.ld_unit_zero (S := S2048x256) hz,
    View.ld_unit_zero (S := S256x2048) hz, View.canon_cons_unit_zero (S := S16x2048) hz,
    View.readCov_unit_zero (S := S16x2048) _ hz]
  rw [View.readCov_eq_canon_ld _ _ _ (cover_scr _ _ _), View.ld_unit_zero (S := S1040x2048) hz, canon_scr]

/-- What the point before left. -/
abbrev prev (t : Fin cfg0.N) := outsAt0 m c (t.val - 1) (Nat.lt_of_le_of_lt (Nat.sub_le _ _) t.isLt)

/-- A point that does not reset keeps the scratch. -/
theorem scr_B (t : Fin cfg0.N) (h0 : ¬t.val % 22 = 0) : (outsAt0 m c t.val t.isLt).2.2 = (prev m c t).2.2 := by
  rw [outsAt0_B m c t h0]
  rfl

/-- It adds its tile to the prompt output block. -/
theorem out6_B (t : Fin cfg0.N) (h0 : ¬t.val % 22 = 0) :
    (outsAt0 m c t.val t.isLt).1 = k0_pay3 (prev m c t).2.2 (iblk m c 3 t) (iblk m c 4 t) (iblk m c 5 t) (prev m c t).1 := by
  rw [outsAt0_B m c t h0]
  dsimp only
  unfold out0_B_6
  rw [View.read_writes_eq_canon _ _ _ (cover0_B_6 c _ _ _ _ _ _ _ _ _ _ _ _ _ _ _ _ _ _ _ _ _ _ _ _ _ _ _ _ _)]
  unfold kernelRun0_B
  dsimp only
  sl_unfold_words
  simp only [View.readAt_eq_ld, (hs0_3 t).read_unread, (hs0_4 t).read_unread, (hs0_5 t).read_unread, (hs0_6 t).read_unread,
    (Memref.isWhole_whole _).read_unread, View.ld_unit_zero (S := S1024x2048) hz,
    View.ld_unit_zero (S := S2048x256) hz, View.ld_unit_zero (S := S1040x2048) hz,
    View.ld_unit_zero (S := S256x2048) hz, View.canon_cons_unit_zero (S := S1024x2048) hz]

/-- The same for the sample output block. -/
theorem out7_B (t : Fin cfg0.N) (h0 : ¬t.val % 22 = 0) :
    (outsAt0 m c t.val t.isLt).2.1 = k0_pay4 (prev m c t).2.2 (iblk m c 3 t) (iblk m c 4 t) (iblk m c 5 t) (prev m c t).2.1 := by
  rw [outsAt0_B m c t h0]
  dsimp only
  unfold out0_B_7
  rw [View.read_writes_eq_canon _ _ _ (cover0_B_7 c _ _ _ _ _ _ _ _ _ _ _ _ _ _ _ _ _ _ _ _ _ _ _ _ _ _ _ _ _)]
  unfold kernelRun0_B
  dsimp only
  sl_unfold_words
  simp only [View.readAt_eq_ld, (hs0_3 t).read_unread, (hs0_4 t).read_unread, (hs0_5 t).read_unread, (hs0_7 t).read_unread,
    (Memref.isWhole_whole _).read_unread, View.ld_unit_zero (S := S16x2048) hz,
    View.ld_unit_zero (S := S2048x256) hz, View.ld_unit_zero (S := S1040x2048) hz,
    View.ld_unit_zero (S := S256x2048) hz, View.canon_cons_unit_zero (S := S16x2048) hz]

end Cert.FfnIdeal.Point

end
-- ==== Proof.FfnArray.lean ====
/-
  The second feed-forward call over its whole grid: the arrays it leaves.

  A point's blocks are cut from the arguments (`read0` to `read5`); by induction over the points the outputs hold the row plus
  the shares of the hidden columns so far (`inv`); the last point of each run completes the row (`G6_apply`, `G7_apply`).
-/
module

public import proofs.«01_k».proof.Proof.FfnPoint
public import proofs.«01_k».proof.Proof.Gen.FfnIdeal.Value
public import Idealize.ShloMosaic.Lib.Pipeline.ValueKit.Point

@[expose] public section

noncomputable section

namespace Cert.FfnIdeal.Array

open Cert.FfnIdeal Cert.FfnIdeal.Gen Cert.FfnIdeal.Point Cert.Rows Cert.FfnMath
open Idealize.ShloMosaic hiding ix1 ix2 ix3 ix4 ix5
open Idealize.ShloMosaic.TcCoe Idealize.ShloMosaic.ValueIdx Idealize.SL.Sem

variable (m : (ℓ : Loc nD τ sig) → Buf (Elt Ideal) ℓ) (c : Dev nD)

/-- The prompt rows, the sample rows, the gain and the three weights. -/
abbrev xp : Vec Ideal S8192x2048 .f32 := m ((c : Thread nD τ).loc main_arg0)
abbrev xs : Vec Ideal S128x2048 .f32 := m ((c : Thread nD τ).loc main_arg1)
abbrev gn : Vec Ideal S2048 .f32 := m ((c : Thread nD τ).loc main_arg2)
abbrev wg : Vec Ideal S2048x5632 .f32 := m ((c : Thread nD τ).loc main_arg3)
abbrev wu : Vec Ideal S2048x5632 .f32 := m ((c : Thread nD τ).loc main_arg4)
abbrev wd : Vec Ideal S5632x2048 .f32 := m ((c : Thread nD τ).loc main_arg5)

/-- Which block of each argument a point works on. -/
theorem idx : ∀ t : Fin cfg0.N, win0_0.index t (0 : Fin 2) = t.val / 22 ∧ win0_0.index t (1 : Fin 2) = 0
    ∧ win0_1.index t (0 : Fin 2) = t.val / 22 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 22
    ∧ win0_4.index t (0 : Fin 2) = 0 ∧ win0_4.index t (1 : Fin 2) = t.val % 22
    ∧ win0_5.index t (0 : Fin 2) = t.val % 22 ∧ win0_5.index t (1 : Fin 2) = 0 :=
  (by decide +kernel : ∀ t : Fin grid0.N, _)

theorem lt_N (t : Fin cfg0.N) : t.val < 176 := lt_of_lt_of_eq t.isLt N_0

theorem read0 (t : Fin cfg0.N) (i k : ℕ) (hi : i < 1024) (hk : k < 2048) :
    at2 (a := 1024) (b := 2048) (iblk m c 0 t) i k = at2 (xp m c) (1024 * (t.val / 22) + i) k := by
  have ht := lt_N t
  refine (at2_ix (a := 1024) (b := 2048) (iblk m c 0 t) ⟨i, hi⟩ ⟨k, hk⟩).trans (Eq.trans ?_ (at2_ix (xp m c) ⟨1024 * (t.val / 22) + i, by omega⟩ ⟨k, hk⟩).symm)
  blk_ext [iblk, V_main_arg0, idx t]

theorem read1 (t : Fin cfg0.N) (i k : ℕ) (hi : i < 16) (hk : k < 2048) :
    at2 (a := 16) (b := 2048) (iblk m c 1 t) i k = at2 (xs m c) (16 * (t.val / 22) + i) k := by
  have ht := lt_N t
  refine (at2_ix (a := 16) (b := 2048) (iblk m c 1 t) ⟨i, hi⟩ ⟨k, hk⟩).trans (Eq.trans ?_ (at2_ix (xs m c) ⟨16 * (t.val / 22) + i, by omega⟩ ⟨k, hk⟩).symm)
  blk_ext [iblk, V_main_arg1, idx t]

theorem read2 (t : Fin cfg0.N) (k : ℕ) (hk : k < 2048) :
    at2 (a := 1) (b := 2048) (iblk m c 2 t) 0 k = at1 (gn m c) k := by
  refine (at2_ix (a := 1) (b := 2048) (iblk m c 2 t) 0 ⟨k, hk⟩).trans (Eq.trans ?_ (at1_ix (gn m c) ⟨k, hk⟩).symm)
  blk_ext! [iblk, idx t]

theorem read3 (t : Fin cfg0.N) (k f : ℕ) (hk : k < 2048) (hf : f < 256) :
    at2 (a := 2048) (b := 256) (iblk m c 3 t) k f = at2 (wg m c) k (256 * (t.val % 22) + f) := by
  have ht := lt_N t
  refine (at2_ix (a := 2048) (b := 256) (iblk m c 3 t) ⟨k, hk⟩ ⟨f, hf⟩).trans (Eq.trans ?_ (at2_ix (wg m c) ⟨k, hk⟩ ⟨256 * (t.val % 22) + f, by omega⟩).symm)
  blk_ext [iblk, V_main_arg3, idx t]

theorem read4 (t : Fin cfg0.N) (k f : ℕ) (hk : k < 2048) (hf : f < 256) :
    at2 (a := 2048) (b := 256) (iblk m c 4 t) k f = at2 (wu m c) k (256 * (t.val % 22) + f) := by
  have ht := lt_N t
  refine (at2_ix (a := 2048) (b := 256) (iblk m c 4 t) ⟨k, hk⟩ ⟨f, hf⟩).trans (Eq.trans ?_ (at2_ix (wu m c) ⟨k, hk⟩ ⟨256 * (t.val % 22) + f, by omega⟩).symm)
  blk_ext [iblk, V_main_arg4, idx t]

theorem read5 (t : Fin cfg0.N) (f k : ℕ) (hf : f < 256) (hk : k < 2048) :
    at2 (a := 256) (b := 2048) (iblk m c 5 t) f k = at2 (wd m c) (256 * (t.val % 22) + f) k := by
  have ht := lt_N t
  refine (at2_ix (a := 256) (b := 2048) (iblk m c 5 t) ⟨f, hf⟩ ⟨k, hk⟩).trans (Eq.trans ?_ (at2_ix (wd m c) ⟨256 * (t.val % 22) + f, by omega⟩ ⟨k, hk⟩).symm)
  blk_ext [iblk, V_main_arg5, idx t]

/-- The rows of the two streams, normed. -/
abbrev hp (r : ℕ) : ℕ → EReal := nrm (at2 (xp m c) r) (at1 (gn m c))
abbrev hs (r : ℕ) : ℕ → EReal := nrm (at2 (xs m c) r) (at1 (gn m c))

/-- What the outputs and the scratch hold after a point: its rows plus the shares of the hidden columns so far, and the
    normed rows. -/
structure Inv (t : Fin cfg0.N) : Prop where
  p : ∀ (i : Fin 1024) (j : Fin 2048), (outsAt0 m c t.val t.isLt).1 (ix2 i j)
    = partialRow (at2 (xp m c) (1024 * (t.val / 22) + i.val)) (hp m c (1024 * (t.val / 22) + i.val)) (at2 (wg m c)) (at2 (wu m c))
        (at2 (wd m c)) (256 * (t.val % 22 + 1)) j.val
  s : ∀ (i : Fin 16) (j : Fin 2048), (outsAt0 m c t.val t.isLt).2.1 (ix2 i j)
    = partialRow (at2 (xs m c) (16 * (t.val / 22) + i.val)) (hs m c (16 * (t.val / 22) + i.val)) (at2 (wg m c)) (at2 (wu m c))
        (at2 (wd m c)) (256 * (t.val % 22 + 1)) j.val
  hp : ∀ i < 1024, ∀ k < 2048, at2 (a := 1040) (b := 2048) (outsAt0 m c t.val t.isLt).2.2 i k = hp m c (1024 * (t.val / 22) + i) k
  hs : ∀ i < 16, ∀ k < 2048, at2 (a := 1040) (b := 2048) (outsAt0 m c t.val t.isLt).2.2 (1024 + i) k = hs m c (16 * (t.val / 22) + i) k

/-- A point's tile, of the whole weights. -/
theorem tile_read (t : Fin cfg0.N) {h h' : ℕ → EReal} (hh : ∀ k < 2048, h k = h' k) (j : Fin 2048) :
    tile h (at2 (a := 2048) (b := 256) (iblk m c 3 t)) (at2 (a := 2048) (b := 256) (iblk m c 4 t))
        (at2 (a := 256) (b := 2048) (iblk m c 5 t)) j.val
      = ∑ f ∈ Finset.range 256, act h' (at2 (wg m c)) (at2 (wu m c)) (at2 (wd m c)) j.val (256 * (t.val % 22) + f) :=
  tile_eq _ hh (fun k hk f hf => read3 m c t k f hk hf) (fun k hk f hf => read4 m c t k f hk hf)
    fun f hf => read5 m c t f j.val hf j.isLt

/-- The scratch of a resetting point: the normed prompt rows, -/
theorem scr_p (t : Fin cfg0.N) (i : ℕ) (hi : i < 1024) (k : ℕ) (hk : k < 2048) :
    at2 (a := 1040) (b := 2048) (scr (iblk m c 0 t) (iblk m c 1 t) (iblk m c 2 t)) i k = hp m c (1024 * (t.val / 22) + i) k := by
  refine (at2_ix (a := 1040) (b := 2048) _ ⟨i, by omega⟩ ⟨k, hk⟩).trans ?_
  refine nrm_congr (fun l hl => ?_) (fun l hl => read2 m c t l hl) k hk
  show stack _ _ i l = _
  unfold stack
  rw [if_pos hi]
  exact read0 m c t i l hi hl

/-- and the normed sample rows below. -/
theorem scr_s (t : Fin cfg0.N) (i : ℕ) (hi : i < 16) (k : ℕ) (hk : k < 2048) :
    at2 (a := 1040) (b := 2048) (scr (iblk m c 0 t) (iblk m c 1 t) (iblk m c 2 t)) (1024 + i) k
      = hs m c (16 * (t.val / 22) + i) k := by
  refine (at2_ix (a := 1040) (b := 2048) _ ⟨1024 + i, by omega⟩ ⟨k, hk⟩).trans ?_
  refine nrm_congr (fun l hl => ?_) (fun l hl => read2 m c t l hl) k hk
  show stack _ _ (1024 + i) l = _
  unfold stack
  rw [if_neg (by omega), Nat.add_sub_cancel_left]
  exact read1 m c t i l hi hl

/-- A resetting point. -/
theorem inv_A (t : Fin cfg0.N) (h0 : t.val % 22 = 0) : Inv m c t := by
  refine ⟨fun i j => ?_, fun i j => ?_, fun i hi k hk => ?_, fun i hi k hk => ?_⟩
  · rw [out6_A m c t h0, pay3_apply, tile_read m c t (scr_p m c t i.val i.isLt) j, ← partialRow_succ]
    refine congrArg (· + _) ?_
    rw [h0, partialRow_zero]
    exact (at2_ix (a := 1024) (b := 2048) (iblk m c 0 t) i j).symm.trans (read0 m c t i.val j.val i.isLt j.isLt)
  · rw [out7_A m c t h0, pay4_apply, tile_read m c t (scr_s m c t i.val i.isLt) j, ← partialRow_succ]
    refine congrArg (· + _) ?_
    rw [h0, partialRow_zero]
    exact (at2_ix (a := 16) (b := 2048) (iblk m c 1 t) i j).symm.trans (read1 m c t i.val j.val i.isLt j.isLt)
  · rw [scr_A m c t h0]; exact scr_p m c t i hi k hk
  · rw [scr_A m c t h0]; exact scr_s m c t i hi k hk

/-- A point that goes on from the one before. -/
theorem inv_B (t : Fin cfg0.N) (h0 : ¬t.val % 22 = 0) (s : Fin cfg0.N) (hs' : s.val = t.val - 1) (ih : Inv m c s) :
    Inv m c t := by
  obtain ⟨n, hn⟩ := s
  obtain rfl : n = t.val - 1 := hs'
  have hd : (t.val - 1) / 22 = t.val / 22 := by omega
  have hq : (t.val - 1) % 22 + 1 = t.val % 22 := by omega
  obtain ⟨ip, is, ihp, ihs⟩ := ih
  simp only [hd, hq] at ip is ihp ihs
  refine ⟨fun i j => ?_, fun i j => ?_, fun i hi k hk => ?_, fun i hi k hk => ?_⟩
  · rw [out6_B m c t h0, pay3_apply, tile_read m c t (ihp i.val i.isLt) j, ← partialRow_succ]
    exact congrArg (· + _) (ip i j)
  · rw [out7_B m c t h0, pay4_apply, tile_read m c t (ihs i.val i.isLt) j, ← partialRow_succ]
    exact congrArg (· + _) (is i j)
  · rw [scr_B m c t h0]; exact ihp i hi k hk
  · rw [scr_B m c t h0]; exact ihs i hi k hk

/-- Every point. -/
theorem inv : ∀ (n : ℕ) (hn : n < cfg0.N), Inv m c ⟨n, hn⟩
  | 0, hn => inv_A m c ⟨0, hn⟩ rfl
  | n + 1, hn => by
    by_cases h0 : (n + 1) % 22 = 0
    · exact inv_A m c ⟨n + 1, hn⟩ h0
    · exact inv_B m c ⟨n + 1, hn⟩ h0 ⟨n, by omega⟩ rfl (inv n (by omega))

/-- The prompt result, row by row: the layer. -/
theorem G6_apply (r : Fin 8192) (j : Fin 2048) : Value.G6 m c (ix2 r j)
    = ffnRow (at2 (xp m c) r.val) (at1 (gn m c)) (at2 (wg m c)) (at2 (wu m c)) (at2 (wd m c)) j.val := by
  have hp' : Value.pt6Of (ix2 r j) = 22 * (r.val / 1024) + 21 := by
    show 22 * (1 * (r.val / 1024 - 0) + 1 * (j.val / 2048 - 0)) + 21 = _
    rw [Nat.div_eq_of_lt j.isLt]; omega
  have hN : Value.pt6Of (ix2 r j) < cfg0.N := by rw [hp', show cfg0.N = 176 from N_0]; omega
  unfold Value.G6
  rw [dif_pos hN, ← Value.outsAt0_sweep m c _ hN]
  have e : Value.loc6Of (ix2 r j) = ix2 ⟨r.val % 1024, Nat.mod_lt _ (by decide)⟩ j := by
    funext a
    match a with
    | ⟨0, _⟩ => rfl
    | ⟨1, _⟩ => exact Fin.ext (Nat.mod_eq_of_lt j.isLt)
  have h := (inv m c _ hN).p ⟨r.val % 1024, Nat.mod_lt _ (by decide)⟩ j
  rw [e, h, ← partialRow_all]
  simp only [hp']
  rw [show (22 * (r.val / 1024) + 21) / 22 = r.val / 1024 by omega, show (22 * (r.val / 1024) + 21) % 22 + 1 = 22 by omega,
    show 1024 * (r.val / 1024) + r.val % 1024 = r.val by omega]

/-- The sample result, row by row: the layer. -/
theorem G7_apply (r : Fin 128) (j : Fin 2048) : Value.G7 m c (ix2 r j)
    = ffnRow (at2 (xs m c) r.val) (at1 (gn m c)) (at2 (wg m c)) (at2 (wu m c)) (at2 (wd m c)) j.val := by
  have hp' : Value.pt7Of (ix2 r j) = 22 * (r.val / 16) + 21 := by
    show 22 * (1 * (r.val / 16 - 0) + 1 * (j.val / 2048 - 0)) + 21 = _
    rw [Nat.div_eq_of_lt j.isLt]; omega
  have hN : Value.pt7Of (ix2 r j) < cfg0.N := by rw [hp', show cfg0.N = 176 from N_0]; omega
  unfold Value.G7
  rw [dif_pos hN, ← Value.outsAt0_sweep m c _ hN]
  have e : Value.loc7Of (ix2 r j) = ix2 ⟨r.val % 16, Nat.mod_lt _ (by decide)⟩ j := by
    funext a
    match a with
    | ⟨0, _⟩ => rfl
    | ⟨1, _⟩ => exact Fin.ext (Nat.mod_eq_of_lt j.isLt)
  have h := (inv m c _ hN).s ⟨r.val % 16, Nat.mod_lt _ (by decide)⟩ j
  rw [e, h, ← partialRow_all]
  simp only [hp']
  rw [show (22 * (r.val / 16) + 21) / 22 = r.val / 16 by omega, show (22 * (r.val / 16) + 21) % 22 + 1 = 22 by omega,
    show 16 * (r.val / 16) + r.val % 16 = r.val by omega]

end Cert.FfnIdeal.Array

end
-- ==== Proof.FfnEq.lean ====
/-
  The second feed-forward call equals its reference: both are `FfnMath.ffnRow`, row by row.
-/
module

public import proofs.«01_k».proof.Defs
public import proofs.«01_k».proof.Proof.FfnArray
public import proofs.«01_k».proof.Proof.FfnHost
public import proofs.«01_k».proof.Proof.Gen.FfnRefIdeal.Read
public import proofs.«01_k».proof.Proof.Gen.FfnIdeal
public import proofs.«01_k».proof.Proof.Gen.FfnRefIdeal

@[expose] public section

noncomputable section

namespace Cert.FfnEq

open Cert.Rows Cert.FfnMath
open Idealize.ShloMosaic hiding ix1 ix2 ix3 ix4 ix5
open Idealize.ShloMosaic.TcCoe Idealize.ShloMosaic.ValueIdx Idealize.SL.Sem

/-- The reference's prompt result at an index. -/
theorem ref26_apply (x0 : FVec Ideal ⟨2, ![8192, 2048]⟩ .f32) (x2 : FVec Ideal ⟨1, ![2048]⟩ .f32)
    (x3 x4 : FVec Ideal ⟨2, ![2048, 5632]⟩ .f32) (x5 : FVec Ideal ⟨2, ![5632, 2048]⟩ .f32) (i : Fin 8192) (j : Fin 2048) :
    FfnRefIdeal.Read.val_main_v26 (F := Ideal) x0 x2 x3 x4 x5 (ix2 i j)
      = ffnRow (at2 x0 i.val) (at1 x2) (at2 x3) (at2 x4) (at2 x5) j.val :=
  ffnHost_apply x0 (FfnRefIdeal.Read.val_main_v12 (F := Ideal) x0 x2) x2 x3 x4 x5 _ _ _
    (fun a k => rmsHost_apply x0 x2 _ _ _ (by decide) _ _ _ _ _ _ _ a k) i j

/-- The reference's sample result at an index. -/
theorem ref53_apply (x1 : FVec Ideal ⟨2, ![128, 2048]⟩ .f32) (x2 : FVec Ideal ⟨1, ![2048]⟩ .f32)
    (x3 x4 : FVec Ideal ⟨2, ![2048, 5632]⟩ .f32) (x5 : FVec Ideal ⟨2, ![5632, 2048]⟩ .f32) (i : Fin 128) (j : Fin 2048) :
    FfnRefIdeal.Read.val_main_v53 (F := Ideal) x1 x2 x3 x4 x5 (ix2 i j)
      = ffnRow (at2 x1 i.val) (at1 x2) (at2 x3) (at2 x4) (at2 x5) j.val :=
  ffnHost_apply x1 (FfnRefIdeal.Read.val_main_v39 (F := Ideal) x1 x2) x2 x3 x4 x5 _ _ _
    (fun a k => rmsHost_apply x1 x2 _ _ _ (by decide) _ _ _ _ _ _ _ a k) i j

/-- The claim: the kernel's two results and the reference's are equal as extended reals. -/
theorem algebraic : Cert.algebraic_FfnIdeal_FfnRefIdeal := by
  intro m ρ m' ρ' _ hagree
  refine ⟨fun c => Cert.FfnIdeal.Value.G6 m c, fun c => Cert.FfnIdeal.Value.G7 m c, Cert.FfnIdeal.Value.run (F := Ideal) m ρ, ?_⟩
  refine (θ_run Cert.FfnRefIdeal.defs _ _).mono (fun _ h c => ?_) (Cert.FfnRefIdeal.Value.run (F := Ideal) m' ρ')
  obtain ⟨h0, h1, hk⟩ := h c
  obtain ⟨a0, a1, a2, a3, a4, a5⟩ := hagree c
  refine ⟨h0.trans ?_, h1.trans ?_, hk⟩
  · rw [FfnRefIdeal.Read.val_main_v26_eq, a0, a2, a3, a4, a5]
    funext i
    rw [ValueIdx.eq_ix2 i]
    exact (ref26_apply _ _ _ _ _ _ _).trans (Cert.FfnIdeal.Array.G6_apply m c _ _).symm
  · rw [FfnRefIdeal.Read.val_main_v53_eq, a1, a2, a3, a4, a5]
    funext i
    rw [ValueIdx.eq_ix2 i]
    exact (ref53_apply _ _ _ _ _ _ _).trans (Cert.FfnIdeal.Array.G7_apply m c _ _).symm

end Cert.FfnEq

end
-- ==== Proof.ProjPoint.lean ====
/-
  The input projection: what one grid point computes from its blocks.

  A point works on 2048 prompt rows, 32 sample rows and 512 columns. Where it starts on new rows it copies them to the
  scratch; its blocks of outputs are these rows times its columns of the weight, computed in groups of rows, each head of 128
  columns normed where the switch of the point is on, times its columns of the gain.
-/
module

public import proofs.«01_k».proof.Proof.FfnMath
public import proofs.«01_k».proof.Proof.Heads
public import proofs.«01_k».proof.Proof.Gen.ProjIdeal.Value
public import Idealize.ShloMosaic.Lib.Pipeline.ValueKit.Point

@[expose] public section

noncomputable section

namespace Cert.ProjPoint

open Idealize.ShloMosaic hiding ix1 ix2 ix3 ix4 ix5
open Cert.ProjIdeal Cert.ProjIdeal.Gen Cert.Rows Cert.Heads
open Idealize.ShloMosaic.TcCoe Idealize.ShloMosaic.ValueIdx Idealize.SL.Sem
open Cert.FfnMath (hz)

/-- The switch of a point: on at the blocks of columns that hold heads to be normed. -/
abbrev sw (i : grid0.Coords) : BitVec 1 :=
  Scalar.ori (Scalar.ori (Scalar.ori (Scalar.ori (Scalar.ori (Scalar.cmpi .eq (BitVec.ofNat 32 (i 1).val) 0#32)
    (Scalar.cmpi .eq (BitVec.ofNat 32 (i 1).val) 1#32)) (Scalar.cmpi .eq (BitVec.ofNat 32 (i 1).val) 2#32))
    (Scalar.cmpi .eq (BitVec.ofNat 32 (i 1).val) 3#32)) (Scalar.cmpi .eq (BitVec.ofNat 32 (i 1).val) 7#32))
    (Scalar.cmpi .eq (BitVec.ofNat 32 (i 1).val) 8#32)

/-- An entry of a point: the product, the head's scale, the gain. -/
def ent (i : grid0.Coords) (x : ℕ → EReal) (w : Vec Ideal S2048x512 .f32) (g : Vec Ideal S1x512 .f32) (j : ℕ) : EReal :=
  head (sw i = 1) (lin 2048 x (at2 w)) (at2 g 0) j

theorem ent_congr (i : grid0.Coords) {x y : ℕ → EReal} (h : ∀ k < 2048, x k = y k) (w : Vec Ideal S2048x512 .f32)
    (g : Vec Ideal S1x512 .f32) (j : ℕ) (hj : j < 512) : ent i x w g j = ent i y w g j :=
  head_congr 4 j hj (fun _ _ => lin_congr h fun _ _ => rfl) rfl

variable (i : grid0.Coords) (w : Vec Ideal S2048x512 .f32) (g : Vec Ideal S1x512 .f32)

theorem pay7_eq : k0_pay7 g = g := shapeCast_self g _

/-- The finished heads of a product are the entry. -/
theorem ent_of {n : ℕ} (x : (⟨2, ![n, 2048]⟩ : Shape).Idx → EReal) (z : (⟨2, ![n, 512]⟩ : Shape).Idx → EReal) (a : Fin n) (j : Fin 512)
    (h : ∀ f : Fin 512, z (ValueIdx.ix2 a f) = lin 2048 (at2 x a.val) (at2 w) f.val) :
    head (sw i = 1) (at2 z a.val) (at2 (k0_pay7 g) 0) j.val = ent i (at2 x a.val) w g j.val := by
  rw [pay7_eq]
  exact head_congr 4 j.val j.isLt (fun f hf => (at2_ix z a ⟨f, hf⟩).trans (h ⟨f, hf⟩)) rfl

/-! ## The groups of 256 rows, and the last group of 288 -/

variable (x : Vec Ideal S256x2048 .bf16) (a : Fin 256) (j : Fin 512)

abbrev b0 (x : Vec Ideal S256x2048 .bf16) : Vec Ideal S256x512 .f32 :=
  k0_pay12 (k0_pay7 g) (sw i) (k0_pay8 w x) (k0_pay9 i w g x) (k0_pay10 w x) (k0_pay11 w x)
theorem b0_apply : b0 i w g x (ValueIdx.ix2 a j) = ent i (at2 x a.val) w g j.val := by
  unfold b0 k0_pay12 k0_pay9 k0_pay11 k0_pay10
  refine (heads_apply (n := 256) (k0_pay8 w x) (k0_pay7 g) (sw i) _ _ _ _ _ _ _ _ _ _ _ _ _ _ _ _ a j).trans
    (ent_of i w g x _ a j fun f => ?_)
  unfold k0_pay8
  exact mm_apply (M := 256) (K := 2048) (N := 512) _ _ none a f

abbrev b1 (x : Vec Ideal S256x2048 .bf16) : Vec Ideal S256x512 .f32 :=
  k0_pay18 (k0_pay7 g) (sw i) (k0_pay13 (k0_pay6 w) x) (k0_pay14 (k0_pay6 w) (k0_pay7 g) (sw i) x) (k0_pay15 (k0_pay6 w) (k0_pay7 g) (sw i) x)
    (k0_pay16 (k0_pay6 w) x) (k0_pay17 (k0_pay6 w) x)
theorem b1_apply : b1 i w g x (ValueIdx.ix2 a j) = ent i (at2 x a.val) w g j.val := by
  unfold b1 k0_pay18 k0_pay14 k0_pay15 k0_pay17 k0_pay16
  refine (heads_apply (n := 256) (k0_pay13 (k0_pay6 w) x) (k0_pay7 g) (sw i) _ _ _ _ _ _ _ _ _ _ _ _ _ _ _ _ a j).trans
    (ent_of i w g x _ a j fun f => ?_)
  unfold k0_pay13
  exact mm_apply (M := 256) (K := 2048) (N := 512) _ _ none a f

abbrev b2 (x : Vec Ideal S256x2048 .bf16) : Vec Ideal S256x512 .f32 :=
  k0_pay23 (k0_pay7 g) (sw i) (k0_pay19 (k0_pay6 w) x) (k0_pay20 (k0_pay6 w) (k0_pay7 g) (sw i) x) (k0_pay21 (k0_pay6 w) x) (k0_pay22 (k0_pay6 w) x)
theorem b2_apply : b2 i w g x (ValueIdx.ix2 a j) = ent i (at2 x a.val) w g j.val := by
  unfold b2 k0_pay23 k0_pay20 k0_pay22 k0_pay21
  refine (heads_apply (n := 256) (k0_pay19 (k0_pay6 w) x) (k0_pay7 g) (sw i) _ _ _ _ _ _ _ _ _ _ _ _ _ _ _ _ a j).trans
    (ent_of i w g x _ a j fun f => ?_)
  unfold k0_pay19
  exact mm_apply (M := 256) (K := 2048) (N := 512) _ _ none a f

abbrev b3 (x : Vec Ideal S256x2048 .bf16) : Vec Ideal S256x512 .f32 :=
  k0_pay29 (k0_pay7 g) (sw i) (k0_pay24 (k0_pay6 w) x) (k0_pay25 (k0_pay6 w) (k0_pay7 g) (sw i) x) (k0_pay26 (k0_pay6 w) (k0_pay7 g) (sw i) x)
    (k0_pay27 (k0_pay6 w) x) (k0_pay28 (k0_pay6 w) x)
theorem b3_apply : b3 i w g x (ValueIdx.ix2 a j) = ent i (at2 x a.val) w g j.val := by
  unfold b3 k0_pay29 k0_pay25 k0_pay26 k0_pay28 k0_pay27
  refine (heads_apply (n := 256) (k0_pay24 (k0_pay6 w) x) (k0_pay7 g) (sw i) _ _ _ _ _ _ _ _ _ _ _ _ _ _ _ _ a j).trans
    (ent_of i w g x _ a j fun f => ?_)
  unfold k0_pay24
  exact mm_apply (M := 256) (K := 2048) (N := 512) _ _ none a f

abbrev b4 (x : Vec Ideal S256x2048 .bf16) : Vec Ideal S256x512 .f32 :=
  k0_pay34 (k0_pay7 g) (sw i) (k0_pay30 (k0_pay6 w) x) (k0_pay31 (k0_pay6 w) (k0_pay7 g) (sw i) x) (k0_pay32 (k0_pay6 w) x) (k0_pay33 (k0_pay6 w) x)
theorem b4_apply : b4 i w g x (ValueIdx.ix2 a j) = ent i (at2 x a.val) w g j.val := by
  unfold b4 k0_pay34 k0_pay31 k0_pay33 k0_pay32
  refine (heads_apply (n := 256) (k0_pay30 (k0_pay6 w) x) (k0_pay7 g) (sw i) _ _ _ _ _ _ _ _ _ _ _ _ _ _ _ _ a j).trans
    (ent_of i w g x _ a j fun f => ?_)
  unfold k0_pay30
  exact mm_apply (M := 256) (K := 2048) (N := 512) _ _ none a f

abbrev b5 (x : Vec Ideal S256x2048 .bf16) : Vec Ideal S256x512 .f32 :=
  k0_pay40 (k0_pay7 g) (sw i) (k0_pay35 (k0_pay6 w) x) (k0_pay36 (k0_pay6 w) (k0_pay7 g) (sw i) x) (k0_pay37 (k0_pay6 w) (k0_pay7 g) (sw i) x)
    (k0_pay38 (k0_pay6 w) x) (k0_pay39 (k0_pay6 w) x)
theorem b5_apply : b5 i w g x (ValueIdx.ix2 a j) = ent i (at2 x a.val) w g j.val := by
  unfold b5 k0_pay40 k0_pay36 k0_pay37 k0_pay39 k0_pay38
  refine (heads_apply (n := 256) (k0_pay35 (k0_pay6 w) x) (k0_pay7 g) (sw i) _ _ _ _ _ _ _ _ _ _ _ _ _ _ _ _ a j).trans
    (ent_of i w g x _ a j fun f => ?_)
  unfold k0_pay35
  exact mm_apply (M := 256) (K := 2048) (N := 512) _ _ none a f

abbrev b6 (x : Vec Ideal S256x2048 .bf16) : Vec Ideal S256x512 .f32 :=
  k0_pay45 (k0_pay7 g) (sw i) (k0_pay41 (k0_pay6 w) x) (k0_pay42 (k0_pay6 w) (k0_pay7 g) (sw i) x) (k0_pay43 (k0_pay6 w) x) (k0_pay44 (k0_pay6 w) x)
theorem b6_apply : b6 i w g x (ValueIdx.ix2 a j) = ent i (at2 x a.val) w g j.val := by
  unfold b6 k0_pay45 k0_pay42 k0_pay44 k0_pay43
  refine (heads_apply (n := 256) (k0_pay41 (k0_pay6 w) x) (k0_pay7 g) (sw i) _ _ _ _ _ _ _ _ _ _ _ _ _ _ _ _ a j).trans
    (ent_of i w g x _ a j fun f => ?_)
  unfold k0_pay41
  exact mm_apply (M := 256) (K := 2048) (N := 512) _ _ none a f

theorem last_apply (x : Vec Ideal S288x2048 .bf16) (a : Fin 288) (j : Fin 512) :
    k0_pay1 (k0_pay7 g) (sw i) (k0_pay46 (k0_pay6 w) x) (k0_pay47 (k0_pay6 w) (k0_pay7 g) (sw i) x)
    (k0_pay48 (k0_pay6 w) (k0_pay7 g) (sw i) x) (k0_pay49 (k0_pay6 w) x) (k0_pay50 (k0_pay6 w) x) (ValueIdx.ix2 a j)
      = ent i (at2 x a.val) w g j.val := by
  unfold k0_pay1 k0_pay47 k0_pay48 k0_pay50 k0_pay49
  refine (heads_apply (n := 288) (k0_pay46 (k0_pay6 w) x) (k0_pay7 g) (sw i) _ _ _ _ _ _ _ _ _ _ _ _ _ _ _ _ a j).trans
    (ent_of i w g x _ a j fun f => ?_)
  unfold k0_pay46
  exact mm_apply (M := 288) (K := 2048) (N := 512) _ _ none a f

/-- The last group's prompt rows, -/
abbrev b7 (x : Vec Ideal S288x2048 .bf16) : Vec Ideal S256x512 .f32 :=
  k0_pay2 (k0_pay7 g) (sw i) (k0_pay46 (k0_pay6 w) x) (k0_pay47 (k0_pay6 w) (k0_pay7 g) (sw i) x)
    (k0_pay48 (k0_pay6 w) (k0_pay7 g) (sw i) x) (k0_pay49 (k0_pay6 w) x) (k0_pay50 (k0_pay6 w) x)
theorem b7_apply (x : Vec Ideal S288x2048 .bf16) (a : Fin 256) (j : Fin 512) :
    b7 i w g x (ValueIdx.ix2 a j) = ent i (at2 x a.val) w g j.val := by
  unfold b7 k0_pay2
  refine (extractStridedSlice_apply _ _ _ _ (ValueIdx.ix2 ⟨a.val, by omega⟩ j) (fun e => by
    match e with
    | ⟨0, _⟩ => show a.val = 0 + a.val; omega
    | ⟨1, _⟩ => show j.val = 0 + j.val; omega)).trans ?_
  exact last_apply i w g x _ j

/-- and its sample rows. -/
abbrev b8 (x : Vec Ideal S288x2048 .bf16) : Vec Ideal S32x512 .f32 :=
  k0_pay3 (k0_pay7 g) (sw i) (k0_pay46 (k0_pay6 w) x) (k0_pay47 (k0_pay6 w) (k0_pay7 g) (sw i) x)
    (k0_pay48 (k0_pay6 w) (k0_pay7 g) (sw i) x) (k0_pay49 (k0_pay6 w) x) (k0_pay50 (k0_pay6 w) x)
theorem b8_apply (x : Vec Ideal S288x2048 .bf16) (a : Fin 32) (j : Fin 512) :
    b8 i w g x (ValueIdx.ix2 a j) = ent i (at2 x (256 + a.val)) w g j.val := by
  unfold b8 k0_pay3
  refine (extractStridedSlice_apply _ _ _ _ (ValueIdx.ix2 ⟨256 + a.val, by omega⟩ j) (fun e => by
    match e with
    | ⟨0, _⟩ => rfl
    | ⟨1, _⟩ => show j.val = 0 + j.val; omega)).trans ?_
  exact last_apply i w g x _ j

/-! ## The blocks of outputs -/

/-- Rows 0 to 255 of the scratch. -/
abbrev r0 (X : Vec Ideal S2080x2048 .bf16) : Vec Ideal S256x2048 .bf16 :=
  View.ld X (Rect.unit (s := S2080x2048) ![0, 0] ![256, 2048] inb_S2080x2048_S256x2048_0_0)
theorem r0_at (X : Vec Ideal S2080x2048 .bf16) (a : Fin 256) (k : ℕ) (hk : k < 2048) :
    at2 (r0 X) a.val k = at2 X (0 + a.val) k := by
  refine (at2_ix (a := 256) (b := 2048) _ a ⟨k, hk⟩).trans (eq_at2 X _ ?_ ?_)
  · show 0 + 1 * a.val = 0 + a.val
    omega
  · show 0 + 1 * k = k
    omega
/-- Rows 256 to 511 of the scratch. -/
abbrev r1 (X : Vec Ideal S2080x2048 .bf16) : Vec Ideal S256x2048 .bf16 :=
  View.ld X (Rect.unit (s := S2080x2048) ![256, 0] ![256, 2048] inb_S2080x2048_S256x2048_256_0)
theorem r1_at (X : Vec Ideal S2080x2048 .bf16) (a : Fin 256) (k : ℕ) (hk : k < 2048) :
    at2 (r1 X) a.val k = at2 X (256 + a.val) k := by
  refine (at2_ix (a := 256) (b := 2048) _ a ⟨k, hk⟩).trans (eq_at2 X _ ?_ ?_)
  · show 256 + 1 * a.val = 256 + a.val
    omega
  · show 0 + 1 * k = k
    omega
/-- Rows 512 to 767 of the scratch. -/
abbrev r2 (X : Vec Ideal S2080x2048 .bf16) : Vec Ideal S256x2048 .bf16 :=
  View.ld X (Rect.unit (s := S2080x2048) ![512, 0] ![256, 2048] inb_S2080x2048_S256x2048_512_0)
theorem r2_at (X : Vec Ideal S2080x2048 .bf16) (a : Fin 256) (k : ℕ) (hk : k < 2048) :
    at2 (r2 X) a.val k = at2 X (512 + a.val) k := by
  refine (at2_ix (a := 256) (b := 2048) _ a ⟨k, hk⟩).trans (eq_at2 X _ ?_ ?_)
  · show 512 + 1 * a.val = 512 + a.val
    omega
  · show 0 + 1 * k = k
    omega
/-- Rows 768 to 1023 of the scratch. -/
abbrev r3 (X : Vec Ideal S2080x2048 .bf16) : Vec Ideal S256x2048 .bf16 :=
  View.ld X (Rect.unit (s := S2080x2048) ![768, 0] ![256, 2048] inb_S2080x2048_S256x2048_768_0)
theorem r3_at (X : Vec Ideal S2080x2048 .bf16) (a : Fin 256) (k : ℕ) (hk : k < 2048) :
    at2 (r3 X) a.val k = at2 X (768 + a.val) k := by
  refine (at2_ix (a := 256) (b := 2048) _ a ⟨k, hk⟩).trans (eq_at2 X _ ?_ ?_)
  · show 768 + 1 * a.val = 768 + a.val
    omega
  · show 0 + 1 * k = k
    omega
/-- Rows 1024 to 1279 of the scratch. -/
abbrev r4 (X : Vec Ideal S2080x2048 .bf16) : Vec Ideal S256x2048 .bf16 :=
  View.ld X (Rect.unit (s := S2080x2048) ![1024, 0] ![256, 2048] inb_S2080x2048_S256x2048_1024_0)
theorem r4_at (X : Vec Ideal S2080x2048 .bf16) (a : Fin 256) (k : ℕ) (hk : k < 2048) :
    at2 (r4 X) a.val k = at2 X (1024 + a.val) k := by
  refine (at2_ix (a := 256) (b := 2048) _ a ⟨k, hk⟩).trans (eq_at2 X _ ?_ ?_)
  · show 1024 + 1 * a.val = 1024 + a.val
    omega
  · show 0 + 1 * k = k
    omega
/-- Rows 1280 to 1535 of the scratch. -/
abbrev r5 (X : Vec Ideal S2080x2048 .bf16) : Vec Ideal S256x2048 .bf16 :=
  View.ld X (Rect.unit (s := S2080x2048) ![1280, 0] ![256, 2048] inb_S2080x2048_S256x2048_1280_0)
theorem r5_at (X : Vec Ideal S2080x2048 .bf16) (a : Fin 256) (k : ℕ) (hk : k < 2048) :
    at2 (r5 X) a.val k = at2 X (1280 + a.val) k := by
  refine (at2_ix (a := 256) (b := 2048) _ a ⟨k, hk⟩).trans (eq_at2 X _ ?_ ?_)
  · show 1280 + 1 * a.val = 1280 + a.val
    omega
  · show 0 + 1 * k = k
    omega
/-- Rows 1536 to 1791 of the scratch. -/
abbrev r6 (X : Vec Ideal S2080x2048 .bf16) : Vec Ideal S256x2048 .bf16 :=
  View.ld X (Rect.unit (s := S2080x2048) ![1536, 0] ![256, 2048] inb_S2080x2048_S256x2048_1536_0)
theorem r6_at (X : Vec Ideal S2080x2048 .bf16) (a : Fin 256) (k : ℕ) (hk : k < 2048) :
    at2 (r6 X) a.val k = at2 X (1536 + a.val) k := by
  refine (at2_ix (a := 256) (b := 2048) _ a ⟨k, hk⟩).trans (eq_at2 X _ ?_ ?_)
  · show 1536 + 1 * a.val = 1536 + a.val
    omega
  · show 0 + 1 * k = k
    omega
/-- Rows 1792 to 2079 of the scratch. -/
abbrev r7 (X : Vec Ideal S2080x2048 .bf16) : Vec Ideal S288x2048 .bf16 :=
  View.ld X (Rect.unit (s := S2080x2048) ![1792, 0] ![288, 2048] inb_S2080x2048_S288x2048_1792_0)
theorem r7_at (X : Vec Ideal S2080x2048 .bf16) (a : Fin 288) (k : ℕ) (hk : k < 2048) :
    at2 (r7 X) a.val k = at2 X (1792 + a.val) k := by
  refine (at2_ix (a := 288) (b := 2048) _ a ⟨k, hk⟩).trans (eq_at2 X _ ?_ ?_)
  · show 1792 + 1 * a.val = 1792 + a.val
    omega
  · show 0 + 1 * k = k
    omega

/-- The prompt block, row by row of the scratch. -/
def res (X : Vec Ideal S2080x2048 .bf16) : Vec Ideal S2048x512 .f32 := fun y => ent i (at2 X (y 0).val) w g (y 1).val

theorem res_of (X : Vec Ideal S2080x2048 .bf16) (y : S2048x512.Idx) {r f : ℕ} (hr : (y 0).val = r) (hf : (y 1).val = f) :
    res i w g X y = ent i (at2 X r) w g f := by
  subst hr hf
  rfl

/-- The eight blocks a point writes to its prompt output, last first. -/
abbrev outPieces (X : Vec Ideal S2080x2048 .bf16) : List (View.Piece (Elt Ideal) S2048x512 .f32) :=
  [⟨Rect.unit (s := S2048x512) ![1792, 0] ![256, 512] inb_S2048x512_S256x512_1792_0, b7 i w g (r7 X)⟩,
    ⟨Rect.unit (s := S2048x512) ![1536, 0] ![256, 512] inb_S2048x512_S256x512_1536_0, b6 i w g (r6 X)⟩,
    ⟨Rect.unit (s := S2048x512) ![1280, 0] ![256, 512] inb_S2048x512_S256x512_1280_0, b5 i w g (r5 X)⟩,
    ⟨Rect.unit (s := S2048x512) ![1024, 0] ![256, 512] inb_S2048x512_S256x512_1024_0, b4 i w g (r4 X)⟩,
    ⟨Rect.unit (s := S2048x512) ![768, 0] ![256, 512] inb_S2048x512_S256x512_768_0, b3 i w g (r3 X)⟩,
    ⟨Rect.unit (s := S2048x512) ![512, 0] ![256, 512] inb_S2048x512_S256x512_512_0, b2 i w g (r2 X)⟩,
    ⟨Rect.unit (s := S2048x512) ![256, 0] ![256, 512] inb_S2048x512_S256x512_256_0, b1 i w g (r1 X)⟩,
    ⟨Rect.unit (s := S2048x512) ![0, 0] ![256, 512] inb_S2048x512_S256x512_0_0, b0 i w g (r0 X)⟩]

/-- They cover the block. -/
theorem cover_out (X : Vec Ideal S2080x2048 .bf16) (y : S2048x512.Idx) : ∃ p ∈ outPieces i w g X, y ∈ p.1.set := by
  have h1 : (y 0).val < 2048 := (y 0).isLt
  have h2 : (y 1).val < 512 := (y 1).isLt
  by_cases c7 : 1792 ≤ (y 0).val
  · refine ⟨_, .head _, ?_⟩
    refine (Rect.mem_set_unit (inb := inb_S2048x512_S256x512_1792_0)).mpr fun a => ?_
    match a with
    | ⟨0, _⟩ => exact ⟨by show 1792 ≤ (y 0).val; omega, by show (y 0).val < 1792 + 256; omega⟩
    | ⟨1, _⟩ => exact ⟨Nat.zero_le _, by show (y 1).val < 0 + 512; omega⟩
  by_cases c6 : 1536 ≤ (y 0).val
  · refine ⟨_, .tail _ (.head _), ?_⟩
    refine (Rect.mem_set_unit (inb := inb_S2048x512_S256x512_1536_0)).mpr fun a => ?_
    match a with
    | ⟨0, _⟩ => exact ⟨by show 1536 ≤ (y 0).val; omega, by show (y 0).val < 1536 + 256; omega⟩
    | ⟨1, _⟩ => exact ⟨Nat.zero_le _, by show (y 1).val < 0 + 512; omega⟩
  by_cases c5 : 1280 ≤ (y 0).val
  · refine ⟨_, .tail _ (.tail _ (.head _)), ?_⟩
    refine (Rect.mem_set_unit (inb := inb_S2048x512_S256x512_1280_0)).mpr fun a => ?_
    match a with
    | ⟨0, _⟩ => exact ⟨by show 1280 ≤ (y 0).val; omega, by show (y 0).val < 1280 + 256; omega⟩
    | ⟨1, _⟩ => exact ⟨Nat.zero_le _, by show (y 1).val < 0 + 512; omega⟩
  by_cases c4 : 1024 ≤ (y 0).val
  · refine ⟨_, .tail _ (.tail _ (.tail _ (.head _))), ?_⟩
    refine (Rect.mem_set_unit (inb := inb_S2048x512_S256x512_1024_0)).mpr fun a => ?_
    match a with
    | ⟨0, _⟩ => exact ⟨by show 1024 ≤ (y 0).val; omega, by show (y 0).val < 1024 + 256; omega⟩
    | ⟨1, _⟩ => exact ⟨Nat.zero_le _, by show (y 1).val < 0 + 512; omega⟩
  by_cases c3 : 768 ≤ (y 0).val
  · refine ⟨_, .tail _ (.tail _ (.tail _ (.tail _ (.head _)))), ?_⟩
    refine (Rect.mem_set_unit (inb := inb_S2048x512_S256x512_768_0)).mpr fun a => ?_
    match a with
    | ⟨0, _⟩ => exact ⟨by show 768 ≤ (y 0).val; omega, by show (y 0).val < 768 + 256; omega⟩
    | ⟨1, _⟩ => exact ⟨Nat.zero_le _, by show (y 1).val < 0 + 512; omega⟩
  by_cases c2 : 512 ≤ (y 0).val
  · refine ⟨_, .tail _ (.tail _ (.tail _ (.tail _ (.tail _ (.head _))))), ?_⟩
    refine (Rect.mem_set_unit (inb := inb_S2048x512_S256x512_512_0)).mpr fun a => ?_
    match a with
    | ⟨0, _⟩ => exact ⟨by show 512 ≤ (y 0).val; omega, by show (y 0).val < 512 + 256; omega⟩
    | ⟨1, _⟩ => exact ⟨Nat.zero_le _, by show (y 1).val < 0 + 512; omega⟩
  by_cases c1 : 256 ≤ (y 0).val
  · refine ⟨_, .tail _ (.tail _ (.tail _ (.tail _ (.tail _ (.tail _ (.head _)))))), ?_⟩
    refine (Rect.mem_set_unit (inb := inb_S2048x512_S256x512_256_0)).mpr fun a => ?_
    match a with
    | ⟨0, _⟩ => exact ⟨by show 256 ≤ (y 0).val; omega, by show (y 0).val < 256 + 256; omega⟩
    | ⟨1, _⟩ => exact ⟨Nat.zero_le _, by show (y 1).val < 0 + 512; omega⟩
  · refine ⟨_, .tail _ (.tail _ (.tail _ (.tail _ (.tail _ (.tail _ (.tail _ (.head _))))))), ?_⟩
    refine (Rect.mem_set_unit (inb := inb_S2048x512_S256x512_0_0)).mpr fun a => ?_
    match a with
    | ⟨0, _⟩ => exact ⟨by show 0 ≤ (y 0).val; omega, by show (y 0).val < 0 + 256; omega⟩
    | ⟨1, _⟩ => exact ⟨Nat.zero_le _, by show (y 1).val < 0 + 512; omega⟩

/-- They leave the block `res`. -/
theorem canon_out (X : Vec Ideal S2080x2048 .bf16) : View.canon (outPieces i w g X) = res i w g X := by
  funext y
  refine View.canon_apply_of_pieces (res i w g X) _ ?_ y (cover_out i w g X y)
  intro p hp x
  rcases List.mem_cons.mp hp with rfl | hp
  · obtain ⟨a, f, rfl⟩ : ∃ (a : Fin 256) (f : Fin 512), x = ValueIdx.ix2 a f := ⟨_, _, ValueIdx.eq_ix2 x⟩
    refine Eq.trans ?_ (res_of i w g X _ (r := 1792 + a.val) (f := f.val) (by show 1792 + 1 * a.val = _; omega)
      (by show 0 + 1 * f.val = _; omega)).symm
    exact (b7_apply i w g (r7 X) a f).trans
      (ent_congr i (fun k hk => r7_at X ⟨a.val, by omega⟩ k hk) w g f.val f.isLt)
  rcases List.mem_cons.mp hp with rfl | hp
  · obtain ⟨a, f, rfl⟩ : ∃ (a : Fin 256) (f : Fin 512), x = ValueIdx.ix2 a f := ⟨_, _, ValueIdx.eq_ix2 x⟩
    refine Eq.trans ?_ (res_of i w g X _ (r := 1536 + a.val) (f := f.val) (by show 1536 + 1 * a.val = _; omega)
      (by show 0 + 1 * f.val = _; omega)).symm
    exact (b6_apply i w g (r6 X) a f).trans
      (ent_congr i (fun k hk => r6_at X a k hk) w g f.val f.isLt)
  rcases List.mem_cons.mp hp with rfl | hp
  · obtain ⟨a, f, rfl⟩ : ∃ (a : Fin 256) (f : Fin 512), x = ValueIdx.ix2 a f := ⟨_, _, ValueIdx.eq_ix2 x⟩
    refine Eq.trans ?_ (res_of i w g X _ (r := 1280 + a.val) (f := f.val) (by show 1280 + 1 * a.val = _; omega)
      (by show 0 + 1 * f.val = _; omega)).symm
    exact (b5_apply i w g (r5 X) a f).trans
      (ent_congr i (fun k hk => r5_at X a k hk) w g f.val f.isLt)
  rcases List.mem_cons.mp hp with rfl | hp
  · obtain ⟨a, f, rfl⟩ : ∃ (a : Fin 256) (f : Fin 512), x = ValueIdx.ix2 a f := ⟨_, _, ValueIdx.eq_ix2 x⟩
    refine Eq.trans ?_ (res_of i w g X _ (r := 1024 + a.val) (f := f.val) (by show 1024 + 1 * a.val = _; omega)
      (by show 0 + 1 * f.val = _; omega)).symm
    exact (b4_apply i w g (r4 X) a f).trans
      (ent_congr i (fun k hk => r4_at X a k hk) w g f.val f.isLt)
  rcases List.mem_cons.mp hp with rfl | hp
  · obtain ⟨a, f, rfl⟩ : ∃ (a : Fin 256) (f : Fin 512), x = ValueIdx.ix2 a f := ⟨_, _, ValueIdx.eq_ix2 x⟩
    refine Eq.trans ?_ (res_of i w g X _ (r := 768 + a.val) (f := f.val) (by show 768 + 1 * a.val = _; omega)
      (by show 0 + 1 * f.val = _; omega)).symm
    exact (b3_apply i w g (r3 X) a f).trans
      (ent_congr i (fun k hk => r3_at X a k hk) w g f.val f.isLt)
  rcases List.mem_cons.mp hp with rfl | hp
  · obtain ⟨a, f, rfl⟩ : ∃ (a : Fin 256) (f : Fin 512), x = ValueIdx.ix2 a f := ⟨_, _, ValueIdx.eq_ix2 x⟩
    refine Eq.trans ?_ (res_of i w g X _ (r := 512 + a.val) (f := f.val) (by show 512 + 1 * a.val = _; omega)
      (by show 0 + 1 * f.val = _; omega)).symm
    exact (b2_apply i w g (r2 X) a f).trans
      (ent_congr i (fun k hk => r2_at X a k hk) w g f.val f.isLt)
  rcases List.mem_cons.mp hp with rfl | hp
  · obtain ⟨a, f, rfl⟩ : ∃ (a : Fin 256) (f : Fin 512), x = ValueIdx.ix2 a f := ⟨_, _, ValueIdx.eq_ix2 x⟩
    refine Eq.trans ?_ (res_of i w g X _ (r := 256 + a.val) (f := f.val) (by show 256 + 1 * a.val = _; omega)
      (by show 0 + 1 * f.val = _; omega)).symm
    exact (b1_apply i w g (r1 X) a f).trans
      (ent_congr i (fun k hk => r1_at X a k hk) w g f.val f.isLt)
  · obtain rfl := List.mem_singleton.mp hp
    obtain ⟨a, f, rfl⟩ : ∃ (a : Fin 256) (f : Fin 512), x = ValueIdx.ix2 a f := ⟨_, _, ValueIdx.eq_ix2 x⟩
    refine Eq.trans ?_ (res_of i w g X _ (r := 0 + a.val) (f := f.val) (by show 0 + 1 * a.val = _; omega)
      (by show 0 + 1 * f.val = _; omega)).symm
    exact (b0_apply i w g (r0 X) a f).trans
      (ent_congr i (fun k hk => r0_at X a k hk) w g f.val f.isLt)

/-- The sample block. -/
theorem sample_apply (X : Vec Ideal S2080x2048 .bf16) (a : Fin 32) (f : Fin 512) :
    b8 i w g (r7 X) (ValueIdx.ix2 a f) = ent i (at2 X (2048 + a.val)) w g f.val := by
  refine (b8_apply i w g (r7 X) a f).trans (ent_congr i (fun k hk => ?_) w g f.val f.isLt)
  refine (r7_at X ⟨256 + a.val, by omega⟩ k hk).trans ?_
  show at2 X (1792 + (256 + a.val)) k = _
  rw [← Nat.add_assoc]

/-! ## The scratch -/

/-- The scratch after a start: the prompt rows over the sample rows. -/
def scr (x0 : Vec Ideal S2048x2048 .bf16) (x1 : Vec Ideal S32x2048 .bf16) : Vec Ideal S2080x2048 .bf16 := fun y =>
  if (y 0).val < 2048 then at2 x0 (y 0).val (y 1).val else at2 x1 ((y 0).val - 2048) (y 1).val

/-- The two blocks a start writes, last first. -/
abbrev pieces (x0 : Vec Ideal S2048x2048 .bf16) (x1 : Vec Ideal S32x2048 .bf16) : List (View.Piece (Elt Ideal) S2080x2048 .bf16) :=
  [⟨Rect.unit (s := S2080x2048) ![2048, 0] ![32, 2048] inb_S2080x2048_S32x2048_2048_0, k0_pay5 x1⟩,
    ⟨Rect.unit (s := S2080x2048) ![0, 0] ![2048, 2048] inb_S2080x2048_S2048x2048_0_0, k0_pay4 x0⟩]

/-- They cover the scratch, -/
theorem cover_scr (x0 : Vec Ideal S2048x2048 .bf16) (x1 : Vec Ideal S32x2048 .bf16) (y : S2080x2048.Idx) :
    ∃ p ∈ pieces x0 x1, y ∈ p.1.set := by
  have h1 : (y 0).val < 2080 := (y 0).isLt
  have h2 : (y 1).val < 2048 := (y 1).isLt
  by_cases h : (y 0).val < 2048
  · refine ⟨_, .tail _ (.head _), ?_⟩
    refine (Rect.mem_set_unit (inb := inb_S2080x2048_S2048x2048_0_0)).mpr fun a => ?_
    match a with
    | ⟨0, _⟩ => exact ⟨Nat.zero_le _, by show (y 0).val < 0 + 2048; omega⟩
    | ⟨1, _⟩ => exact ⟨Nat.zero_le _, by show (y 1).val < 0 + 2048; omega⟩
  · refine ⟨_, .head _, ?_⟩
    refine (Rect.mem_set_unit (inb := inb_S2080x2048_S32x2048_2048_0)).mpr fun a => ?_
    match a with
    | ⟨0, _⟩ => exact ⟨by show 2048 ≤ (y 0).val; omega, by show (y 0).val < 2048 + 32; omega⟩
    | ⟨1, _⟩ => exact ⟨Nat.zero_le _, by show (y 1).val < 0 + 2048; omega⟩

/-- and leave it as `scr`. -/
theorem canon_scr (x0 : Vec Ideal S2048x2048 .bf16) (x1 : Vec Ideal S32x2048 .bf16) : View.canon (pieces x0 x1) = scr x0 x1 := by
  funext y
  refine View.canon_apply_of_pieces (scr x0 x1) _ ?_ y (cover_scr x0 x1 y)
  intro p hp x
  rcases List.mem_cons.mp hp with rfl | hp
  · obtain ⟨a, k, rfl⟩ : ∃ (a : Fin 32) (k : Fin 2048), x = ValueIdx.ix2 a k := ⟨_, _, ValueIdx.eq_ix2 x⟩
    refine Eq.trans (congrFun (shapeCast_self x1 _) _) ((at2_ix x1 a k).symm.trans ?_)
    show at2 x1 a.val k.val = if 2048 + 1 * a.val < 2048 then _ else at2 x1 (2048 + 1 * a.val - 2048) (0 + 1 * k.val)
    rw [if_neg (by omega), Nat.add_sub_cancel_left, Nat.one_mul, Nat.one_mul, Nat.zero_add]
  · obtain rfl := List.mem_singleton.mp hp
    obtain ⟨a, k, rfl⟩ : ∃ (a : Fin 2048) (k : Fin 2048), x = ValueIdx.ix2 a k := ⟨_, _, ValueIdx.eq_ix2 x⟩
    have ha := a.isLt
    refine Eq.trans (congrFun (shapeCast_self x0 _) _) ((at2_ix x0 a k).symm.trans ?_)
    show at2 x0 a.val k.val = if 0 + 1 * a.val < 2048 then at2 x0 (0 + 1 * a.val) (0 + 1 * k.val) else _
    rw [if_pos (by omega), Nat.one_mul, Nat.one_mul, Nat.zero_add, Nat.zero_add]

/-! ## The points -/

variable (m : (ℓ : Loc nD τ sig) → Buf (Elt Ideal) ℓ) (c : Dev nD)

/-- The scratch after a starting point, -/
theorem scr_A (t : Fin cfg0.N) (h0 : t.val % 9 = 0) :
    (outsAt0 m c t.val t.isLt).2.2 = scr (iblk m c 0 t) (iblk m c 1 t) := by
  rw [outsAt0_A m c t h0]
  dsimp only
  unfold sout0_A_0
  rw [View.read_writes_eq_canon _ _ _ (scover0_A_0 c _ _ _ _ _ _ _ _ _ _ _ _ _ _ _ _ _ _ _ _)]
  unfold kernelRun0_A
  dsimp only
  sl_unfold_words
  simp only [View.readAt_eq_ld, (hs0_0 t).read_unread, (hs0_1 t).read_unread, View.ld_unit_zero (S := S2048x2048) hz,
    View.ld_unit_zero (S := S32x2048) hz]
  exact canon_scr _ _

/-- its prompt block -/
theorem out4_A (t : Fin cfg0.N) (h0 : t.val % 9 = 0) : (outsAt0 m c t.val t.isLt).1
    = res (grid0.coords t) (iblk m c 2 t) (iblk m c 3 t) (scr (iblk m c 0 t) (iblk m c 1 t)) := by
  rw [outsAt0_A m c t h0]
  dsimp only
  unfold out0_A_4
  rw [View.read_writes_eq_canon _ _ _ (cover0_A_4 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S32x2048) hz, View.ld_unit_zero (S := S2048x512) hz,
    View.ld_unit_zero (S := S1x512) hz]
  simp only [View.readCov_eq_canon_ld _ _ _ (cover_scr (iblk m c 0 t) (iblk m c 1 t)), canon_scr]
  exact canon_out _ _ _ _

/-- and its sample block. -/
theorem out5_A (t : Fin cfg0.N) (h0 : t.val % 9 = 0) : (outsAt0 m c t.val t.isLt).2.1
    = b8 (grid0.coords t) (iblk m c 2 t) (iblk m c 3 t) (r7 (scr (iblk m c 0 t) (iblk m c 1 t))) := by
  rw [outsAt0_A m c t h0]
  dsimp only
  unfold out0_A_5
  rw [View.read_writes_eq_canon _ _ _ (cover0_A_5 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S32x2048) hz, View.ld_unit_zero (S := S2048x512) hz,
    View.ld_unit_zero (S := S1x512) hz, View.canon_cons_unit_zero (S := S32x512) hz]
  simp only [View.readCov_eq_canon_ld _ _ _ (cover_scr (iblk m c 0 t) (iblk m c 1 t)), canon_scr]

/-- A point that goes on leaves the scratch as it was, -/
theorem scr_B (t : Fin cfg0.N) (h0 : ¬t.val % 9 = 0) :
    (outsAt0 m c t.val t.isLt).2.2 = (outsAt0 m c (t.val - 1) (Nat.lt_of_le_of_lt (Nat.sub_le _ _) t.isLt)).2.2 := by
  rw [outsAt0_B m c t h0]
  rfl

/-- and computes its prompt block -/
theorem out4_B (t : Fin cfg0.N) (h0 : ¬t.val % 9 = 0) : (outsAt0 m c t.val t.isLt).1
    = res (grid0.coords t) (iblk m c 2 t) (iblk m c 3 t)
      (outsAt0 m c (t.val - 1) (Nat.lt_of_le_of_lt (Nat.sub_le _ _) t.isLt)).2.2 := by
  rw [outsAt0_B m c t h0]
  dsimp only
  unfold out0_B_4
  rw [View.read_writes_eq_canon _ _ _ (cover0_B_4 c _ _ _ _ _ _ _ _ _ _ _ _ _ _ _ _ _ _ _ _ _)]
  unfold kernelRun0_B
  dsimp only
  sl_unfold_words
  simp only [View.readAt_eq_ld, (hs0_2 t).read_unread, (hs0_3 t).read_unread, (Memref.isWhole_whole _).read_unread,
    View.ld_unit_zero (S := S2048x512) hz, View.ld_unit_zero (S := S1x512) hz]
  exact canon_out _ _ _ _

/-- and its sample block from it. -/
theorem out5_B (t : Fin cfg0.N) (h0 : ¬t.val % 9 = 0) : (outsAt0 m c t.val t.isLt).2.1
    = b8 (grid0.coords t) (iblk m c 2 t) (iblk m c 3 t)
      (r7 (outsAt0 m c (t.val - 1) (Nat.lt_of_le_of_lt (Nat.sub_le _ _) t.isLt)).2.2) := by
  rw [outsAt0_B m c t h0]
  dsimp only
  unfold out0_B_5
  rw [View.read_writes_eq_canon _ _ _ (cover0_B_5 c _ _ _ _ _ _ _ _ _ _ _ _ _ _ _ _ _ _ _ _ _)]
  unfold kernelRun0_B
  dsimp only
  sl_unfold_words
  simp only [View.readAt_eq_ld, (hs0_2 t).read_unread, (hs0_3 t).read_unread, (Memref.isWhole_whole _).read_unread,
    View.ld_unit_zero (S := S2048x512) hz, View.ld_unit_zero (S := S1x512) hz, View.canon_cons_unit_zero (S := S32x512) hz]

end Cert.ProjPoint

end
-- ==== Proof.Columns.lean ====
/-
  Groups of columns side by side: the entry of the joined array is the entry of the group its column falls in.
-/
module

public import proofs.«01_k».proof.Proof.Rows

@[expose] public section

noncomputable section

namespace Cert.Columns

open Idealize.ShloMosaic
open Idealize.ShloMosaic.TcCoe Idealize.ShloMosaic.ValueIdx Idealize.SL.Sem
open Cert.Rows

/-- Column `j` of the joined array, where group `k`, `w` columns wide, begins at column `pre`. -/
theorem group_apply {α : Type} {n b w : ℕ} (xs : List ((s : Shape) × (s.Idx → α)))
    (h : Shape.Concatenates (xs.map (·.1)) ⟨2, ![n, b]⟩ 1) (i : Fin n) (j : Fin b) (k : ℕ) (hk : k < xs.length)
    (x : (⟨2, ![n, w]⟩ : Shape).Idx → α) (hxk : xs[k] = ⟨⟨2, ![n, w]⟩, x⟩) (pre : ℕ)
    (hpre : (((xs.take k).map (·.1)).map fun s => if h : s.rank = 2 then s.size ((1 : Fin 2).cast h.symm) else 0).sum = pre)
    (hl : pre ≤ j.val) (hu : j.val < pre + w) :
    concatenate ⟨2, ![n, b]⟩ 1 xs h (ValueIdx.ix2 i j) = x (ValueIdx.ix2 i ⟨j.val - pre, by omega⟩) := by
  refine concatenate_apply_piece (t := ⟨2, ![n, b]⟩) 1 xs h (ValueIdx.ix2 i j) k hk ⟨2, ![n, w]⟩ x hxk rfl pre hpre
    (ValueIdx.ix2 i ⟨j.val - pre, by omega⟩) (fun e he => ?_) ?_
  · match e with
    | ⟨0, _⟩ => rfl
    | ⟨1, _⟩ => exact absurd rfl he
  · show pre + (j.val - pre) = j.val
    omega

/-- Entry `j` of vectors put end to end, where vector `k`, of length `w`, begins at `pre`. -/
theorem part_apply {α : Type} {b w : ℕ} (xs : List ((s : Shape) × (s.Idx → α)))
    (h : Shape.Concatenates (xs.map (·.1)) ⟨1, ![b]⟩ 0) (j : Fin b) (k : ℕ) (hk : k < xs.length)
    (x : (⟨1, ![w]⟩ : Shape).Idx → α) (hxk : xs[k] = ⟨⟨1, ![w]⟩, x⟩) (pre : ℕ)
    (hpre : (((xs.take k).map (·.1)).map fun s => if h : s.rank = 1 then s.size ((0 : Fin 1).cast h.symm) else 0).sum = pre)
    (hl : pre ≤ j.val) (hu : j.val < pre + w) :
    concatenate ⟨1, ![b]⟩ 0 xs h (ValueIdx.ix1 j) = x (ValueIdx.ix1 ⟨j.val - pre, by omega⟩) := by
  refine concatenate_apply_piece (t := ⟨1, ![b]⟩) 0 xs h (ValueIdx.ix1 j) k hk ⟨1, ![w]⟩ x hxk rfl pre hpre
    (ValueIdx.ix1 ⟨j.val - pre, by omega⟩) (fun e he => ?_) ?_
  · match e with
    | ⟨0, _⟩ => exact absurd rfl he
  · show pre + (j.val - pre) = j.val
    omega

end Cert.Columns

end
-- ==== Proof.ProjArray.lean ====
/-
  The input projection: what the result arrays hold.

  Each point's blocks are read off the arguments, and the blocks make the arrays: row `r`, column `j` is row `r` times the
  weight's column, the heads of the queries, the keys, the gates and the memory queries normed and scaled by their gains.
-/
module

public import proofs.«01_k».proof.Proof.ProjPoint
public import proofs.«01_k».proof.Proof.Columns

@[expose] public section

noncomputable section

namespace Cert.ProjArray

open Idealize.ShloMosaic hiding ix1 ix2 ix3 ix4 ix5
open Cert.ProjIdeal Cert.ProjIdeal.Gen Cert.Rows Cert.Heads Cert.Columns Cert.ProjPoint
open Idealize.ShloMosaic.TcCoe Idealize.ShloMosaic.ValueIdx Idealize.SL.Sem

variable (m : (ℓ : Loc nD τ sig) → Buf (Elt Ideal) ℓ) (c : Dev nD)

/-- The prompt rows, the sample rows, the weight, the four gains. -/
abbrev xp : Vec Ideal S8192x2048 .bf16 := m ((c : Thread nD τ).loc main_arg0)
abbrev xs : Vec Ideal S128x2048 .bf16 := m ((c : Thread nD τ).loc main_arg1)
abbrev w : Vec Ideal S2048x4608 .f32 := m ((c : Thread nD τ).loc main_arg2)
abbrev qa : Vec Ideal S128 .f32 := m ((c : Thread nD τ).loc main_arg3)
abbrev ka : Vec Ideal S128 .f32 := m ((c : Thread nD τ).loc main_arg4)
abbrev gs : Vec Ideal S4x128 .f32 := m ((c : Thread nD τ).loc main_arg5)
abbrev qm : Vec Ideal S128 .f32 := m ((c : Thread nD τ).loc main_arg6)

/-- Which block of each argument a point works on. -/
theorem idx : ∀ t : Fin cfg0.N, win0_0.index t (0 : Fin 2) = t.val / 9 ∧ win0_0.index t (1 : Fin 2) = 0
    ∧ win0_1.index t (0 : Fin 2) = t.val / 9 ∧ win0_1.index t (1 : Fin 2) = 0
    ∧ win0_2.index t (0 : Fin 2) = 0 ∧ win0_2.index t (1 : Fin 2) = t.val % 9
    ∧ win0_3.index t (0 : Fin 2) = 0 ∧ win0_3.index t (1 : Fin 2) = t.val % 9 :=
  (by decide +kernel : ∀ t : Fin grid0.N, _)

theorem lt_N (t : Fin cfg0.N) : t.val < 36 := lt_of_lt_of_eq t.isLt N_0

/-- The switch is on at the columns of the queries and keys, of the gates and of the memory queries. -/
theorem sw_iff : ∀ t : Fin cfg0.N, sw (grid0.coords t) = 1 ↔ t.val % 9 < 4 ∨ 7 ≤ t.val % 9 :=
  (by decide +kernel : ∀ t : Fin grid0.N, _)

theorem read0 (t : Fin cfg0.N) (i k : ℕ) (hi : i < 2048) (hk : k < 2048) :
    at2 (a := 2048) (b := 2048) (iblk m c 0 t) i k = at2 (xp m c) (2048 * (t.val / 9) + i) k := by
  have ht := lt_N t
  refine (at2_ix (a := 2048) (b := 2048) (iblk m c 0 t) ⟨i, hi⟩ ⟨k, hk⟩).trans (Eq.trans ?_ (at2_ix (xp m c) ⟨2048 * (t.val / 9) + i, by omega⟩ ⟨k, hk⟩).symm)
  blk_ext [iblk, V_main_arg0, idx t]

theorem read1 (t : Fin cfg0.N) (i k : ℕ) (hi : i < 32) (hk : k < 2048) :
    at2 (a := 32) (b := 2048) (iblk m c 1 t) i k = at2 (xs m c) (32 * (t.val / 9) + i) k := by
  have ht := lt_N t
  refine (at2_ix (a := 32) (b := 2048) (iblk m c 1 t) ⟨i, hi⟩ ⟨k, hk⟩).trans (Eq.trans ?_ (at2_ix (xs m c) ⟨32 * (t.val / 9) + i, by omega⟩ ⟨k, hk⟩).symm)
  blk_ext [iblk, V_main_arg1, idx t]

theorem read2 (t : Fin cfg0.N) (k f : ℕ) (hk : k < 2048) (hf : f < 512) :
    at2 (a := 2048) (b := 512) (iblk m c 2 t) k f = at2 (w m c) k (512 * (t.val % 9) + f) := by
  have ht := lt_N t
  refine (at2_ix (a := 2048) (b := 512) (iblk m c 2 t) ⟨k, hk⟩ ⟨f, hf⟩).trans (Eq.trans ?_ (at2_ix (w m c) ⟨k, hk⟩ ⟨512 * (t.val % 9) + f, by omega⟩).symm)
  blk_ext [iblk, V_main_arg2, idx t]

/-- The gain of a column: the queries', the keys', one at the values and the gated columns, the gates', the memory queries'. -/
def gain (qa ka : ℕ → EReal) (gs : ℕ → ℕ → EReal) (qm : ℕ → EReal) (j : ℕ) : EReal :=
  if j < 1024 then qa (j % 128) else if j < 2048 then ka ((j - 1024) % 128) else if j < 3584 then 1
  else if j < 4096 then gs ((j - 3584) / 128) ((j - 3584) % 128) else qm ((j - 4096) % 128)

/-- What the buffers hold once the gains' vectors are made, before they are put end to end. -/
abbrev pre (b : Ref sig .tc) : Buf (Elt Ideal) ((c : Thread nD τ).loc b) :=
  StableHlo.after ((hostOps0 (F := Ideal)).take 12) (fun b => m (c, b)) b

/-- The queries' gain, once for each of its eight groups. -/
def vec2 : Vec Ideal S1024 .f32 := pre m c main_v2
/-- The window keys' gain, once for each of its eight groups. -/
def vec5 : Vec Ideal S1024 .f32 := pre m c main_v5
/-- Ones for the columns that aren't normed. -/
def vec6 : Vec Ideal S1536 .f32 := pre m c main_v6
/-- The gating sample's gain, row after row. -/
def vec7 : Vec Ideal S512 .f32 := pre m c main_v7
/-- The memory queries' gain, once for each of its four groups. -/
def vec10 : Vec Ideal S512 .f32 := pre m c main_v10

/-- Five vectors end to end. -/
def five (x2 x5 : Vec Ideal S1024 .f32) (x6 : Vec Ideal S1536 .f32) (x7 x10 : Vec Ideal S512 .f32) : Vec Ideal S4608 .f32 :=
  concatenate S4608 0 [⟨S1024, x2⟩, ⟨S1024, x5⟩, ⟨S1536, x6⟩, ⟨S512, x7⟩, ⟨S512, x10⟩]
    concatenates_S1024_S1024_S1536_S512_S512_S4608_d0

/-- The gains' row is these vectors end to end. -/
theorem V12 : (V m c main_v12 : Vec Ideal S1x4608 .f32)
    = shapeCast S1x4608 (five (vec2 m c) (vec5 m c) (vec6 m c) (vec7 m c) (vec10 m c)) shapeCasts_S4608_S1x4608 := by
  unfold_abbrev_sides
  simp only [StableHlo.after_cons, StableHlo.after_nil]
  rw [StableHlo.reshape_result, StableHlo.nary_result]
  rfl

/-- The queries' gain, once for each of its eight groups. Entry by entry. -/
theorem pre2 (j : Fin 1024) : vec2 m c (ValueIdx.ix1 j) = at1 (qa m c) (j.val % 128) := by
  have h : vec2 m c = shapeCast S1024 (broadcastInDim S8x128 ![0, 1] bcast_S1x128_S8x128_0_1
      (shapeCast S1x128 (qa m c) shapeCasts_S128_S1x128)) shapeCasts_S8x128_S1024 := by
    unfold vec2
    unfold_abbrev_sides
    simp only [List.take_succ_cons, List.take_zero]
    after_results
    rfl
  rw [h]
  exact tile_apply (h := 8) (b := 1024) rfl (qa m c) _ _ _ _

/-- The window keys' gain, once for each of its eight groups. Entry by entry. -/
theorem pre5 (j : Fin 1024) : vec5 m c (ValueIdx.ix1 j) = at1 (ka m c) (j.val % 128) := by
  have h : vec5 m c = shapeCast S1024 (broadcastInDim S8x128 ![0, 1] bcast_S1x128_S8x128_0_1
      (shapeCast S1x128 (ka m c) shapeCasts_S128_S1x128)) shapeCasts_S8x128_S1024 := by
    unfold vec5
    unfold_abbrev_sides
    simp only [List.take_succ_cons, List.take_zero]
    after_results
    rfl
  rw [h]
  exact tile_apply (h := 8) (b := 1024) rfl (ka m c) _ _ _ _

/-- Ones for the columns that aren't normed. Entry by entry. -/
theorem pre6 (j : Fin 1536) : vec6 m c (ValueIdx.ix1 j) = 1 := by
  have h : vec6 m c = (broadcastInDim S1536 ![] bcast_S_S1536 (constant (F := Ideal) S_ .f32 0x3F800000#32) : Vec Ideal S1536 .f32) := by
    unfold vec6
    unfold_abbrev_sides
    simp only [List.take_succ_cons, List.take_zero]
    after_results
  rw [h]
  exact ofBits_one

/-- The gating sample's gain, row after row. Entry by entry. -/
theorem pre7 (j : Fin 512) : vec7 m c (ValueIdx.ix1 j) = at2 (gs m c) (j.val / 128) (j.val % 128) := by
  have hj := j.isLt
  have h : vec7 m c = shapeCast S512 (gs m c) shapeCasts_S4x128_S512 := by
    unfold vec7
    unfold_abbrev_sides
    simp only [List.take_succ_cons, List.take_zero]
    after_results
    rfl
  rw [h]
  refine (shapeCast_apply _ _ _ (ValueIdx.ix2 ⟨j.val / 128, by omega⟩ ⟨j.val % 128, by omega⟩) ?_).trans (at2_ix (gs m c) _ _).symm
  rw [Shape.rowMajor_val_two, Shape.rowMajor_val_one]
  show j.val / 128 * 128 + j.val % 128 = j.val
  omega

/-- The memory queries' gain, once for each of its four groups. Entry by entry. -/
theorem pre10 (j : Fin 512) : vec10 m c (ValueIdx.ix1 j) = at1 (qm m c) (j.val % 128) := by
  have h : vec10 m c = shapeCast S512 (broadcastInDim S4x128 ![0, 1] bcast_S1x128_S4x128_0_1
      (shapeCast S1x128 (qm m c) shapeCasts_S128_S1x128)) shapeCasts_S4x128_S512 := by
    unfold vec10
    unfold_abbrev_sides
    simp only [List.take_succ_cons, List.take_zero]
    after_results
    rfl
  rw [h]
  exact tile_apply (h := 4) (b := 512) rfl (qm m c) _ _ _ _

/-- The vectors end to end are the gains. -/
theorem five_apply (j : ℕ) (hj : j < 4608) : five (vec2 m c) (vec5 m c) (vec6 m c) (vec7 m c) (vec10 m c) (ValueIdx.ix1 ⟨j, hj⟩)
    = gain (at1 (qa m c)) (at1 (ka m c)) (at2 (gs m c)) (at1 (qm m c)) j := by
  unfold gain five
  by_cases h1 : j < 1024
  · rw [if_pos h1]
    exact (part_apply (b := 4608) (w := 1024) _ _ ⟨j, hj⟩ 0 (Nat.lt_of_lt_of_eq (by decide : 0 < 5) rfl) (vec2 m c) rfl 0 rfl
      (by show 0 ≤ j; omega) (by show j < 0 + 1024; omega)).trans (pre2 m c _)
  by_cases h2 : j < 2048
  · rw [if_neg h1, if_pos h2]
    exact (part_apply (b := 4608) (w := 1024) _ _ ⟨j, hj⟩ 1 (Nat.lt_of_lt_of_eq (by decide : 1 < 5) rfl) (vec5 m c) rfl 1024 rfl
      (by show 1024 ≤ j; omega) (by show j < 1024 + 1024; omega)).trans (pre5 m c _)
  by_cases h3 : j < 3584
  · rw [if_neg h1, if_neg h2, if_pos h3]
    exact (part_apply (b := 4608) (w := 1536) _ _ ⟨j, hj⟩ 2 (Nat.lt_of_lt_of_eq (by decide : 2 < 5) rfl) (vec6 m c) rfl 2048 rfl
      (by show 2048 ≤ j; omega) (by show j < 2048 + 1536; omega)).trans (pre6 m c _)
  by_cases h4 : j < 4096
  · rw [if_neg h1, if_neg h2, if_neg h3, if_pos h4]
    exact (part_apply (b := 4608) (w := 512) _ _ ⟨j, hj⟩ 3 (Nat.lt_of_lt_of_eq (by decide : 3 < 5) rfl) (vec7 m c) rfl 3584 rfl
      (by show 3584 ≤ j; omega) (by show j < 3584 + 512; omega)).trans (pre7 m c _)
  · rw [if_neg h1, if_neg h2, if_neg h3, if_neg h4]
    exact (part_apply (b := 4608) (w := 512) _ _ ⟨j, hj⟩ 4 (Nat.lt_of_lt_of_eq (by decide : 4 < 5) rfl) (vec10 m c) rfl 4096 rfl
      (by show 4096 ≤ j; omega) (by show j < 4096 + 512; omega)).trans (pre10 m c _)

theorem read3 (t : Fin cfg0.N) (f : ℕ) (hf : f < 512) : at2 (a := 1) (b := 512) (iblk m c 3 t) 0 f
    = gain (at1 (qa m c)) (at1 (ka m c)) (at2 (gs m c)) (at1 (qm m c)) (512 * (t.val % 9) + f) := by
  have ht := lt_N t
  refine (at2_ix (a := 1) (b := 512) (iblk m c 3 t) 0 ⟨f, hf⟩).trans ?_
  blk_simp [iblk, idx t]
  rw [V12]
  have e : ((View.whole main_v12).slice (win0_3.rect t)).emb (ValueIdx.ix2 0 ⟨f, hf⟩)
      = ValueIdx.ix2 0 ⟨512 * (t.val % 9) + f, by omega⟩ := by blk_ext [idx t]
  refine (congrArg _ e).trans ?_
  refine (asRow_apply (b := 4608) _ _ _).trans ?_
  exact five_apply m c _ _

/-- A result row: the row times the weight, with the normed heads. -/
def proj (x : ℕ → EReal) (w : ℕ → ℕ → EReal) (g : ℕ → EReal) (j : ℕ) : EReal :=
  if j < 2048 ∨ 3584 ≤ j then head True (lin 2048 x w) g j else lin 2048 x w j

/-- An entry of a point is an entry of the result row. -/
theorem ent_eq (t : Fin cfg0.N) (x : ℕ → EReal) (j : ℕ) (hj : j < 512) : ent (grid0.coords t) x (iblk m c 2 t) (iblk m c 3 t) j
    = proj x (at2 (w m c)) (gain (at1 (qa m c)) (at1 (ka m c)) (at2 (gs m c)) (at1 (qm m c))) (512 * (t.val % 9) + j) := by
  have ht := lt_N t
  have e : 128 * (4 * (t.val % 9)) + j = 512 * (t.val % 9) + j := by ring
  have hz : ∀ k < 128 * 4, lin 2048 x (at2 (a := 2048) (b := 512) (iblk m c 2 t)) k
      = lin 2048 x (at2 (w m c)) (128 * (4 * (t.val % 9)) + k) := by
    intro k hk
    refine lin_congr (fun _ _ => rfl) fun l hl => ?_
    rw [read2 m c t l k hl hk, show 128 * (4 * (t.val % 9)) = 512 * (t.val % 9) by ring]
  have hg := read3 m c t j hj
  unfold ent proj
  by_cases h : t.val % 9 < 4 ∨ 7 ≤ t.val % 9
  · rw [if_pos (by omega)]
    refine (head_shift (on' := True) (iff_of_true ((sw_iff t).mpr h) trivial)
      (g' := gain (at1 (qa m c)) (at1 (ka m c)) (at2 (gs m c)) (at1 (qm m c))) 4 (4 * (t.val % 9)) j (by omega) hz ?_).trans (by rw [e])
    rw [e, hg]
  · rw [if_neg (by omega)]
    refine (head_shift (on' := False) (iff_of_false (fun h' => h ((sw_iff t).mp h')) not_false) (g' := fun _ => 1) 4
      (4 * (t.val % 9)) j (by omega) hz ?_).trans ?_
    · rw [hg]
      unfold gain
      rw [if_neg (by omega), if_neg (by omega), if_pos (by omega)]
    · rw [head_off _ _ _ rfl, e]

/-- The scratch after a point: its prompt rows, -/
theorem scr_prompt (t : Fin cfg0.N) (i k : ℕ) (hi : i < 2048) (hk : k < 2048) :
    at2 (a := 2080) (b := 2048) (outsAt0 m c t.val t.isLt).2.2 i k = at2 (xp m c) (2048 * (t.val / 9) + i) k := by
  have hA : ∀ t : Fin cfg0.N, t.val % 9 = 0 → at2 (a := 2080) (b := 2048) (scr (iblk m c 0 t) (iblk m c 1 t)) i k
      = at2 (xp m c) (2048 * (t.val / 9) + i) k := fun t h0 => by
    refine (at2_ix (a := 2080) (b := 2048) _ ⟨i, by omega⟩ ⟨k, hk⟩).trans ?_
    exact (if_pos hi).trans (read0 m c t i k hi hk)
  obtain ⟨n, hn⟩ := t
  induction n with
  | zero => rw [scr_A m c _ rfl]; exact hA _ rfl
  | succ n ih =>
    by_cases h0 : (n + 1) % 9 = 0
    · rw [scr_A m c _ h0]; exact hA _ h0
    · rw [scr_B m c _ h0]
      refine (ih (by omega)).trans ?_
      show at2 (xp m c) (2048 * (n / 9) + i) k = at2 (xp m c) (2048 * ((n + 1) / 9) + i) k
      rw [show (n + 1) / 9 = n / 9 by omega]

/-- and its sample rows. -/
theorem scr_sample (t : Fin cfg0.N) (i k : ℕ) (hi : i < 32) (hk : k < 2048) :
    at2 (a := 2080) (b := 2048) (outsAt0 m c t.val t.isLt).2.2 (2048 + i) k = at2 (xs m c) (32 * (t.val / 9) + i) k := by
  have hA : ∀ t : Fin cfg0.N, t.val % 9 = 0 → at2 (a := 2080) (b := 2048) (scr (iblk m c 0 t) (iblk m c 1 t)) (2048 + i) k
      = at2 (xs m c) (32 * (t.val / 9) + i) k := fun t h0 => by
    refine (at2_ix (a := 2080) (b := 2048) _ ⟨2048 + i, by omega⟩ ⟨k, hk⟩).trans ?_
    refine (if_neg (by show ¬2048 + i < 2048; omega)).trans ?_
    show at2 (a := 32) (b := 2048) (iblk m c 1 t) (2048 + i - 2048) k = _
    rw [Nat.add_sub_cancel_left]
    exact read1 m c t i k hi hk
  obtain ⟨n, hn⟩ := t
  induction n with
  | zero => rw [scr_A m c _ rfl]; exact hA _ rfl
  | succ n ih =>
    by_cases h0 : (n + 1) % 9 = 0
    · rw [scr_A m c _ h0]; exact hA _ h0
    · rw [scr_B m c _ h0]
      refine (ih (by omega)).trans ?_
      show at2 (xs m c) (32 * (n / 9) + i) k = at2 (xs m c) (32 * ((n + 1) / 9) + i) k
      rw [show (n + 1) / 9 = n / 9 by omega]

/-- The gains' row. -/
abbrev gn : ℕ → EReal := gain (at1 (qa m c)) (at1 (ka m c)) (at2 (gs m c)) (at1 (qm m c))

/-- The prompt block after a point. -/
theorem block4 (t : Fin cfg0.N) (i : Fin 2048) (j : Fin 512) : (outsAt0 m c t.val t.isLt).1 (ValueIdx.ix2 i j)
    = proj (at2 (xp m c) (2048 * (t.val / 9) + i.val)) (at2 (w m c)) (gn m c) (512 * (t.val % 9) + j.val) := by
  have hout : (outsAt0 m c t.val t.isLt).1 = res (grid0.coords t) (iblk m c 2 t) (iblk m c 3 t) (outsAt0 m c t.val t.isLt).2.2 := by
    by_cases h0 : t.val % 9 = 0
    · rw [out4_A m c t h0, scr_A m c t h0]
    · rw [out4_B m c t h0, scr_B m c t h0]
  rw [hout, res_of _ _ _ _ _ (r := i.val) (f := j.val) rfl rfl]
  exact (ent_congr _ (fun k hk => scr_prompt m c t i.val k i.isLt hk) _ _ _ j.isLt).trans (ent_eq m c t _ j.val j.isLt)

/-- The sample block after a point. -/
theorem block5 (t : Fin cfg0.N) (i : Fin 32) (j : Fin 512) : (outsAt0 m c t.val t.isLt).2.1 (ValueIdx.ix2 i j)
    = proj (at2 (xs m c) (32 * (t.val / 9) + i.val)) (at2 (w m c)) (gn m c) (512 * (t.val % 9) + j.val) := by
  have hout : (outsAt0 m c t.val t.isLt).2.1
      = b8 (grid0.coords t) (iblk m c 2 t) (iblk m c 3 t) (r7 (outsAt0 m c t.val t.isLt).2.2) := by
    by_cases h0 : t.val % 9 = 0
    · rw [out5_A m c t h0, scr_A m c t h0]
    · rw [out5_B m c t h0, scr_B m c t h0]
  rw [hout, sample_apply]
  exact (ent_congr _ (fun k hk => scr_sample m c t i.val k i.isLt hk) _ _ _ j.isLt).trans (ent_eq m c t _ j.val j.isLt)

/-- The prompt result, row by row. -/
theorem G4_apply (r : Fin 8192) (j : Fin 4608) : Value.G4 m c (ValueIdx.ix2 r j)
    = proj (at2 (xp m c) r.val) (at2 (w m c)) (gn m c) j.val := by
  have hp' : Value.pt4Of (ValueIdx.ix2 r j) = 9 * (r.val / 2048) + j.val / 512 := by
    show 9 * (r.val / 2048 - 0) + 1 * (j.val / 512 - 0) = _
    omega
  have hN : Value.pt4Of (ValueIdx.ix2 r j) < cfg0.N := by rw [hp', show cfg0.N = 36 from N_0]; omega
  unfold Value.G4
  rw [dif_pos hN, ← Value.outsAt0_sweep m c _ hN]
  have e : Value.loc4Of (ValueIdx.ix2 r j) = ValueIdx.ix2 ⟨r.val % 2048, Nat.mod_lt _ (by decide)⟩ ⟨j.val % 512, Nat.mod_lt _ (by decide)⟩ := by
    funext a
    match a with
    | ⟨0, _⟩ => rfl
    | ⟨1, _⟩ => rfl
  have h := block4 m c ⟨_, hN⟩ ⟨r.val % 2048, Nat.mod_lt _ (by decide)⟩ ⟨j.val % 512, Nat.mod_lt _ (by decide)⟩
  rw [e, h]
  simp only [hp']
  rw [show (9 * (r.val / 2048) + j.val / 512) / 9 = r.val / 2048 by omega,
    show (9 * (r.val / 2048) + j.val / 512) % 9 = j.val / 512 by omega, show 2048 * (r.val / 2048) + r.val % 2048 = r.val by omega,
    show 512 * (j.val / 512) + j.val % 512 = j.val by omega]

/-- The sample result, row by row. -/
theorem G5_apply (r : Fin 128) (j : Fin 4608) : Value.G5 m c (ValueIdx.ix2 r j)
    = proj (at2 (xs m c) r.val) (at2 (w m c)) (gn m c) j.val := by
  have hp' : Value.pt5Of (ValueIdx.ix2 r j) = 9 * (r.val / 32) + j.val / 512 := by
    show 9 * (r.val / 32 - 0) + 1 * (j.val / 512 - 0) = _
    omega
  have hN : Value.pt5Of (ValueIdx.ix2 r j) < cfg0.N := by rw [hp', show cfg0.N = 36 from N_0]; omega
  unfold Value.G5
  rw [dif_pos hN, ← Value.outsAt0_sweep m c _ hN]
  have e : Value.loc5Of (ValueIdx.ix2 r j) = ValueIdx.ix2 ⟨r.val % 32, Nat.mod_lt _ (by decide)⟩ ⟨j.val % 512, Nat.mod_lt _ (by decide)⟩ := by
    funext a
    match a with
    | ⟨0, _⟩ => rfl
    | ⟨1, _⟩ => rfl
  have h := block5 m c ⟨_, hN⟩ ⟨r.val % 32, Nat.mod_lt _ (by decide)⟩ ⟨j.val % 512, Nat.mod_lt _ (by decide)⟩
  rw [e, h]
  simp only [hp']
  rw [show (9 * (r.val / 32) + j.val / 512) / 9 = r.val / 32 by omega,
    show (9 * (r.val / 32) + j.val / 512) % 9 = j.val / 512 by omega, show 32 * (r.val / 32) + r.val % 32 = r.val by omega,
    show 512 * (j.val / 512) + j.val % 512 = j.val by omega]

end Cert.ProjArray

end
-- ==== Proof.ProjEq.lean ====
/-
  The input projection: the kernel's arrays are the reference's.

  The reference multiplies by the weight, cuts the product into its groups of columns, norms the heads of four of them over a
  head axis and puts the groups side by side again; at the extended reals this is the kernel's row.
-/
module

public import proofs.«01_k».proof.Defs
public import proofs.«01_k».proof.Proof.ProjArray
public import proofs.«01_k».proof.Proof.Gen.ProjRefIdeal.Read

@[expose] public section

noncomputable section

namespace Cert.ProjEq

open Idealize.ShloMosaic hiding ix1 ix2 ix3 ix4 ix5
open Idealize.ShloMosaic.TcCoe Idealize.ShloMosaic.ValueIdx Idealize.SL.Sem
open Cert.Rows Cert.Heads Cert.Columns Cert.ProjArray Cert.ProjRefIdeal Cert.ProjRefIdeal.Read

/-- A group's heads, normed, are the row's columns from the group's first on. -/
theorem normed {y g g' : ℕ → EReal} (x : ℕ → EReal) (w : ℕ → ℕ → EReal) (l q j o : ℕ) (ho : o = 128 * q) (hl : j < 128 * l)
    (hn : o + j < 2048 ∨ 3584 ≤ o + j) (hy : ∀ k < 128 * l, y k = lin 2048 x w (o + k)) (hg : g j = g' (o + j)) :
    head True y g j = proj x w g' (o + j) := by
  subst ho
  unfold proj
  rw [if_pos hn]
  exact head_shift Iff.rfl l q j hl hy hg

/-- A group that is not normed. -/
theorem plain (x : ℕ → EReal) (w : ℕ → ℕ → EReal) (g : ℕ → EReal) (k : ℕ) (h1 : 2048 ≤ k) (h2 : k < 3584) :
    lin 2048 x w k = proj x w g k := by
  unfold proj
  rw [if_neg (by omega)]

/-- Six groups side by side are a row, if each is the row's columns from its first on. -/
theorem six_apply {n : ℕ} (x0 x1 x2 : (⟨2, ![n, 1024]⟩ : Shape).Idx → EReal) (x3 x4 x5 : (⟨2, ![n, 512]⟩ : Shape).Idx → EReal)
    (h : Shape.Concatenates [⟨2, ![n, 1024]⟩, ⟨2, ![n, 1024]⟩, ⟨2, ![n, 1024]⟩, ⟨2, ![n, 512]⟩, ⟨2, ![n, 512]⟩, ⟨2, ![n, 512]⟩]
      ⟨2, ![n, 4608]⟩ 1) (i : Fin n) (G : ℕ → EReal)
    (e0 : ∀ d : Fin 1024, x0 (ValueIdx.ix2 i d) = G (0 + d.val)) (e1 : ∀ d : Fin 1024, x1 (ValueIdx.ix2 i d) = G (1024 + d.val))
    (e2 : ∀ d : Fin 1024, x2 (ValueIdx.ix2 i d) = G (2048 + d.val)) (e3 : ∀ d : Fin 512, x3 (ValueIdx.ix2 i d) = G (3072 + d.val))
    (e4 : ∀ d : Fin 512, x4 (ValueIdx.ix2 i d) = G (3584 + d.val)) (e5 : ∀ d : Fin 512, x5 (ValueIdx.ix2 i d) = G (4096 + d.val))
    (j : Fin 4608) : concatenate ⟨2, ![n, 4608]⟩ 1 [⟨⟨2, ![n, 1024]⟩, x0⟩, ⟨⟨2, ![n, 1024]⟩, x1⟩, ⟨⟨2, ![n, 1024]⟩, x2⟩,
      ⟨⟨2, ![n, 512]⟩, x3⟩, ⟨⟨2, ![n, 512]⟩, x4⟩, ⟨⟨2, ![n, 512]⟩, x5⟩] h (ValueIdx.ix2 i j) = G j.val := by
  have hj := j.isLt
  by_cases c0 : j.val < 1024
  · refine (group_apply (n := n) (b := 4608) [⟨⟨2, ![n, 1024]⟩, x0⟩, ⟨⟨2, ![n, 1024]⟩, x1⟩, ⟨⟨2, ![n, 1024]⟩, x2⟩,
      ⟨⟨2, ![n, 512]⟩, x3⟩, ⟨⟨2, ![n, 512]⟩, x4⟩, ⟨⟨2, ![n, 512]⟩, x5⟩] h i j 0
      (Nat.lt_of_lt_of_eq (by decide : 0 < 6) rfl) x0 rfl 0 rfl (by omega) (by omega)).trans ((e0 _).trans ?_)
    exact congrArg G (by show 0 + (j.val - 0) = j.val; omega)
  by_cases c1 : j.val < 2048
  · refine (group_apply (n := n) (b := 4608) [⟨⟨2, ![n, 1024]⟩, x0⟩, ⟨⟨2, ![n, 1024]⟩, x1⟩, ⟨⟨2, ![n, 1024]⟩, x2⟩,
      ⟨⟨2, ![n, 512]⟩, x3⟩, ⟨⟨2, ![n, 512]⟩, x4⟩, ⟨⟨2, ![n, 512]⟩, x5⟩] h i j 1
      (Nat.lt_of_lt_of_eq (by decide : 1 < 6) rfl) x1 rfl 1024 rfl (by omega) (by omega)).trans ((e1 _).trans ?_)
    exact congrArg G (by show 1024 + (j.val - 1024) = j.val; omega)
  by_cases c2 : j.val < 3072
  · refine (group_apply (n := n) (b := 4608) [⟨⟨2, ![n, 1024]⟩, x0⟩, ⟨⟨2, ![n, 1024]⟩, x1⟩, ⟨⟨2, ![n, 1024]⟩, x2⟩,
      ⟨⟨2, ![n, 512]⟩, x3⟩, ⟨⟨2, ![n, 512]⟩, x4⟩, ⟨⟨2, ![n, 512]⟩, x5⟩] h i j 2
      (Nat.lt_of_lt_of_eq (by decide : 2 < 6) rfl) x2 rfl 2048 rfl (by omega) (by omega)).trans ((e2 _).trans ?_)
    exact congrArg G (by show 2048 + (j.val - 2048) = j.val; omega)
  by_cases c3 : j.val < 3584
  · refine (group_apply (n := n) (b := 4608) [⟨⟨2, ![n, 1024]⟩, x0⟩, ⟨⟨2, ![n, 1024]⟩, x1⟩, ⟨⟨2, ![n, 1024]⟩, x2⟩,
      ⟨⟨2, ![n, 512]⟩, x3⟩, ⟨⟨2, ![n, 512]⟩, x4⟩, ⟨⟨2, ![n, 512]⟩, x5⟩] h i j 3
      (Nat.lt_of_lt_of_eq (by decide : 3 < 6) rfl) x3 rfl 3072 rfl (by omega) (by omega)).trans ((e3 _).trans ?_)
    exact congrArg G (by show 3072 + (j.val - 3072) = j.val; omega)
  by_cases c4 : j.val < 4096
  · refine (group_apply (n := n) (b := 4608) [⟨⟨2, ![n, 1024]⟩, x0⟩, ⟨⟨2, ![n, 1024]⟩, x1⟩, ⟨⟨2, ![n, 1024]⟩, x2⟩,
      ⟨⟨2, ![n, 512]⟩, x3⟩, ⟨⟨2, ![n, 512]⟩, x4⟩, ⟨⟨2, ![n, 512]⟩, x5⟩] h i j 4
      (Nat.lt_of_lt_of_eq (by decide : 4 < 6) rfl) x4 rfl 3584 rfl (by omega) (by omega)).trans ((e4 _).trans ?_)
    exact congrArg G (by show 3584 + (j.val - 3584) = j.val; omega)
  · refine (group_apply (n := n) (b := 4608) [⟨⟨2, ![n, 1024]⟩, x0⟩, ⟨⟨2, ![n, 1024]⟩, x1⟩, ⟨⟨2, ![n, 1024]⟩, x2⟩,
      ⟨⟨2, ![n, 512]⟩, x3⟩, ⟨⟨2, ![n, 512]⟩, x4⟩, ⟨⟨2, ![n, 512]⟩, x5⟩] h i j 5
      (Nat.lt_of_lt_of_eq (by decide : 5 < 6) rfl) x5 rfl 4096 rfl (by omega) (by omega)).trans ((e5 _).trans ?_)
    exact congrArg G (by show 4096 + (j.val - 4096) = j.val; omega)

variable (x0 : Vec Ideal S8192x2048 .bf16) (x1 : Vec Ideal S128x2048 .bf16) (w : Vec Ideal S2048x4608 .f32)
  (qa ka : Vec Ideal S128 .f32) (gs : Vec Ideal S4x128 .f32) (qm : Vec Ideal S128 .f32)

/-- The gains' row. -/
abbrev G : ℕ → EReal := gain (at1 qa) (at1 ka) (at2 gs) (at1 qm)

theorem G_q (j : ℕ) (h : j < 1024) : at1 qa (j % 128) = G qa ka gs qm (0 + j) := by
  rw [Nat.zero_add]
  exact (if_pos h).symm
theorem G_k (j : ℕ) (h : j < 1024) : at1 ka (j % 128) = G qa ka gs qm (1024 + j) := by
  unfold G gain
  rw [if_neg (by omega), if_pos (by omega), Nat.add_sub_cancel_left]
theorem G_s (j : ℕ) (h : j < 512) : at2 gs (j / 128) (j % 128) = G qa ka gs qm (3584 + j) := by
  unfold G gain
  rw [if_neg (by omega), if_neg (by omega), if_neg (by omega), if_pos (by omega), Nat.add_sub_cancel_left]
theorem G_m (j : ℕ) (h : j < 512) : at1 qm (j % 128) = G qa ka gs qm (4096 + j) := by
  unfold G gain
  rw [if_neg (by omega), if_neg (by omega), if_neg (by omega), if_neg (by omega), Nat.add_sub_cancel_left]

/-- The reference's product of the prompt rows. -/
theorem ref1_apply (r : Fin 8192) (j : Fin 4608) : val_main_v1 (F := Ideal) x0 w (ValueIdx.ix2 r j)
    = lin 2048 (at2 x0 r.val) (at2 w) j.val := by
  refine (hmm_apply (M := 8192) (K := 2048) (N := 4608) _ _ _ r j).trans ?_
  exact lin_congr (fun k hk => (at2_ix _ r ⟨k, hk⟩).trans (at2_ix x0 r ⟨k, hk⟩).symm) fun _ _ => rfl

/-- A cut of it. -/
theorem cut1_apply {n : ℕ} (o : ℕ) (h : S8192x4608.Slices ![0, o] ⟨2, ![8192, n]⟩) (ho : o + n ≤ 4608) (r : Fin 8192) (j : Fin n) :
    extractStridedSlice ⟨2, ![8192, n]⟩ ![0, o] (val_main_v1 (F := Ideal) x0 w) h (ValueIdx.ix2 r j)
      = lin 2048 (at2 x0 r.val) (at2 w) (o + j.val) :=
  (cut_apply (a := 8192) (b := 4608) (c := n) (val_main_v1 (F := Ideal) x0 w) o h r j (by omega)).trans (ref1_apply x0 w r _)

/-- The reference's prompt row. -/
theorem ref68_apply (r : Fin 8192) (j : Fin 4608) : val_main_v68 (F := Ideal) x0 w qa ka gs qm (ValueIdx.ix2 r j)
    = proj (at2 x0 r.val) (at2 w) (G qa ka gs qm) j.val := by
  refine six_apply (n := 8192) (val_main_v22 (F := Ideal) x0 w qa) (val_main_v37 (F := Ideal) x0 w ka) (val_main_v4 (F := Ideal) x0 w)
    (val_main_v5 (F := Ideal) x0 w) (val_main_v52 (F := Ideal) x0 w gs) (val_main_v67 (F := Ideal) x0 w qm) _ r
    (proj (at2 x0 r.val) (at2 w) (G qa ka gs qm)) (fun d => ?_) (fun d => ?_) (fun d => ?_) (fun d => ?_) (fun d => ?_) (fun d => ?_) j
  · refine (headHost_apply (a := 8192) (h := 8) (b := 1024) rfl (val_main_v2 (F := Ideal) x0 w) (val_main_v20 (F := Ideal) qa)
      (fun f => at1 qa (f % 128)) _ _ _ (by decide) _ _ _ _ _ (fun i p d => gainHost_apply qa _ _ i p d) r d).trans ?_
    refine normed (at2 x0 r.val) (at2 w) 8 0 d.val 0 rfl d.isLt (by have := d.isLt; omega) (fun k hk => ?_) (G_q qa ka gs qm d.val d.isLt)
    exact (at2_ix _ r ⟨k, hk⟩).trans (cut1_apply x0 w 0 _ (by decide) r ⟨k, hk⟩)
  · refine (headHost_apply (a := 8192) (h := 8) (b := 1024) rfl (val_main_v3 (F := Ideal) x0 w) (val_main_v35 (F := Ideal) ka)
      (fun f => at1 ka (f % 128)) _ _ _ (by decide) _ _ _ _ _ (fun i p d => gainHost_apply ka _ _ i p d) r d).trans ?_
    refine normed (at2 x0 r.val) (at2 w) 8 8 d.val 1024 rfl d.isLt (by have := d.isLt; omega) (fun k hk => ?_) (G_k qa ka gs qm d.val d.isLt)
    exact (at2_ix _ r ⟨k, hk⟩).trans (cut1_apply x0 w 1024 _ (by decide) r ⟨k, hk⟩)
  · refine (cut1_apply x0 w 2048 _ (by decide) r d).trans ?_
    exact plain _ _ _ _ (by omega) (by have := d.isLt; omega)
  · refine (cut1_apply x0 w 3072 _ (by decide) r d).trans ?_
    exact plain _ _ _ _ (by omega) (by have := d.isLt; omega)
  · refine (headHost_apply (a := 8192) (h := 4) (b := 512) rfl (val_main_v6 (F := Ideal) x0 w) (val_main_v50 (F := Ideal) gs)
      (fun f => at2 gs (f / 128) (f % 128)) _ _ _ (by decide) _ _ _ _ _ (fun i p d => (gainsHost_apply gs _ _ i p d).trans (by
        show _ = at2 gs ((128 * p.val + d.val) / 128) ((128 * p.val + d.val) % 128)
        rw [show (128 * p.val + d.val) / 128 = p.val by omega, show (128 * p.val + d.val) % 128 = d.val by omega])) r d).trans ?_
    refine normed (at2 x0 r.val) (at2 w) 4 28 d.val 3584 rfl d.isLt (by have := d.isLt; omega) (fun k hk => ?_) (G_s qa ka gs qm d.val d.isLt)
    exact (at2_ix _ r ⟨k, hk⟩).trans (cut1_apply x0 w 3584 _ (by decide) r ⟨k, hk⟩)
  · refine (headHost_apply (a := 8192) (h := 4) (b := 512) rfl (val_main_v7 (F := Ideal) x0 w) (val_main_v65 (F := Ideal) qm)
      (fun f => at1 qm (f % 128)) _ _ _ (by decide) _ _ _ _ _ (fun i p d => gainHost_apply qm _ _ i p d) r d).trans ?_
    refine normed (at2 x0 r.val) (at2 w) 4 32 d.val 4096 rfl d.isLt (by have := d.isLt; omega) (fun k hk => ?_) (G_m qa ka gs qm d.val d.isLt)
    exact (at2_ix _ r ⟨k, hk⟩).trans (cut1_apply x0 w 4096 _ (by decide) r ⟨k, hk⟩)

/-- The reference's product of the sample rows. -/
theorem ref70_apply (r : Fin 128) (j : Fin 4608) : val_main_v70 (F := Ideal) x1 w (ValueIdx.ix2 r j)
    = lin 2048 (at2 x1 r.val) (at2 w) j.val := by
  refine (hmm_apply (M := 128) (K := 2048) (N := 4608) _ _ _ r j).trans ?_
  exact lin_congr (fun k hk => (at2_ix _ r ⟨k, hk⟩).trans (at2_ix x1 r ⟨k, hk⟩).symm) fun _ _ => rfl

/-- A cut of it. -/
theorem cut70_apply {n : ℕ} (o : ℕ) (h : S128x4608.Slices ![0, o] ⟨2, ![128, n]⟩) (ho : o + n ≤ 4608) (r : Fin 128) (j : Fin n) :
    extractStridedSlice ⟨2, ![128, n]⟩ ![0, o] (val_main_v70 (F := Ideal) x1 w) h (ValueIdx.ix2 r j)
      = lin 2048 (at2 x1 r.val) (at2 w) (o + j.val) :=
  (cut_apply (a := 128) (b := 4608) (c := n) (val_main_v70 (F := Ideal) x1 w) o h r j (by omega)).trans (ref70_apply x1 w r _)

/-- The reference's sample row. -/
theorem ref137_apply (r : Fin 128) (j : Fin 4608) : val_main_v137 (F := Ideal) x1 w qa ka gs qm (ValueIdx.ix2 r j)
    = proj (at2 x1 r.val) (at2 w) (G qa ka gs qm) j.val := by
  refine six_apply (n := 128) (val_main_v91 (F := Ideal) x1 w qa) (val_main_v106 (F := Ideal) x1 w ka) (val_main_v73 (F := Ideal) x1 w)
    (val_main_v74 (F := Ideal) x1 w) (val_main_v121 (F := Ideal) x1 w gs) (val_main_v136 (F := Ideal) x1 w qm) _ r
    (proj (at2 x1 r.val) (at2 w) (G qa ka gs qm)) (fun d => ?_) (fun d => ?_) (fun d => ?_) (fun d => ?_) (fun d => ?_) (fun d => ?_) j
  · refine (headHost_apply (a := 128) (h := 8) (b := 1024) rfl (val_main_v71 (F := Ideal) x1 w) (val_main_v89 (F := Ideal) qa)
      (fun f => at1 qa (f % 128)) _ _ _ (by decide) _ _ _ _ _ (fun i p d => gainHost_apply qa _ _ i p d) r d).trans ?_
    refine normed (at2 x1 r.val) (at2 w) 8 0 d.val 0 rfl d.isLt (by have := d.isLt; omega) (fun k hk => ?_) (G_q qa ka gs qm d.val d.isLt)
    exact (at2_ix _ r ⟨k, hk⟩).trans (cut70_apply x1 w 0 _ (by decide) r ⟨k, hk⟩)
  · refine (headHost_apply (a := 128) (h := 8) (b := 1024) rfl (val_main_v72 (F := Ideal) x1 w) (val_main_v104 (F := Ideal) ka)
      (fun f => at1 ka (f % 128)) _ _ _ (by decide) _ _ _ _ _ (fun i p d => gainHost_apply ka _ _ i p d) r d).trans ?_
    refine normed (at2 x1 r.val) (at2 w) 8 8 d.val 1024 rfl d.isLt (by have := d.isLt; omega) (fun k hk => ?_) (G_k qa ka gs qm d.val d.isLt)
    exact (at2_ix _ r ⟨k, hk⟩).trans (cut70_apply x1 w 1024 _ (by decide) r ⟨k, hk⟩)
  · refine (cut70_apply x1 w 2048 _ (by decide) r d).trans ?_
    exact plain _ _ _ _ (by omega) (by have := d.isLt; omega)
  · refine (cut70_apply x1 w 3072 _ (by decide) r d).trans ?_
    exact plain _ _ _ _ (by omega) (by have := d.isLt; omega)
  · refine (headHost_apply (a := 128) (h := 4) (b := 512) rfl (val_main_v75 (F := Ideal) x1 w) (val_main_v119 (F := Ideal) gs)
      (fun f => at2 gs (f / 128) (f % 128)) _ _ _ (by decide) _ _ _ _ _ (fun i p d => (gainsHost_apply gs _ _ i p d).trans (by
        show _ = at2 gs ((128 * p.val + d.val) / 128) ((128 * p.val + d.val) % 128)
        rw [show (128 * p.val + d.val) / 128 = p.val by omega, show (128 * p.val + d.val) % 128 = d.val by omega])) r d).trans ?_
    refine normed (at2 x1 r.val) (at2 w) 4 28 d.val 3584 rfl d.isLt (by have := d.isLt; omega) (fun k hk => ?_) (G_s qa ka gs qm d.val d.isLt)
    exact (at2_ix _ r ⟨k, hk⟩).trans (cut70_apply x1 w 3584 _ (by decide) r ⟨k, hk⟩)
  · refine (headHost_apply (a := 128) (h := 4) (b := 512) rfl (val_main_v76 (F := Ideal) x1 w) (val_main_v134 (F := Ideal) qm)
      (fun f => at1 qm (f % 128)) _ _ _ (by decide) _ _ _ _ _ (fun i p d => gainHost_apply qm _ _ i p d) r d).trans ?_
    refine normed (at2 x1 r.val) (at2 w) 4 32 d.val 4096 rfl d.isLt (by have := d.isLt; omega) (fun k hk => ?_) (G_m qa ka gs qm d.val d.isLt)
    exact (at2_ix _ r ⟨k, hk⟩).trans (cut70_apply x1 w 4096 _ (by decide) r ⟨k, hk⟩)

/-- The call and its reference leave the same arrays at the extended reals. -/
theorem algebraic : Cert.algebraic_ProjIdeal_ProjRefIdeal := by
  intro m ρ m' ρ' _ hagree
  refine ⟨fun c => Cert.ProjIdeal.Value.G4 m c, fun c => Cert.ProjIdeal.Value.G5 m c, Cert.ProjIdeal.Value.run (F := Ideal) m ρ, ?_⟩
  refine (θ_run Cert.ProjRefIdeal.defs _ _).mono (fun _ h c => ?_) (Cert.ProjRefIdeal.Value.run (F := Ideal) m' ρ')
  obtain ⟨h0, h1, hk⟩ := h c
  obtain ⟨a0, a1, a2, a3, a4, a5, a6⟩ := hagree c
  refine ⟨h0.trans ?_, h1.trans ?_, hk⟩
  · rw [ProjRefIdeal.Read.val_main_v68_eq, a0, a2, a3, a4, a5, a6]
    funext i
    rw [ValueIdx.eq_ix2 i]
    exact (ref68_apply _ _ _ _ _ _ _ _).trans (Cert.ProjArray.G4_apply m c _ _).symm
  · rw [ProjRefIdeal.Read.val_main_v137_eq, a1, a2, a3, a4, a5, a6]
    funext i
    rw [ValueIdx.eq_ix2 i]
    exact (ref137_apply _ _ _ _ _ _ _ _).trans (Cert.ProjArray.G5_apply m c _ _).symm

end Cert.ProjEq

end
-- ==== Proof.MemKvPoint.lean ====
/-
  The memory's keys and values: what one grid point computes from its blocks.

  A point works on 512 memory rows and 512 columns. Where it starts on new rows it leaves their norm in the scratch; its
  block of outputs is the normed rows times its columns of the weight, each head of 128 columns normed where the switch of
  the point is on (the keys' half), times its columns of the gain.
-/
module

public import proofs.«01_k».proof.Proof.FfnMath
public import proofs.«01_k».proof.Proof.Heads
public import proofs.«01_k».proof.Proof.Gen.MemKvIdeal.Value
public import Idealize.ShloMosaic.Lib.Pipeline.ValueKit.Point

@[expose] public section

noncomputable section

namespace Cert.MemKvPoint

open Idealize.ShloMosaic hiding ix1 ix2 ix3 ix4 ix5
open Cert.MemKvIdeal Cert.MemKvIdeal.Gen Cert.Rows Cert.Heads
open Idealize.ShloMosaic.TcCoe Idealize.ShloMosaic.ValueIdx Idealize.SL.Sem
open Cert.FfnMath (hz nrm D)

/-- The switch of a point. -/
abbrev sw (i : grid0.Coords) : BitVec 1 := Scalar.cmpi .eq (BitVec.ofNat 32 (i 1).val) 0#32

/-- The normed rows. -/
theorem pay2_apply (x : Vec Ideal S512x2048 .f32) (g : Vec Ideal S1x2048 .f32) (i : Fin 512) (k : Fin 2048) :
    k0_pay2 x g (ix2 i k) = nrm (at2 x i.val) (at2 g 0) k.val := by
  unfold k0_pay2
  simp only [shapeCast_self]
  exact rmsVec_apply x g _ _ _ _ _ _ _ _ _ i k

/-- What a point stores, from its rows in the scratch, its weight columns and its gain. -/
def out (i : grid0.Coords) (h : Vec Ideal S512x2048 .bf16) (w : Vec Ideal S2048x512 .f32) (g : Vec Ideal S1x512 .f32) :
    Vec Ideal S512x512 .f32 := k0_pay1 (k0_pay3 g) (sw i) (k0_pay4 w h) (k0_pay5 i w g h) (k0_pay6 i w h)

/-- A stored entry: the product, the head's scale, the gain. -/
theorem out_apply (i : grid0.Coords) (h : Vec Ideal S512x2048 .bf16) (w : Vec Ideal S2048x512 .f32) (g : Vec Ideal S1x512 .f32)
    (r j : Fin 512) : out i h w g (ix2 r j) = head (sw i = 1) (lin 2048 (at2 h r.val) (at2 w)) (at2 g 0) j.val := by
  have e3 : k0_pay3 g = g := shapeCast_self g _
  have hm : ∀ f < 512, at2 (k0_pay4 w h) r.val f = lin 2048 (at2 h r.val) (at2 w) f := fun f hf => by
    refine (at2_ix _ r ⟨f, hf⟩).trans ?_
    unfold k0_pay4
    exact mm_apply (M := 512) (K := 2048) (N := 512) _ _ none r ⟨f, hf⟩
  have hh : out i h w g (ix2 r j) = head (sw i = 1) (at2 (k0_pay4 w h) r.val) (at2 (k0_pay3 g) 0) j.val := by
    unfold out k0_pay1 k0_pay5 k0_pay6
    exact heads_apply (n := 512) (k0_pay4 w h) (k0_pay3 g) (sw i) _ _ _ _ _ _ _ _ _ _ _ _ _ _ _ _ r j
  have hs := head_shift (on := sw i = 1) (Iff.rfl) (z := at2 (k0_pay4 w h) r.val)
    (y := lin 2048 (at2 h r.val) (at2 w)) (g := at2 g 0) (g' := at2 g 0) 4 0 j.val j.isLt
    (fun k hk => (hm k hk).trans (by rw [Nat.mul_zero, Nat.zero_add])) (by rw [Nat.mul_zero, Nat.zero_add])
  rw [Nat.mul_zero, Nat.zero_add] at hs
  rw [hh, e3, hs]

variable (m : (ℓ : Loc nD τ sig) → Buf (Elt Ideal) ℓ) (c : Dev nD)

/-- A starting point leaves the normed rows in the scratch. -/
theorem scr_A (t : Fin cfg0.N) (h0 : t.val % 2 = 0) :
    (outsAt0 m c t.val t.isLt).2 = k0_pay2 (iblk m c 0 t) (iblk m c 1 t) := by
  rw [outsAt0_A m c t h0]
  dsimp only
  unfold sout0_A_0
  rw [View.read_writes_eq_canon _ _ _ (scover0_A_0 c _ _ _ _ _ _ _ _ _ _ _ _ _ _ _ _ _ _)]
  unfold kernelRun0_A
  dsimp only
  sl_unfold_words
  simp only [View.readAt_eq_ld, (hs0_0 t).read_unread, (hs0_1 t).read_unread, View.ld_unit_zero (S := S512x2048) hz,
    View.ld_unit_zero (S := S1x2048) hz, View.canon_cons_unit_zero (S := S512x2048) hz]

/-- The output block of a starting point. -/
theorem out_A (t : Fin cfg0.N) (h0 : t.val % 2 = 0) :
    (outsAt0 m c t.val t.isLt).1 = out (grid0.coords t) (k0_pay2 (iblk m c 0 t) (iblk m c 1 t)) (iblk m c 2 t)
      (iblk m c 3 t) := by
  rw [outsAt0_A m c t h0]
  dsimp only
  unfold out0_A_4
  rw [View.read_writes_eq_canon _ _ _ (cover0_A_4 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    View.ld_unit_zero (S := S512x2048) hz, View.ld_unit_zero (S := S2048x512) hz, View.ld_unit_zero (S := S1x512) hz,
    View.ld_unit_zero (S := S1x2048) hz, View.canon_cons_unit_zero (S := S512x512) hz,
    View.readCov_unit_zero (S := S512x2048) _ hz]
  rfl

/-- A point that goes on leaves the scratch as it was, -/
theorem scr_B (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl

/-- and computes its output block from it. -/
theorem out_B (t : Fin cfg0.N) (h0 : ¬t.val % 2 = 0) :
    (outsAt0 m c t.val t.isLt).1 = out (grid0.coords t)
      (outsAt0 m c (t.val - 1) (Nat.lt_of_le_of_lt (Nat.sub_le _ _) t.isLt)).2 (iblk m c 2 t) (iblk m c 3 t) := by
  rw [outsAt0_B m c t h0]
  dsimp only
  unfold out0_B_4
  rw [View.read_writes_eq_canon _ _ _ (cover0_B_4 c _ _ _ _ _ _ _ _ _ _ _ _ _ _ _ _ _ _ _)]
  unfold kernelRun0_B
  dsimp only
  sl_unfold_words
  simp only [View.readAt_eq_ld, (hs0_2 t).read_unread, (hs0_3 t).read_unread, (Memref.isWhole_whole _).read_unread,
    View.ld_unit_zero (S := S512x2048) hz, View.ld_unit_zero (S := S2048x512) hz, View.ld_unit_zero (S := S1x512) hz,
    View.canon_cons_unit_zero (S := S512x512) hz]
  rfl

end Cert.MemKvPoint

end
-- ==== Proof.MemKvArray.lean ====
/-
  The memory's keys and values: what the result array holds.

  Each point's block is read off the arguments, and the four blocks make the array: row `r`, column `q` is the normed
  memory row times the weight's column, the keys' heads normed and scaled by the gain.
-/
module

public import proofs.«01_k».proof.Proof.MemKvPoint

@[expose] public section

noncomputable section

namespace Cert.MemKvArray

open Idealize.ShloMosaic hiding ix1 ix2 ix3 ix4 ix5
open Cert.MemKvIdeal Cert.MemKvIdeal.Gen Cert.Rows Cert.Heads Cert.MemKvPoint
open Idealize.ShloMosaic.TcCoe Idealize.ShloMosaic.ValueIdx Idealize.SL.Sem
open Cert.FfnMath (nrm D)

variable (m : (ℓ : Loc nD τ sig) → Buf (Elt Ideal) ℓ) (c : Dev nD)

/-- The memory rows, their gain, the weight, the keys' gain. -/
abbrev mem : Vec Ideal S1024x2048 .f32 := m ((c : Thread nD τ).loc main_arg0)
abbrev gm : Vec Ideal S2048 .f32 := m ((c : Thread nD τ).loc main_arg1)
abbrev w : Vec Ideal S2048x1024 .f32 := m ((c : Thread nD τ).loc main_arg2)
abbrev gk : Vec Ideal S128 .f32 := m ((c : Thread nD τ).loc main_arg3)

/-- Which block of each argument a point works on. -/
theorem idx : ∀ t : Fin cfg0.N, win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2
    ∧ win0_3.index t (0 : Fin 2) = 0 ∧ win0_3.index t (1 : Fin 2) = t.val % 2 :=
  (by decide +kernel : ∀ t : Fin grid0.N, _)

theorem lt_N (t : Fin cfg0.N) : t.val < 4 := lt_of_lt_of_eq t.isLt N_0

/-- The switch is on at the points of the keys' half. -/
theorem sw_iff : ∀ t : Fin cfg0.N, sw (grid0.coords t) = 1 ↔ t.val % 2 = 0 := (by decide +kernel : ∀ t : Fin grid0.N, _)

theorem read0 (t : Fin cfg0.N) (i k : ℕ) (hi : i < 512) (hk : k < 2048) :
    at2 (a := 512) (b := 2048) (iblk m c 0 t) i k = at2 (mem m c) (512 * (t.val / 2) + i) k := by
  have ht := lt_N t
  refine (at2_ix (a := 512) (b := 2048) (iblk m c 0 t) ⟨i, hi⟩ ⟨k, hk⟩).trans (Eq.trans ?_ (at2_ix (mem m c) ⟨512 * (t.val / 2) + i, by omega⟩ ⟨k, hk⟩).symm)
  blk_ext [iblk, V_main_arg0, idx t]

theorem read1 (t : Fin cfg0.N) (k : ℕ) (hk : k < 2048) :
    at2 (a := 1) (b := 2048) (iblk m c 1 t) 0 k = at1 (gm m c) k := by
  refine (at2_ix (a := 1) (b := 2048) (iblk m c 1 t) 0 ⟨k, hk⟩).trans (Eq.trans ?_ (at1_ix (gm m c) ⟨k, hk⟩).symm)
  blk_ext! [iblk, idx t]

theorem read2 (t : Fin cfg0.N) (k f : ℕ) (hk : k < 2048) (hf : f < 512) :
    at2 (a := 2048) (b := 512) (iblk m c 2 t) k f = at2 (w m c) k (512 * (t.val % 2) + f) := by
  have ht := lt_N t
  refine (at2_ix (a := 2048) (b := 512) (iblk m c 2 t) ⟨k, hk⟩ ⟨f, hf⟩).trans (Eq.trans ?_ (at2_ix (w m c) ⟨k, hk⟩ ⟨512 * (t.val % 2) + f, by omega⟩).symm)
  blk_ext [iblk, V_main_arg2, idx t]

/-- The gain of a column of the row: the keys' gain of its head's column, one on the values' half. -/
def gain (g : ℕ → EReal) (j : ℕ) : EReal := if j < 512 then g (j % 128) else 1

theorem read3 (t : Fin cfg0.N) (f : ℕ) (hf : f < 512) :
    at2 (a := 1) (b := 512) (iblk m c 3 t) 0 f = gain (at1 (gk m c)) (512 * (t.val % 2) + f) := by
  have ht := lt_N t
  refine (at2_ix (a := 1) (b := 512) (iblk m c 3 t) 0 ⟨f, hf⟩).trans ?_
  blk_simp [iblk, idx t]; entry_read
  have e : ((View.whole main_v6).slice (win0_3.rect t)).emb (ValueIdx.ix2 0 ⟨f, hf⟩)
      = ValueIdx.ix2 0 ⟨512 * (t.val % 2) + f, by omega⟩ := by blk_ext [idx t]
  rw [e]
  refine (asRow_apply (b := 1024) _ _ _).trans ?_
  unfold gain
  by_cases h : 512 * (t.val % 2) + f < 512
  · rw [if_pos h]
    refine (concatenate_pair_apply_left (t := S1024) (s₁ := S512) (s₂ := S512) 0 _ _ _ _ rfl (ValueIdx.ix1 ⟨512 * (t.val % 2) + f, h⟩) fun b => ?_).trans ?_
    · match b with
      | ⟨0, _⟩ => rfl
    · exact tile_apply (h := 4) (b := 512) rfl (gk m c) _ _ _ _
  · rw [if_neg h]
    refine (concatenate_pair_apply_right (t := S1024) (s₁ := S512) (s₂ := S512) 0 _ _ _ _ rfl rfl (ValueIdx.ix1 ⟨512 * (t.val % 2) + f - 512, by omega⟩) ?_ ?_).trans ?_
    · intro b hb
      match b with
      | ⟨0, _⟩ => exact absurd rfl hb
    · show 512 * (t.val % 2) + f - 512 + 512 = 512 * (t.val % 2) + f
      omega
    · exact ofBits_one

/-- A result row: the normed memory row times the weight, the keys' heads normed. -/
def kvRow (x g : ℕ → EReal) (w : ℕ → ℕ → EReal) (gk : ℕ → EReal) (j : ℕ) : EReal :=
  if j < 512 then head True (lin 2048 (nrm x g) w) (fun f => gk (f % 128)) j else lin 2048 (nrm x g) w j

/-- The scratch after a point: its memory rows, normed. -/
theorem scr (t : Fin cfg0.N) (i : Fin 512) (k : Fin 2048) :
    (outsAt0 m c t.val t.isLt).2 (ValueIdx.ix2 i k) = nrm (at2 (mem m c) (512 * (t.val / 2) + i.val)) (at1 (gm m c)) k.val := by
  have hA : ∀ t : Fin cfg0.N, t.val % 2 = 0 → (outsAt0 m c t.val t.isLt).2 (ValueIdx.ix2 i k)
      = nrm (at2 (mem m c) (512 * (t.val / 2) + i.val)) (at1 (gm m c)) k.val := fun t h0 => by
    rw [scr_A m c t h0, pay2_apply]
    exact Cert.FfnMath.nrm_congr (fun l hl => read0 m c t i.val l i.isLt hl) (fun l hl => read1 m c t l hl) k.val k.isLt
  by_cases h0 : t.val % 2 = 0
  · exact hA t h0
  · have ht := t.isLt
    rw [scr_B m c t h0, hA ⟨t.val - 1, by omega⟩ (by show (t.val - 1) % 2 = 0; omega)]
    show nrm (at2 (mem m c) (512 * ((t.val - 1) / 2) + i.val)) _ _ = _
    rw [show (t.val - 1) / 2 = t.val / 2 by omega]

/-- The output block after a point. -/
theorem block (t : Fin cfg0.N) (i j : Fin 512) : (outsAt0 m c t.val t.isLt).1 (ValueIdx.ix2 i j)
    = kvRow (at2 (mem m c) (512 * (t.val / 2) + i.val)) (at1 (gm m c)) (at2 (w m c)) (at1 (gk m c))
        (512 * (t.val % 2) + j.val) := by
  have hj := j.isLt
  have hout : (outsAt0 m c t.val t.isLt).1 = out (grid0.coords t) (outsAt0 m c t.val t.isLt).2 (iblk m c 2 t) (iblk m c 3 t) := by
    by_cases h0 : t.val % 2 = 0
    · rw [out_A m c t h0, scr_A m c t h0]
    · rw [out_B m c t h0, scr_B m c t h0]
  rw [hout, out_apply]
  have hz : ∀ k < 128 * 4, lin 2048 (at2 (a := 512) (b := 2048) (outsAt0 m c t.val t.isLt).2 i.val)
      (at2 (a := 2048) (b := 512) (iblk m c 2 t)) k
      = lin 2048 (nrm (at2 (mem m c) (512 * (t.val / 2) + i.val)) (at1 (gm m c))) (at2 (w m c)) (128 * (4 * (t.val % 2)) + k) := by
    intro k hk
    refine lin_congr (fun l hl => ?_) fun l hl => ?_
    · exact (at2_ix (a := 512) (b := 2048) _ i ⟨l, hl⟩).trans (scr m c t i ⟨l, hl⟩)
    · rw [read2 m c t l k hl hk, show 128 * (4 * (t.val % 2)) = 512 * (t.val % 2) by ring]
  have hg := read3 m c t j.val hj
  have e : 128 * (4 * (t.val % 2)) + j.val = 512 * (t.val % 2) + j.val := by ring
  unfold kvRow
  by_cases h0 : t.val % 2 = 0
  · rw [if_pos (by omega)]
    refine (head_shift (on' := True) (iff_of_true ((sw_iff t).mpr h0) trivial) (g' := fun f => at1 (gk m c) (f % 128)) 4
      (4 * (t.val % 2)) j.val (by omega) hz ?_).trans (by rw [e])
    rw [e, hg]
    exact if_pos (by omega)
  · rw [if_neg (by omega)]
    refine (head_shift (on' := False) (iff_of_false (fun h => h0 ((sw_iff t).mp h)) not_false) (g' := fun _ => 1) 4
      (4 * (t.val % 2)) j.val (by omega) hz ?_).trans ?_
    · rw [hg]
      exact if_neg (by omega)
    · rw [head_off _ _ _ rfl, e]

/-- The result array, row by row. -/
theorem G4_apply (r j : Fin 1024) : Value.G4 m c (ValueIdx.ix2 r j)
    = kvRow (at2 (mem m c) r.val) (at1 (gm m c)) (at2 (w m c)) (at1 (gk m c)) j.val := by
  have hp' : Value.pt4Of (ValueIdx.ix2 r j) = 2 * (r.val / 512) + j.val / 512 := by
    show 2 * (r.val / 512 - 0) + 1 * (j.val / 512 - 0) = _
    omega
  have hN : Value.pt4Of (ValueIdx.ix2 r j) < cfg0.N := by rw [hp', show cfg0.N = 4 from N_0]; omega
  unfold Value.G4
  rw [dif_pos hN, ← Value.outsAt0_sweep m c _ hN]
  have e : Value.loc4Of (ValueIdx.ix2 r j) = ValueIdx.ix2 ⟨r.val % 512, Nat.mod_lt _ (by decide)⟩ ⟨j.val % 512, Nat.mod_lt _ (by decide)⟩ := by
    funext a
    match a with
    | ⟨0, _⟩ => rfl
    | ⟨1, _⟩ => rfl
  have h := block m c ⟨_, hN⟩ ⟨r.val % 512, Nat.mod_lt _ (by decide)⟩ ⟨j.val % 512, Nat.mod_lt _ (by decide)⟩
  rw [e, h]
  simp only [hp']
  rw [show (2 * (r.val / 512) + j.val / 512) / 2 = r.val / 512 by omega,
    show (2 * (r.val / 512) + j.val / 512) % 2 = j.val / 512 by omega, show 512 * (r.val / 512) + r.val % 512 = r.val by omega,
    show 512 * (j.val / 512) + j.val % 512 = j.val by omega]

end Cert.MemKvArray

end
-- ==== Proof.MemKvEq.lean ====
/-
  The memory's keys and values: the kernel's array is the reference's.

  The reference norms the memory rows, multiplies by the weight, norms the keys' heads over a head axis and puts keys and
  values side by side; at the extended reals this is the kernel's row.
-/
module

public import proofs.«01_k».proof.Defs
public import proofs.«01_k».proof.Proof.MemKvArray
public import proofs.«01_k».proof.Proof.Gen.MemKvRefIdeal.Read

@[expose] public section

noncomputable section

namespace Cert.MemKvEq

open Idealize.ShloMosaic hiding ix1 ix2 ix3 ix4 ix5
open Idealize.ShloMosaic.TcCoe Idealize.ShloMosaic.ValueIdx Idealize.SL.Sem
open Cert.Rows Cert.Heads Cert.MemKvArray Cert.MemKvRefIdeal Cert.MemKvRefIdeal.Read
open Cert.FfnMath (nrm D)

variable (x : Vec Ideal S1024x2048 .f32) (g : Vec Ideal S2048 .f32) (w : Vec Ideal S2048x1024 .f32) (gk : Vec Ideal S128 .f32)

/-- The reference's product. -/
theorem ref13_apply (r j : Fin 1024) : val_main_v13 (F := Ideal) x g w (ValueIdx.ix2 r j)
    = lin 2048 (nrm (at2 x r.val) (at1 g)) (at2 w) j.val := by
  refine (hmm_apply (M := 1024) (K := 2048) (N := 1024) _ _ _ r j).trans ?_
  refine lin_congr (fun k hk => ?_) fun _ _ => rfl
  refine (at2_ix _ r ⟨k, hk⟩).trans ?_
  exact rmsHost_apply x g _ _ _ (by decide) _ _ _ _ _ _ _ r ⟨k, hk⟩

/-- The reference's keys: the product's first half, its heads normed. -/
theorem ref30_apply (r : Fin 1024) (j : Fin 512) : val_main_v30 (F := Ideal) x g w gk (ValueIdx.ix2 r j)
    = head True (lin 2048 (nrm (at2 x r.val) (at1 g)) (at2 w)) (fun f => at1 gk (f % 128)) j.val := by
  refine (headHost_apply (a := 1024) (h := 4) (b := 512) rfl (val_main_v14 (F := Ideal) x g w) (val_main_v28 (F := Ideal) gk)
    (fun f => at1 gk (f % 128)) _ _ _ (by decide) _ _ _ _ _ (fun i p d => gainHost_apply gk _ _ i p d) r j).trans ?_
  refine head_congr 4 j.val j.isLt (fun k hk => ?_) rfl
  refine (at2_ix _ r ⟨k, hk⟩).trans ?_
  refine (cut_apply (a := 1024) (b := 1024) (c := 512) (val_main_v13 (F := Ideal) x g w) 0 _ r ⟨k, hk⟩ (by show 0 + k < 1024; omega)).trans ?_
  refine (ref13_apply x g w r _).trans ?_
  show lin 2048 _ _ (0 + k) = _
  rw [Nat.zero_add]

/-- The reference's row. -/
theorem ref31_apply (r j : Fin 1024) : val_main_v31 (F := Ideal) x g w gk (ValueIdx.ix2 r j)
    = kvRow (at2 x r.val) (at1 g) (at2 w) (at1 gk) j.val := by
  have hj := j.isLt
  unfold kvRow
  by_cases h : j.val < 512
  · rw [if_pos h]
    refine (concatenate_pair_apply_left (t := S1024x1024) (s₁ := S1024x512) (s₂ := S1024x512) 1 _ _ _ _ rfl
      (ValueIdx.ix2 r ⟨j.val, h⟩) fun b => ?_).trans (ref30_apply x g w gk r ⟨j.val, h⟩)
    match b with
    | ⟨0, _⟩ => rfl
    | ⟨1, _⟩ => rfl
  · rw [if_neg h]
    refine (concatenate_pair_apply_right (t := S1024x1024) (s₁ := S1024x512) (s₂ := S1024x512) 1 _ _ _ _ rfl rfl
      (ValueIdx.ix2 r ⟨j.val - 512, by omega⟩) ?_ ?_).trans ?_
    · intro b hb
      match b with
      | ⟨0, _⟩ => rfl
      | ⟨1, _⟩ => exact absurd rfl hb
    · show j.val - 512 + 512 = j.val
      omega
    · refine (cut_apply (a := 1024) (b := 1024) (c := 512) (val_main_v13 (F := Ideal) x g w) 512 _ r ⟨j.val - 512, by omega⟩
        (by show 512 + (j.val - 512) < 1024; omega)).trans ?_
      refine (ref13_apply x g w r _).trans ?_
      show lin 2048 _ _ (512 + (j.val - 512)) = _
      rw [show 512 + (j.val - 512) = j.val by omega]

/-- The call and its reference leave the same array at the extended reals. -/
theorem algebraic : Cert.algebraic_MemKvIdeal_MemKvRefIdeal := by
  intro m ρ m' ρ' _ hagree
  refine ⟨fun c => Cert.MemKvIdeal.Value.G4 m c, Cert.MemKvIdeal.Value.run (F := Ideal) m ρ, ?_⟩
  refine (θ_run Cert.MemKvRefIdeal.defs _ _).mono (fun _ h c => ?_) (Cert.MemKvRefIdeal.Value.run (F := Ideal) m' ρ')
  obtain ⟨h0, hk⟩ := h c
  obtain ⟨a0, a1, a2, a3⟩ := hagree c
  refine ⟨h0.trans ?_, hk⟩
  rw [MemKvRefIdeal.Read.val_main_v31_eq, a0, a1, a2, a3]
  funext i
  rw [ValueIdx.eq_ix2 i]
  exact (ref31_apply _ _ _ _ _ _).trans (Cert.MemKvArray.G4_apply m c _ _).symm

end Cert.MemKvEq

end
-- ==== Proof.OutPoint.lean ====
/-
  The output projection: what one grid point computes from its blocks.

  Where a point starts on new rows it puts the three groups of columns of each stream side by side in the scratch: of the
  prompt rows the first group is normed here and the other two come normed, of the sample rows all three are normed here.
  Its blocks of outputs are the residual rows plus the scratch times its columns of the weight.
-/
module

public import proofs.«01_k».proof.Proof.FfnMath
public import proofs.«01_k».proof.Proof.Heads
public import proofs.«01_k».proof.Proof.Gen.OutIdeal.Value
public import Idealize.ShloMosaic.Lib.Pipeline.ValueKit.Point

@[expose] public section

noncomputable section

namespace Cert.OutPoint

open Idealize.ShloMosaic hiding ix1 ix2 ix3 ix4 ix5
open Cert.OutIdeal Cert.OutIdeal.Gen Cert.Rows Cert.Heads
open Idealize.ShloMosaic.TcCoe Idealize.ShloMosaic.ValueIdx Idealize.SL.Sem
open Cert.FfnMath (hz)

/-- The divisors of the groups' means: the patterns of 1024 and of 512. -/
def D1 : EReal := Ideal.ofBits .f32 0x44800000#32
def D5 : EReal := Ideal.ofBits .f32 0x44000000#32

/-- Three groups of columns side by side. -/
def cat (a b d : ℕ → EReal) (k : ℕ) : EReal := if k < 1024 then a k else if k < 1536 then b (k - 1024) else d (k - 1536)

/-- Side by side depends on the groups' columns only. -/
theorem cat_congr {a a' b b' d d' : ℕ → EReal} (ha : ∀ k < 1024, a k = a' k) (hb : ∀ k < 512, b k = b' k)
    (hd : ∀ k < 512, d k = d' k) : ∀ k < 2048, cat a b d k = cat a' b' d' k := by
  intro k hk
  unfold cat
  by_cases h : k < 1024
  · rw [if_pos h, if_pos h, ha k h]
  by_cases h' : k < 1536
  · rw [if_neg h, if_neg h, if_pos h', if_pos h', hb _ (by omega)]
  · rw [if_neg h, if_neg h, if_neg h', if_neg h', hd _ (by omega)]

/-- The scratch row of a prompt row. -/
def catP (a b d g : ℕ → EReal) : ℕ → EReal := cat (rms 1024 D1 E a g) b d

/-- The scratch row of a sample row. -/
def catS (a b d g : ℕ → EReal) : ℕ → EReal :=
  cat (rms 1024 D1 E a g) (rms 512 D5 E b fun k => g (1024 + k)) (rms 512 D5 E d fun k => g (1536 + k))

/-- A norm depends on the row's and the gain's columns only. -/
theorem rms_congr {n : ℕ} {d e : EReal} {x y g g' : ℕ → EReal} (hx : ∀ k < n, x k = y k) (hg : ∀ k < n, g k = g' k) :
    ∀ k < n, rms n d e x g k = rms n d e y g' k := by
  intro k hk
  unfold rms
  rw [rmsScale_congr hx, hx k hk, hg k hk]

theorem catP_congr {a a' b b' d d' g g' : ℕ → EReal} (ha : ∀ k < 1024, a k = a' k) (hb : ∀ k < 512, b k = b' k)
    (hd : ∀ k < 512, d k = d' k) (hg : ∀ k < 2048, g k = g' k) : ∀ k < 2048, catP a b d g k = catP a' b' d' g' k :=
  cat_congr (rms_congr ha fun k hk => hg k (by omega)) hb hd

theorem catS_congr {a a' b b' d d' g g' : ℕ → EReal} (ha : ∀ k < 1024, a k = a' k) (hb : ∀ k < 512, b k = b' k)
    (hd : ∀ k < 512, d k = d' k) (hg : ∀ k < 2048, g k = g' k) : ∀ k < 2048, catS a b d g k = catS a' b' d' g' k :=
  cat_congr (rms_congr ha fun k hk => hg k (by omega)) (rms_congr hb fun k hk => hg _ (by omega))
    (rms_congr hd fun k hk => hg _ (by omega))

/-- The three cuts of the gain row. -/
abbrev g1 (g : Vec Ideal S1x2048 .f32) : Vec Ideal S1x1024 .f32 :=
  View.ld g (Rect.unit (s := S1x2048) ![0, 0] ![1, 1024] inb_S1x2048_S1x1024_0_0)
abbrev g2 (g : Vec Ideal S1x2048 .f32) : Vec Ideal S1x512 .f32 :=
  View.ld g (Rect.unit (s := S1x2048) ![0, 1024] ![1, 512] inb_S1x2048_S1x512_0_1024)
abbrev g3 (g : Vec Ideal S1x2048 .f32) : Vec Ideal S1x512 .f32 :=
  View.ld g (Rect.unit (s := S1x2048) ![0, 1536] ![1, 512] inb_S1x2048_S1x512_0_1536)

theorem g1_at (g : Vec Ideal S1x2048 .f32) (k : ℕ) (hk : k < 1024) : at2 (g1 g) 0 k = at2 g 0 k := by
  refine (at2_ix (a := 1) (b := 1024) _ 0 ⟨k, hk⟩).trans ((eq_at2 g _ rfl ?_))
  show 0 + 1 * k = k
  omega
theorem g2_at (g : Vec Ideal S1x2048 .f32) (k : ℕ) (hk : k < 512) : at2 (g2 g) 0 k = at2 g 0 (1024 + k) := by
  refine (at2_ix (a := 1) (b := 512) _ 0 ⟨k, hk⟩).trans ((eq_at2 g _ rfl ?_))
  show 1024 + 1 * k = 1024 + k
  omega
theorem g3_at (g : Vec Ideal S1x2048 .f32) (k : ℕ) (hk : k < 512) : at2 (g3 g) 0 k = at2 g 0 (1536 + k) := by
  refine (at2_ix (a := 1) (b := 512) _ 0 ⟨k, hk⟩).trans ((eq_at2 g _ rfl ?_))
  show 1536 + 1 * k = 1536 + k
  omega

/-- The scratch after a start. -/
def scr (x0 : Vec Ideal S2048x1024 .f32) (x1 x2 : Vec Ideal S2048x512 .bf16) (x4 : Vec Ideal S32x1024 .f32)
    (x5 x6 : Vec Ideal S32x512 .f32) (g : Vec Ideal S1x2048 .f32) : Vec Ideal S2080x2048 .bf16 := fun y =>
  if (y 0).val < 2048 then catP (at2 x0 (y 0).val) (at2 x1 (y 0).val) (at2 x2 (y 0).val) (at2 g 0) (y 1).val
  else catS (at2 x4 ((y 0).val - 2048)) (at2 x5 ((y 0).val - 2048)) (at2 x6 ((y 0).val - 2048)) (at2 g 0) (y 1).val

/-- The six blocks a start writes, last first. -/
abbrev pieces (x0 : Vec Ideal S2048x1024 .f32) (x1 x2 : Vec Ideal S2048x512 .bf16) (x4 : Vec Ideal S32x1024 .f32)
    (x5 x6 : Vec Ideal S32x512 .f32) (g : Vec Ideal S1x2048 .f32) : List (View.Piece (Elt Ideal) S2080x2048 .bf16) :=
  [⟨Rect.unit (s := S2080x2048) ![2048, 1536] ![32, 512] inb_S2080x2048_S32x512_2048_1536,
      k0_pay1 x6 (k0_pay13 (g3 g)) (k0_pay14 x6) (Scalar.ofBits .f32 0x358637BD#32)⟩,
    ⟨Rect.unit (s := S2080x2048) ![2048, 1024] ![32, 512] inb_S2080x2048_S32x512_2048_1024, k0_pay12 x5 (g2 g)⟩,
    ⟨Rect.unit (s := S2080x2048) ![2048, 0] ![32, 1024] inb_S2080x2048_S32x1024_2048_0,
      k0_pay11 x4 (k0_pay8 (g1 g)) (k0_pay9 x4) k0_pay10⟩,
    ⟨Rect.unit (s := S2080x2048) ![0, 1536] ![2048, 512] inb_S2080x2048_S2048x512_0_1536, k0_pay7 x2⟩,
    ⟨Rect.unit (s := S2080x2048) ![0, 1024] ![2048, 512] inb_S2080x2048_S2048x512_0_1024, k0_pay6 x1⟩,
    ⟨Rect.unit (s := S2080x2048) ![0, 0] ![2048, 1024] inb_S2080x2048_S2048x1024_0_0, k0_pay5 x0 (g1 g)⟩]

/-- They cover the scratch. -/
theorem cover_scr (x0 : Vec Ideal S2048x1024 .f32) (x1 x2 : Vec Ideal S2048x512 .bf16) (x4 : Vec Ideal S32x1024 .f32)
    (x5 x6 : Vec Ideal S32x512 .f32) (g : Vec Ideal S1x2048 .f32) (y : S2080x2048.Idx) :
    ∃ p ∈ pieces x0 x1 x2 x4 x5 x6 g, y ∈ p.1.set := by
  have h1 : (y 0).val < 2080 := (y 0).isLt
  have h2 : (y 1).val < 2048 := (y 1).isLt
  by_cases h : (y 0).val < 2048
  · by_cases k1 : (y 1).val < 1024
    · refine ⟨_, .tail _ (.tail _ (.tail _ (.tail _ (.tail _ (.head _))))), ?_⟩
      refine (Rect.mem_set_unit (inb := inb_S2080x2048_S2048x1024_0_0)).mpr fun a => ?_
      match a with
      | ⟨0, _⟩ => exact ⟨Nat.zero_le _, by show (y 0).val < 0 + 2048; omega⟩
      | ⟨1, _⟩ => exact ⟨Nat.zero_le _, by show (y 1).val < 0 + 1024; omega⟩
    by_cases k2 : (y 1).val < 1536
    · refine ⟨_, .tail _ (.tail _ (.tail _ (.tail _ (.head _)))), ?_⟩
      refine (Rect.mem_set_unit (inb := inb_S2080x2048_S2048x512_0_1024)).mpr fun a => ?_
      match a with
      | ⟨0, _⟩ => exact ⟨Nat.zero_le _, by show (y 0).val < 0 + 2048; omega⟩
      | ⟨1, _⟩ => exact ⟨by show 1024 ≤ (y 1).val; omega, by show (y 1).val < 1024 + 512; omega⟩
    · refine ⟨_, .tail _ (.tail _ (.tail _ (.head _))), ?_⟩
      refine (Rect.mem_set_unit (inb := inb_S2080x2048_S2048x512_0_1536)).mpr fun a => ?_
      match a with
      | ⟨0, _⟩ => exact ⟨Nat.zero_le _, by show (y 0).val < 0 + 2048; omega⟩
      | ⟨1, _⟩ => exact ⟨by show 1536 ≤ (y 1).val; omega, by show (y 1).val < 1536 + 512; omega⟩
  · by_cases k1 : (y 1).val < 1024
    · refine ⟨_, .tail _ (.tail _ (.head _)), ?_⟩
      refine (Rect.mem_set_unit (inb := inb_S2080x2048_S32x1024_2048_0)).mpr fun a => ?_
      match a with
      | ⟨0, _⟩ => exact ⟨by show 2048 ≤ (y 0).val; omega, by show (y 0).val < 2048 + 32; omega⟩
      | ⟨1, _⟩ => exact ⟨Nat.zero_le _, by show (y 1).val < 0 + 1024; omega⟩
    by_cases k2 : (y 1).val < 1536
    · refine ⟨_, .tail _ (.head _), ?_⟩
      refine (Rect.mem_set_unit (inb := inb_S2080x2048_S32x512_2048_1024)).mpr fun a => ?_
      match a with
      | ⟨0, _⟩ => exact ⟨by show 2048 ≤ (y 0).val; omega, by show (y 0).val < 2048 + 32; omega⟩
      | ⟨1, _⟩ => exact ⟨by show 1024 ≤ (y 1).val; omega, by show (y 1).val < 1024 + 512; omega⟩
    · refine ⟨_, .head _, ?_⟩
      refine (Rect.mem_set_unit (inb := inb_S2080x2048_S32x512_2048_1536)).mpr fun a => ?_
      match a with
      | ⟨0, _⟩ => exact ⟨by show 2048 ≤ (y 0).val; omega, by show (y 0).val < 2048 + 32; omega⟩
      | ⟨1, _⟩ => exact ⟨by show 1536 ≤ (y 1).val; omega, by show (y 1).val < 1536 + 512; omega⟩

/-- The scratch at a prompt row, column by group, -/
theorem scr_p (x0 : Vec Ideal S2048x1024 .f32) (x1 x2 : Vec Ideal S2048x512 .bf16) (x4 : Vec Ideal S32x1024 .f32)
    (x5 x6 : Vec Ideal S32x512 .f32) (g : Vec Ideal S1x2048 .f32) (y : S2080x2048.Idx) {r k : ℕ} (hr : (y 0).val = r)
    (hk : (y 1).val = k) (hlt : r < 2048) :
    scr x0 x1 x2 x4 x5 x6 g y = catP (at2 x0 r) (at2 x1 r) (at2 x2 r) (at2 g 0) k := by
  subst hr hk
  exact if_pos hlt

/-- and at a sample row. -/
theorem scr_s (x0 : Vec Ideal S2048x1024 .f32) (x1 x2 : Vec Ideal S2048x512 .bf16) (x4 : Vec Ideal S32x1024 .f32)
    (x5 x6 : Vec Ideal S32x512 .f32) (g : Vec Ideal S1x2048 .f32) (y : S2080x2048.Idx) {r k : ℕ} (hr : (y 0).val = 2048 + r)
    (hk : (y 1).val = k) : scr x0 x1 x2 x4 x5 x6 g y = catS (at2 x4 r) (at2 x5 r) (at2 x6 r) (at2 g 0) k := by
  subst hk
  unfold scr
  rw [if_neg (by omega), hr, Nat.add_sub_cancel_left]

/-- The first group of a scratch row, -/
theorem cat_fst (a b d : ℕ → EReal) (k : ℕ) (h : k < 1024) : cat a b d k = a k := if_pos h
/-- the second -/
theorem cat_snd (a b d : ℕ → EReal) (k : ℕ) (h : k < 512) : cat a b d (1024 + k) = b k := by
  unfold cat
  rw [if_neg (by omega), if_pos (by omega), Nat.add_sub_cancel_left]
/-- and the third. -/
theorem cat_trd (a b d : ℕ → EReal) (k : ℕ) : cat a b d (1536 + k) = d k := by
  unfold cat
  rw [if_neg (by omega), if_neg (by omega), Nat.add_sub_cancel_left]

/-- They leave the scratch `scr`. -/
theorem canon_scr (x0 : Vec Ideal S2048x1024 .f32) (x1 x2 : Vec Ideal S2048x512 .bf16) (x4 : Vec Ideal S32x1024 .f32)
    (x5 x6 : Vec Ideal S32x512 .f32) (g : Vec Ideal S1x2048 .f32) :
    View.canon (pieces x0 x1 x2 x4 x5 x6 g) = scr x0 x1 x2 x4 x5 x6 g := by
  funext y
  refine View.canon_apply_of_pieces (scr x0 x1 x2 x4 x5 x6 g) _ ?_ y (cover_scr x0 x1 x2 x4 x5 x6 g y)
  intro p hp x
  rcases List.mem_cons.mp hp with rfl | hp
  · obtain ⟨i, k, rfl⟩ : ∃ (i : Fin 32) (k : Fin 512), x = ValueIdx.ix2 i k := ⟨_, _, ValueIdx.eq_ix2 x⟩
    refine Eq.trans ?_ (scr_s x0 x1 x2 x4 x5 x6 g _ (r := i.val) (k := 1536 + k.val) (by show 2048 + 1 * i.val = _; omega)
      (by show 1536 + 1 * k.val = _; omega)).symm
    refine Eq.trans ?_ (cat_trd _ _ _ k.val).symm
    refine Eq.trans ?_ (rms_congr (fun _ _ => rfl) (fun k hk => g3_at g k hk) k.val k.isLt)
    show k0_pay1 _ _ _ _ _ = _
    unfold k0_pay1 k0_pay13 k0_pay14
    simp only [shapeCast_self]
    exact rmsVec_apply x6 (g3 g) _ _ _ _ _ _ _ _ _ i k
  rcases List.mem_cons.mp hp with rfl | hp
  · obtain ⟨i, k, rfl⟩ : ∃ (i : Fin 32) (k : Fin 512), x = ValueIdx.ix2 i k := ⟨_, _, ValueIdx.eq_ix2 x⟩
    refine Eq.trans ?_ (scr_s x0 x1 x2 x4 x5 x6 g _ (r := i.val) (k := 1024 + k.val) (by show 2048 + 1 * i.val = _; omega)
      (by show 1024 + 1 * k.val = _; omega)).symm
    refine Eq.trans ?_ (cat_snd _ _ _ k.val k.isLt).symm
    refine Eq.trans ?_ (rms_congr (fun _ _ => rfl) (fun k hk => g2_at g k hk) k.val k.isLt)
    show k0_pay12 _ _ _ = _
    unfold k0_pay12
    simp only [shapeCast_self]
    exact rmsVec_apply x5 (g2 g) _ _ _ _ _ _ _ _ _ i k
  rcases List.mem_cons.mp hp with rfl | hp
  · obtain ⟨i, k, rfl⟩ : ∃ (i : Fin 32) (k : Fin 1024), x = ValueIdx.ix2 i k := ⟨_, _, ValueIdx.eq_ix2 x⟩
    refine Eq.trans ?_ (scr_s x0 x1 x2 x4 x5 x6 g _ (r := i.val) (k := k.val) (by show 2048 + 1 * i.val = _; omega)
      (by show 0 + 1 * k.val = _; omega)).symm
    refine Eq.trans ?_ (cat_fst _ _ _ k.val k.isLt).symm
    refine Eq.trans ?_ (rms_congr (fun _ _ => rfl) (fun k hk => g1_at g k hk) k.val k.isLt)
    show k0_pay11 _ _ _ _ _ = _
    unfold k0_pay11 k0_pay8 k0_pay9 k0_pay10
    simp only [shapeCast_self]
    exact rmsVec_apply x4 (g1 g) _ _ _ _ _ _ _ _ _ i k
  rcases List.mem_cons.mp hp with rfl | hp
  · obtain ⟨i, k, rfl⟩ : ∃ (i : Fin 2048) (k : Fin 512), x = ValueIdx.ix2 i k := ⟨_, _, ValueIdx.eq_ix2 x⟩
    refine Eq.trans ?_ (scr_p x0 x1 x2 x4 x5 x6 g _ (r := i.val) (k := 1536 + k.val) (by show 0 + 1 * i.val = _; omega)
      (by show 1536 + 1 * k.val = _; omega) i.isLt).symm
    refine Eq.trans ?_ (cat_trd _ _ _ k.val).symm
    refine Eq.trans ?_ (at2_ix x2 i k).symm
    exact congrFun (shapeCast_self x2 _) _
  rcases List.mem_cons.mp hp with rfl | hp
  · obtain ⟨i, k, rfl⟩ : ∃ (i : Fin 2048) (k : Fin 512), x = ValueIdx.ix2 i k := ⟨_, _, ValueIdx.eq_ix2 x⟩
    refine Eq.trans ?_ (scr_p x0 x1 x2 x4 x5 x6 g _ (r := i.val) (k := 1024 + k.val) (by show 0 + 1 * i.val = _; omega)
      (by show 1024 + 1 * k.val = _; omega) i.isLt).symm
    refine Eq.trans ?_ (cat_snd _ _ _ k.val k.isLt).symm
    refine Eq.trans ?_ (at2_ix x1 i k).symm
    exact congrFun (shapeCast_self x1 _) _
  · obtain rfl := List.mem_singleton.mp hp
    obtain ⟨i, k, rfl⟩ : ∃ (i : Fin 2048) (k : Fin 1024), x = ValueIdx.ix2 i k := ⟨_, _, ValueIdx.eq_ix2 x⟩
    refine Eq.trans ?_ (scr_p x0 x1 x2 x4 x5 x6 g _ (r := i.val) (k := k.val) (by show 0 + 1 * i.val = _; omega)
      (by show 0 + 1 * k.val = _; omega) i.isLt).symm
    refine Eq.trans ?_ (cat_fst _ _ _ k.val k.isLt).symm
    refine Eq.trans ?_ (rms_congr (fun _ _ => rfl) (fun k hk => g1_at g k hk) k.val k.isLt)
    show k0_pay5 _ _ _ = _
    unfold k0_pay5
    simp only [shapeCast_self]
    exact rmsVec_apply x0 (g1 g) _ _ _ _ _ _ _ _ _ i k

/-- What a point stores for its prompt rows, -/
theorem pay3_apply (h : Vec Ideal S2080x2048 .bf16) (w : Vec Ideal S2048x256 .f32) (o : Vec Ideal S2048x256 .f32)
    (i : Fin 2048) (j : Fin 256) : k0_pay3 h w o (ValueIdx.ix2 i j) = o (ValueIdx.ix2 i j) + lin 2048 (at2 h i.val) (at2 w) j.val := by
  unfold k0_pay3 k0_pay2
  rw [addf_apply, extractStridedSlice_apply _ _ _ _ (ValueIdx.ix2 ⟨i.val, by omega⟩ j) (fun a => by
    match a with
    | ⟨0, _⟩ => show i.val = 0 + i.val; omega
    | ⟨1, _⟩ => show j.val = 0 + j.val; omega)]
  exact congrArg (_ + ·) (mm_apply (M := 2080) (K := 2048) (N := 256) _ _ none ⟨i.val, by omega⟩ j)

/-- and for its sample rows. -/
theorem pay4_apply (h : Vec Ideal S2080x2048 .bf16) (w : Vec Ideal S2048x256 .f32) (o : Vec Ideal S32x256 .f32)
    (i : Fin 32) (j : Fin 256) :
    k0_pay4 h w o (ValueIdx.ix2 i j) = o (ValueIdx.ix2 i j) + lin 2048 (at2 h (2048 + i.val)) (at2 w) j.val := by
  unfold k0_pay4 k0_pay2
  rw [addf_apply, extractStridedSlice_apply _ _ _ _ (ValueIdx.ix2 ⟨2048 + i.val, by omega⟩ j) (fun a => by
    match a with
    | ⟨0, _⟩ => rfl
    | ⟨1, _⟩ => show j.val = 0 + j.val; omega)]
  exact congrArg (_ + ·) (mm_apply (M := 2080) (K := 2048) (N := 256) _ _ none ⟨2048 + i.val, by omega⟩ j)

variable (m : (ℓ : Loc nD τ sig) → Buf (Elt Ideal) ℓ) (c : Dev nD)

/-- The scratch of a starting point. -/
abbrev scrAt (t : Fin cfg0.N) : Vec Ideal S2080x2048 .bf16 :=
  scr (iblk m c 0 t) (iblk m c 1 t) (iblk m c 2 t) (iblk m c 4 t) (iblk m c 5 t) (iblk m c 6 t) (iblk m c 8 t)

theorem scr_A (t : Fin cfg0.N) (h0 : t.val % 8 = 0) : (outsAt0 m c t.val t.isLt).2.2 = scrAt m c t := by
  rw [outsAt0_A m c t h0]
  dsimp only
  unfold sout0_A_0
  rw [View.read_writes_eq_canon _ _ _ (scover0_A_0 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_4 t).read_unread,
    (hs0_5 t).read_unread, (hs0_6 t).read_unread, (hs0_8 t).read_unread, View.ld_unit_zero (S := S2048x1024) hz,
    View.ld_unit_zero (S := S2048x512) hz, View.ld_unit_zero (S := S32x1024) hz, View.ld_unit_zero (S := S32x512) hz]
  exact canon_scr _ _ _ _ _ _ _

/-- The prompt output block of a starting point. -/
theorem out10_A (t : Fin cfg0.N) (h0 : t.val % 8 = 0) :
    (outsAt0 m c t.val t.isLt).1 = k0_pay3 (scrAt m c t) (iblk m c 9 t) (iblk m c 3 t) := by
  rw [outsAt0_A m c t h0]
  dsimp only
  unfold out0_A_10
  rw [View.read_writes_eq_canon _ _ _ (cover0_A_10 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_9 t).read_unread,
    View.ld_unit_zero (S := S2048x1024) hz, View.ld_unit_zero (S := S2048x512) hz, View.ld_unit_zero (S := S32x1024) hz,
    View.ld_unit_zero (S := S32x512) hz, View.ld_unit_zero (S := S2048x256) hz, View.canon_cons_unit_zero (S := S2048x256) hz]
  rw [View.readCov_eq_canon_ld _ _ _ (cover_scr _ _ _ _ _ _ _), View.ld_unit_zero (S := S2080x2048) hz, canon_scr]

/-- The sample output block of a starting point. -/
theorem out11_A (t : Fin cfg0.N) (h0 : t.val % 8 = 0) :
    (outsAt0 m c t.val t.isLt).2.1 = k0_pay4 (scrAt m c t) (iblk m c 9 t) (iblk m c 7 t) := by
  rw [outsAt0_A m c t h0]
  dsimp only
  unfold out0_A_11
  rw [View.read_writes_eq_canon _ _ _ (cover0_A_11 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_7 t).read_unread,
    (hs0_4 t).read_unread, (hs0_5 t).read_unread, (hs0_6 t).read_unread, (hs0_8 t).read_unread, (hs0_9 t).read_unread,
    View.ld_unit_zero (S := S2048x1024) hz, View.ld_unit_zero (S := S2048x512) hz, View.ld_unit_zero (S := S32x1024) hz,
    View.ld_unit_zero (S := S32x512) hz, View.ld_unit_zero (S := S2048x256) hz, View.ld_unit_zero (S := S32x256) hz,
    View.canon_cons_unit_zero (S := S32x256) hz]
  rw [View.readCov_eq_canon_ld _ _ _ (cover_scr _ _ _ _ _ _ _), View.ld_unit_zero (S := S2080x2048) hz, canon_scr]

/-- A point that goes on leaves the scratch as it was, -/
theorem scr_B (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]
  rfl

/-- and computes its prompt block -/
theorem out10_B (t : Fin cfg0.N) (h0 : ¬t.val % 8 = 0) :
    (outsAt0 m c t.val t.isLt).1 = k0_pay3 (outsAt0 m c (t.val - 1) (Nat.lt_of_le_of_lt (Nat.sub_le _ _) t.isLt)).2.2
      (iblk m c 9 t) (iblk m c 3 t) := by
  rw [outsAt0_B m c t h0]
  dsimp only
  unfold out0_B_10
  rw [View.read_writes_eq_canon _ _ _ (cover0_B_10 c _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_3 t).read_unread, (hs0_9 t).read_unread, (Memref.isWhole_whole _).read_unread,
    View.ld_unit_zero (S := S2080x2048) hz, View.ld_unit_zero (S := S2048x256) hz, View.canon_cons_unit_zero (S := S2048x256) hz]

/-- and its sample block from it. -/
theorem out11_B (t : Fin cfg0.N) (h0 : ¬t.val % 8 = 0) :
    (outsAt0 m c t.val t.isLt).2.1 = k0_pay4 (outsAt0 m c (t.val - 1) (Nat.lt_of_le_of_lt (Nat.sub_le _ _) t.isLt)).2.2
      (iblk m c 9 t) (iblk m c 7 t) := by
  rw [outsAt0_B m c t h0]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_7 t).read_unread, (hs0_9 t).read_unread, (Memref.isWhole_whole _).read_unread,
    View.ld_unit_zero (S := S2080x2048) hz, View.ld_unit_zero (S := S2048x256) hz, View.ld_unit_zero (S := S32x256) hz,
    View.canon_cons_unit_zero (S := S32x256) hz]

end Cert.OutPoint

end
-- ==== Proof.OutArray.lean ====
/-
  The output projection: what the result arrays hold.

  Each point's blocks are read off the arguments, and the blocks make the arrays: row `r`, column `j` is the residual plus
  the three groups of columns of row `r`, side by side, times the weight's column.
-/
module

public import proofs.«01_k».proof.Proof.OutPoint

@[expose] public section

noncomputable section

namespace Cert.OutArray

open Idealize.ShloMosaic hiding ix1 ix2 ix3 ix4 ix5
open Cert.OutIdeal Cert.OutIdeal.Gen Cert.Rows Cert.Heads Cert.OutPoint
open Idealize.ShloMosaic.TcCoe Idealize.ShloMosaic.ValueIdx Idealize.SL.Sem

variable (m : (ℓ : Loc nD τ sig) → Buf (Elt Ideal) ℓ) (c : Dev nD)

/-- The three groups and the residual of the prompt rows, the same of the sample rows, the gains, the weight. -/
abbrev oap : Vec Ideal S8192x1024 .f32 := m ((c : Thread nD τ).loc main_arg0)
abbrev obp : Vec Ideal S8192x512 .bf16 := m ((c : Thread nD τ).loc main_arg1)
abbrev omp : Vec Ideal S8192x512 .bf16 := m ((c : Thread nD τ).loc main_arg2)
abbrev hp : Vec Ideal S8192x2048 .f32 := m ((c : Thread nD τ).loc main_arg3)
abbrev oas : Vec Ideal S128x1024 .f32 := m ((c : Thread nD τ).loc main_arg4)
abbrev obs : Vec Ideal S128x512 .f32 := m ((c : Thread nD τ).loc main_arg5)
abbrev oms : Vec Ideal S128x512 .f32 := m ((c : Thread nD τ).loc main_arg6)
abbrev hs : Vec Ideal S128x2048 .f32 := m ((c : Thread nD τ).loc main_arg7)
abbrev gn : Vec Ideal S2048 .f32 := m ((c : Thread nD τ).loc main_arg8)
abbrev w : Vec Ideal S2048x2048 .f32 := m ((c : Thread nD τ).loc main_arg9)

/-- Which block of each argument a point works on. -/
theorem idx : ∀ t : Fin cfg0.N, win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = t.val % 8
    ∧ win0_4.index t (0 : Fin 2) = t.val / 8 ∧ win0_4.index t (1 : Fin 2) = 0
    ∧ win0_5.index t (0 : Fin 2) = t.val / 8 ∧ win0_5.index t (1 : Fin 2) = 0
    ∧ win0_6.index t (0 : Fin 2) = t.val / 8 ∧ win0_6.index t (1 : Fin 2) = 0
    ∧ win0_7.index t (0 : Fin 2) = t.val / 8 ∧ win0_7.index t (1 : Fin 2) = t.val % 8
    ∧ win0_8.index t (0 : Fin 2) = 0 ∧ win0_8.index t (1 : Fin 2) = 0
    ∧ win0_9.index t (0 : Fin 2) = 0 ∧ win0_9.index t (1 : Fin 2) = t.val % 8 :=
  (by decide +kernel : ∀ t : Fin grid0.N, _)

theorem lt_N (t : Fin cfg0.N) : t.val < 32 := lt_of_lt_of_eq t.isLt N_0

theorem read0 (t : Fin cfg0.N) (i k : ℕ) (hi : i < 2048) (hk : k < 1024) :
    at2 (a := 2048) (b := 1024) (iblk m c 0 t) i k = at2 (oap m c) (2048 * (t.val / 8) + i) k := by
  have ht := lt_N t
  refine (at2_ix (a := 2048) (b := 1024) (iblk m c 0 t) ⟨i, hi⟩ ⟨k, hk⟩).trans (Eq.trans ?_ (at2_ix (oap m c) ⟨2048 * (t.val / 8) + i, by omega⟩ ⟨k, hk⟩).symm)
  blk_ext [iblk, V_main_arg0, idx t]

theorem read1 (t : Fin cfg0.N) (i k : ℕ) (hi : i < 2048) (hk : k < 512) :
    at2 (a := 2048) (b := 512) (iblk m c 1 t) i k = at2 (obp m c) (2048 * (t.val / 8) + i) k := by
  have ht := lt_N t
  refine (at2_ix (a := 2048) (b := 512) (iblk m c 1 t) ⟨i, hi⟩ ⟨k, hk⟩).trans (Eq.trans ?_ (at2_ix (obp m c) ⟨2048 * (t.val / 8) + i, by omega⟩ ⟨k, hk⟩).symm)
  blk_ext [iblk, V_main_arg1, idx t]

theorem read2 (t : Fin cfg0.N) (i k : ℕ) (hi : i < 2048) (hk : k < 512) :
    at2 (a := 2048) (b := 512) (iblk m c 2 t) i k = at2 (omp m c) (2048 * (t.val / 8) + i) k := by
  have ht := lt_N t
  refine (at2_ix (a := 2048) (b := 512) (iblk m c 2 t) ⟨i, hi⟩ ⟨k, hk⟩).trans (Eq.trans ?_ (at2_ix (omp m c) ⟨2048 * (t.val / 8) + i, by omega⟩ ⟨k, hk⟩).symm)
  blk_ext [iblk, V_main_arg2, idx t]

theorem read3 (t : Fin cfg0.N) (i k : ℕ) (hi : i < 2048) (hk : k < 256) :
    at2 (a := 2048) (b := 256) (iblk m c 3 t) i k = at2 (hp m c) (2048 * (t.val / 8) + i) (256 * (t.val % 8) + k) := by
  have ht := lt_N t
  refine (at2_ix (a := 2048) (b := 256) (iblk m c 3 t) ⟨i, hi⟩ ⟨k, hk⟩).trans (Eq.trans ?_ (at2_ix (hp m c) ⟨2048 * (t.val / 8) + i, by omega⟩ ⟨256 * (t.val % 8) + k, by omega⟩).symm)
  blk_ext [iblk, V_main_arg3, idx t]

theorem read4 (t : Fin cfg0.N) (i k : ℕ) (hi : i < 32) (hk : k < 1024) :
    at2 (a := 32) (b := 1024) (iblk m c 4 t) i k = at2 (oas m c) (32 * (t.val / 8) + i) k := by
  have ht := lt_N t
  refine (at2_ix (a := 32) (b := 1024) (iblk m c 4 t) ⟨i, hi⟩ ⟨k, hk⟩).trans (Eq.trans ?_ (at2_ix (oas m c) ⟨32 * (t.val / 8) + i, by omega⟩ ⟨k, hk⟩).symm)
  blk_ext [iblk, V_main_arg4, idx t]

theorem read5 (t : Fin cfg0.N) (i k : ℕ) (hi : i < 32) (hk : k < 512) :
    at2 (a := 32) (b := 512) (iblk m c 5 t) i k = at2 (obs m c) (32 * (t.val / 8) + i) k := by
  have ht := lt_N t
  refine (at2_ix (a := 32) (b := 512) (iblk m c 5 t) ⟨i, hi⟩ ⟨k, hk⟩).trans (Eq.trans ?_ (at2_ix (obs m c) ⟨32 * (t.val / 8) + i, by omega⟩ ⟨k, hk⟩).symm)
  blk_ext [iblk, V_main_arg5, idx t]

theorem read6 (t : Fin cfg0.N) (i k : ℕ) (hi : i < 32) (hk : k < 512) :
    at2 (a := 32) (b := 512) (iblk m c 6 t) i k = at2 (oms m c) (32 * (t.val / 8) + i) k := by
  have ht := lt_N t
  refine (at2_ix (a := 32) (b := 512) (iblk m c 6 t) ⟨i, hi⟩ ⟨k, hk⟩).trans (Eq.trans ?_ (at2_ix (oms m c) ⟨32 * (t.val / 8) + i, by omega⟩ ⟨k, hk⟩).symm)
  blk_ext [iblk, V_main_arg6, idx t]

theorem read7 (t : Fin cfg0.N) (i k : ℕ) (hi : i < 32) (hk : k < 256) :
    at2 (a := 32) (b := 256) (iblk m c 7 t) i k = at2 (hs m c) (32 * (t.val / 8) + i) (256 * (t.val % 8) + k) := by
  have ht := lt_N t
  refine (at2_ix (a := 32) (b := 256) (iblk m c 7 t) ⟨i, hi⟩ ⟨k, hk⟩).trans (Eq.trans ?_ (at2_ix (hs m c) ⟨32 * (t.val / 8) + i, by omega⟩ ⟨256 * (t.val % 8) + k, by omega⟩).symm)
  blk_ext [iblk, V_main_arg7, idx t]

theorem read8 (t : Fin cfg0.N) (k : ℕ) (hk : k < 2048) :
    at2 (a := 1) (b := 2048) (iblk m c 8 t) 0 k = at1 (gn m c) k := by
  refine (at2_ix (a := 1) (b := 2048) (iblk m c 8 t) 0 ⟨k, hk⟩).trans (Eq.trans ?_ (at1_ix (gn m c) ⟨k, hk⟩).symm)
  blk_ext! [iblk, idx t]

theorem read9 (t : Fin cfg0.N) (i k : ℕ) (hi : i < 2048) (hk : k < 256) :
    at2 (a := 2048) (b := 256) (iblk m c 9 t) i k = at2 (w m c) i (256 * (t.val % 8) + k) := by
  have ht := lt_N t
  refine (at2_ix (a := 2048) (b := 256) (iblk m c 9 t) ⟨i, hi⟩ ⟨k, hk⟩).trans (Eq.trans ?_ (at2_ix (w m c) ⟨i, hi⟩ ⟨256 * (t.val % 8) + k, by omega⟩).symm)
  blk_ext [iblk, V_main_arg9, idx t]

/-- The scratch row a prompt row makes, -/
abbrev rowP (r : ℕ) : ℕ → EReal := catP (at2 (oap m c) r) (at2 (obp m c) r) (at2 (omp m c) r) (at1 (gn m c))
/-- and the one a sample row makes. -/
abbrev rowS (r : ℕ) : ℕ → EReal := catS (at2 (oas m c) r) (at2 (obs m c) r) (at2 (oms m c) r) (at1 (gn m c))

/-- The scratch after a point: its prompt rows, -/
theorem scr_prompt (t : Fin cfg0.N) (i k : ℕ) (hi : i < 2048) (hk : k < 2048) :
    at2 (a := 2080) (b := 2048) (outsAt0 m c t.val t.isLt).2.2 i k = rowP m c (2048 * (t.val / 8) + i) k := by
  have hA : ∀ t : Fin cfg0.N, t.val % 8 = 0 → at2 (a := 2080) (b := 2048) (scrAt m c t) i k
      = rowP m c (2048 * (t.val / 8) + i) k := fun t h0 => by
    refine (at2_ix (a := 2080) (b := 2048) (scrAt m c t) ⟨i, by omega⟩ ⟨k, hk⟩).trans ?_
    refine (scr_p _ _ _ _ _ _ _ _ rfl rfl hi).trans ?_
    exact catP_congr (fun l hl => read0 m c t i l hi hl) (fun l hl => read1 m c t i l hi hl)
      (fun l hl => read2 m c t i l hi hl) (fun l hl => read8 m c t l hl) k hk
  obtain ⟨n, hn⟩ := t
  induction n with
  | zero => rw [scr_A m c _ rfl]; exact hA _ rfl
  | succ n ih =>
    by_cases h0 : (n + 1) % 8 = 0
    · rw [scr_A m c _ h0]; exact hA _ h0
    · rw [scr_B m c _ h0]
      refine (ih (by omega)).trans ?_
      show rowP m c (2048 * (n / 8) + i) k = rowP m c (2048 * ((n + 1) / 8) + i) k
      rw [show (n + 1) / 8 = n / 8 by omega]

/-- and its sample rows. -/
theorem scr_sample (t : Fin cfg0.N) (i k : ℕ) (hi : i < 32) (hk : k < 2048) :
    at2 (a := 2080) (b := 2048) (outsAt0 m c t.val t.isLt).2.2 (2048 + i) k = rowS m c (32 * (t.val / 8) + i) k := by
  have hA : ∀ t : Fin cfg0.N, t.val % 8 = 0 → at2 (a := 2080) (b := 2048) (scrAt m c t) (2048 + i) k
      = rowS m c (32 * (t.val / 8) + i) k := fun t h0 => by
    refine (at2_ix (a := 2080) (b := 2048) (scrAt m c t) ⟨2048 + i, by omega⟩ ⟨k, hk⟩).trans ?_
    refine (scr_s _ _ _ _ _ _ _ _ rfl rfl).trans ?_
    exact catS_congr (fun l hl => read4 m c t i l hi hl) (fun l hl => read5 m c t i l hi hl)
      (fun l hl => read6 m c t i l hi hl) (fun l hl => read8 m c t l hl) k hk
  obtain ⟨n, hn⟩ := t
  induction n with
  | zero => rw [scr_A m c _ rfl]; exact hA _ rfl
  | succ n ih =>
    by_cases h0 : (n + 1) % 8 = 0
    · rw [scr_A m c _ h0]; exact hA _ h0
    · rw [scr_B m c _ h0]
      refine (ih (by omega)).trans ?_
      show rowS m c (32 * (n / 8) + i) k = rowS m c (32 * ((n + 1) / 8) + i) k
      rw [show (n + 1) / 8 = n / 8 by omega]

/-- The prompt block after a point. -/
theorem block10 (t : Fin cfg0.N) (i : Fin 2048) (j : Fin 256) : (outsAt0 m c t.val t.isLt).1 (ValueIdx.ix2 i j)
    = at2 (hp m c) (2048 * (t.val / 8) + i.val) (256 * (t.val % 8) + j.val)
      + lin 2048 (rowP m c (2048 * (t.val / 8) + i.val)) (at2 (w m c)) (256 * (t.val % 8) + j.val) := by
  have hout : (outsAt0 m c t.val t.isLt).1 = k0_pay3 (outsAt0 m c t.val t.isLt).2.2 (iblk m c 9 t) (iblk m c 3 t) := by
    by_cases h0 : t.val % 8 = 0
    · rw [out10_A m c t h0, scr_A m c t h0]
    · rw [out10_B m c t h0, scr_B m c t h0]
  rw [hout, pay3_apply, ← read3 m c t i.val j.val i.isLt j.isLt]
  refine congrArg₂ (· + ·) (at2_ix (a := 2048) (b := 256) (iblk m c 3 t) i j).symm ?_
  exact lin_congr (fun l hl => scr_prompt m c t i.val l i.isLt hl) fun l hl => read9 m c t l j.val hl j.isLt

/-- The sample block after a point. -/
theorem block11 (t : Fin cfg0.N) (i : Fin 32) (j : Fin 256) : (outsAt0 m c t.val t.isLt).2.1 (ValueIdx.ix2 i j)
    = at2 (hs m c) (32 * (t.val / 8) + i.val) (256 * (t.val % 8) + j.val)
      + lin 2048 (rowS m c (32 * (t.val / 8) + i.val)) (at2 (w m c)) (256 * (t.val % 8) + j.val) := by
  have hout : (outsAt0 m c t.val t.isLt).2.1 = k0_pay4 (outsAt0 m c t.val t.isLt).2.2 (iblk m c 9 t) (iblk m c 7 t) := by
    by_cases h0 : t.val % 8 = 0
    · rw [out11_A m c t h0, scr_A m c t h0]
    · rw [out11_B m c t h0, scr_B m c t h0]
  rw [hout, pay4_apply, ← read7 m c t i.val j.val i.isLt j.isLt]
  refine congrArg₂ (· + ·) (at2_ix (a := 32) (b := 256) (iblk m c 7 t) i j).symm ?_
  exact lin_congr (fun l hl => scr_sample m c t i.val l i.isLt hl) fun l hl => read9 m c t l j.val hl j.isLt

/-- The prompt result, row by row. -/
theorem G10_apply (r : Fin 8192) (j : Fin 2048) : Value.G10 m c (ValueIdx.ix2 r j)
    = at2 (hp m c) r.val j.val + lin 2048 (rowP m c r.val) (at2 (w m c)) j.val := by
  have hp' : Value.pt10Of (ValueIdx.ix2 r j) = 8 * (r.val / 2048) + j.val / 256 := by
    show 8 * (r.val / 2048 - 0) + 1 * (j.val / 256 - 0) = _
    omega
  have hN : Value.pt10Of (ValueIdx.ix2 r j) < cfg0.N := by rw [hp', show cfg0.N = 32 from N_0]; omega
  unfold Value.G10
  rw [dif_pos hN, ← Value.outsAt0_sweep m c _ hN]
  have e : Value.loc10Of (ValueIdx.ix2 r j) = ValueIdx.ix2 ⟨r.val % 2048, Nat.mod_lt _ (by decide)⟩ ⟨j.val % 256, Nat.mod_lt _ (by decide)⟩ := by
    funext a
    match a with
    | ⟨0, _⟩ => rfl
    | ⟨1, _⟩ => rfl
  have h := block10 m c ⟨_, hN⟩ ⟨r.val % 2048, Nat.mod_lt _ (by decide)⟩ ⟨j.val % 256, Nat.mod_lt _ (by decide)⟩
  rw [e, h]
  simp only [hp']
  rw [show (8 * (r.val / 2048) + j.val / 256) / 8 = r.val / 2048 by omega,
    show (8 * (r.val / 2048) + j.val / 256) % 8 = j.val / 256 by omega, show 2048 * (r.val / 2048) + r.val % 2048 = r.val by omega,
    show 256 * (j.val / 256) + j.val % 256 = j.val by omega]

/-- The sample result, row by row. -/
theorem G11_apply (r : Fin 128) (j : Fin 2048) : Value.G11 m c (ValueIdx.ix2 r j)
    = at2 (hs m c) r.val j.val + lin 2048 (rowS m c r.val) (at2 (w m c)) j.val := by
  have hp' : Value.pt11Of (ValueIdx.ix2 r j) = 8 * (r.val / 32) + j.val / 256 := by
    show 8 * (r.val / 32 - 0) + 1 * (j.val / 256 - 0) = _
    omega
  have hN : Value.pt11Of (ValueIdx.ix2 r j) < cfg0.N := by rw [hp', show cfg0.N = 32 from N_0]; omega
  unfold Value.G11
  rw [dif_pos hN, ← Value.outsAt0_sweep m c _ hN]
  have e : Value.loc11Of (ValueIdx.ix2 r j) = ValueIdx.ix2 ⟨r.val % 32, Nat.mod_lt _ (by decide)⟩ ⟨j.val % 256, Nat.mod_lt _ (by decide)⟩ := by
    funext a
    match a with
    | ⟨0, _⟩ => rfl
    | ⟨1, _⟩ => rfl
  have h := block11 m c ⟨_, hN⟩ ⟨r.val % 32, Nat.mod_lt _ (by decide)⟩ ⟨j.val % 256, Nat.mod_lt _ (by decide)⟩
  rw [e, h]
  simp only [hp']
  rw [show (8 * (r.val / 32) + j.val / 256) / 8 = r.val / 32 by omega,
    show (8 * (r.val / 32) + j.val / 256) % 8 = j.val / 256 by omega, show 32 * (r.val / 32) + r.val % 32 = r.val by omega,
    show 256 * (j.val / 256) + j.val % 256 = j.val by omega]

end Cert.OutArray

end
-- ==== Proof.OutEq.lean ====
/-
  The output projection: the kernel's arrays are the reference's.

  The reference norms the groups it has to norm, puts the three side by side, multiplies by the weight and adds the residual;
  at the extended reals this is the kernel's row.
-/
module

public import proofs.«01_k».proof.Defs
public import proofs.«01_k».proof.Proof.OutArray
public import proofs.«01_k».proof.Proof.Columns
public import proofs.«01_k».proof.Proof.Gen.OutRefIdeal.Read

@[expose] public section

noncomputable section

namespace Cert.OutEq

open Idealize.ShloMosaic hiding ix1 ix2 ix3 ix4 ix5
open Idealize.ShloMosaic.TcCoe Idealize.ShloMosaic.ValueIdx Idealize.SL.Sem
open Cert.Rows Cert.Heads Cert.Columns Cert.OutPoint Cert.OutRefIdeal Cert.OutRefIdeal.Read

/-- Three groups side by side. -/
theorem cat_apply {n : ℕ} (x0 : (⟨2, ![n, 1024]⟩ : Shape).Idx → EReal) (x1 x2 : (⟨2, ![n, 512]⟩ : Shape).Idx → EReal)
    (h : Shape.Concatenates [⟨2, ![n, 1024]⟩, ⟨2, ![n, 512]⟩, ⟨2, ![n, 512]⟩] ⟨2, ![n, 2048]⟩ 1) (i : Fin n) (j : Fin 2048) :
    concatenate ⟨2, ![n, 2048]⟩ 1 [⟨⟨2, ![n, 1024]⟩, x0⟩, ⟨⟨2, ![n, 512]⟩, x1⟩, ⟨⟨2, ![n, 512]⟩, x2⟩] h (ValueIdx.ix2 i j)
      = cat (at2 x0 i.val) (at2 x1 i.val) (at2 x2 i.val) j.val := by
  have hj := j.isLt
  unfold cat
  by_cases h1 : j.val < 1024
  · rw [if_pos h1]
    exact (group_apply (n := n) (b := 2048) [⟨⟨2, ![n, 1024]⟩, x0⟩, ⟨⟨2, ![n, 512]⟩, x1⟩, ⟨⟨2, ![n, 512]⟩, x2⟩] h i j 0
      (Nat.lt_of_lt_of_eq (by decide : 0 < 3) rfl) x0 rfl 0 rfl (Nat.zero_le _) (by omega)).trans (at2_ix x0 i ⟨j.val, h1⟩).symm
  by_cases h2 : j.val < 1536
  · rw [if_neg h1, if_pos h2]
    exact (group_apply (n := n) (b := 2048) [⟨⟨2, ![n, 1024]⟩, x0⟩, ⟨⟨2, ![n, 512]⟩, x1⟩, ⟨⟨2, ![n, 512]⟩, x2⟩] h i j 1
      (Nat.lt_of_lt_of_eq (by decide : 1 < 3) rfl) x1 rfl 1024 rfl (by omega) (by omega)).trans (at2_ix x1 i ⟨j.val - 1024, by omega⟩).symm
  · rw [if_neg h1, if_neg h2]
    exact (group_apply (n := n) (b := 2048) [⟨⟨2, ![n, 1024]⟩, x0⟩, ⟨⟨2, ![n, 512]⟩, x1⟩, ⟨⟨2, ![n, 512]⟩, x2⟩] h i j 2
      (Nat.lt_of_lt_of_eq (by decide : 2 < 3) rfl) x2 rfl 1536 rfl (by omega) (by omega)).trans (at2_ix x2 i ⟨j.val - 1536, by omega⟩).symm

variable (x0 : Vec Ideal S8192x1024 .f32) (x1 x2 : Vec Ideal S8192x512 .bf16) (x3 : Vec Ideal S8192x2048 .f32)
  (x4 : Vec Ideal S128x1024 .f32) (x5 x6 : Vec Ideal S128x512 .f32) (x7 : Vec Ideal S128x2048 .f32) (g : Vec Ideal S2048 .f32)
  (w : Vec Ideal S2048x2048 .f32)

/-- The gain's cut at an offset. -/
theorem gain_cut {n : ℕ} (o : ℕ) (h : S2048.Slices ![o] ⟨1, ![n]⟩) (ho : o + n ≤ 2048) (k : ℕ) (hk : k < n) :
    at1 (extractStridedSlice (⟨1, ![n]⟩ : Shape) ![o] g h) k = at1 g (o + k) := by
  refine (at1_ix _ ⟨k, hk⟩).trans (Eq.trans ?_ (at1_ix g ⟨o + k, by omega⟩).symm)
  refine extractStridedSlice_apply _ _ _ _ _ fun a => ?_
  match a with
  | ⟨0, _⟩ => rfl

/-- The reference's prompt rows before the product, -/
theorem ref18_apply (r : Fin 8192) (k : Fin 2048) : val_main_v18 (F := Ideal) x0 x1 x2 g (ValueIdx.ix2 r k)
    = catP (at2 x0 r.val) (at2 x1 r.val) (at2 x2 r.val) (at1 g) k.val := by
  refine (cat_apply (n := 8192) (val_main_v15 (F := Ideal) x0 g) (val_main_v16 (F := Ideal) x1) (val_main_v17 (F := Ideal) x2) _ r k).trans ?_
  refine cat_congr (fun l hl => ?_) (fun l hl => ?_) (fun l hl => ?_) k.val k.isLt
  · refine (at2_ix _ r ⟨l, hl⟩).trans ?_
    refine (rmsHost_apply x0 (val_main_v0 (F := Ideal) g) _ _ _ (by decide) _ _ _ _ _ _ _ r ⟨l, hl⟩).trans ?_
    exact rms_congr (fun _ _ => rfl) (fun q hq => (gain_cut g 0 _ (by decide) q hq).trans (by rw [Nat.zero_add])) l hl
  · exact (at2_ix _ r ⟨l, hl⟩).trans (at2_ix x1 r ⟨l, hl⟩).symm
  · exact (at2_ix _ r ⟨l, hl⟩).trans (at2_ix x2 r ⟨l, hl⟩).symm

/-- and its sample rows. -/
theorem ref58_apply (r : Fin 128) (k : Fin 2048) : val_main_v58 (F := Ideal) x4 x5 x6 g (ValueIdx.ix2 r k)
    = catS (at2 x4 r.val) (at2 x5 r.val) (at2 x6 r.val) (at1 g) k.val := by
  refine (cat_apply (n := 128) (val_main_v31 (F := Ideal) x4 g) (val_main_v44 (F := Ideal) x5 g) (val_main_v57 (F := Ideal) x6 g) _ r k).trans ?_
  refine cat_congr (fun l hl => ?_) (fun l hl => ?_) (fun l hl => ?_) k.val k.isLt
  · refine (at2_ix _ r ⟨l, hl⟩).trans ?_
    refine (rmsHost_apply x4 (val_main_v0 (F := Ideal) g) _ _ _ (by decide) _ _ _ _ _ _ _ r ⟨l, hl⟩).trans ?_
    exact rms_congr (fun _ _ => rfl) (fun q hq => (gain_cut g 0 _ (by decide) q hq).trans (by rw [Nat.zero_add])) l hl
  · refine (at2_ix _ r ⟨l, hl⟩).trans ?_
    refine (rmsHost_apply x5 (val_main_v1 (F := Ideal) g) _ _ _ (by decide) _ _ _ _ _ _ _ r ⟨l, hl⟩).trans ?_
    exact rms_congr (fun _ _ => rfl) (fun q hq => gain_cut g 1024 _ (by decide) q hq) l hl
  · refine (at2_ix _ r ⟨l, hl⟩).trans ?_
    refine (rmsHost_apply x6 (val_main_v2 (F := Ideal) g) _ _ _ (by decide) _ _ _ _ _ _ _ r ⟨l, hl⟩).trans ?_
    exact rms_congr (fun _ _ => rfl) (fun q hq => gain_cut g 1536 _ (by decide) q hq) l hl

/-- The reference's prompt result, -/
theorem ref60_apply (r : Fin 8192) (j : Fin 2048) : val_main_v60 (F := Ideal) x0 x1 x2 x3 g w (ValueIdx.ix2 r j)
    = at2 x3 r.val j.val + lin 2048 (catP (at2 x0 r.val) (at2 x1 r.val) (at2 x2 r.val) (at1 g)) (at2 w) j.val := by
  refine congrArg₂ (· + ·) (at2_ix x3 r j).symm ?_
  refine (hmm_apply (M := 8192) (K := 2048) (N := 2048) _ _ _ r j).trans ?_
  exact lin_congr (fun k hk => (at2_ix _ r ⟨k, hk⟩).trans (ref18_apply x0 x1 x2 g r ⟨k, hk⟩)) fun _ _ => rfl

/-- and its sample result. -/
theorem ref62_apply (r : Fin 128) (j : Fin 2048) : val_main_v62 (F := Ideal) x4 x5 x6 x7 g w (ValueIdx.ix2 r j)
    = at2 x7 r.val j.val + lin 2048 (catS (at2 x4 r.val) (at2 x5 r.val) (at2 x6 r.val) (at1 g)) (at2 w) j.val := by
  refine congrArg₂ (· + ·) (at2_ix x7 r j).symm ?_
  refine (hmm_apply (M := 128) (K := 2048) (N := 2048) _ _ _ r j).trans ?_
  exact lin_congr (fun k hk => (at2_ix _ r ⟨k, hk⟩).trans (ref58_apply x4 x5 x6 g r ⟨k, hk⟩)) fun _ _ => rfl

/-- The call and its reference leave the same arrays at the extended reals. -/
theorem algebraic : Cert.algebraic_OutIdeal_OutRefIdeal := by
  intro m ρ m' ρ' _ hagree
  refine ⟨fun c => Cert.OutIdeal.Value.G10 m c, fun c => Cert.OutIdeal.Value.G11 m c, Cert.OutIdeal.Value.run (F := Ideal) m ρ, ?_⟩
  refine (θ_run Cert.OutRefIdeal.defs _ _).mono (fun _ h c => ?_) (Cert.OutRefIdeal.Value.run (F := Ideal) m' ρ')
  obtain ⟨h0, h1, hk⟩ := h c
  obtain ⟨a0, a1, a2, a3, a4, a5, a6, a7, a8, a9⟩ := hagree c
  refine ⟨h0.trans ?_, h1.trans ?_, hk⟩
  · rw [a0, a1, a2, a3, a8, a9]
    refine (val_main_v60_eq _ _ _ _ _ _).trans ?_
    funext i
    rw [ValueIdx.eq_ix2 i]
    exact (ref60_apply _ _ _ _ _ _ _ _).trans (Cert.OutArray.G10_apply m c _ _).symm
  · rw [a4, a5, a6, a7, a8, a9]
    refine (val_main_v62_eq _ _ _ _ _ _).trans ?_
    funext i
    rw [ValueIdx.eq_ix2 i]
    exact (ref62_apply _ _ _ _ _ _ _ _).trans (Cert.OutArray.G11_apply m c _ _).symm

end Cert.OutEq

end
-- ==== Proof.lean ====
/-
  The certificate: the safety claims (Proof/Frames.lean) and the equalities (Proof/*Eq.lean), put together.
-/
module

public import proofs.«01_k».proof.Defs
public import proofs.«01_k».proof.Proof.Frames
public import proofs.«01_k».proof.Proof.SideEq
public import proofs.«01_k».proof.Proof.FfnNextEq
public import proofs.«01_k».proof.Proof.FfnEq
public import proofs.«01_k».proof.Proof.ProjEq
public import proofs.«01_k».proof.Proof.MemKvEq
public import proofs.«01_k».proof.Proof.OutEq

@[expose] public section

noncomputable section

namespace Cert.Proof

/-- Every claim of the certificate. -/
theorem claim : Cert.Claim :=
  letI := Cert.Frames.facts_finite
  ⟨Cert.Side.Gen.facts, Cert.SideIdeal.Gen.facts, Cert.SideRefIdeal.Gen.facts,
    Cert.FfnNext.Gen.facts, Cert.FfnNextIdeal.Gen.facts, Cert.FfnNextRefIdeal.Gen.facts, Cert.Ffn.Gen.facts,
    Cert.FfnIdeal.Gen.facts, Cert.FfnRefIdeal.Gen.facts, Cert.Proj.Gen.facts, Cert.ProjIdeal.Gen.facts,
    Cert.ProjRefIdeal.Gen.facts, Cert.MemKv.Gen.facts, Cert.MemKvIdeal.Gen.facts, Cert.MemKvRefIdeal.Gen.facts,
    Cert.Out.Gen.facts, Cert.OutIdeal.Gen.facts, Cert.OutRefIdeal.Gen.facts, Cert.Frames.facts_finite, Cert.Frames.frame_Side,
    Cert.Frames.frame_SideIdeal, Cert.Frames.frame_SideIdeal_finite, Cert.Frames.frame_SideRefIdeal,
    Cert.Frames.frame_SideRefIdeal_finite, Cert.Frames.frame_FfnNext, Cert.Frames.frame_FfnNextIdeal,
    Cert.Frames.frame_FfnNextRefIdeal, Cert.Frames.frame_Ffn, Cert.Frames.frame_FfnIdeal, Cert.Frames.frame_FfnRefIdeal,
    Cert.Frames.frame_Proj, Cert.Frames.frame_ProjIdeal, Cert.Frames.frame_ProjRefIdeal, Cert.Frames.frame_MemKv,
    Cert.Frames.frame_MemKvIdeal, Cert.Frames.frame_MemKvRefIdeal, Cert.Frames.frame_Out, Cert.Frames.frame_OutIdeal,
    Cert.Frames.frame_OutRefIdeal, Cert.Frames.preserves_Side, trivial, trivial, trivial, trivial, trivial,
    Cert.SideEq.algebraic, Cert.FfnNextEq.algebraic, Cert.FfnEq.algebraic, Cert.ProjEq.algebraic, Cert.MemKvEq.algebraic,
    Cert.OutEq.algebraic⟩

end Cert.Proof

end
